-- ==== Defs.lean ====
def Pre_FfKernel (m : (ℓ : Loc Cert.FfKernel.nD Cert.FfKernel.τ Cert.FfKernel.sig) → Buf (Elt Bits) ℓ) : Prop :=
  True

def Pre_FfKernelIdeal (m : (ℓ : Loc Cert.FfKernelIdeal.nD Cert.FfKernelIdeal.τ Cert.FfKernelIdeal.sig) → Buf (Elt Ideal) ℓ) : Prop :=
  True

def Pre_FfReferenceIdeal (m : (ℓ : Loc Cert.FfReferenceIdeal.nD Cert.FfReferenceIdeal.τ Cert.FfReferenceIdeal.sig) → Buf (Elt Ideal) ℓ) : Prop :=
  True

def Pre_GfKernel (m : (ℓ : Loc Cert.GfKernel.nD Cert.GfKernel.τ Cert.GfKernel.sig) → Buf (Elt Bits) ℓ) : Prop :=
  True

def Pre_GfKernelIdeal (m : (ℓ : Loc Cert.GfKernelIdeal.nD Cert.GfKernelIdeal.τ Cert.GfKernelIdeal.sig) → Buf (Elt Ideal) ℓ) : Prop :=
  True

def Pre_GfReferenceIdeal (m : (ℓ : Loc Cert.GfReferenceIdeal.nD Cert.GfReferenceIdeal.τ Cert.GfReferenceIdeal.sig) → Buf (Elt Ideal) ℓ) : Prop :=
  True

def Pre_AtKernel (m : (ℓ : Loc Cert.AtKernel.nD Cert.AtKernel.τ Cert.AtKernel.sig) → Buf (Elt Bits) ℓ) : Prop :=
  True

def Pre_AtKernelIdeal (m : (ℓ : Loc Cert.AtKernelIdeal.nD Cert.AtKernelIdeal.τ Cert.AtKernelIdeal.sig) → Buf (Elt Ideal) ℓ) : Prop :=
  True

def Pre_AtKernelIdeal_scores_finite [hPre_scores_finite : Cert.Pre_scores_finite.Facts] (m : (ℓ : Loc Cert.AtKernelIdeal.nD Cert.AtKernelIdeal.τ Cert.AtKernelIdeal.sig) → Buf (Elt Ideal) ℓ) : Prop :=
  ∀ c : Dev Cert.AtKernelIdeal.nD,
    (Cert.Pre_scores_finite.fn (F := Ideal) (m ((c.tc : Thread Cert.AtKernelIdeal.nD Cert.AtKernelIdeal.τ).loc Cert.AtKernelIdeal.main_arg0)) (m ((c.tc : Thread Cert.AtKernelIdeal.nD Cert.AtKernelIdeal.τ).loc Cert.AtKernelIdeal.main_arg1))) = (fun _ => 1#1)

def Pre_AtReferenceIdeal (m : (ℓ : Loc Cert.AtReferenceIdeal.nD Cert.AtReferenceIdeal.τ Cert.AtReferenceIdeal.sig) → Buf (Elt Ideal) ℓ) : Prop :=
  True

def Pre_AtReferenceIdeal_scores_finite [hPre_scores_finite : Cert.Pre_scores_finite.Facts] (m : (ℓ : Loc Cert.AtReferenceIdeal.nD Cert.AtReferenceIdeal.τ Cert.AtReferenceIdeal.sig) → Buf (Elt Ideal) ℓ) : Prop :=
  ∀ c : Dev Cert.AtReferenceIdeal.nD,
    (Cert.Pre_scores_finite.fn (F := Ideal) (m ((c.tc : Thread Cert.AtReferenceIdeal.nD Cert.AtReferenceIdeal.τ).loc Cert.AtReferenceIdeal.main_arg0)) (m ((c.tc : Thread Cert.AtReferenceIdeal.nD Cert.AtReferenceIdeal.τ).loc Cert.AtReferenceIdeal.main_arg1))) = (fun _ => 1#1)

def Pre_AbKernel (m : (ℓ : Loc Cert.AbKernel.nD Cert.AbKernel.τ Cert.AbKernel.sig) → Buf (Elt Bits) ℓ) : Prop :=
  True

def Pre_AbKernelIdeal (m : (ℓ : Loc Cert.AbKernelIdeal.nD Cert.AbKernelIdeal.τ Cert.AbKernelIdeal.sig) → Buf (Elt Ideal) ℓ) : Prop :=
  True

def Pre_AbKernelIdeal_all_finite [hPre_all_finite : Cert.Pre_all_finite.Facts] (m : (ℓ : Loc Cert.AbKernelIdeal.nD Cert.AbKernelIdeal.τ Cert.AbKernelIdeal.sig) → Buf (Elt Ideal) ℓ) : Prop :=
  ∀ c : Dev Cert.AbKernelIdeal.nD,
    (Cert.Pre_all_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3))) = (fun _ => 1#1)

def Pre_AbReferenceIdeal (m : (ℓ : Loc Cert.AbReferenceIdeal.nD Cert.AbReferenceIdeal.τ Cert.AbReferenceIdeal.sig) → Buf (Elt Ideal) ℓ) : Prop :=
  True

def Pre_AbReferenceIdeal_all_finite [hPre_all_finite : Cert.Pre_all_finite.Facts] (m : (ℓ : Loc Cert.AbReferenceIdeal.nD Cert.AbReferenceIdeal.τ Cert.AbReferenceIdeal.sig) → Buf (Elt Ideal) ℓ) : Prop :=
  ∀ c : Dev Cert.AbReferenceIdeal.nD,
    (Cert.Pre_all_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3))) = (fun _ => 1#1)

def Pre_N2Kernel (m : (ℓ : Loc Cert.N2Kernel.nD Cert.N2Kernel.τ Cert.N2Kernel.sig) → Buf (Elt Bits) ℓ) : Prop :=
  True

def Pre_N2KernelIdeal (m : (ℓ : Loc Cert.N2KernelIdeal.nD Cert.N2KernelIdeal.τ Cert.N2KernelIdeal.sig) → Buf (Elt Ideal) ℓ) : Prop :=
  True

def Pre_N2KernelIdeal_norm2_finite [hPre_norm2_finite : Cert.Pre_norm2_finite.Facts] (m : (ℓ : Loc Cert.N2KernelIdeal.nD Cert.N2KernelIdeal.τ Cert.N2KernelIdeal.sig) → Buf (Elt Ideal) ℓ) : Prop :=
  ∀ c : Dev Cert.N2KernelIdeal.nD,
    (Cert.Pre_norm2_finite.fn (F := Ideal) (m ((c.tc : Thread Cert.N2KernelIdeal.nD Cert.N2KernelIdeal.τ).loc Cert.N2KernelIdeal.main_arg0)) (m ((c.tc : Thread Cert.N2KernelIdeal.nD Cert.N2KernelIdeal.τ).loc Cert.N2KernelIdeal.main_arg1)) (m ((c.tc : Thread Cert.N2KernelIdeal.nD Cert.N2KernelIdeal.τ).loc Cert.N2KernelIdeal.main_arg2)) (m ((c.tc : Thread Cert.N2KernelIdeal.nD Cert.N2KernelIdeal.τ).loc Cert.N2KernelIdeal.main_arg3)) (m ((c.tc : Thread Cert.N2KernelIdeal.nD Cert.N2KernelIdeal.τ).loc Cert.N2KernelIdeal.main_arg4))) = (fun _ => 1#1)

def Pre_N2ReferenceIdeal (m : (ℓ : Loc Cert.N2ReferenceIdeal.nD Cert.N2ReferenceIdeal.τ Cert.N2ReferenceIdeal.sig) → Buf (Elt Ideal) ℓ) : Prop :=
  True

def Pre_N2ReferenceIdeal_norm2_finite [hPre_norm2_finite : Cert.Pre_norm2_finite.Facts] (m : (ℓ : Loc Cert.N2ReferenceIdeal.nD Cert.N2ReferenceIdeal.τ Cert.N2ReferenceIdeal.sig) → Buf (Elt Ideal) ℓ) : Prop :=
  ∀ c : Dev Cert.N2ReferenceIdeal.nD,
    (Cert.Pre_norm2_finite.fn (F := Ideal) (m ((c.tc : Thread Cert.N2ReferenceIdeal.nD Cert.N2ReferenceIdeal.τ).loc Cert.N2ReferenceIdeal.main_arg0)) (m ((c.tc : Thread Cert.N2ReferenceIdeal.nD Cert.N2ReferenceIdeal.τ).loc Cert.N2ReferenceIdeal.main_arg1)) (m ((c.tc : Thread Cert.N2ReferenceIdeal.nD Cert.N2ReferenceIdeal.τ).loc Cert.N2ReferenceIdeal.main_arg2)) (m ((c.tc : Thread Cert.N2ReferenceIdeal.nD Cert.N2ReferenceIdeal.τ).loc Cert.N2ReferenceIdeal.main_arg3)) (m ((c.tc : Thread Cert.N2ReferenceIdeal.nD Cert.N2ReferenceIdeal.τ).loc Cert.N2ReferenceIdeal.main_arg4))) = (fun _ => 1#1)

def Pre_N1Kernel (m : (ℓ : Loc Cert.N1Kernel.nD Cert.N1Kernel.τ Cert.N1Kernel.sig) → Buf (Elt Bits) ℓ) : Prop :=
  True

def Pre_N1KernelIdeal (m : (ℓ : Loc Cert.N1KernelIdeal.nD Cert.N1KernelIdeal.τ Cert.N1KernelIdeal.sig) → Buf (Elt Ideal) ℓ) : Prop :=
  True

def Pre_N1KernelIdeal_norm1_finite [hPre_norm1_finite : Cert.Pre_norm1_finite.Facts] (m : (ℓ : Loc Cert.N1KernelIdeal.nD Cert.N1KernelIdeal.τ Cert.N1KernelIdeal.sig) → Buf (Elt Ideal) ℓ) : Prop :=
  ∀ c : Dev Cert.N1KernelIdeal.nD,
    (Cert.Pre_norm1_finite.fn (F := Ideal) (m ((c.tc : Thread Cert.N1KernelIdeal.nD Cert.N1KernelIdeal.τ).loc Cert.N1KernelIdeal.main_arg0)) (m ((c.tc : Thread Cert.N1KernelIdeal.nD Cert.N1KernelIdeal.τ).loc Cert.N1KernelIdeal.main_arg1)) (m ((c.tc : Thread Cert.N1KernelIdeal.nD Cert.N1KernelIdeal.τ).loc Cert.N1KernelIdeal.main_arg2)) (m ((c.tc : Thread Cert.N1KernelIdeal.nD Cert.N1KernelIdeal.τ).loc Cert.N1KernelIdeal.main_arg3)) (m ((c.tc : Thread Cert.N1KernelIdeal.nD Cert.N1KernelIdeal.τ).loc Cert.N1KernelIdeal.main_arg4))) = (fun _ => 1#1)

def Pre_N1ReferenceIdeal (m : (ℓ : Loc Cert.N1ReferenceIdeal.nD Cert.N1ReferenceIdeal.τ Cert.N1ReferenceIdeal.sig) → Buf (Elt Ideal) ℓ) : Prop :=
  True

def Pre_N1ReferenceIdeal_norm1_finite [hPre_norm1_finite : Cert.Pre_norm1_finite.Facts] (m : (ℓ : Loc Cert.N1ReferenceIdeal.nD Cert.N1ReferenceIdeal.τ Cert.N1ReferenceIdeal.sig) → Buf (Elt Ideal) ℓ) : Prop :=
  ∀ c : Dev Cert.N1ReferenceIdeal.nD,
    (Cert.Pre_norm1_finite.fn (F := Ideal) (m ((c.tc : Thread Cert.N1ReferenceIdeal.nD Cert.N1ReferenceIdeal.τ).loc Cert.N1ReferenceIdeal.main_arg0)) (m ((c.tc : Thread Cert.N1ReferenceIdeal.nD Cert.N1ReferenceIdeal.τ).loc Cert.N1ReferenceIdeal.main_arg1)) (m ((c.tc : Thread Cert.N1ReferenceIdeal.nD Cert.N1ReferenceIdeal.τ).loc Cert.N1ReferenceIdeal.main_arg2)) (m ((c.tc : Thread Cert.N1ReferenceIdeal.nD Cert.N1ReferenceIdeal.τ).loc Cert.N1ReferenceIdeal.main_arg3)) (m ((c.tc : Thread Cert.N1ReferenceIdeal.nD Cert.N1ReferenceIdeal.τ).loc Cert.N1ReferenceIdeal.main_arg4))) = (fun _ => 1#1)

def Pre_LoKernel (m : (ℓ : Loc Cert.LoKernel.nD Cert.LoKernel.τ Cert.LoKernel.sig) → Buf (Elt Bits) ℓ) : Prop :=
  True

def Pre_LoKernelIdeal (m : (ℓ : Loc Cert.LoKernelIdeal.nD Cert.LoKernelIdeal.τ Cert.LoKernelIdeal.sig) → Buf (Elt Ideal) ℓ) : Prop :=
  True

def Pre_LoKernelIdeal_loss_finite [hPre_loss_finite : Cert.Pre_loss_finite.Facts] (m : (ℓ : Loc Cert.LoKernelIdeal.nD Cert.LoKernelIdeal.τ Cert.LoKernelIdeal.sig) → Buf (Elt Ideal) ℓ) : Prop :=
  ∀ c : Dev Cert.LoKernelIdeal.nD,
    (Cert.Pre_loss_finite.fn (F := Ideal) (m ((c.tc : Thread Cert.LoKernelIdeal.nD Cert.LoKernelIdeal.τ).loc Cert.LoKernelIdeal.main_arg0)) (m ((c.tc : Thread Cert.LoKernelIdeal.nD Cert.LoKernelIdeal.τ).loc Cert.LoKernelIdeal.main_arg1)) (m ((c.tc : Thread Cert.LoKernelIdeal.nD Cert.LoKernelIdeal.τ).loc Cert.LoKernelIdeal.main_arg2)) (m ((c.tc : Thread Cert.LoKernelIdeal.nD Cert.LoKernelIdeal.τ).loc Cert.LoKernelIdeal.main_arg3)) (m ((c.tc : Thread Cert.LoKernelIdeal.nD Cert.LoKernelIdeal.τ).loc Cert.LoKernelIdeal.main_arg4))) = (fun _ => 1#1)

def Pre_LoReferenceIdeal (m : (ℓ : Loc Cert.LoReferenceIdeal.nD Cert.LoReferenceIdeal.τ Cert.LoReferenceIdeal.sig) → Buf (Elt Ideal) ℓ) : Prop :=
  True

def Pre_LoReferenceIdeal_loss_finite [hPre_loss_finite : Cert.Pre_loss_finite.Facts] (m : (ℓ : Loc Cert.LoReferenceIdeal.nD Cert.LoReferenceIdeal.τ Cert.LoReferenceIdeal.sig) → Buf (Elt Ideal) ℓ) : Prop :=
  ∀ c : Dev Cert.LoReferenceIdeal.nD,
    (Cert.Pre_loss_finite.fn (F := Ideal) (m ((c.tc : Thread Cert.LoReferenceIdeal.nD Cert.LoReferenceIdeal.τ).loc Cert.LoReferenceIdeal.main_arg0)) (m ((c.tc : Thread Cert.LoReferenceIdeal.nD Cert.LoReferenceIdeal.τ).loc Cert.LoReferenceIdeal.main_arg1)) (m ((c.tc : Thread Cert.LoReferenceIdeal.nD Cert.LoReferenceIdeal.τ).loc Cert.LoReferenceIdeal.main_arg2)) (m ((c.tc : Thread Cert.LoReferenceIdeal.nD Cert.LoReferenceIdeal.τ).loc Cert.LoReferenceIdeal.main_arg3)) (m ((c.tc : Thread Cert.LoReferenceIdeal.nD Cert.LoReferenceIdeal.τ).loc Cert.LoReferenceIdeal.main_arg4))) = (fun _ => 1#1)

def Pre_GbKernel (m : (ℓ : Loc Cert.GbKernel.nD Cert.GbKernel.τ Cert.GbKernel.sig) → Buf (Elt Bits) ℓ) : Prop :=
  True

def Pre_GbKernelIdeal (m : (ℓ : Loc Cert.GbKernelIdeal.nD Cert.GbKernelIdeal.τ Cert.GbKernelIdeal.sig) → Buf (Elt Ideal) ℓ) : Prop :=
  True

def Pre_GbReferenceIdeal (m : (ℓ : Loc Cert.GbReferenceIdeal.nD Cert.GbReferenceIdeal.τ Cert.GbReferenceIdeal.sig) → Buf (Elt Ideal) ℓ) : Prop :=
  True

def quiescent_FfKernel [hFfKernel : Cert.FfKernel.Facts] : Prop :=
  ∀ (m : (ℓ : Loc Cert.FfKernel.nD Cert.FfKernel.τ Cert.FfKernel.sig) → Buf (Elt Bits) ℓ) (g : Dev Cert.FfKernel.nD → PrngReg), Pre_FfKernel m →
    θ_run (Cert.FfKernel.defs (F := Bits)) (onTc (τ := Cert.FfKernel.τ) (Cert.FfKernel.main (F := Bits))) ⟨m, fun _ => 0, g⟩ (fun r => (∀ c : Dev Cert.FfKernel.nD,
      r.2.mem ((c.tc : Thread Cert.FfKernel.nD Cert.FfKernel.τ).loc Cert.FfKernel.main_arg0) = m ((c.tc : Thread Cert.FfKernel.nD Cert.FfKernel.τ).loc Cert.FfKernel.main_arg0)
      ∧ r.2.mem ((c.tc : Thread Cert.FfKernel.nD Cert.FfKernel.τ).loc Cert.FfKernel.main_arg1) = m ((c.tc : Thread Cert.FfKernel.nD Cert.FfKernel.τ).loc Cert.FfKernel.main_arg1)
      ∧ r.2.mem ((c.tc : Thread Cert.FfKernel.nD Cert.FfKernel.τ).loc Cert.FfKernel.main_arg2) = m ((c.tc : Thread Cert.FfKernel.nD Cert.FfKernel.τ).loc Cert.FfKernel.main_arg2)
      ∧ r.2.mem ((c.tc : Thread Cert.FfKernel.nD Cert.FfKernel.τ).loc Cert.FfKernel.main_arg3) = m ((c.tc : Thread Cert.FfKernel.nD Cert.FfKernel.τ).loc Cert.FfKernel.main_arg3))
      ∧ r.2.sem = fun _ => 0)

def quiescent_FfKernelIdeal [hFfKernelIdeal : Cert.FfKernelIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg), Pre_FfKernelIdeal m →
    θ_run (Cert.FfKernelIdeal.defs (F := Ideal)) (onTc (τ := Cert.FfKernelIdeal.τ) (Cert.FfKernelIdeal.main (F := Ideal))) ⟨m, fun _ => 0, g⟩ (fun r => (∀ c : Dev Cert.FfKernelIdeal.nD,
      r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
      ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
      ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
      ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3))
      ∧ r.2.sem = fun _ => 0)

def quiescent_FfReferenceIdeal [hFfReferenceIdeal : Cert.FfReferenceIdeal.Facts] : Prop :=
  ∀ (m : (ℓ : Loc Cert.FfReferenceIdeal.nD Cert.FfReferenceIdeal.τ Cert.FfReferenceIdeal.sig) → Buf (Elt Ideal) ℓ) (g : Dev Cert.FfReferenceIdeal.nD → PrngReg), Pre_FfReferenceIdeal m →
    θ_run (Cert.FfReferenceIdeal.defs (F := Ideal)) (onTc (τ := Cert.FfReferenceIdeal.τ) (Cert.FfReferenceIdeal.main (F := Ideal))) ⟨m, fun _ => 0, g⟩ (fun r => (∀ c : Dev Cert.FfReferenceIdeal.nD,
      r.2.mem ((c.tc : Thread Cert.FfReferenceIdeal.nD Cert.FfReferenceIdeal.τ).loc Cert.FfReferenceIdeal.main_arg0) = m ((c.tc : Thread Cert.FfReferenceIdeal.nD Cert.FfReferenceIdeal.τ).loc Cert.FfReferenceIdeal.main_arg0)
      ∧ r.2.mem ((c.tc : Thread Cert.FfReferenceIdeal.nD Cert.FfReferenceIdeal.τ).loc Cert.FfReferenceIdeal.main_arg1) = m ((c.tc : Thread Cert.FfReferenceIdeal.nD Cert.FfReferenceIdeal.τ).loc Cert.FfReferenceIdeal.main_arg1)
      ∧ r.2.mem ((c.tc : Thread Cert.FfReferenceIdeal.nD Cert.FfReferenceIdeal.τ).loc Cert.FfReferenceIdeal.main_arg2) = m ((c.tc : Thread Cert.FfReferenceIdeal.nD Cert.FfReferenceIdeal.τ).loc Cert.FfReferenceIdeal.main_arg2)
      ∧ r.2.mem ((c.tc : Thread Cert.FfReferenceIdeal.nD Cert.FfReferenceIdeal.τ).loc Cert.FfReferenceIdeal.main_arg3) = m ((c.tc : Thread Cert.FfReferenceIdeal.nD Cert.FfReferenceIdeal.τ).loc Cert.FfReferenceIdeal.main_arg3))
      ∧ r.2.sem = fun _ => 0)

def quiescent_GfKernel [hGfKernel : Cert.GfKernel.Facts] : Prop :=
  ∀ (m : (ℓ : Loc Cert.GfKernel.nD Cert.GfKernel.τ Cert.GfKernel.sig) → Buf (Elt Bits) ℓ) (g : Dev Cert.GfKernel.nD → PrngReg), Pre_GfKernel m →
    θ_run (Cert.GfKernel.defs (F := Bits)) (onTc (τ := Cert.GfKernel.τ) (Cert.GfKernel.main (F := Bits))) ⟨m, fun _ => 0, g⟩ (fun r => (∀ c : Dev Cert.GfKernel.nD,
      r.2.mem ((c.tc : Thread Cert.GfKernel.nD Cert.GfKernel.τ).loc Cert.GfKernel.main_arg0) = m ((c.tc : Thread Cert.GfKernel.nD Cert.GfKernel.τ).loc Cert.GfKernel.main_arg0)
      ∧ r.2.mem ((c.tc : Thread Cert.GfKernel.nD Cert.GfKernel.τ).loc Cert.GfKernel.main_arg1) = m ((c.tc : Thread Cert.GfKernel.nD Cert.GfKernel.τ).loc Cert.GfKernel.main_arg1)
      ∧ r.2.mem ((c.tc : Thread Cert.GfKernel.nD Cert.GfKernel.τ).loc Cert.GfKernel.main_arg2) = m ((c.tc : Thread Cert.GfKernel.nD Cert.GfKernel.τ).loc Cert.GfKernel.main_arg2)
      ∧ r.2.mem ((c.tc : Thread Cert.GfKernel.nD Cert.GfKernel.τ).loc Cert.GfKernel.main_arg3) = m ((c.tc : Thread Cert.GfKernel.nD Cert.GfKernel.τ).loc Cert.GfKernel.main_arg3)
      ∧ r.2.mem ((c.tc : Thread Cert.GfKernel.nD Cert.GfKernel.τ).loc Cert.GfKernel.main_arg4) = m ((c.tc : Thread Cert.GfKernel.nD Cert.GfKernel.τ).loc Cert.GfKernel.main_arg4)
      ∧ r.2.mem ((c.tc : Thread Cert.GfKernel.nD Cert.GfKernel.τ).loc Cert.GfKernel.main_arg5) = m ((c.tc : Thread Cert.GfKernel.nD Cert.GfKernel.τ).loc Cert.GfKernel.main_arg5)
      ∧ r.2.mem ((c.tc : Thread Cert.GfKernel.nD Cert.GfKernel.τ).loc Cert.GfKernel.main_arg6) = m ((c.tc : Thread Cert.GfKernel.nD Cert.GfKernel.τ).loc Cert.GfKernel.main_arg6)
      ∧ r.2.mem ((c.tc : Thread Cert.GfKernel.nD Cert.GfKernel.τ).loc Cert.GfKernel.main_arg7) = m ((c.tc : Thread Cert.GfKernel.nD Cert.GfKernel.τ).loc Cert.GfKernel.main_arg7))
      ∧ r.2.sem = fun _ => 0)

def quiescent_GfKernelIdeal [hGfKernelIdeal : Cert.GfKernelIdeal.Facts] : Prop :=
  ∀ (m : (ℓ : Loc Cert.GfKernelIdeal.nD Cert.GfKernelIdeal.τ Cert.GfKernelIdeal.sig) → Buf (Elt Ideal) ℓ) (g : Dev Cert.GfKernelIdeal.nD → PrngReg), Pre_GfKernelIdeal m →
    θ_run (Cert.GfKernelIdeal.defs (F := Ideal)) (onTc (τ := Cert.GfKernelIdeal.τ) (Cert.GfKernelIdeal.main (F := Ideal))) ⟨m, fun _ => 0, g⟩ (fun r => (∀ c : Dev Cert.GfKernelIdeal.nD,
      r.2.mem ((c.tc : Thread Cert.GfKernelIdeal.nD Cert.GfKernelIdeal.τ).loc Cert.GfKernelIdeal.main_arg0) = m ((c.tc : Thread Cert.GfKernelIdeal.nD Cert.GfKernelIdeal.τ).loc Cert.GfKernelIdeal.main_arg0)
      ∧ r.2.mem ((c.tc : Thread Cert.GfKernelIdeal.nD Cert.GfKernelIdeal.τ).loc Cert.GfKernelIdeal.main_arg1) = m ((c.tc : Thread Cert.GfKernelIdeal.nD Cert.GfKernelIdeal.τ).loc Cert.GfKernelIdeal.main_arg1)
      ∧ r.2.mem ((c.tc : Thread Cert.GfKernelIdeal.nD Cert.GfKernelIdeal.τ).loc Cert.GfKernelIdeal.main_arg2) = m ((c.tc : Thread Cert.GfKernelIdeal.nD Cert.GfKernelIdeal.τ).loc Cert.GfKernelIdeal.main_arg2)
      ∧ r.2.mem ((c.tc : Thread Cert.GfKernelIdeal.nD Cert.GfKernelIdeal.τ).loc Cert.GfKernelIdeal.main_arg3) = m ((c.tc : Thread Cert.GfKernelIdeal.nD Cert.GfKernelIdeal.τ).loc Cert.GfKernelIdeal.main_arg3)
      ∧ r.2.mem ((c.tc : Thread Cert.GfKernelIdeal.nD Cert.GfKernelIdeal.τ).loc Cert.GfKernelIdeal.main_arg4) = m ((c.tc : Thread Cert.GfKernelIdeal.nD Cert.GfKernelIdeal.τ).loc Cert.GfKernelIdeal.main_arg4)
      ∧ r.2.mem ((c.tc : Thread Cert.GfKernelIdeal.nD Cert.GfKernelIdeal.τ).loc Cert.GfKernelIdeal.main_arg5) = m ((c.tc : Thread Cert.GfKernelIdeal.nD Cert.GfKernelIdeal.τ).loc Cert.GfKernelIdeal.main_arg5)
      ∧ r.2.mem ((c.tc : Thread Cert.GfKernelIdeal.nD Cert.GfKernelIdeal.τ).loc Cert.GfKernelIdeal.main_arg6) = m ((c.tc : Thread Cert.GfKernelIdeal.nD Cert.GfKernelIdeal.τ).loc Cert.GfKernelIdeal.main_arg6)
      ∧ r.2.mem ((c.tc : Thread Cert.GfKernelIdeal.nD Cert.GfKernelIdeal.τ).loc Cert.GfKernelIdeal.main_arg7) = m ((c.tc : Thread Cert.GfKernelIdeal.nD Cert.GfKernelIdeal.τ).loc Cert.GfKernelIdeal.main_arg7))
      ∧ r.2.sem = fun _ => 0)

def quiescent_GfReferenceIdeal [hGfReferenceIdeal : Cert.GfReferenceIdeal.Facts] : Prop :=
  ∀ (m : (ℓ : Loc Cert.GfReferenceIdeal.nD Cert.GfReferenceIdeal.τ Cert.GfReferenceIdeal.sig) → Buf (Elt Ideal) ℓ) (g : Dev Cert.GfReferenceIdeal.nD → PrngReg), Pre_GfReferenceIdeal m →
    θ_run (Cert.GfReferenceIdeal.defs (F := Ideal)) (onTc (τ := Cert.GfReferenceIdeal.τ) (Cert.GfReferenceIdeal.main (F := Ideal))) ⟨m, fun _ => 0, g⟩ (fun r => (∀ c : Dev Cert.GfReferenceIdeal.nD,
      r.2.mem ((c.tc : Thread Cert.GfReferenceIdeal.nD Cert.GfReferenceIdeal.τ).loc Cert.GfReferenceIdeal.main_arg0) = m ((c.tc : Thread Cert.GfReferenceIdeal.nD Cert.GfReferenceIdeal.τ).loc Cert.GfReferenceIdeal.main_arg0)
      ∧ r.2.mem ((c.tc : Thread Cert.GfReferenceIdeal.nD Cert.GfReferenceIdeal.τ).loc Cert.GfReferenceIdeal.main_arg1) = m ((c.tc : Thread Cert.GfReferenceIdeal.nD Cert.GfReferenceIdeal.τ).loc Cert.GfReferenceIdeal.main_arg1)
      ∧ r.2.mem ((c.tc : Thread Cert.GfReferenceIdeal.nD Cert.GfReferenceIdeal.τ).loc Cert.GfReferenceIdeal.main_arg2) = m ((c.tc : Thread Cert.GfReferenceIdeal.nD Cert.GfReferenceIdeal.τ).loc Cert.GfReferenceIdeal.main_arg2)
      ∧ r.2.mem ((c.tc : Thread Cert.GfReferenceIdeal.nD Cert.GfReferenceIdeal.τ).loc Cert.GfReferenceIdeal.main_arg3) = m ((c.tc : Thread Cert.GfReferenceIdeal.nD Cert.GfReferenceIdeal.τ).loc Cert.GfReferenceIdeal.main_arg3)
      ∧ r.2.mem ((c.tc : Thread Cert.GfReferenceIdeal.nD Cert.GfReferenceIdeal.τ).loc Cert.GfReferenceIdeal.main_arg4) = m ((c.tc : Thread Cert.GfReferenceIdeal.nD Cert.GfReferenceIdeal.τ).loc Cert.GfReferenceIdeal.main_arg4)
      ∧ r.2.mem ((c.tc : Thread Cert.GfReferenceIdeal.nD Cert.GfReferenceIdeal.τ).loc Cert.GfReferenceIdeal.main_arg5) = m ((c.tc : Thread Cert.GfReferenceIdeal.nD Cert.GfReferenceIdeal.τ).loc Cert.GfReferenceIdeal.main_arg5)
      ∧ r.2.mem ((c.tc : Thread Cert.GfReferenceIdeal.nD Cert.GfReferenceIdeal.τ).loc Cert.GfReferenceIdeal.main_arg6) = m ((c.tc : Thread Cert.GfReferenceIdeal.nD Cert.GfReferenceIdeal.τ).loc Cert.GfReferenceIdeal.main_arg6)
      ∧ r.2.mem ((c.tc : Thread Cert.GfReferenceIdeal.nD Cert.GfReferenceIdeal.τ).loc Cert.GfReferenceIdeal.main_arg7) = m ((c.tc : Thread Cert.GfReferenceIdeal.nD Cert.GfReferenceIdeal.τ).loc Cert.GfReferenceIdeal.main_arg7))
      ∧ r.2.sem = fun _ => 0)

def quiescent_AtKernel [hAtKernel : Cert.AtKernel.Facts] : Prop :=
  ∀ (m : (ℓ : Loc Cert.AtKernel.nD Cert.AtKernel.τ Cert.AtKernel.sig) → Buf (Elt Bits) ℓ) (g : Dev Cert.AtKernel.nD → PrngReg), Pre_AtKernel m →
    θ_run (Cert.AtKernel.defs (F := Bits)) (onTc (τ := Cert.AtKernel.τ) (Cert.AtKernel.main (F := Bits))) ⟨m, fun _ => 0, g⟩ (fun r => (∀ c : Dev Cert.AtKernel.nD,
      r.2.mem ((c.tc : Thread Cert.AtKernel.nD Cert.AtKernel.τ).loc Cert.AtKernel.main_arg0) = m ((c.tc : Thread Cert.AtKernel.nD Cert.AtKernel.τ).loc Cert.AtKernel.main_arg0)
      ∧ r.2.mem ((c.tc : Thread Cert.AtKernel.nD Cert.AtKernel.τ).loc Cert.AtKernel.main_arg1) = m ((c.tc : Thread Cert.AtKernel.nD Cert.AtKernel.τ).loc Cert.AtKernel.main_arg1))
      ∧ r.2.sem = fun _ => 0)

def quiescent_AtKernelIdeal [hAtKernelIdeal : Cert.AtKernelIdeal.Facts] : Prop :=
  ∀ (m : (ℓ : Loc Cert.AtKernelIdeal.nD Cert.AtKernelIdeal.τ Cert.AtKernelIdeal.sig) → Buf (Elt Ideal) ℓ) (g : Dev Cert.AtKernelIdeal.nD → PrngReg), Pre_AtKernelIdeal m →
    θ_run (Cert.AtKernelIdeal.defs (F := Ideal)) (onTc (τ := Cert.AtKernelIdeal.τ) (Cert.AtKernelIdeal.main (F := Ideal))) ⟨m, fun _ => 0, g⟩ (fun r => (∀ c : Dev Cert.AtKernelIdeal.nD,
      r.2.mem ((c.tc : Thread Cert.AtKernelIdeal.nD Cert.AtKernelIdeal.τ).loc Cert.AtKernelIdeal.main_arg0) = m ((c.tc : Thread Cert.AtKernelIdeal.nD Cert.AtKernelIdeal.τ).loc Cert.AtKernelIdeal.main_arg0)
      ∧ r.2.mem ((c.tc : Thread Cert.AtKernelIdeal.nD Cert.AtKernelIdeal.τ).loc Cert.AtKernelIdeal.main_arg1) = m ((c.tc : Thread Cert.AtKernelIdeal.nD Cert.AtKernelIdeal.τ).loc Cert.AtKernelIdeal.main_arg1))
      ∧ r.2.sem = fun _ => 0)

def quiescent_AtKernelIdeal_pre_scores_finite [hAtKernelIdeal : Cert.AtKernelIdeal.Facts] [hPre_scores_finite : Cert.Pre_scores_finite.Facts] : Prop :=
  ∀ (m : (ℓ : Loc Cert.AtKernelIdeal.nD Cert.AtKernelIdeal.τ Cert.AtKernelIdeal.sig) → Buf (Elt Ideal) ℓ) (g : Dev Cert.AtKernelIdeal.nD → PrngReg), Pre_AtKernelIdeal_scores_finite m →
    θ_run (Cert.AtKernelIdeal.defs (F := Ideal)) (onTc (τ := Cert.AtKernelIdeal.τ) (Cert.AtKernelIdeal.main (F := Ideal))) ⟨m, fun _ => 0, g⟩ (fun r => (∀ c : Dev Cert.AtKernelIdeal.nD,
      r.2.mem ((c.tc : Thread Cert.AtKernelIdeal.nD Cert.AtKernelIdeal.τ).loc Cert.AtKernelIdeal.main_arg0) = m ((c.tc : Thread Cert.AtKernelIdeal.nD Cert.AtKernelIdeal.τ).loc Cert.AtKernelIdeal.main_arg0)
      ∧ r.2.mem ((c.tc : Thread Cert.AtKernelIdeal.nD Cert.AtKernelIdeal.τ).loc Cert.AtKernelIdeal.main_arg1) = m ((c.tc : Thread Cert.AtKernelIdeal.nD Cert.AtKernelIdeal.τ).loc Cert.AtKernelIdeal.main_arg1))
      ∧ r.2.sem = fun _ => 0)

def quiescent_AtReferenceIdeal [hAtReferenceIdeal : Cert.AtReferenceIdeal.Facts] : Prop :=
  ∀ (m : (ℓ : Loc Cert.AtReferenceIdeal.nD Cert.AtReferenceIdeal.τ Cert.AtReferenceIdeal.sig) → Buf (Elt Ideal) ℓ) (g : Dev Cert.AtReferenceIdeal.nD → PrngReg), Pre_AtReferenceIdeal m →
    θ_run (Cert.AtReferenceIdeal.defs (F := Ideal)) (onTc (τ := Cert.AtReferenceIdeal.τ) (Cert.AtReferenceIdeal.main (F := Ideal))) ⟨m, fun _ => 0, g⟩ (fun r => (∀ c : Dev Cert.AtReferenceIdeal.nD,
      r.2.mem ((c.tc : Thread Cert.AtReferenceIdeal.nD Cert.AtReferenceIdeal.τ).loc Cert.AtReferenceIdeal.main_arg0) = m ((c.tc : Thread Cert.AtReferenceIdeal.nD Cert.AtReferenceIdeal.τ).loc Cert.AtReferenceIdeal.main_arg0)
      ∧ r.2.mem ((c.tc : Thread Cert.AtReferenceIdeal.nD Cert.AtReferenceIdeal.τ).loc Cert.AtReferenceIdeal.main_arg1) = m ((c.tc : Thread Cert.AtReferenceIdeal.nD Cert.AtReferenceIdeal.τ).loc Cert.AtReferenceIdeal.main_arg1))
      ∧ r.2.sem = fun _ => 0)

def quiescent_AtReferenceIdeal_pre_scores_finite [hAtReferenceIdeal : Cert.AtReferenceIdeal.Facts] [hPre_scores_finite : Cert.Pre_scores_finite.Facts] : Prop :=
  ∀ (m : (ℓ : Loc Cert.AtReferenceIdeal.nD Cert.AtReferenceIdeal.τ Cert.AtReferenceIdeal.sig) → Buf (Elt Ideal) ℓ) (g : Dev Cert.AtReferenceIdeal.nD → PrngReg), Pre_AtReferenceIdeal_scores_finite m →
    θ_run (Cert.AtReferenceIdeal.defs (F := Ideal)) (onTc (τ := Cert.AtReferenceIdeal.τ) (Cert.AtReferenceIdeal.main (F := Ideal))) ⟨m, fun _ => 0, g⟩ (fun r => (∀ c : Dev Cert.AtReferenceIdeal.nD,
      r.2.mem ((c.tc : Thread Cert.AtReferenceIdeal.nD Cert.AtReferenceIdeal.τ).loc Cert.AtReferenceIdeal.main_arg0) = m ((c.tc : Thread Cert.AtReferenceIdeal.nD Cert.AtReferenceIdeal.τ).loc Cert.AtReferenceIdeal.main_arg0)
      ∧ r.2.mem ((c.tc : Thread Cert.AtReferenceIdeal.nD Cert.AtReferenceIdeal.τ).loc Cert.AtReferenceIdeal.main_arg1) = m ((c.tc : Thread Cert.AtReferenceIdeal.nD Cert.AtReferenceIdeal.τ).loc Cert.AtReferenceIdeal.main_arg1))
      ∧ r.2.sem = fun _ => 0)

def quiescent_AbKernel [hAbKernel : Cert.AbKernel.Facts] : Prop :=
  ∀ (m : (ℓ : Loc Cert.AbKernel.nD Cert.AbKernel.τ Cert.AbKernel.sig) → Buf (Elt Bits) ℓ) (g : Dev Cert.AbKernel.nD → PrngReg), Pre_AbKernel m →
    θ_run (Cert.AbKernel.defs (F := Bits)) (onTc (τ := Cert.AbKernel.τ) (Cert.AbKernel.main (F := Bits))) ⟨m, fun _ => 0, g⟩ (fun r => (∀ c : Dev Cert.AbKernel.nD,
      r.2.mem ((c.tc : Thread Cert.AbKernel.nD Cert.AbKernel.τ).loc Cert.AbKernel.main_arg0) = m ((c.tc : Thread Cert.AbKernel.nD Cert.AbKernel.τ).loc Cert.AbKernel.main_arg0)
      ∧ r.2.mem ((c.tc : Thread Cert.AbKernel.nD Cert.AbKernel.τ).loc Cert.AbKernel.main_arg1) = m ((c.tc : Thread Cert.AbKernel.nD Cert.AbKernel.τ).loc Cert.AbKernel.main_arg1)
      ∧ r.2.mem ((c.tc : Thread Cert.AbKernel.nD Cert.AbKernel.τ).loc Cert.AbKernel.main_arg2) = m ((c.tc : Thread Cert.AbKernel.nD Cert.AbKernel.τ).loc Cert.AbKernel.main_arg2)
      ∧ r.2.mem ((c.tc : Thread Cert.AbKernel.nD Cert.AbKernel.τ).loc Cert.AbKernel.main_arg3) = m ((c.tc : Thread Cert.AbKernel.nD Cert.AbKernel.τ).loc Cert.AbKernel.main_arg3))
      ∧ r.2.sem = fun _ => 0)

def quiescent_AbKernelIdeal [hAbKernelIdeal : Cert.AbKernelIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
      ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ r.2.sem = fun _ => 0)

def quiescent_AbKernelIdeal_pre_all_finite [hAbKernelIdeal : Cert.AbKernelIdeal.Facts] [hPre_all_finite : Cert.Pre_all_finite.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal_all_finite m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
      ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ r.2.sem = fun _ => 0)

def quiescent_AbReferenceIdeal [hAbReferenceIdeal : Cert.AbReferenceIdeal.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2)
      ∧ r.2.mem ((c.tc : Thread Cert.AbReferenceIdeal.nD Cert.AbReferenceIdeal.τ).loc Cert.AbReferenceIdeal.main_arg3) = m ((c.tc : Thread Cert.AbReferenceIdeal.nD Cert.AbReferenceIdeal.τ).loc Cert.AbReferenceIdeal.main_arg3))
      ∧ r.2.sem = fun _ => 0)

def quiescent_AbReferenceIdeal_pre_all_finite [hAbReferenceIdeal : Cert.AbReferenceIdeal.Facts] [hPre_all_finite : Cert.Pre_all_finite.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal_all_finite m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2)
      ∧ r.2.mem ((c.tc : Thread Cert.AbReferenceIdeal.nD Cert.AbReferenceIdeal.τ).loc Cert.AbReferenceIdeal.main_arg3) = m ((c.tc : Thread Cert.AbReferenceIdeal.nD Cert.AbReferenceIdeal.τ).loc Cert.AbReferenceIdeal.main_arg3))
      ∧ r.2.sem = fun _ => 0)

def quiescent_N2Kernel [hN2Kernel : Cert.N2Kernel.Facts] : Prop :=
  ∀ (m : (ℓ : Loc Cert.N2Kernel.nD Cert.N2Kernel.τ Cert.N2Kernel.sig) → Buf (Elt Bits) ℓ) (g : Dev Cert.N2Kernel.nD → PrngReg), Pre_N2Kernel m →
    θ_run (Cert.N2Kernel.defs (F := Bits)) (onTc (τ := Cert.N2Kernel.τ) (Cert.N2Kernel.main (F := Bits))) ⟨m, fun _ => 0, g⟩ (fun r => (∀ c : Dev Cert.N2Kernel.nD,
      r.2.mem ((c.tc : Thread Cert.N2Kernel.nD Cert.N2Kernel.τ).loc Cert.N2Kernel.main_arg0) = m ((c.tc : Thread Cert.N2Kernel.nD Cert.N2Kernel.τ).loc Cert.N2Kernel.main_arg0)
      ∧ r.2.mem ((c.tc : Thread Cert.N2Kernel.nD Cert.N2Kernel.τ).loc Cert.N2Kernel.main_arg1) = m ((c.tc : Thread Cert.N2Kernel.nD Cert.N2Kernel.τ).loc Cert.N2Kernel.main_arg1)
      ∧ r.2.mem ((c.tc : Thread Cert.N2Kernel.nD Cert.N2Kernel.τ).loc Cert.N2Kernel.main_arg2) = m ((c.tc : Thread Cert.N2Kernel.nD Cert.N2Kernel.τ).loc Cert.N2Kernel.main_arg2)
      ∧ r.2.mem ((c.tc : Thread Cert.N2Kernel.nD Cert.N2Kernel.τ).loc Cert.N2Kernel.main_arg3) = m ((c.tc : Thread Cert.N2Kernel.nD Cert.N2Kernel.τ).loc Cert.N2Kernel.main_arg3)
      ∧ r.2.mem ((c.tc : Thread Cert.N2Kernel.nD Cert.N2Kernel.τ).loc Cert.N2Kernel.main_arg4) = m ((c.tc : Thread Cert.N2Kernel.nD Cert.N2Kernel.τ).loc Cert.N2Kernel.main_arg4))
      ∧ r.2.sem = fun _ => 0)

def quiescent_N2KernelIdeal [hN2KernelIdeal : Cert.N2KernelIdeal.Facts] : Prop :=
  ∀ (m : (ℓ : Loc Cert.N2KernelIdeal.nD Cert.N2KernelIdeal.τ Cert.N2KernelIdeal.sig) → Buf (Elt Ideal) ℓ) (g : Dev Cert.N2KernelIdeal.nD → PrngReg), Pre_N2KernelIdeal m →
    θ_run (Cert.N2KernelIdeal.defs (F := Ideal)) (onTc (τ := Cert.N2KernelIdeal.τ) (Cert.N2KernelIdeal.main (F := Ideal))) ⟨m, fun _ => 0, g⟩ (fun r => (∀ c : Dev Cert.N2KernelIdeal.nD,
      r.2.mem ((c.tc : Thread Cert.N2KernelIdeal.nD Cert.N2KernelIdeal.τ).loc Cert.N2KernelIdeal.main_arg0) = m ((c.tc : Thread Cert.N2KernelIdeal.nD Cert.N2KernelIdeal.τ).loc Cert.N2KernelIdeal.main_arg0)
      ∧ r.2.mem ((c.tc : Thread Cert.N2KernelIdeal.nD Cert.N2KernelIdeal.τ).loc Cert.N2KernelIdeal.main_arg1) = m ((c.tc : Thread Cert.N2KernelIdeal.nD Cert.N2KernelIdeal.τ).loc Cert.N2KernelIdeal.main_arg1)
      ∧ r.2.mem ((c.tc : Thread Cert.N2KernelIdeal.nD Cert.N2KernelIdeal.τ).loc Cert.N2KernelIdeal.main_arg2) = m ((c.tc : Thread Cert.N2KernelIdeal.nD Cert.N2KernelIdeal.τ).loc Cert.N2KernelIdeal.main_arg2)
      ∧ r.2.mem ((c.tc : Thread Cert.N2KernelIdeal.nD Cert.N2KernelIdeal.τ).loc Cert.N2KernelIdeal.main_arg3) = m ((c.tc : Thread Cert.N2KernelIdeal.nD Cert.N2KernelIdeal.τ).loc Cert.N2KernelIdeal.main_arg3)
      ∧ r.2.mem ((c.tc : Thread Cert.N2KernelIdeal.nD Cert.N2KernelIdeal.τ).loc Cert.N2KernelIdeal.main_arg4) = m ((c.tc : Thread Cert.N2KernelIdeal.nD Cert.N2KernelIdeal.τ).loc Cert.N2KernelIdeal.main_arg4))
      ∧ r.2.sem = fun _ => 0)

def quiescent_N2KernelIdeal_pre_norm2_finite [hN2KernelIdeal : Cert.N2KernelIdeal.Facts] [hPre_norm2_finite : Cert.Pre_norm2_finite.Facts] : Prop :=
  ∀ (m : (ℓ : Loc Cert.N2KernelIdeal.nD Cert.N2KernelIdeal.τ Cert.N2KernelIdeal.sig) → Buf (Elt Ideal) ℓ) (g : Dev Cert.N2KernelIdeal.nD → PrngReg), Pre_N2KernelIdeal_norm2_finite m →
    θ_run (Cert.N2KernelIdeal.defs (F := Ideal)) (onTc (τ := Cert.N2KernelIdeal.τ) (Cert.N2KernelIdeal.main (F := Ideal))) ⟨m, fun _ => 0, g⟩ (fun r => (∀ c : Dev Cert.N2KernelIdeal.nD,
      r.2.mem ((c.tc : Thread Cert.N2KernelIdeal.nD Cert.N2KernelIdeal.τ).loc Cert.N2KernelIdeal.main_arg0) = m ((c.tc : Thread Cert.N2KernelIdeal.nD Cert.N2KernelIdeal.τ).loc Cert.N2KernelIdeal.main_arg0)
      ∧ r.2.mem ((c.tc : Thread Cert.N2KernelIdeal.nD Cert.N2KernelIdeal.τ).loc Cert.N2KernelIdeal.main_arg1) = m ((c.tc : Thread Cert.N2KernelIdeal.nD Cert.N2KernelIdeal.τ).loc Cert.N2KernelIdeal.main_arg1)
      ∧ r.2.mem ((c.tc : Thread Cert.N2KernelIdeal.nD Cert.N2KernelIdeal.τ).loc Cert.N2KernelIdeal.main_arg2) = m ((c.tc : Thread Cert.N2KernelIdeal.nD Cert.N2KernelIdeal.τ).loc Cert.N2KernelIdeal.main_arg2)
      ∧ r.2.mem ((c.tc : Thread Cert.N2KernelIdeal.nD Cert.N2KernelIdeal.τ).loc Cert.N2KernelIdeal.main_arg3) = m ((c.tc : Thread Cert.N2KernelIdeal.nD Cert.N2KernelIdeal.τ).loc Cert.N2KernelIdeal.main_arg3)
      ∧ r.2.mem ((c.tc : Thread Cert.N2KernelIdeal.nD Cert.N2KernelIdeal.τ).loc Cert.N2KernelIdeal.main_arg4) = m ((c.tc : Thread Cert.N2KernelIdeal.nD Cert.N2KernelIdeal.τ).loc Cert.N2KernelIdeal.main_arg4))
      ∧ r.2.sem = fun _ => 0)

def quiescent_N2ReferenceIdeal [hN2ReferenceIdeal : Cert.N2ReferenceIdeal.Facts] : Prop :=
  ∀ (m : (ℓ : Loc Cert.N2ReferenceIdeal.nD Cert.N2ReferenceIdeal.τ Cert.N2ReferenceIdeal.sig) → Buf (Elt Ideal) ℓ) (g : Dev Cert.N2ReferenceIdeal.nD → PrngReg), Pre_N2ReferenceIdeal m →
    θ_run (Cert.N2ReferenceIdeal.defs (F := Ideal)) (onTc (τ := Cert.N2ReferenceIdeal.τ) (Cert.N2ReferenceIdeal.main (F := Ideal))) ⟨m, fun _ => 0, g⟩ (fun r => (∀ c : Dev Cert.N2ReferenceIdeal.nD,
      r.2.mem ((c.tc : Thread Cert.N2ReferenceIdeal.nD Cert.N2ReferenceIdeal.τ).loc Cert.N2ReferenceIdeal.main_arg0) = m ((c.tc : Thread Cert.N2ReferenceIdeal.nD Cert.N2ReferenceIdeal.τ).loc Cert.N2ReferenceIdeal.main_arg0)
      ∧ r.2.mem ((c.tc : Thread Cert.N2ReferenceIdeal.nD Cert.N2ReferenceIdeal.τ).loc Cert.N2ReferenceIdeal.main_arg1) = m ((c.tc : Thread Cert.N2ReferenceIdeal.nD Cert.N2ReferenceIdeal.τ).loc Cert.N2ReferenceIdeal.main_arg1)
      ∧ r.2.mem ((c.tc : Thread Cert.N2ReferenceIdeal.nD Cert.N2ReferenceIdeal.τ).loc Cert.N2ReferenceIdeal.main_arg2) = m ((c.tc : Thread Cert.N2ReferenceIdeal.nD Cert.N2ReferenceIdeal.τ).loc Cert.N2ReferenceIdeal.main_arg2)
      ∧ r.2.mem ((c.tc : Thread Cert.N2ReferenceIdeal.nD Cert.N2ReferenceIdeal.τ).loc Cert.N2ReferenceIdeal.main_arg3) = m ((c.tc : Thread Cert.N2ReferenceIdeal.nD Cert.N2ReferenceIdeal.τ).loc Cert.N2ReferenceIdeal.main_arg3)
      ∧ r.2.mem ((c.tc : Thread Cert.N2ReferenceIdeal.nD Cert.N2ReferenceIdeal.τ).loc Cert.N2ReferenceIdeal.main_arg4) = m ((c.tc : Thread Cert.N2ReferenceIdeal.nD Cert.N2ReferenceIdeal.τ).loc Cert.N2ReferenceIdeal.main_arg4))
      ∧ r.2.sem = fun _ => 0)

def quiescent_N2ReferenceIdeal_pre_norm2_finite [hN2ReferenceIdeal : Cert.N2ReferenceIdeal.Facts] [hPre_norm2_finite : Cert.Pre_norm2_finite.Facts] : Prop :=
  ∀ (m : (ℓ : Loc Cert.N2ReferenceIdeal.nD Cert.N2ReferenceIdeal.τ Cert.N2ReferenceIdeal.sig) → Buf (Elt Ideal) ℓ) (g : Dev Cert.N2ReferenceIdeal.nD → PrngReg), Pre_N2ReferenceIdeal_norm2_finite m →
    θ_run (Cert.N2ReferenceIdeal.defs (F := Ideal)) (onTc (τ := Cert.N2ReferenceIdeal.τ) (Cert.N2ReferenceIdeal.main (F := Ideal))) ⟨m, fun _ => 0, g⟩ (fun r => (∀ c : Dev Cert.N2ReferenceIdeal.nD,
      r.2.mem ((c.tc : Thread Cert.N2ReferenceIdeal.nD Cert.N2ReferenceIdeal.τ).loc Cert.N2ReferenceIdeal.main_arg0) = m ((c.tc : Thread Cert.N2ReferenceIdeal.nD Cert.N2ReferenceIdeal.τ).loc Cert.N2ReferenceIdeal.main_arg0)
      ∧ r.2.mem ((c.tc : Thread Cert.N2ReferenceIdeal.nD Cert.N2ReferenceIdeal.τ).loc Cert.N2ReferenceIdeal.main_arg1) = m ((c.tc : Thread Cert.N2ReferenceIdeal.nD Cert.N2ReferenceIdeal.τ).loc Cert.N2ReferenceIdeal.main_arg1)
      ∧ r.2.mem ((c.tc : Thread Cert.N2ReferenceIdeal.nD Cert.N2ReferenceIdeal.τ).loc Cert.N2ReferenceIdeal.main_arg2) = m ((c.tc : Thread Cert.N2ReferenceIdeal.nD Cert.N2ReferenceIdeal.τ).loc Cert.N2ReferenceIdeal.main_arg2)
      ∧ r.2.mem ((c.tc : Thread Cert.N2ReferenceIdeal.nD Cert.N2ReferenceIdeal.τ).loc Cert.N2ReferenceIdeal.main_arg3) = m ((c.tc : Thread Cert.N2ReferenceIdeal.nD Cert.N2ReferenceIdeal.τ).loc Cert.N2ReferenceIdeal.main_arg3)
      ∧ r.2.mem ((c.tc : Thread Cert.N2ReferenceIdeal.nD Cert.N2ReferenceIdeal.τ).loc Cert.N2ReferenceIdeal.main_arg4) = m ((c.tc : Thread Cert.N2ReferenceIdeal.nD Cert.N2ReferenceIdeal.τ).loc Cert.N2ReferenceIdeal.main_arg4))
      ∧ r.2.sem = fun _ => 0)

def quiescent_N1Kernel [hN1Kernel : Cert.N1Kernel.Facts] : Prop :=
  ∀ (m : (ℓ : Loc Cert.N1Kernel.nD Cert.N1Kernel.τ Cert.N1Kernel.sig) → Buf (Elt Bits) ℓ) (g : Dev Cert.N1Kernel.nD → PrngReg), Pre_N1Kernel m →
    θ_run (Cert.N1Kernel.defs (F := Bits)) (onTc (τ := Cert.N1Kernel.τ) (Cert.N1Kernel.main (F := Bits))) ⟨m, fun _ => 0, g⟩ (fun r => (∀ c : Dev Cert.N1Kernel.nD,
      r.2.mem ((c.tc : Thread Cert.N1Kernel.nD Cert.N1Kernel.τ).loc Cert.N1Kernel.main_arg0) = m ((c.tc : Thread Cert.N1Kernel.nD Cert.N1Kernel.τ).loc Cert.N1Kernel.main_arg0)
      ∧ r.2.mem ((c.tc : Thread Cert.N1Kernel.nD Cert.N1Kernel.τ).loc Cert.N1Kernel.main_arg1) = m ((c.tc : Thread Cert.N1Kernel.nD Cert.N1Kernel.τ).loc Cert.N1Kernel.main_arg1)
      ∧ r.2.mem ((c.tc : Thread Cert.N1Kernel.nD Cert.N1Kernel.τ).loc Cert.N1Kernel.main_arg2) = m ((c.tc : Thread Cert.N1Kernel.nD Cert.N1Kernel.τ).loc Cert.N1Kernel.main_arg2)
      ∧ r.2.mem ((c.tc : Thread Cert.N1Kernel.nD Cert.N1Kernel.τ).loc Cert.N1Kernel.main_arg3) = m ((c.tc : Thread Cert.N1Kernel.nD Cert.N1Kernel.τ).loc Cert.N1Kernel.main_arg3)
      ∧ r.2.mem ((c.tc : Thread Cert.N1Kernel.nD Cert.N1Kernel.τ).loc Cert.N1Kernel.main_arg4) = m ((c.tc : Thread Cert.N1Kernel.nD Cert.N1Kernel.τ).loc Cert.N1Kernel.main_arg4))
      ∧ r.2.sem = fun _ => 0)

def quiescent_N1KernelIdeal [hN1KernelIdeal : Cert.N1KernelIdeal.Facts] : Prop :=
  ∀ (m : (ℓ : Loc Cert.N1KernelIdeal.nD Cert.N1KernelIdeal.τ Cert.N1KernelIdeal.sig) → Buf (Elt Ideal) ℓ) (g : Dev Cert.N1KernelIdeal.nD → PrngReg), Pre_N1KernelIdeal m →
    θ_run (Cert.N1KernelIdeal.defs (F := Ideal)) (onTc (τ := Cert.N1KernelIdeal.τ) (Cert.N1KernelIdeal.main (F := Ideal))) ⟨m, fun _ => 0, g⟩ (fun r => (∀ c : Dev Cert.N1KernelIdeal.nD,
      r.2.mem ((c.tc : Thread Cert.N1KernelIdeal.nD Cert.N1KernelIdeal.τ).loc Cert.N1KernelIdeal.main_arg0) = m ((c.tc : Thread Cert.N1KernelIdeal.nD Cert.N1KernelIdeal.τ).loc Cert.N1KernelIdeal.main_arg0)
      ∧ r.2.mem ((c.tc : Thread Cert.N1KernelIdeal.nD Cert.N1KernelIdeal.τ).loc Cert.N1KernelIdeal.main_arg1) = m ((c.tc : Thread Cert.N1KernelIdeal.nD Cert.N1KernelIdeal.τ).loc Cert.N1KernelIdeal.main_arg1)
      ∧ r.2.mem ((c.tc : Thread Cert.N1KernelIdeal.nD Cert.N1KernelIdeal.τ).loc Cert.N1KernelIdeal.main_arg2) = m ((c.tc : Thread Cert.N1KernelIdeal.nD Cert.N1KernelIdeal.τ).loc Cert.N1KernelIdeal.main_arg2)
      ∧ r.2.mem ((c.tc : Thread Cert.N1KernelIdeal.nD Cert.N1KernelIdeal.τ).loc Cert.N1KernelIdeal.main_arg3) = m ((c.tc : Thread Cert.N1KernelIdeal.nD Cert.N1KernelIdeal.τ).loc Cert.N1KernelIdeal.main_arg3)
      ∧ r.2.mem ((c.tc : Thread Cert.N1KernelIdeal.nD Cert.N1KernelIdeal.τ).loc Cert.N1KernelIdeal.main_arg4) = m ((c.tc : Thread Cert.N1KernelIdeal.nD Cert.N1KernelIdeal.τ).loc Cert.N1KernelIdeal.main_arg4))
      ∧ r.2.sem = fun _ => 0)

def quiescent_N1KernelIdeal_pre_norm1_finite [hN1KernelIdeal : Cert.N1KernelIdeal.Facts] [hPre_norm1_finite : Cert.Pre_norm1_finite.Facts] : Prop :=
  ∀ (m : (ℓ : Loc Cert.N1KernelIdeal.nD Cert.N1KernelIdeal.τ Cert.N1KernelIdeal.sig) → Buf (Elt Ideal) ℓ) (g : Dev Cert.N1KernelIdeal.nD → PrngReg), Pre_N1KernelIdeal_norm1_finite m →
    θ_run (Cert.N1KernelIdeal.defs (F := Ideal)) (onTc (τ := Cert.N1KernelIdeal.τ) (Cert.N1KernelIdeal.main (F := Ideal))) ⟨m, fun _ => 0, g⟩ (fun r => (∀ c : Dev Cert.N1KernelIdeal.nD,
      r.2.mem ((c.tc : Thread Cert.N1KernelIdeal.nD Cert.N1KernelIdeal.τ).loc Cert.N1KernelIdeal.main_arg0) = m ((c.tc : Thread Cert.N1KernelIdeal.nD Cert.N1KernelIdeal.τ).loc Cert.N1KernelIdeal.main_arg0)
      ∧ r.2.mem ((c.tc : Thread Cert.N1KernelIdeal.nD Cert.N1KernelIdeal.τ).loc Cert.N1KernelIdeal.main_arg1) = m ((c.tc : Thread Cert.N1KernelIdeal.nD Cert.N1KernelIdeal.τ).loc Cert.N1KernelIdeal.main_arg1)
      ∧ r.2.mem ((c.tc : Thread Cert.N1KernelIdeal.nD Cert.N1KernelIdeal.τ).loc Cert.N1KernelIdeal.main_arg2) = m ((c.tc : Thread Cert.N1KernelIdeal.nD Cert.N1KernelIdeal.τ).loc Cert.N1KernelIdeal.main_arg2)
      ∧ r.2.mem ((c.tc : Thread Cert.N1KernelIdeal.nD Cert.N1KernelIdeal.τ).loc Cert.N1KernelIdeal.main_arg3) = m ((c.tc : Thread Cert.N1KernelIdeal.nD Cert.N1KernelIdeal.τ).loc Cert.N1KernelIdeal.main_arg3)
      ∧ r.2.mem ((c.tc : Thread Cert.N1KernelIdeal.nD Cert.N1KernelIdeal.τ).loc Cert.N1KernelIdeal.main_arg4) = m ((c.tc : Thread Cert.N1KernelIdeal.nD Cert.N1KernelIdeal.τ).loc Cert.N1KernelIdeal.main_arg4))
      ∧ r.2.sem = fun _ => 0)

def quiescent_N1ReferenceIdeal [hN1ReferenceIdeal : Cert.N1ReferenceIdeal.Facts] : Prop :=
  ∀ (m : (ℓ : Loc Cert.N1ReferenceIdeal.nD Cert.N1ReferenceIdeal.τ Cert.N1ReferenceIdeal.sig) → Buf (Elt Ideal) ℓ) (g : Dev Cert.N1ReferenceIdeal.nD → PrngReg), Pre_N1ReferenceIdeal m →
    θ_run (Cert.N1ReferenceIdeal.defs (F := Ideal)) (onTc (τ := Cert.N1ReferenceIdeal.τ) (Cert.N1ReferenceIdeal.main (F := Ideal))) ⟨m, fun _ => 0, g⟩ (fun r => (∀ c : Dev Cert.N1ReferenceIdeal.nD,
      r.2.mem ((c.tc : Thread Cert.N1ReferenceIdeal.nD Cert.N1ReferenceIdeal.τ).loc Cert.N1ReferenceIdeal.main_arg0) = m ((c.tc : Thread Cert.N1ReferenceIdeal.nD Cert.N1ReferenceIdeal.τ).loc Cert.N1ReferenceIdeal.main_arg0)
      ∧ r.2.mem ((c.tc : Thread Cert.N1ReferenceIdeal.nD Cert.N1ReferenceIdeal.τ).loc Cert.N1ReferenceIdeal.main_arg1) = m ((c.tc : Thread Cert.N1ReferenceIdeal.nD Cert.N1ReferenceIdeal.τ).loc Cert.N1ReferenceIdeal.main_arg1)
      ∧ r.2.mem ((c.tc : Thread Cert.N1ReferenceIdeal.nD Cert.N1ReferenceIdeal.τ).loc Cert.N1ReferenceIdeal.main_arg2) = m ((c.tc : Thread Cert.N1ReferenceIdeal.nD Cert.N1ReferenceIdeal.τ).loc Cert.N1ReferenceIdeal.main_arg2)
      ∧ r.2.mem ((c.tc : Thread Cert.N1ReferenceIdeal.nD Cert.N1ReferenceIdeal.τ).loc Cert.N1ReferenceIdeal.main_arg3) = m ((c.tc : Thread Cert.N1ReferenceIdeal.nD Cert.N1ReferenceIdeal.τ).loc Cert.N1ReferenceIdeal.main_arg3)
      ∧ r.2.mem ((c.tc : Thread Cert.N1ReferenceIdeal.nD Cert.N1ReferenceIdeal.τ).loc Cert.N1ReferenceIdeal.main_arg4) = m ((c.tc : Thread Cert.N1ReferenceIdeal.nD Cert.N1ReferenceIdeal.τ).loc Cert.N1ReferenceIdeal.main_arg4))
      ∧ r.2.sem = fun _ => 0)

def quiescent_N1ReferenceIdeal_pre_norm1_finite [hN1ReferenceIdeal : Cert.N1ReferenceIdeal.Facts] [hPre_norm1_finite : Cert.Pre_norm1_finite.Facts] : Prop :=
  ∀ (m : (ℓ : Loc Cert.N1ReferenceIdeal.nD Cert.N1ReferenceIdeal.τ Cert.N1ReferenceIdeal.sig) → Buf (Elt Ideal) ℓ) (g : Dev Cert.N1ReferenceIdeal.nD → PrngReg), Pre_N1ReferenceIdeal_norm1_finite m →
    θ_run (Cert.N1ReferenceIdeal.defs (F := Ideal)) (onTc (τ := Cert.N1ReferenceIdeal.τ) (Cert.N1ReferenceIdeal.main (F := Ideal))) ⟨m, fun _ => 0, g⟩ (fun r => (∀ c : Dev Cert.N1ReferenceIdeal.nD,
      r.2.mem ((c.tc : Thread Cert.N1ReferenceIdeal.nD Cert.N1ReferenceIdeal.τ).loc Cert.N1ReferenceIdeal.main_arg0) = m ((c.tc : Thread Cert.N1ReferenceIdeal.nD Cert.N1ReferenceIdeal.τ).loc Cert.N1ReferenceIdeal.main_arg0)
      ∧ r.2.mem ((c.tc : Thread Cert.N1ReferenceIdeal.nD Cert.N1ReferenceIdeal.τ).loc Cert.N1ReferenceIdeal.main_arg1) = m ((c.tc : Thread Cert.N1ReferenceIdeal.nD Cert.N1ReferenceIdeal.τ).loc Cert.N1ReferenceIdeal.main_arg1)
      ∧ r.2.mem ((c.tc : Thread Cert.N1ReferenceIdeal.nD Cert.N1ReferenceIdeal.τ).loc Cert.N1ReferenceIdeal.main_arg2) = m ((c.tc : Thread Cert.N1ReferenceIdeal.nD Cert.N1ReferenceIdeal.τ).loc Cert.N1ReferenceIdeal.main_arg2)
      ∧ r.2.mem ((c.tc : Thread Cert.N1ReferenceIdeal.nD Cert.N1ReferenceIdeal.τ).loc Cert.N1ReferenceIdeal.main_arg3) = m ((c.tc : Thread Cert.N1ReferenceIdeal.nD Cert.N1ReferenceIdeal.τ).loc Cert.N1ReferenceIdeal.main_arg3)
      ∧ r.2.mem ((c.tc : Thread Cert.N1ReferenceIdeal.nD Cert.N1ReferenceIdeal.τ).loc Cert.N1ReferenceIdeal.main_arg4) = m ((c.tc : Thread Cert.N1ReferenceIdeal.nD Cert.N1ReferenceIdeal.τ).loc Cert.N1ReferenceIdeal.main_arg4))
      ∧ r.2.sem = fun _ => 0)

def quiescent_LoKernel [hLoKernel : Cert.LoKernel.Facts] : Prop :=
  ∀ (m : (ℓ : Loc Cert.LoKernel.nD Cert.LoKernel.τ Cert.LoKernel.sig) → Buf (Elt Bits) ℓ) (g : Dev Cert.LoKernel.nD → PrngReg), Pre_LoKernel m →
    θ_run (Cert.LoKernel.defs (F := Bits)) (onTc (τ := Cert.LoKernel.τ) (Cert.LoKernel.main (F := Bits))) ⟨m, fun _ => 0, g⟩ (fun r => (∀ c : Dev Cert.LoKernel.nD,
      r.2.mem ((c.tc : Thread Cert.LoKernel.nD Cert.LoKernel.τ).loc Cert.LoKernel.main_arg0) = m ((c.tc : Thread Cert.LoKernel.nD Cert.LoKernel.τ).loc Cert.LoKernel.main_arg0)
      ∧ r.2.mem ((c.tc : Thread Cert.LoKernel.nD Cert.LoKernel.τ).loc Cert.LoKernel.main_arg1) = m ((c.tc : Thread Cert.LoKernel.nD Cert.LoKernel.τ).loc Cert.LoKernel.main_arg1)
      ∧ r.2.mem ((c.tc : Thread Cert.LoKernel.nD Cert.LoKernel.τ).loc Cert.LoKernel.main_arg2) = m ((c.tc : Thread Cert.LoKernel.nD Cert.LoKernel.τ).loc Cert.LoKernel.main_arg2)
      ∧ r.2.mem ((c.tc : Thread Cert.LoKernel.nD Cert.LoKernel.τ).loc Cert.LoKernel.main_arg3) = m ((c.tc : Thread Cert.LoKernel.nD Cert.LoKernel.τ).loc Cert.LoKernel.main_arg3)
      ∧ r.2.mem ((c.tc : Thread Cert.LoKernel.nD Cert.LoKernel.τ).loc Cert.LoKernel.main_arg4) = m ((c.tc : Thread Cert.LoKernel.nD Cert.LoKernel.τ).loc Cert.LoKernel.main_arg4))
      ∧ r.2.sem = fun _ => 0)

def quiescent_LoKernelIdeal [hLoKernelIdeal : Cert.LoKernelIdeal.Facts] : Prop :=
  ∀ (m : (ℓ : Loc Cert.LoKernelIdeal.nD Cert.LoKernelIdeal.τ Cert.LoKernelIdeal.sig) → Buf (Elt Ideal) ℓ) (g : Dev Cert.LoKernelIdeal.nD → PrngReg), Pre_LoKernelIdeal m →
    θ_run (Cert.LoKernelIdeal.defs (F := Ideal)) (onTc (τ := Cert.LoKernelIdeal.τ) (Cert.LoKernelIdeal.main (F := Ideal))) ⟨m, fun _ => 0, g⟩ (fun r => (∀ c : Dev Cert.LoKernelIdeal.nD,
      r.2.mem ((c.tc : Thread Cert.LoKernelIdeal.nD Cert.LoKernelIdeal.τ).loc Cert.LoKernelIdeal.main_arg0) = m ((c.tc : Thread Cert.LoKernelIdeal.nD Cert.LoKernelIdeal.τ).loc Cert.LoKernelIdeal.main_arg0)
      ∧ r.2.mem ((c.tc : Thread Cert.LoKernelIdeal.nD Cert.LoKernelIdeal.τ).loc Cert.LoKernelIdeal.main_arg1) = m ((c.tc : Thread Cert.LoKernelIdeal.nD Cert.LoKernelIdeal.τ).loc Cert.LoKernelIdeal.main_arg1)
      ∧ r.2.mem ((c.tc : Thread Cert.LoKernelIdeal.nD Cert.LoKernelIdeal.τ).loc Cert.LoKernelIdeal.main_arg2) = m ((c.tc : Thread Cert.LoKernelIdeal.nD Cert.LoKernelIdeal.τ).loc Cert.LoKernelIdeal.main_arg2)
      ∧ r.2.mem ((c.tc : Thread Cert.LoKernelIdeal.nD Cert.LoKernelIdeal.τ).loc Cert.LoKernelIdeal.main_arg3) = m ((c.tc : Thread Cert.LoKernelIdeal.nD Cert.LoKernelIdeal.τ).loc Cert.LoKernelIdeal.main_arg3)
      ∧ r.2.mem ((c.tc : Thread Cert.LoKernelIdeal.nD Cert.LoKernelIdeal.τ).loc Cert.LoKernelIdeal.main_arg4) = m ((c.tc : Thread Cert.LoKernelIdeal.nD Cert.LoKernelIdeal.τ).loc Cert.LoKernelIdeal.main_arg4))
      ∧ r.2.sem = fun _ => 0)

def quiescent_LoKernelIdeal_pre_loss_finite [hLoKernelIdeal : Cert.LoKernelIdeal.Facts] [hPre_loss_finite : Cert.Pre_loss_finite.Facts] : Prop :=
  ∀ (m : (ℓ : Loc Cert.LoKernelIdeal.nD Cert.LoKernelIdeal.τ Cert.LoKernelIdeal.sig) → Buf (Elt Ideal) ℓ) (g : Dev Cert.LoKernelIdeal.nD → PrngReg), Pre_LoKernelIdeal_loss_finite m →
    θ_run (Cert.LoKernelIdeal.defs (F := Ideal)) (onTc (τ := Cert.LoKernelIdeal.τ) (Cert.LoKernelIdeal.main (F := Ideal))) ⟨m, fun _ => 0, g⟩ (fun r => (∀ c : Dev Cert.LoKernelIdeal.nD,
      r.2.mem ((c.tc : Thread Cert.LoKernelIdeal.nD Cert.LoKernelIdeal.τ).loc Cert.LoKernelIdeal.main_arg0) = m ((c.tc : Thread Cert.LoKernelIdeal.nD Cert.LoKernelIdeal.τ).loc Cert.LoKernelIdeal.main_arg0)
      ∧ r.2.mem ((c.tc : Thread Cert.LoKernelIdeal.nD Cert.LoKernelIdeal.τ).loc Cert.LoKernelIdeal.main_arg1) = m ((c.tc : Thread Cert.LoKernelIdeal.nD Cert.LoKernelIdeal.τ).loc Cert.LoKernelIdeal.main_arg1)
      ∧ r.2.mem ((c.tc : Thread Cert.LoKernelIdeal.nD Cert.LoKernelIdeal.τ).loc Cert.LoKernelIdeal.main_arg2) = m ((c.tc : Thread Cert.LoKernelIdeal.nD Cert.LoKernelIdeal.τ).loc Cert.LoKernelIdeal.main_arg2)
      ∧ r.2.mem ((c.tc : Thread Cert.LoKernelIdeal.nD Cert.LoKernelIdeal.τ).loc Cert.LoKernelIdeal.main_arg3) = m ((c.tc : Thread Cert.LoKernelIdeal.nD Cert.LoKernelIdeal.τ).loc Cert.LoKernelIdeal.main_arg3)
      ∧ r.2.mem ((c.tc : Thread Cert.LoKernelIdeal.nD Cert.LoKernelIdeal.τ).loc Cert.LoKernelIdeal.main_arg4) = m ((c.tc : Thread Cert.LoKernelIdeal.nD Cert.LoKernelIdeal.τ).loc Cert.LoKernelIdeal.main_arg4))
      ∧ r.2.sem = fun _ => 0)

def quiescent_LoReferenceIdeal [hLoReferenceIdeal : Cert.LoReferenceIdeal.Facts] : Prop :=
  ∀ (m : (ℓ : Loc Cert.LoReferenceIdeal.nD Cert.LoReferenceIdeal.τ Cert.LoReferenceIdeal.sig) → Buf (Elt Ideal) ℓ) (g : Dev Cert.LoReferenceIdeal.nD → PrngReg), Pre_LoReferenceIdeal m →
    θ_run (Cert.LoReferenceIdeal.defs (F := Ideal)) (onTc (τ := Cert.LoReferenceIdeal.τ) (Cert.LoReferenceIdeal.main (F := Ideal))) ⟨m, fun _ => 0, g⟩ (fun r => (∀ c : Dev Cert.LoReferenceIdeal.nD,
      r.2.mem ((c.tc : Thread Cert.LoReferenceIdeal.nD Cert.LoReferenceIdeal.τ).loc Cert.LoReferenceIdeal.main_arg0) = m ((c.tc : Thread Cert.LoReferenceIdeal.nD Cert.LoReferenceIdeal.τ).loc Cert.LoReferenceIdeal.main_arg0)
      ∧ r.2.mem ((c.tc : Thread Cert.LoReferenceIdeal.nD Cert.LoReferenceIdeal.τ).loc Cert.LoReferenceIdeal.main_arg1) = m ((c.tc : Thread Cert.LoReferenceIdeal.nD Cert.LoReferenceIdeal.τ).loc Cert.LoReferenceIdeal.main_arg1)
      ∧ r.2.mem ((c.tc : Thread Cert.LoReferenceIdeal.nD Cert.LoReferenceIdeal.τ).loc Cert.LoReferenceIdeal.main_arg2) = m ((c.tc : Thread Cert.LoReferenceIdeal.nD Cert.LoReferenceIdeal.τ).loc Cert.LoReferenceIdeal.main_arg2)
      ∧ r.2.mem ((c.tc : Thread Cert.LoReferenceIdeal.nD Cert.LoReferenceIdeal.τ).loc Cert.LoReferenceIdeal.main_arg3) = m ((c.tc : Thread Cert.LoReferenceIdeal.nD Cert.LoReferenceIdeal.τ).loc Cert.LoReferenceIdeal.main_arg3)
      ∧ r.2.mem ((c.tc : Thread Cert.LoReferenceIdeal.nD Cert.LoReferenceIdeal.τ).loc Cert.LoReferenceIdeal.main_arg4) = m ((c.tc : Thread Cert.LoReferenceIdeal.nD Cert.LoReferenceIdeal.τ).loc Cert.LoReferenceIdeal.main_arg4))
      ∧ r.2.sem = fun _ => 0)

def quiescent_LoReferenceIdeal_pre_loss_finite [hLoReferenceIdeal : Cert.LoReferenceIdeal.Facts] [hPre_loss_finite : Cert.Pre_loss_finite.Facts] : Prop :=
  ∀ (m : (ℓ : Loc Cert.LoReferenceIdeal.nD Cert.LoReferenceIdeal.τ Cert.LoReferenceIdeal.sig) → Buf (Elt Ideal) ℓ) (g : Dev Cert.LoReferenceIdeal.nD → PrngReg), Pre_LoReferenceIdeal_loss_finite m →
    θ_run (Cert.LoReferenceIdeal.defs (F := Ideal)) (onTc (τ := Cert.LoReferenceIdeal.τ) (Cert.LoReferenceIdeal.main (F := Ideal))) ⟨m, fun _ => 0, g⟩ (fun r => (∀ c : Dev Cert.LoReferenceIdeal.nD,
      r.2.mem ((c.tc : Thread Cert.LoReferenceIdeal.nD Cert.LoReferenceIdeal.τ).loc Cert.LoReferenceIdeal.main_arg0) = m ((c.tc : Thread Cert.LoReferenceIdeal.nD Cert.LoReferenceIdeal.τ).loc Cert.LoReferenceIdeal.main_arg0)
      ∧ r.2.mem ((c.tc : Thread Cert.LoReferenceIdeal.nD Cert.LoReferenceIdeal.τ).loc Cert.LoReferenceIdeal.main_arg1) = m ((c.tc : Thread Cert.LoReferenceIdeal.nD Cert.LoReferenceIdeal.τ).loc Cert.LoReferenceIdeal.main_arg1)
      ∧ r.2.mem ((c.tc : Thread Cert.LoReferenceIdeal.nD Cert.LoReferenceIdeal.τ).loc Cert.LoReferenceIdeal.main_arg2) = m ((c.tc : Thread Cert.LoReferenceIdeal.nD Cert.LoReferenceIdeal.τ).loc Cert.LoReferenceIdeal.main_arg2)
      ∧ r.2.mem ((c.tc : Thread Cert.LoReferenceIdeal.nD Cert.LoReferenceIdeal.τ).loc Cert.LoReferenceIdeal.main_arg3) = m ((c.tc : Thread Cert.LoReferenceIdeal.nD Cert.LoReferenceIdeal.τ).loc Cert.LoReferenceIdeal.main_arg3)
      ∧ r.2.mem ((c.tc : Thread Cert.LoReferenceIdeal.nD Cert.LoReferenceIdeal.τ).loc Cert.LoReferenceIdeal.main_arg4) = m ((c.tc : Thread Cert.LoReferenceIdeal.nD Cert.LoReferenceIdeal.τ).loc Cert.LoReferenceIdeal.main_arg4))
      ∧ r.2.sem = fun _ => 0)

def quiescent_GbKernel [hGbKernel : Cert.GbKernel.Facts] : Prop :=
  ∀ (m : (ℓ : Loc Cert.GbKernel.nD Cert.GbKernel.τ Cert.GbKernel.sig) → Buf (Elt Bits) ℓ) (g : Dev Cert.GbKernel.nD → PrngReg), Pre_GbKernel m →
    θ_run (Cert.GbKernel.defs (F := Bits)) (onTc (τ := Cert.GbKernel.τ) (Cert.GbKernel.main (F := Bits))) ⟨m, fun _ => 0, g⟩ (fun r => (∀ c : Dev Cert.GbKernel.nD,
      r.2.mem ((c.tc : Thread Cert.GbKernel.nD Cert.GbKernel.τ).loc Cert.GbKernel.main_arg0) = m ((c.tc : Thread Cert.GbKernel.nD Cert.GbKernel.τ).loc Cert.GbKernel.main_arg0)
      ∧ r.2.mem ((c.tc : Thread Cert.GbKernel.nD Cert.GbKernel.τ).loc Cert.GbKernel.main_arg1) = m ((c.tc : Thread Cert.GbKernel.nD Cert.GbKernel.τ).loc Cert.GbKernel.main_arg1)
      ∧ r.2.mem ((c.tc : Thread Cert.GbKernel.nD Cert.GbKernel.τ).loc Cert.GbKernel.main_arg2) = m ((c.tc : Thread Cert.GbKernel.nD Cert.GbKernel.τ).loc Cert.GbKernel.main_arg2)
      ∧ r.2.mem ((c.tc : Thread Cert.GbKernel.nD Cert.GbKernel.τ).loc Cert.GbKernel.main_arg3) = m ((c.tc : Thread Cert.GbKernel.nD Cert.GbKernel.τ).loc Cert.GbKernel.main_arg3)
      ∧ r.2.mem ((c.tc : Thread Cert.GbKernel.nD Cert.GbKernel.τ).loc Cert.GbKernel.main_arg4) = m ((c.tc : Thread Cert.GbKernel.nD Cert.GbKernel.τ).loc Cert.GbKernel.main_arg4)
      ∧ r.2.mem ((c.tc : Thread Cert.GbKernel.nD Cert.GbKernel.τ).loc Cert.GbKernel.main_arg5) = m ((c.tc : Thread Cert.GbKernel.nD Cert.GbKernel.τ).loc Cert.GbKernel.main_arg5)
      ∧ r.2.mem ((c.tc : Thread Cert.GbKernel.nD Cert.GbKernel.τ).loc Cert.GbKernel.main_arg6) = m ((c.tc : Thread Cert.GbKernel.nD Cert.GbKernel.τ).loc Cert.GbKernel.main_arg6))
      ∧ r.2.sem = fun _ => 0)

def quiescent_GbKernelIdeal [hGbKernelIdeal : Cert.GbKernelIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg), Pre_GbKernelIdeal m →
    θ_run (Cert.GbKernelIdeal.defs (F := Ideal)) (onTc (τ := Cert.GbKernelIdeal.τ) (Cert.GbKernelIdeal.main (F := Ideal))) ⟨m, fun _ => 0, g⟩ (fun r => (∀ c : Dev Cert.GbKernelIdeal.nD,
      r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
      ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1)
      ∧ r.2.mem ((c.tc : Thread Cert.GbKernelIdeal.nD Cert.GbKernelIdeal.τ).loc Cert.GbKernelIdeal.main_arg2) = m ((c.tc : Thread Cert.GbKernelIdeal.nD Cert.GbKernelIdeal.τ).loc Cert.GbKernelIdeal.main_arg2)
      ∧ r.2.mem ((c.tc : Thread Cert.GbKernelIdeal.nD Cert.GbKernelIdeal.τ).loc Cert.GbKernelIdeal.main_arg3) = m ((c.tc : Thread Cert.GbKernelIdeal.nD Cert.GbKernelIdeal.τ).loc Cert.GbKernelIdeal.main_arg3)
      ∧ r.2.mem ((c.tc : Thread Cert.GbKernelIdeal.nD Cert.GbKernelIdeal.τ).loc Cert.GbKernelIdeal.main_arg4) = m ((c.tc : Thread Cert.GbKernelIdeal.nD Cert.GbKernelIdeal.τ).loc Cert.GbKernelIdeal.main_arg4)
      ∧ r.2.mem ((c.tc : Thread Cert.GbKernelIdeal.nD Cert.GbKernelIdeal.τ).loc Cert.GbKernelIdeal.main_arg5) = m ((c.tc : Thread Cert.GbKernelIdeal.nD Cert.GbKernelIdeal.τ).loc Cert.GbKernelIdeal.main_arg5)
      ∧ r.2.mem ((c.tc : Thread Cert.GbKernelIdeal.nD Cert.GbKernelIdeal.τ).loc Cert.GbKernelIdeal.main_arg6) = m ((c.tc : Thread Cert.GbKernelIdeal.nD Cert.GbKernelIdeal.τ).loc Cert.GbKernelIdeal.main_arg6))
      ∧ r.2.sem = fun _ => 0)

def quiescent_GbReferenceIdeal [hGbReferenceIdeal : Cert.GbReferenceIdeal.Facts] : Prop :=
  ∀ (m : (ℓ : Loc Cert.GbReferenceIdeal.nD Cert.GbReferenceIdeal.τ Cert.GbReferenceIdeal.sig) → Buf (Elt Ideal) ℓ) (g : Dev Cert.GbReferenceIdeal.nD → PrngReg), Pre_GbReferenceIdeal m →
    θ_run (Cert.GbReferenceIdeal.defs (F := Ideal)) (onTc (τ := Cert.GbReferenceIdeal.τ) (Cert.GbReferenceIdeal.main (F := Ideal))) ⟨m, fun _ => 0, g⟩ (fun r => (∀ c : Dev Cert.GbReferenceIdeal.nD,
      r.2.mem ((c.tc : Thread Cert.GbReferenceIdeal.nD Cert.GbReferenceIdeal.τ).loc Cert.GbReferenceIdeal.main_arg0) = m ((c.tc : Thread Cert.GbReferenceIdeal.nD Cert.GbReferenceIdeal.τ).loc Cert.GbReferenceIdeal.main_arg0)
      ∧ r.2.mem ((c.tc : Thread Cert.GbReferenceIdeal.nD Cert.GbReferenceIdeal.τ).loc Cert.GbReferenceIdeal.main_arg1) = m ((c.tc : Thread Cert.GbReferenceIdeal.nD Cert.GbReferenceIdeal.τ).loc Cert.GbReferenceIdeal.main_arg1)
      ∧ r.2.mem ((c.tc : Thread Cert.GbReferenceIdeal.nD Cert.GbReferenceIdeal.τ).loc Cert.GbReferenceIdeal.main_arg2) = m ((c.tc : Thread Cert.GbReferenceIdeal.nD Cert.GbReferenceIdeal.τ).loc Cert.GbReferenceIdeal.main_arg2)
      ∧ r.2.mem ((c.tc : Thread Cert.GbReferenceIdeal.nD Cert.GbReferenceIdeal.τ).loc Cert.GbReferenceIdeal.main_arg3) = m ((c.tc : Thread Cert.GbReferenceIdeal.nD Cert.GbReferenceIdeal.τ).loc Cert.GbReferenceIdeal.main_arg3)
      ∧ r.2.mem ((c.tc : Thread Cert.GbReferenceIdeal.nD Cert.GbReferenceIdeal.τ).loc Cert.GbReferenceIdeal.main_arg4) = m ((c.tc : Thread Cert.GbReferenceIdeal.nD Cert.GbReferenceIdeal.τ).loc Cert.GbReferenceIdeal.main_arg4)
      ∧ r.2.mem ((c.tc : Thread Cert.GbReferenceIdeal.nD Cert.GbReferenceIdeal.τ).loc Cert.GbReferenceIdeal.main_arg5) = m ((c.tc : Thread Cert.GbReferenceIdeal.nD Cert.GbReferenceIdeal.τ).loc Cert.GbReferenceIdeal.main_arg5)
      ∧ r.2.mem ((c.tc : Thread Cert.GbReferenceIdeal.nD Cert.GbReferenceIdeal.τ).loc Cert.GbReferenceIdeal.main_arg6) = m ((c.tc : Thread Cert.GbReferenceIdeal.nD Cert.GbReferenceIdeal.τ).loc Cert.GbReferenceIdeal.main_arg6))
      ∧ r.2.sem = fun _ => 0)

def preserves_FfKernel_FfKernelIdeal : Prop :=
  True

def algebraic_FfKernelIdeal_FfReferenceIdeal [hFfKernelIdeal : Cert.FfKernelIdeal.Facts] [hFfReferenceIdeal : Cert.FfReferenceIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg)
    (m' : (ℓ : Loc Cert.FfReferenceIdeal.nD Cert.FfReferenceIdeal.τ Cert.FfReferenceIdeal.sig) → Buf (Elt Ideal) ℓ) (g' : Dev Cert.FfReferenceIdeal.nD → PrngReg), Pre_FfKernelIdeal m →
    (∀ c : Dev Cert.FfKernelIdeal.nD,
      m' ((c.tc : Thread Cert.FfReferenceIdeal.nD Cert.FfReferenceIdeal.τ).loc Cert.FfReferenceIdeal.main_arg0) = m ((c.tc : Thread Cert.FfKernelIdeal.nD Cert.FfKernelIdeal.τ).loc Cert.FfKernelIdeal.main_arg0)
      ∧ m' ((c.tc : Thread Cert.FfReferenceIdeal.nD Cert.FfReferenceIdeal.τ).loc Cert.FfReferenceIdeal.main_arg1) = m ((c.tc : Thread Cert.FfKernelIdeal.nD Cert.FfKernelIdeal.τ).loc Cert.FfKernelIdeal.main_arg1)
      ∧ m' ((c.tc : Thread Cert.FfReferenceIdeal.nD Cert.FfReferenceIdeal.τ).loc Cert.FfReferenceIdeal.main_arg2) = m ((c.tc : Thread Cert.FfKernelIdeal.nD Cert.FfKernelIdeal.τ).loc Cert.FfKernelIdeal.main_arg2)
      ∧ m' ((c.tc : Thread Cert.FfReferenceIdeal.nD Cert.FfReferenceIdeal.τ).loc Cert.FfReferenceIdeal.main_arg3) = m ((c.tc : Thread Cert.FfKernelIdeal.nD Cert.FfKernelIdeal.τ).loc Cert.FfKernelIdeal.main_arg3)) →
    ∃ (v0 : (c : Dev Cert.FfKernelIdeal.nD) → Buf (Elt Ideal) ((c.tc : Thread Cert.FfKernelIdeal.nD Cert.FfKernelIdeal.τ).loc Cert.FfKernelIdeal.main_v3)) (v1 : (c : Dev Cert.FfKernelIdeal.nD) → Buf (Elt Ideal) ((c.tc : Thread Cert.FfKernelIdeal.nD Cert.FfKernelIdeal.τ).loc Cert.FfKernelIdeal.main_v5)),
      θ_run (Cert.FfKernelIdeal.defs (F := Ideal)) (onTc (τ := Cert.FfKernelIdeal.τ) (Cert.FfKernelIdeal.main (F := Ideal))) ⟨m, fun _ => 0, g⟩ (fun r => ∀ c : Dev Cert.FfKernelIdeal.nD,
          r.2.mem ((c.tc : Thread Cert.FfKernelIdeal.nD Cert.FfKernelIdeal.τ).loc Cert.FfKernelIdeal.main_v3) = v0 c
          ∧ r.2.mem ((c.tc : Thread Cert.FfKernelIdeal.nD Cert.FfKernelIdeal.τ).loc Cert.FfKernelIdeal.main_v5) = v1 c
          ∧ r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
          ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
          ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
          ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3))
      ∧ θ_run (Cert.FfReferenceIdeal.defs (F := Ideal)) (onTc (τ := Cert.FfReferenceIdeal.τ) (Cert.FfReferenceIdeal.main (F := Ideal))) ⟨m', fun _ => 0, g'⟩ (fun r => ∀ c : Dev Cert.FfReferenceIdeal.nD,
          r.2.mem ((c.tc : Thread Cert.FfReferenceIdeal.nD Cert.FfReferenceIdeal.τ).loc Cert.FfReferenceIdeal.main_v17) = v0 c
          ∧ r.2.mem ((c.tc : Thread Cert.FfReferenceIdeal.nD Cert.FfReferenceIdeal.τ).loc Cert.FfReferenceIdeal.main_v18) = v1 c
          ∧ r.2.mem ((c.tc : Thread Cert.FfReferenceIdeal.nD Cert.FfReferenceIdeal.τ).loc Cert.FfReferenceIdeal.main_arg0) = m' ((c.tc : Thread Cert.FfReferenceIdeal.nD Cert.FfReferenceIdeal.τ).loc Cert.FfReferenceIdeal.main_arg0)
          ∧ r.2.mem ((c.tc : Thread Cert.FfReferenceIdeal.nD Cert.FfReferenceIdeal.τ).loc Cert.FfReferenceIdeal.main_arg1) = m' ((c.tc : Thread Cert.FfReferenceIdeal.nD Cert.FfReferenceIdeal.τ).loc Cert.FfReferenceIdeal.main_arg1)
          ∧ r.2.mem ((c.tc : Thread Cert.FfReferenceIdeal.nD Cert.FfReferenceIdeal.τ).loc Cert.FfReferenceIdeal.main_arg2) = m' ((c.tc : Thread Cert.FfReferenceIdeal.nD Cert.FfReferenceIdeal.τ).loc Cert.FfReferenceIdeal.main_arg2)
          ∧ r.2.mem ((c.tc : Thread Cert.FfReferenceIdeal.nD Cert.FfReferenceIdeal.τ).loc Cert.FfReferenceIdeal.main_arg3) = m' ((c.tc : Thread Cert.FfReferenceIdeal.nD Cert.FfReferenceIdeal.τ).loc Cert.FfReferenceIdeal.main_arg3))

def preserves_GfKernel_GfKernelIdeal : Prop :=
  True

def algebraic_GfKernelIdeal_GfReferenceIdeal [hGfKernelIdeal : Cert.GfKernelIdeal.Facts] [hGfReferenceIdeal : Cert.GfReferenceIdeal.Facts] : Prop :=
  ∀ (m : (ℓ : Loc Cert.GfKernelIdeal.nD Cert.GfKernelIdeal.τ Cert.GfKernelIdeal.sig) → Buf (Elt Ideal) ℓ) (g : Dev Cert.GfKernelIdeal.nD → PrngReg)
    (m' : (ℓ : Loc Cert.GfReferenceIdeal.nD Cert.GfReferenceIdeal.τ Cert.GfReferenceIdeal.sig) → Buf (Elt Ideal) ℓ) (g' : Dev Cert.GfReferenceIdeal.nD → PrngReg), Pre_GfKernelIdeal m →
    (∀ c : Dev Cert.GfKernelIdeal.nD,
      m' ((c.tc : Thread Cert.GfReferenceIdeal.nD Cert.GfReferenceIdeal.τ).loc Cert.GfReferenceIdeal.main_arg0) = m ((c.tc : Thread Cert.GfKernelIdeal.nD Cert.GfKernelIdeal.τ).loc Cert.GfKernelIdeal.main_arg0)
      ∧ m' ((c.tc : Thread Cert.GfReferenceIdeal.nD Cert.GfReferenceIdeal.τ).loc Cert.GfReferenceIdeal.main_arg1) = m ((c.tc : Thread Cert.GfKernelIdeal.nD Cert.GfKernelIdeal.τ).loc Cert.GfKernelIdeal.main_arg1)
      ∧ m' ((c.tc : Thread Cert.GfReferenceIdeal.nD Cert.GfReferenceIdeal.τ).loc Cert.GfReferenceIdeal.main_arg2) = m ((c.tc : Thread Cert.GfKernelIdeal.nD Cert.GfKernelIdeal.τ).loc Cert.GfKernelIdeal.main_arg2)
      ∧ m' ((c.tc : Thread Cert.GfReferenceIdeal.nD Cert.GfReferenceIdeal.τ).loc Cert.GfReferenceIdeal.main_arg3) = m ((c.tc : Thread Cert.GfKernelIdeal.nD Cert.GfKernelIdeal.τ).loc Cert.GfKernelIdeal.main_arg3)
      ∧ m' ((c.tc : Thread Cert.GfReferenceIdeal.nD Cert.GfReferenceIdeal.τ).loc Cert.GfReferenceIdeal.main_arg4) = m ((c.tc : Thread Cert.GfKernelIdeal.nD Cert.GfKernelIdeal.τ).loc Cert.GfKernelIdeal.main_arg4)
      ∧ m' ((c.tc : Thread Cert.GfReferenceIdeal.nD Cert.GfReferenceIdeal.τ).loc Cert.GfReferenceIdeal.main_arg5) = m ((c.tc : Thread Cert.GfKernelIdeal.nD Cert.GfKernelIdeal.τ).loc Cert.GfKernelIdeal.main_arg5)
      ∧ m' ((c.tc : Thread Cert.GfReferenceIdeal.nD Cert.GfReferenceIdeal.τ).loc Cert.GfReferenceIdeal.main_arg6) = m ((c.tc : Thread Cert.GfKernelIdeal.nD Cert.GfKernelIdeal.τ).loc Cert.GfKernelIdeal.main_arg6)
      ∧ m' ((c.tc : Thread Cert.GfReferenceIdeal.nD Cert.GfReferenceIdeal.τ).loc Cert.GfReferenceIdeal.main_arg7) = m ((c.tc : Thread Cert.GfKernelIdeal.nD Cert.GfKernelIdeal.τ).loc Cert.GfKernelIdeal.main_arg7)) →
    ∃ (v0 : (c : Dev Cert.GfKernelIdeal.nD) → Buf (Elt Ideal) ((c.tc : Thread Cert.GfKernelIdeal.nD Cert.GfKernelIdeal.τ).loc Cert.GfKernelIdeal.main_v5_0)) (v1 : (c : Dev Cert.GfKernelIdeal.nD) → Buf (Elt Ideal) ((c.tc : Thread Cert.GfKernelIdeal.nD Cert.GfKernelIdeal.τ).loc Cert.GfKernelIdeal.main_v5_1)) (v2 : (c : Dev Cert.GfKernelIdeal.nD) → Buf (Elt Ideal) ((c.tc : Thread Cert.GfKernelIdeal.nD Cert.GfKernelIdeal.τ).loc Cert.GfKernelIdeal.main_v5_2)) (v3 : (c : Dev Cert.GfKernelIdeal.nD) → Buf (Elt Ideal) ((c.tc : Thread Cert.GfKernelIdeal.nD Cert.GfKernelIdeal.τ).loc Cert.GfKernelIdeal.main_v5_3)) (v4 : (c : Dev Cert.GfKernelIdeal.nD) → Buf (Elt Ideal) ((c.tc : Thread Cert.GfKernelIdeal.nD Cert.GfKernelIdeal.τ).loc Cert.GfKernelIdeal.main_v5_4)),
      θ_run (Cert.GfKernelIdeal.defs (F := Ideal)) (onTc (τ := Cert.GfKernelIdeal.τ) (Cert.GfKernelIdeal.main (F := Ideal))) ⟨m, fun _ => 0, g⟩ (fun r => ∀ c : Dev Cert.GfKernelIdeal.nD,
          r.2.mem ((c.tc : Thread Cert.GfKernelIdeal.nD Cert.GfKernelIdeal.τ).loc Cert.GfKernelIdeal.main_v5_0) = v0 c
          ∧ r.2.mem ((c.tc : Thread Cert.GfKernelIdeal.nD Cert.GfKernelIdeal.τ).loc Cert.GfKernelIdeal.main_v5_1) = v1 c
          ∧ r.2.mem ((c.tc : Thread Cert.GfKernelIdeal.nD Cert.GfKernelIdeal.τ).loc Cert.GfKernelIdeal.main_v5_2) = v2 c
          ∧ r.2.mem ((c.tc : Thread Cert.GfKernelIdeal.nD Cert.GfKernelIdeal.τ).loc Cert.GfKernelIdeal.main_v5_3) = v3 c
          ∧ r.2.mem ((c.tc : Thread Cert.GfKernelIdeal.nD Cert.GfKernelIdeal.τ).loc Cert.GfKernelIdeal.main_v5_4) = v4 c
          ∧ r.2.mem ((c.tc : Thread Cert.GfKernelIdeal.nD Cert.GfKernelIdeal.τ).loc Cert.GfKernelIdeal.main_arg0) = m ((c.tc : Thread Cert.GfKernelIdeal.nD Cert.GfKernelIdeal.τ).loc Cert.GfKernelIdeal.main_arg0)
          ∧ r.2.mem ((c.tc : Thread Cert.GfKernelIdeal.nD Cert.GfKernelIdeal.τ).loc Cert.GfKernelIdeal.main_arg1) = m ((c.tc : Thread Cert.GfKernelIdeal.nD Cert.GfKernelIdeal.τ).loc Cert.GfKernelIdeal.main_arg1)
          ∧ r.2.mem ((c.tc : Thread Cert.GfKernelIdeal.nD Cert.GfKernelIdeal.τ).loc Cert.GfKernelIdeal.main_arg2) = m ((c.tc : Thread Cert.GfKernelIdeal.nD Cert.GfKernelIdeal.τ).loc Cert.GfKernelIdeal.main_arg2)
          ∧ r.2.mem ((c.tc : Thread Cert.GfKernelIdeal.nD Cert.GfKernelIdeal.τ).loc Cert.GfKernelIdeal.main_arg3) = m ((c.tc : Thread Cert.GfKernelIdeal.nD Cert.GfKernelIdeal.τ).loc Cert.GfKernelIdeal.main_arg3)
          ∧ r.2.mem ((c.tc : Thread Cert.GfKernelIdeal.nD Cert.GfKernelIdeal.τ).loc Cert.GfKernelIdeal.main_arg4) = m ((c.tc : Thread Cert.GfKernelIdeal.nD Cert.GfKernelIdeal.τ).loc Cert.GfKernelIdeal.main_arg4)
          ∧ r.2.mem ((c.tc : Thread Cert.GfKernelIdeal.nD Cert.GfKernelIdeal.τ).loc Cert.GfKernelIdeal.main_arg5) = m ((c.tc : Thread Cert.GfKernelIdeal.nD Cert.GfKernelIdeal.τ).loc Cert.GfKernelIdeal.main_arg5)
          ∧ r.2.mem ((c.tc : Thread Cert.GfKernelIdeal.nD Cert.GfKernelIdeal.τ).loc Cert.GfKernelIdeal.main_arg6) = m ((c.tc : Thread Cert.GfKernelIdeal.nD Cert.GfKernelIdeal.τ).loc Cert.GfKernelIdeal.main_arg6)
          ∧ r.2.mem ((c.tc : Thread Cert.GfKernelIdeal.nD Cert.GfKernelIdeal.τ).loc Cert.GfKernelIdeal.main_arg7) = m ((c.tc : Thread Cert.GfKernelIdeal.nD Cert.GfKernelIdeal.τ).loc Cert.GfKernelIdeal.main_arg7))
      ∧ θ_run (Cert.GfReferenceIdeal.defs (F := Ideal)) (onTc (τ := Cert.GfReferenceIdeal.τ) (Cert.GfReferenceIdeal.main (F := Ideal))) ⟨m', fun _ => 0, g'⟩ (fun r => ∀ c : Dev Cert.GfReferenceIdeal.nD,
          r.2.mem ((c.tc : Thread Cert.GfReferenceIdeal.nD Cert.GfReferenceIdeal.τ).loc Cert.GfReferenceIdeal.main_v5) = v0 c
          ∧ r.2.mem ((c.tc : Thread Cert.GfReferenceIdeal.nD Cert.GfReferenceIdeal.τ).loc Cert.GfReferenceIdeal.main_v7) = v1 c
          ∧ r.2.mem ((c.tc : Thread Cert.GfReferenceIdeal.nD Cert.GfReferenceIdeal.τ).loc Cert.GfReferenceIdeal.main_v25) = v2 c
          ∧ r.2.mem ((c.tc : Thread Cert.GfReferenceIdeal.nD Cert.GfReferenceIdeal.τ).loc Cert.GfReferenceIdeal.main_v24) = v3 c
          ∧ r.2.mem ((c.tc : Thread Cert.GfReferenceIdeal.nD Cert.GfReferenceIdeal.τ).loc Cert.GfReferenceIdeal.main_v40) = v4 c
          ∧ r.2.mem ((c.tc : Thread Cert.GfReferenceIdeal.nD Cert.GfReferenceIdeal.τ).loc Cert.GfReferenceIdeal.main_arg0) = m' ((c.tc : Thread Cert.GfReferenceIdeal.nD Cert.GfReferenceIdeal.τ).loc Cert.GfReferenceIdeal.main_arg0)
          ∧ r.2.mem ((c.tc : Thread Cert.GfReferenceIdeal.nD Cert.GfReferenceIdeal.τ).loc Cert.GfReferenceIdeal.main_arg1) = m' ((c.tc : Thread Cert.GfReferenceIdeal.nD Cert.GfReferenceIdeal.τ).loc Cert.GfReferenceIdeal.main_arg1)
          ∧ r.2.mem ((c.tc : Thread Cert.GfReferenceIdeal.nD Cert.GfReferenceIdeal.τ).loc Cert.GfReferenceIdeal.main_arg2) = m' ((c.tc : Thread Cert.GfReferenceIdeal.nD Cert.GfReferenceIdeal.τ).loc Cert.GfReferenceIdeal.main_arg2)
          ∧ r.2.mem ((c.tc : Thread Cert.GfReferenceIdeal.nD Cert.GfReferenceIdeal.τ).loc Cert.GfReferenceIdeal.main_arg3) = m' ((c.tc : Thread Cert.GfReferenceIdeal.nD Cert.GfReferenceIdeal.τ).loc Cert.GfReferenceIdeal.main_arg3)
          ∧ r.2.mem ((c.tc : Thread Cert.GfReferenceIdeal.nD Cert.GfReferenceIdeal.τ).loc Cert.GfReferenceIdeal.main_arg4) = m' ((c.tc : Thread Cert.GfReferenceIdeal.nD Cert.GfReferenceIdeal.τ).loc Cert.GfReferenceIdeal.main_arg4)
          ∧ r.2.mem ((c.tc : Thread Cert.GfReferenceIdeal.nD Cert.GfReferenceIdeal.τ).loc Cert.GfReferenceIdeal.main_arg5) = m' ((c.tc : Thread Cert.GfReferenceIdeal.nD Cert.GfReferenceIdeal.τ).loc Cert.GfReferenceIdeal.main_arg5)
          ∧ r.2.mem ((c.tc : Thread Cert.GfReferenceIdeal.nD Cert.GfReferenceIdeal.τ).loc Cert.GfReferenceIdeal.main_arg6) = m' ((c.tc : Thread Cert.GfReferenceIdeal.nD Cert.GfReferenceIdeal.τ).loc Cert.GfReferenceIdeal.main_arg6)
          ∧ r.2.mem ((c.tc : Thread Cert.GfReferenceIdeal.nD Cert.GfReferenceIdeal.τ).loc Cert.GfReferenceIdeal.main_arg7) = m' ((c.tc : Thread Cert.GfReferenceIdeal.nD Cert.GfReferenceIdeal.τ).loc Cert.GfReferenceIdeal.main_arg7))

def preserves_AtKernel_AtKernelIdeal : Prop :=
  True

def algebraic_AtKernelIdeal_AtReferenceIdeal_pre_scores_finite [hAtKernelIdeal : Cert.AtKernelIdeal.Facts] [hAtReferenceIdeal : Cert.AtReferenceIdeal.Facts] [hPre_scores_finite : Cert.Pre_scores_finite.Facts] : Prop :=
  ∀ (m : (ℓ : Loc Cert.AtKernelIdeal.nD Cert.AtKernelIdeal.τ Cert.AtKernelIdeal.sig) → Buf (Elt Ideal) ℓ) (g : Dev Cert.AtKernelIdeal.nD → PrngReg)
    (m' : (ℓ : Loc Cert.AtReferenceIdeal.nD Cert.AtReferenceIdeal.τ Cert.AtReferenceIdeal.sig) → Buf (Elt Ideal) ℓ) (g' : Dev Cert.AtReferenceIdeal.nD → PrngReg), Pre_AtKernelIdeal_scores_finite m →
    (∀ c : Dev Cert.AtKernelIdeal.nD,
      m' ((c.tc : Thread Cert.AtReferenceIdeal.nD Cert.AtReferenceIdeal.τ).loc Cert.AtReferenceIdeal.main_arg0) = m ((c.tc : Thread Cert.AtKernelIdeal.nD Cert.AtKernelIdeal.τ).loc Cert.AtKernelIdeal.main_arg0)
      ∧ m' ((c.tc : Thread Cert.AtReferenceIdeal.nD Cert.AtReferenceIdeal.τ).loc Cert.AtReferenceIdeal.main_arg1) = m ((c.tc : Thread Cert.AtKernelIdeal.nD Cert.AtKernelIdeal.τ).loc Cert.AtKernelIdeal.main_arg1)) →
    ∃ (v0 : (c : Dev Cert.AtKernelIdeal.nD) → Buf (Elt Ideal) ((c.tc : Thread Cert.AtKernelIdeal.nD Cert.AtKernelIdeal.τ).loc Cert.AtKernelIdeal.main_v38_0)),
      θ_run (Cert.AtKernelIdeal.defs (F := Ideal)) (onTc (τ := Cert.AtKernelIdeal.τ) (Cert.AtKernelIdeal.main (F := Ideal))) ⟨m, fun _ => 0, g⟩ (fun r => ∀ c : Dev Cert.AtKernelIdeal.nD,
          r.2.mem ((c.tc : Thread Cert.AtKernelIdeal.nD Cert.AtKernelIdeal.τ).loc Cert.AtKernelIdeal.main_v38_0) = v0 c
          ∧ r.2.mem ((c.tc : Thread Cert.AtKernelIdeal.nD Cert.AtKernelIdeal.τ).loc Cert.AtKernelIdeal.main_arg0) = m ((c.tc : Thread Cert.AtKernelIdeal.nD Cert.AtKernelIdeal.τ).loc Cert.AtKernelIdeal.main_arg0)
          ∧ r.2.mem ((c.tc : Thread Cert.AtKernelIdeal.nD Cert.AtKernelIdeal.τ).loc Cert.AtKernelIdeal.main_arg1) = m ((c.tc : Thread Cert.AtKernelIdeal.nD Cert.AtKernelIdeal.τ).loc Cert.AtKernelIdeal.main_arg1))
      ∧ θ_run (Cert.AtReferenceIdeal.defs (F := Ideal)) (onTc (τ := Cert.AtReferenceIdeal.τ) (Cert.AtReferenceIdeal.main (F := Ideal))) ⟨m', fun _ => 0, g'⟩ (fun r => ∀ c : Dev Cert.AtReferenceIdeal.nD,
          r.2.mem ((c.tc : Thread Cert.AtReferenceIdeal.nD Cert.AtReferenceIdeal.τ).loc Cert.AtReferenceIdeal.main_v73) = v0 c
          ∧ r.2.mem ((c.tc : Thread Cert.AtReferenceIdeal.nD Cert.AtReferenceIdeal.τ).loc Cert.AtReferenceIdeal.main_arg0) = m' ((c.tc : Thread Cert.AtReferenceIdeal.nD Cert.AtReferenceIdeal.τ).loc Cert.AtReferenceIdeal.main_arg0)
          ∧ r.2.mem ((c.tc : Thread Cert.AtReferenceIdeal.nD Cert.AtReferenceIdeal.τ).loc Cert.AtReferenceIdeal.main_arg1) = m' ((c.tc : Thread Cert.AtReferenceIdeal.nD Cert.AtReferenceIdeal.τ).loc Cert.AtReferenceIdeal.main_arg1))

def preserves_AbKernel_AbKernelIdeal : Prop :=
  True

def algebraic_AbKernelIdeal_AbReferenceIdeal_pre_all_finite [hAbKernelIdeal : Cert.AbKernelIdeal.Facts] [hAbReferenceIdeal : Cert.AbReferenceIdeal.Facts] [hPre_all_finite : Cert.Pre_all_finite.Facts] : Prop :=
  ∀ (m : (ℓ : Loc Cert.AbKernelIdeal.nD Cert.AbKernelIdeal.τ Cert.AbKernelIdeal.sig) → Buf (Elt Ideal) ℓ) (g : Dev Cert.AbKernelIdeal.nD → PrngReg)
    (m' : (ℓ : Loc Cert.AbReferenceIdeal.nD Cert.AbReferenceIdeal.τ Cert.AbReferenceIdeal.sig) → Buf (Elt Ideal) ℓ) (g' : Dev Cert.AbReferenceIdeal.nD → PrngReg), Pre_AbKernelIdeal_all_finite m →
    (∀ c : Dev Cert.AbKernelIdeal.nD,
      m' ((c.tc : Thread Cert.AbReferenceIdeal.nD Cert.AbReferenceIdeal.τ).loc Cert.AbReferenceIdeal.main_arg0) = m ((c.tc : Thread Cert.AbKernelIdeal.nD Cert.AbKernelIdeal.τ).loc Cert.AbKernelIdeal.main_arg0)
      ∧ m' ((c.tc : Thread Cert.AbReferenceIdeal.nD Cert.AbReferenceIdeal.τ).loc Cert.AbReferenceIdeal.main_arg1) = m ((c.tc : Thread Cert.AbKernelIdeal.nD Cert.AbKernelIdeal.τ).loc Cert.AbKernelIdeal.main_arg1)
      ∧ m' ((c.tc : Thread Cert.AbReferenceIdeal.nD Cert.AbReferenceIdeal.τ).loc Cert.AbReferenceIdeal.main_arg2) = m ((c.tc : Thread Cert.AbKernelIdeal.nD Cert.AbKernelIdeal.τ).loc Cert.AbKernelIdeal.main_arg2)
      ∧ m' ((c.tc : Thread Cert.AbReferenceIdeal.nD Cert.AbReferenceIdeal.τ).loc Cert.AbReferenceIdeal.main_arg3) = m ((c.tc : Thread Cert.AbKernelIdeal.nD Cert.AbKernelIdeal.τ).loc Cert.AbKernelIdeal.main_arg3)) →
    ∃ (v0 : (c : Dev Cert.AbKernelIdeal.nD) → Buf (Elt Ideal) ((c.tc : Thread Cert.AbKernelIdeal.nD Cert.AbKernelIdeal.τ).loc Cert.AbKernelIdeal.main_v75_0)),
      θ_run (Cert.AbKernelIdeal.defs (F := Ideal)) (onTc (τ := Cert.AbKernelIdeal.τ) (Cert.AbKernelIdeal.main (F := Ideal))) ⟨m, fun _ => 0, g⟩ (fun r => ∀ c : Dev Cert.AbKernelIdeal.nD,
          r.2.mem ((c.tc : Thread Cert.AbKernelIdeal.nD Cert.AbKernelIdeal.τ).loc Cert.AbKernelIdeal.main_v75_0) = v0 c
          ∧ r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
          ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
          ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
          ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ θ_run (Cert.AbReferenceIdeal.defs (F := Ideal)) (onTc (τ := Cert.AbReferenceIdeal.τ) (Cert.AbReferenceIdeal.main (F := Ideal))) ⟨m', fun _ => 0, g'⟩ (fun r => ∀ c : Dev Cert.AbReferenceIdeal.nD,
          r.2.mem ((c.tc : Thread Cert.AbReferenceIdeal.nD Cert.AbReferenceIdeal.τ).loc Cert.AbReferenceIdeal.main_v135) = v0 c
          ∧ r.2.mem ((c.tc : Thread Cert.AbReferenceIdeal.nD Cert.AbReferenceIdeal.τ).loc Cert.AbReferenceIdeal.main_arg0) = m' ((c.tc : Thread Cert.AbReferenceIdeal.nD Cert.AbReferenceIdeal.τ).loc Cert.AbReferenceIdeal.main_arg0)
          ∧ r.2.mem ((c.tc : Thread Cert.AbReferenceIdeal.nD Cert.AbReferenceIdeal.τ).loc Cert.AbReferenceIdeal.main_arg1) = m' ((c.tc : Thread Cert.AbReferenceIdeal.nD Cert.AbReferenceIdeal.τ).loc Cert.AbReferenceIdeal.main_arg1)
          ∧ r.2.mem ((c.tc : Thread Cert.AbReferenceIdeal.nD Cert.AbReferenceIdeal.τ).loc Cert.AbReferenceIdeal.main_arg2) = m' ((c.tc : Thread Cert.AbReferenceIdeal.nD Cert.AbReferenceIdeal.τ).loc Cert.AbReferenceIdeal.main_arg2)
          ∧ r.2.mem ((c.tc : Thread Cert.AbReferenceIdeal.nD Cert.AbReferenceIdeal.τ).loc Cert.AbReferenceIdeal.main_arg3) = m' ((c.tc : Thread Cert.AbReferenceIdeal.nD Cert.AbReferenceIdeal.τ).loc Cert.AbReferenceIdeal.main_arg3))

def preserves_N2Kernel_N2KernelIdeal : Prop :=
  True

def algebraic_N2KernelIdeal_N2ReferenceIdeal_pre_norm2_finite [hN2KernelIdeal : Cert.N2KernelIdeal.Facts] [hN2ReferenceIdeal : Cert.N2ReferenceIdeal.Facts] [hPre_norm2_finite : Cert.Pre_norm2_finite.Facts] : Prop :=
  ∀ (m : (ℓ : Loc Cert.N2KernelIdeal.nD Cert.N2KernelIdeal.τ Cert.N2KernelIdeal.sig) → Buf (Elt Ideal) ℓ) (g : Dev Cert.N2KernelIdeal.nD → PrngReg)
    (m' : (ℓ : Loc Cert.N2ReferenceIdeal.nD Cert.N2ReferenceIdeal.τ Cert.N2ReferenceIdeal.sig) → Buf (Elt Ideal) ℓ) (g' : Dev Cert.N2ReferenceIdeal.nD → PrngReg), Pre_N2KernelIdeal_norm2_finite m →
    (∀ c : Dev Cert.N2KernelIdeal.nD,
      m' ((c.tc : Thread Cert.N2ReferenceIdeal.nD Cert.N2ReferenceIdeal.τ).loc Cert.N2ReferenceIdeal.main_arg0) = m ((c.tc : Thread Cert.N2KernelIdeal.nD Cert.N2KernelIdeal.τ).loc Cert.N2KernelIdeal.main_arg0)
      ∧ m' ((c.tc : Thread Cert.N2ReferenceIdeal.nD Cert.N2ReferenceIdeal.τ).loc Cert.N2ReferenceIdeal.main_arg1) = m ((c.tc : Thread Cert.N2KernelIdeal.nD Cert.N2KernelIdeal.τ).loc Cert.N2KernelIdeal.main_arg1)
      ∧ m' ((c.tc : Thread Cert.N2ReferenceIdeal.nD Cert.N2ReferenceIdeal.τ).loc Cert.N2ReferenceIdeal.main_arg2) = m ((c.tc : Thread Cert.N2KernelIdeal.nD Cert.N2KernelIdeal.τ).loc Cert.N2KernelIdeal.main_arg2)
      ∧ m' ((c.tc : Thread Cert.N2ReferenceIdeal.nD Cert.N2ReferenceIdeal.τ).loc Cert.N2ReferenceIdeal.main_arg3) = m ((c.tc : Thread Cert.N2KernelIdeal.nD Cert.N2KernelIdeal.τ).loc Cert.N2KernelIdeal.main_arg3)
      ∧ m' ((c.tc : Thread Cert.N2ReferenceIdeal.nD Cert.N2ReferenceIdeal.τ).loc Cert.N2ReferenceIdeal.main_arg4) = m ((c.tc : Thread Cert.N2KernelIdeal.nD Cert.N2KernelIdeal.τ).loc Cert.N2KernelIdeal.main_arg4)) →
    ∃ (v0 : (c : Dev Cert.N2KernelIdeal.nD) → Buf (Elt Ideal) ((c.tc : Thread Cert.N2KernelIdeal.nD Cert.N2KernelIdeal.τ).loc Cert.N2KernelIdeal.main_v3_0)) (v1 : (c : Dev Cert.N2KernelIdeal.nD) → Buf (Elt Ideal) ((c.tc : Thread Cert.N2KernelIdeal.nD Cert.N2KernelIdeal.τ).loc Cert.N2KernelIdeal.main_v3_1)) (v2 : (c : Dev Cert.N2KernelIdeal.nD) → Buf (Elt Ideal) ((c.tc : Thread Cert.N2KernelIdeal.nD Cert.N2KernelIdeal.τ).loc Cert.N2KernelIdeal.main_v3_2)),
      θ_run (Cert.N2KernelIdeal.defs (F := Ideal)) (onTc (τ := Cert.N2KernelIdeal.τ) (Cert.N2KernelIdeal.main (F := Ideal))) ⟨m, fun _ => 0, g⟩ (fun r => ∀ c : Dev Cert.N2KernelIdeal.nD,
          r.2.mem ((c.tc : Thread Cert.N2KernelIdeal.nD Cert.N2KernelIdeal.τ).loc Cert.N2KernelIdeal.main_v3_0) = v0 c
          ∧ r.2.mem ((c.tc : Thread Cert.N2KernelIdeal.nD Cert.N2KernelIdeal.τ).loc Cert.N2KernelIdeal.main_v3_1) = v1 c
          ∧ r.2.mem ((c.tc : Thread Cert.N2KernelIdeal.nD Cert.N2KernelIdeal.τ).loc Cert.N2KernelIdeal.main_v3_2) = v2 c
          ∧ r.2.mem ((c.tc : Thread Cert.N2KernelIdeal.nD Cert.N2KernelIdeal.τ).loc Cert.N2KernelIdeal.main_arg0) = m ((c.tc : Thread Cert.N2KernelIdeal.nD Cert.N2KernelIdeal.τ).loc Cert.N2KernelIdeal.main_arg0)
          ∧ r.2.mem ((c.tc : Thread Cert.N2KernelIdeal.nD Cert.N2KernelIdeal.τ).loc Cert.N2KernelIdeal.main_arg1) = m ((c.tc : Thread Cert.N2KernelIdeal.nD Cert.N2KernelIdeal.τ).loc Cert.N2KernelIdeal.main_arg1)
          ∧ r.2.mem ((c.tc : Thread Cert.N2KernelIdeal.nD Cert.N2KernelIdeal.τ).loc Cert.N2KernelIdeal.main_arg2) = m ((c.tc : Thread Cert.N2KernelIdeal.nD Cert.N2KernelIdeal.τ).loc Cert.N2KernelIdeal.main_arg2)
          ∧ r.2.mem ((c.tc : Thread Cert.N2KernelIdeal.nD Cert.N2KernelIdeal.τ).loc Cert.N2KernelIdeal.main_arg3) = m ((c.tc : Thread Cert.N2KernelIdeal.nD Cert.N2KernelIdeal.τ).loc Cert.N2KernelIdeal.main_arg3)
          ∧ r.2.mem ((c.tc : Thread Cert.N2KernelIdeal.nD Cert.N2KernelIdeal.τ).loc Cert.N2KernelIdeal.main_arg4) = m ((c.tc : Thread Cert.N2KernelIdeal.nD Cert.N2KernelIdeal.τ).loc Cert.N2KernelIdeal.main_arg4))
      ∧ θ_run (Cert.N2ReferenceIdeal.defs (F := Ideal)) (onTc (τ := Cert.N2ReferenceIdeal.τ) (Cert.N2ReferenceIdeal.main (F := Ideal))) ⟨m', fun _ => 0, g'⟩ (fun r => ∀ c : Dev Cert.N2ReferenceIdeal.nD,
          r.2.mem ((c.tc : Thread Cert.N2ReferenceIdeal.nD Cert.N2ReferenceIdeal.τ).loc Cert.N2ReferenceIdeal.main_v40) = v0 c
          ∧ r.2.mem ((c.tc : Thread Cert.N2ReferenceIdeal.nD Cert.N2ReferenceIdeal.τ).loc Cert.N2ReferenceIdeal.main_v42) = v1 c
          ∧ r.2.mem ((c.tc : Thread Cert.N2ReferenceIdeal.nD Cert.N2ReferenceIdeal.τ).loc Cert.N2ReferenceIdeal.main_v41) = v2 c
          ∧ r.2.mem ((c.tc : Thread Cert.N2ReferenceIdeal.nD Cert.N2ReferenceIdeal.τ).loc Cert.N2ReferenceIdeal.main_arg0) = m' ((c.tc : Thread Cert.N2ReferenceIdeal.nD Cert.N2ReferenceIdeal.τ).loc Cert.N2ReferenceIdeal.main_arg0)
          ∧ r.2.mem ((c.tc : Thread Cert.N2ReferenceIdeal.nD Cert.N2ReferenceIdeal.τ).loc Cert.N2ReferenceIdeal.main_arg1) = m' ((c.tc : Thread Cert.N2ReferenceIdeal.nD Cert.N2ReferenceIdeal.τ).loc Cert.N2ReferenceIdeal.main_arg1)
          ∧ r.2.mem ((c.tc : Thread Cert.N2ReferenceIdeal.nD Cert.N2ReferenceIdeal.τ).loc Cert.N2ReferenceIdeal.main_arg2) = m' ((c.tc : Thread Cert.N2ReferenceIdeal.nD Cert.N2ReferenceIdeal.τ).loc Cert.N2ReferenceIdeal.main_arg2)
          ∧ r.2.mem ((c.tc : Thread Cert.N2ReferenceIdeal.nD Cert.N2ReferenceIdeal.τ).loc Cert.N2ReferenceIdeal.main_arg3) = m' ((c.tc : Thread Cert.N2ReferenceIdeal.nD Cert.N2ReferenceIdeal.τ).loc Cert.N2ReferenceIdeal.main_arg3)
          ∧ r.2.mem ((c.tc : Thread Cert.N2ReferenceIdeal.nD Cert.N2ReferenceIdeal.τ).loc Cert.N2ReferenceIdeal.main_arg4) = m' ((c.tc : Thread Cert.N2ReferenceIdeal.nD Cert.N2ReferenceIdeal.τ).loc Cert.N2ReferenceIdeal.main_arg4))

def preserves_N1Kernel_N1KernelIdeal : Prop :=
  True

def algebraic_N1KernelIdeal_N1ReferenceIdeal_pre_norm1_finite [hN1KernelIdeal : Cert.N1KernelIdeal.Facts] [hN1ReferenceIdeal : Cert.N1ReferenceIdeal.Facts] [hPre_norm1_finite : Cert.Pre_norm1_finite.Facts] : Prop :=
  ∀ (m : (ℓ : Loc Cert.N1KernelIdeal.nD Cert.N1KernelIdeal.τ Cert.N1KernelIdeal.sig) → Buf (Elt Ideal) ℓ) (g : Dev Cert.N1KernelIdeal.nD → PrngReg)
    (m' : (ℓ : Loc Cert.N1ReferenceIdeal.nD Cert.N1ReferenceIdeal.τ Cert.N1ReferenceIdeal.sig) → Buf (Elt Ideal) ℓ) (g' : Dev Cert.N1ReferenceIdeal.nD → PrngReg), Pre_N1KernelIdeal_norm1_finite m →
    (∀ c : Dev Cert.N1KernelIdeal.nD,
      m' ((c.tc : Thread Cert.N1ReferenceIdeal.nD Cert.N1ReferenceIdeal.τ).loc Cert.N1ReferenceIdeal.main_arg0) = m ((c.tc : Thread Cert.N1KernelIdeal.nD Cert.N1KernelIdeal.τ).loc Cert.N1KernelIdeal.main_arg0)
      ∧ m' ((c.tc : Thread Cert.N1ReferenceIdeal.nD Cert.N1ReferenceIdeal.τ).loc Cert.N1ReferenceIdeal.main_arg1) = m ((c.tc : Thread Cert.N1KernelIdeal.nD Cert.N1KernelIdeal.τ).loc Cert.N1KernelIdeal.main_arg1)
      ∧ m' ((c.tc : Thread Cert.N1ReferenceIdeal.nD Cert.N1ReferenceIdeal.τ).loc Cert.N1ReferenceIdeal.main_arg2) = m ((c.tc : Thread Cert.N1KernelIdeal.nD Cert.N1KernelIdeal.τ).loc Cert.N1KernelIdeal.main_arg2)
      ∧ m' ((c.tc : Thread Cert.N1ReferenceIdeal.nD Cert.N1ReferenceIdeal.τ).loc Cert.N1ReferenceIdeal.main_arg3) = m ((c.tc : Thread Cert.N1KernelIdeal.nD Cert.N1KernelIdeal.τ).loc Cert.N1KernelIdeal.main_arg3)
      ∧ m' ((c.tc : Thread Cert.N1ReferenceIdeal.nD Cert.N1ReferenceIdeal.τ).loc Cert.N1ReferenceIdeal.main_arg4) = m ((c.tc : Thread Cert.N1KernelIdeal.nD Cert.N1KernelIdeal.τ).loc Cert.N1KernelIdeal.main_arg4)) →
    ∃ (v0 : (c : Dev Cert.N1KernelIdeal.nD) → Buf (Elt Ideal) ((c.tc : Thread Cert.N1KernelIdeal.nD Cert.N1KernelIdeal.τ).loc Cert.N1KernelIdeal.main_v3_0)) (v1 : (c : Dev Cert.N1KernelIdeal.nD) → Buf (Elt Ideal) ((c.tc : Thread Cert.N1KernelIdeal.nD Cert.N1KernelIdeal.τ).loc Cert.N1KernelIdeal.main_v3_1)),
      θ_run (Cert.N1KernelIdeal.defs (F := Ideal)) (onTc (τ := Cert.N1KernelIdeal.τ) (Cert.N1KernelIdeal.main (F := Ideal))) ⟨m, fun _ => 0, g⟩ (fun r => ∀ c : Dev Cert.N1KernelIdeal.nD,
          r.2.mem ((c.tc : Thread Cert.N1KernelIdeal.nD Cert.N1KernelIdeal.τ).loc Cert.N1KernelIdeal.main_v3_0) = v0 c
          ∧ r.2.mem ((c.tc : Thread Cert.N1KernelIdeal.nD Cert.N1KernelIdeal.τ).loc Cert.N1KernelIdeal.main_v3_1) = v1 c
          ∧ r.2.mem ((c.tc : Thread Cert.N1KernelIdeal.nD Cert.N1KernelIdeal.τ).loc Cert.N1KernelIdeal.main_arg0) = m ((c.tc : Thread Cert.N1KernelIdeal.nD Cert.N1KernelIdeal.τ).loc Cert.N1KernelIdeal.main_arg0)
          ∧ r.2.mem ((c.tc : Thread Cert.N1KernelIdeal.nD Cert.N1KernelIdeal.τ).loc Cert.N1KernelIdeal.main_arg1) = m ((c.tc : Thread Cert.N1KernelIdeal.nD Cert.N1KernelIdeal.τ).loc Cert.N1KernelIdeal.main_arg1)
          ∧ r.2.mem ((c.tc : Thread Cert.N1KernelIdeal.nD Cert.N1KernelIdeal.τ).loc Cert.N1KernelIdeal.main_arg2) = m ((c.tc : Thread Cert.N1KernelIdeal.nD Cert.N1KernelIdeal.τ).loc Cert.N1KernelIdeal.main_arg2)
          ∧ r.2.mem ((c.tc : Thread Cert.N1KernelIdeal.nD Cert.N1KernelIdeal.τ).loc Cert.N1KernelIdeal.main_arg3) = m ((c.tc : Thread Cert.N1KernelIdeal.nD Cert.N1KernelIdeal.τ).loc Cert.N1KernelIdeal.main_arg3)
          ∧ r.2.mem ((c.tc : Thread Cert.N1KernelIdeal.nD Cert.N1KernelIdeal.τ).loc Cert.N1KernelIdeal.main_arg4) = m ((c.tc : Thread Cert.N1KernelIdeal.nD Cert.N1KernelIdeal.τ).loc Cert.N1KernelIdeal.main_arg4))
      ∧ θ_run (Cert.N1ReferenceIdeal.defs (F := Ideal)) (onTc (τ := Cert.N1ReferenceIdeal.τ) (Cert.N1ReferenceIdeal.main (F := Ideal))) ⟨m', fun _ => 0, g'⟩ (fun r => ∀ c : Dev Cert.N1ReferenceIdeal.nD,
          r.2.mem ((c.tc : Thread Cert.N1ReferenceIdeal.nD Cert.N1ReferenceIdeal.τ).loc Cert.N1ReferenceIdeal.main_v40) = v0 c
          ∧ r.2.mem ((c.tc : Thread Cert.N1ReferenceIdeal.nD Cert.N1ReferenceIdeal.τ).loc Cert.N1ReferenceIdeal.main_v41) = v1 c
          ∧ r.2.mem ((c.tc : Thread Cert.N1ReferenceIdeal.nD Cert.N1ReferenceIdeal.τ).loc Cert.N1ReferenceIdeal.main_arg0) = m' ((c.tc : Thread Cert.N1ReferenceIdeal.nD Cert.N1ReferenceIdeal.τ).loc Cert.N1ReferenceIdeal.main_arg0)
          ∧ r.2.mem ((c.tc : Thread Cert.N1ReferenceIdeal.nD Cert.N1ReferenceIdeal.τ).loc Cert.N1ReferenceIdeal.main_arg1) = m' ((c.tc : Thread Cert.N1ReferenceIdeal.nD Cert.N1ReferenceIdeal.τ).loc Cert.N1ReferenceIdeal.main_arg1)
          ∧ r.2.mem ((c.tc : Thread Cert.N1ReferenceIdeal.nD Cert.N1ReferenceIdeal.τ).loc Cert.N1ReferenceIdeal.main_arg2) = m' ((c.tc : Thread Cert.N1ReferenceIdeal.nD Cert.N1ReferenceIdeal.τ).loc Cert.N1ReferenceIdeal.main_arg2)
          ∧ r.2.mem ((c.tc : Thread Cert.N1ReferenceIdeal.nD Cert.N1ReferenceIdeal.τ).loc Cert.N1ReferenceIdeal.main_arg3) = m' ((c.tc : Thread Cert.N1ReferenceIdeal.nD Cert.N1ReferenceIdeal.τ).loc Cert.N1ReferenceIdeal.main_arg3)
          ∧ r.2.mem ((c.tc : Thread Cert.N1ReferenceIdeal.nD Cert.N1ReferenceIdeal.τ).loc Cert.N1ReferenceIdeal.main_arg4) = m' ((c.tc : Thread Cert.N1ReferenceIdeal.nD Cert.N1ReferenceIdeal.τ).loc Cert.N1ReferenceIdeal.main_arg4))

def preserves_LoKernel_LoKernelIdeal : Prop :=
  True

def algebraic_LoKernelIdeal_LoReferenceIdeal_pre_loss_finite [hLoKernelIdeal : Cert.LoKernelIdeal.Facts] [hLoReferenceIdeal : Cert.LoReferenceIdeal.Facts] [hPre_loss_finite : Cert.Pre_loss_finite.Facts] : Prop :=
  ∀ (m : (ℓ : Loc Cert.LoKernelIdeal.nD Cert.LoKernelIdeal.τ Cert.LoKernelIdeal.sig) → Buf (Elt Ideal) ℓ) (g : Dev Cert.LoKernelIdeal.nD → PrngReg)
    (m' : (ℓ : Loc Cert.LoReferenceIdeal.nD Cert.LoReferenceIdeal.τ Cert.LoReferenceIdeal.sig) → Buf (Elt Ideal) ℓ) (g' : Dev Cert.LoReferenceIdeal.nD → PrngReg), Pre_LoKernelIdeal_loss_finite m →
    (∀ c : Dev Cert.LoKernelIdeal.nD,
      m' ((c.tc : Thread Cert.LoReferenceIdeal.nD Cert.LoReferenceIdeal.τ).loc Cert.LoReferenceIdeal.main_arg0) = m ((c.tc : Thread Cert.LoKernelIdeal.nD Cert.LoKernelIdeal.τ).loc Cert.LoKernelIdeal.main_arg0)
      ∧ m' ((c.tc : Thread Cert.LoReferenceIdeal.nD Cert.LoReferenceIdeal.τ).loc Cert.LoReferenceIdeal.main_arg1) = m ((c.tc : Thread Cert.LoKernelIdeal.nD Cert.LoKernelIdeal.τ).loc Cert.LoKernelIdeal.main_arg1)
      ∧ m' ((c.tc : Thread Cert.LoReferenceIdeal.nD Cert.LoReferenceIdeal.τ).loc Cert.LoReferenceIdeal.main_arg2) = m ((c.tc : Thread Cert.LoKernelIdeal.nD Cert.LoKernelIdeal.τ).loc Cert.LoKernelIdeal.main_arg2)
      ∧ m' ((c.tc : Thread Cert.LoReferenceIdeal.nD Cert.LoReferenceIdeal.τ).loc Cert.LoReferenceIdeal.main_arg3) = m ((c.tc : Thread Cert.LoKernelIdeal.nD Cert.LoKernelIdeal.τ).loc Cert.LoKernelIdeal.main_arg3)
      ∧ m' ((c.tc : Thread Cert.LoReferenceIdeal.nD Cert.LoReferenceIdeal.τ).loc Cert.LoReferenceIdeal.main_arg4) = m ((c.tc : Thread Cert.LoKernelIdeal.nD Cert.LoKernelIdeal.τ).loc Cert.LoKernelIdeal.main_arg4)) →
    ∃ (v0 : (c : Dev Cert.LoKernelIdeal.nD) → Buf (Elt Ideal) ((c.tc : Thread Cert.LoKernelIdeal.nD Cert.LoKernelIdeal.τ).loc Cert.LoKernelIdeal.main_v1_0)) (v1 : (c : Dev Cert.LoKernelIdeal.nD) → Buf (Elt Ideal) ((c.tc : Thread Cert.LoKernelIdeal.nD Cert.LoKernelIdeal.τ).loc Cert.LoKernelIdeal.main_v1_1)) (v2 : (c : Dev Cert.LoKernelIdeal.nD) → Buf (Elt Ideal) ((c.tc : Thread Cert.LoKernelIdeal.nD Cert.LoKernelIdeal.τ).loc Cert.LoKernelIdeal.main_v1_2)) (v3 : (c : Dev Cert.LoKernelIdeal.nD) → Buf (Elt Ideal) ((c.tc : Thread Cert.LoKernelIdeal.nD Cert.LoKernelIdeal.τ).loc Cert.LoKernelIdeal.main_v1_3)),
      θ_run (Cert.LoKernelIdeal.defs (F := Ideal)) (onTc (τ := Cert.LoKernelIdeal.τ) (Cert.LoKernelIdeal.main (F := Ideal))) ⟨m, fun _ => 0, g⟩ (fun r => ∀ c : Dev Cert.LoKernelIdeal.nD,
          r.2.mem ((c.tc : Thread Cert.LoKernelIdeal.nD Cert.LoKernelIdeal.τ).loc Cert.LoKernelIdeal.main_v1_0) = v0 c
          ∧ r.2.mem ((c.tc : Thread Cert.LoKernelIdeal.nD Cert.LoKernelIdeal.τ).loc Cert.LoKernelIdeal.main_v1_1) = v1 c
          ∧ r.2.mem ((c.tc : Thread Cert.LoKernelIdeal.nD Cert.LoKernelIdeal.τ).loc Cert.LoKernelIdeal.main_v1_2) = v2 c
          ∧ r.2.mem ((c.tc : Thread Cert.LoKernelIdeal.nD Cert.LoKernelIdeal.τ).loc Cert.LoKernelIdeal.main_v1_3) = v3 c
          ∧ r.2.mem ((c.tc : Thread Cert.LoKernelIdeal.nD Cert.LoKernelIdeal.τ).loc Cert.LoKernelIdeal.main_arg0) = m ((c.tc : Thread Cert.LoKernelIdeal.nD Cert.LoKernelIdeal.τ).loc Cert.LoKernelIdeal.main_arg0)
          ∧ r.2.mem ((c.tc : Thread Cert.LoKernelIdeal.nD Cert.LoKernelIdeal.τ).loc Cert.LoKernelIdeal.main_arg1) = m ((c.tc : Thread Cert.LoKernelIdeal.nD Cert.LoKernelIdeal.τ).loc Cert.LoKernelIdeal.main_arg1)
          ∧ r.2.mem ((c.tc : Thread Cert.LoKernelIdeal.nD Cert.LoKernelIdeal.τ).loc Cert.LoKernelIdeal.main_arg2) = m ((c.tc : Thread Cert.LoKernelIdeal.nD Cert.LoKernelIdeal.τ).loc Cert.LoKernelIdeal.main_arg2)
          ∧ r.2.mem ((c.tc : Thread Cert.LoKernelIdeal.nD Cert.LoKernelIdeal.τ).loc Cert.LoKernelIdeal.main_arg3) = m ((c.tc : Thread Cert.LoKernelIdeal.nD Cert.LoKernelIdeal.τ).loc Cert.LoKernelIdeal.main_arg3)
          ∧ r.2.mem ((c.tc : Thread Cert.LoKernelIdeal.nD Cert.LoKernelIdeal.τ).loc Cert.LoKernelIdeal.main_arg4) = m ((c.tc : Thread Cert.LoKernelIdeal.nD Cert.LoKernelIdeal.τ).loc Cert.LoKernelIdeal.main_arg4))
      ∧ θ_run (Cert.LoReferenceIdeal.defs (F := Ideal)) (onTc (τ := Cert.LoReferenceIdeal.τ) (Cert.LoReferenceIdeal.main (F := Ideal))) ⟨m', fun _ => 0, g'⟩ (fun r => ∀ c : Dev Cert.LoReferenceIdeal.nD,
          r.2.mem ((c.tc : Thread Cert.LoReferenceIdeal.nD Cert.LoReferenceIdeal.τ).loc Cert.LoReferenceIdeal.main_v56) = v0 c
          ∧ r.2.mem ((c.tc : Thread Cert.LoReferenceIdeal.nD Cert.LoReferenceIdeal.τ).loc Cert.LoReferenceIdeal.main_v54) = v1 c
          ∧ r.2.mem ((c.tc : Thread Cert.LoReferenceIdeal.nD Cert.LoReferenceIdeal.τ).loc Cert.LoReferenceIdeal.main_v57) = v2 c
          ∧ r.2.mem ((c.tc : Thread Cert.LoReferenceIdeal.nD Cert.LoReferenceIdeal.τ).loc Cert.LoReferenceIdeal.main_v55) = v3 c
          ∧ r.2.mem ((c.tc : Thread Cert.LoReferenceIdeal.nD Cert.LoReferenceIdeal.τ).loc Cert.LoReferenceIdeal.main_arg0) = m' ((c.tc : Thread Cert.LoReferenceIdeal.nD Cert.LoReferenceIdeal.τ).loc Cert.LoReferenceIdeal.main_arg0)
          ∧ r.2.mem ((c.tc : Thread Cert.LoReferenceIdeal.nD Cert.LoReferenceIdeal.τ).loc Cert.LoReferenceIdeal.main_arg1) = m' ((c.tc : Thread Cert.LoReferenceIdeal.nD Cert.LoReferenceIdeal.τ).loc Cert.LoReferenceIdeal.main_arg1)
          ∧ r.2.mem ((c.tc : Thread Cert.LoReferenceIdeal.nD Cert.LoReferenceIdeal.τ).loc Cert.LoReferenceIdeal.main_arg2) = m' ((c.tc : Thread Cert.LoReferenceIdeal.nD Cert.LoReferenceIdeal.τ).loc Cert.LoReferenceIdeal.main_arg2)
          ∧ r.2.mem ((c.tc : Thread Cert.LoReferenceIdeal.nD Cert.LoReferenceIdeal.τ).loc Cert.LoReferenceIdeal.main_arg3) = m' ((c.tc : Thread Cert.LoReferenceIdeal.nD Cert.LoReferenceIdeal.τ).loc Cert.LoReferenceIdeal.main_arg3)
          ∧ r.2.mem ((c.tc : Thread Cert.LoReferenceIdeal.nD Cert.LoReferenceIdeal.τ).loc Cert.LoReferenceIdeal.main_arg4) = m' ((c.tc : Thread Cert.LoReferenceIdeal.nD Cert.LoReferenceIdeal.τ).loc Cert.LoReferenceIdeal.main_arg4))

def preserves_GbKernel_GbKernelIdeal : Prop :=
  True

def algebraic_GbKernelIdeal_GbReferenceIdeal [hGbKernelIdeal : Cert.GbKernelIdeal.Facts] [hGbReferenceIdeal : Cert.GbReferenceIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg)
    (m' : (ℓ : Loc Cert.GbReferenceIdeal.nD Cert.GbReferenceIdeal.τ Cert.GbReferenceIdeal.sig) → Buf (Elt Ideal) ℓ) (g' : Dev Cert.GbReferenceIdeal.nD → PrngReg), Pre_GbKernelIdeal m →
    (∀ c : Dev Cert.GbKernelIdeal.nD,
      m' ((c.tc : Thread Cert.GbReferenceIdeal.nD Cert.GbReferenceIdeal.τ).loc Cert.GbReferenceIdeal.main_arg0) = m ((c.tc : Thread Cert.GbKernelIdeal.nD Cert.GbKernelIdeal.τ).loc Cert.GbKernelIdeal.main_arg0)
      ∧ m' ((c.tc : Thread Cert.GbReferenceIdeal.nD Cert.GbReferenceIdeal.τ).loc Cert.GbReferenceIdeal.main_arg1) = m ((c.tc : Thread Cert.GbKernelIdeal.nD Cert.GbKernelIdeal.τ).loc Cert.GbKernelIdeal.main_arg1)
      ∧ m' ((c.tc : Thread Cert.GbReferenceIdeal.nD Cert.GbReferenceIdeal.τ).loc Cert.GbReferenceIdeal.main_arg2) = m ((c.tc : Thread Cert.GbKernelIdeal.nD Cert.GbKernelIdeal.τ).loc Cert.GbKernelIdeal.main_arg2)
      ∧ m' ((c.tc : Thread Cert.GbReferenceIdeal.nD Cert.GbReferenceIdeal.τ).loc Cert.GbReferenceIdeal.main_arg3) = m ((c.tc : Thread Cert.GbKernelIdeal.nD Cert.GbKernelIdeal.τ).loc Cert.GbKernelIdeal.main_arg3)
      ∧ m' ((c.tc : Thread Cert.GbReferenceIdeal.nD Cert.GbReferenceIdeal.τ).loc Cert.GbReferenceIdeal.main_arg4) = m ((c.tc : Thread Cert.GbKernelIdeal.nD Cert.GbKernelIdeal.τ).loc Cert.GbKernelIdeal.main_arg4)
      ∧ m' ((c.tc : Thread Cert.GbReferenceIdeal.nD Cert.GbReferenceIdeal.τ).loc Cert.GbReferenceIdeal.main_arg5) = m ((c.tc : Thread Cert.GbKernelIdeal.nD Cert.GbKernelIdeal.τ).loc Cert.GbKernelIdeal.main_arg5)
      ∧ m' ((c.tc : Thread Cert.GbReferenceIdeal.nD Cert.GbReferenceIdeal.τ).loc Cert.GbReferenceIdeal.main_arg6) = m ((c.tc : Thread Cert.GbKernelIdeal.nD Cert.GbKernelIdeal.τ).loc Cert.GbKernelIdeal.main_arg6)) →
    ∃ (v0 : (c : Dev Cert.GbKernelIdeal.nD) → Buf (Elt Ideal) ((c.tc : Thread Cert.GbKernelIdeal.nD Cert.GbKernelIdeal.τ).loc Cert.GbKernelIdeal.main_v8_0)) (v1 : (c : Dev Cert.GbKernelIdeal.nD) → Buf (Elt Ideal) ((c.tc : Thread Cert.GbKernelIdeal.nD Cert.GbKernelIdeal.τ).loc Cert.GbKernelIdeal.main_v8_1)) (v2 : (c : Dev Cert.GbKernelIdeal.nD) → Buf (Elt Ideal) ((c.tc : Thread Cert.GbKernelIdeal.nD Cert.GbKernelIdeal.τ).loc Cert.GbKernelIdeal.main_v8_2)) (v3 : (c : Dev Cert.GbKernelIdeal.nD) → Buf (Elt Ideal) ((c.tc : Thread Cert.GbKernelIdeal.nD Cert.GbKernelIdeal.τ).loc Cert.GbKernelIdeal.main_v8_3)) (v4 : (c : Dev Cert.GbKernelIdeal.nD) → Buf (Elt Ideal) ((c.tc : Thread Cert.GbKernelIdeal.nD Cert.GbKernelIdeal.τ).loc Cert.GbKernelIdeal.main_v9)),
      θ_run (Cert.GbKernelIdeal.defs (F := Ideal)) (onTc (τ := Cert.GbKernelIdeal.τ) (Cert.GbKernelIdeal.main (F := Ideal))) ⟨m, fun _ => 0, g⟩ (fun r => ∀ c : Dev Cert.GbKernelIdeal.nD,
          r.2.mem ((c.tc : Thread Cert.GbKernelIdeal.nD Cert.GbKernelIdeal.τ).loc Cert.GbKernelIdeal.main_v8_0) = v0 c
          ∧ r.2.mem ((c.tc : Thread Cert.GbKernelIdeal.nD Cert.GbKernelIdeal.τ).loc Cert.GbKernelIdeal.main_v8_1) = v1 c
          ∧ r.2.mem ((c.tc : Thread Cert.GbKernelIdeal.nD Cert.GbKernelIdeal.τ).loc Cert.GbKernelIdeal.main_v8_2) = v2 c
          ∧ r.2.mem ((c.tc : Thread Cert.GbKernelIdeal.nD Cert.GbKernelIdeal.τ).loc Cert.GbKernelIdeal.main_v8_3) = v3 c
          ∧ r.2.mem ((c.tc : Thread Cert.GbKernelIdeal.nD Cert.GbKernelIdeal.τ).loc Cert.GbKernelIdeal.main_v9) = v4 c
          ∧ r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
          ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1)
          ∧ r.2.mem ((c.tc : Thread Cert.GbKernelIdeal.nD Cert.GbKernelIdeal.τ).loc Cert.GbKernelIdeal.main_arg2) = m ((c.tc : Thread Cert.GbKernelIdeal.nD Cert.GbKernelIdeal.τ).loc Cert.GbKernelIdeal.main_arg2)
          ∧ r.2.mem ((c.tc : Thread Cert.GbKernelIdeal.nD Cert.GbKernelIdeal.τ).loc Cert.GbKernelIdeal.main_arg3) = m ((c.tc : Thread Cert.GbKernelIdeal.nD Cert.GbKernelIdeal.τ).loc Cert.GbKernelIdeal.main_arg3)
          ∧ r.2.mem ((c.tc : Thread Cert.GbKernelIdeal.nD Cert.GbKernelIdeal.τ).loc Cert.GbKernelIdeal.main_arg4) = m ((c.tc : Thread Cert.GbKernelIdeal.nD Cert.GbKernelIdeal.τ).loc Cert.GbKernelIdeal.main_arg4)
          ∧ r.2.mem ((c.tc : Thread Cert.GbKernelIdeal.nD Cert.GbKernelIdeal.τ).loc Cert.GbKernelIdeal.main_arg5) = m ((c.tc : Thread Cert.GbKernelIdeal.nD Cert.GbKernelIdeal.τ).loc Cert.GbKernelIdeal.main_arg5)
          ∧ r.2.mem ((c.tc : Thread Cert.GbKernelIdeal.nD Cert.GbKernelIdeal.τ).loc Cert.GbKernelIdeal.main_arg6) = m ((c.tc : Thread Cert.GbKernelIdeal.nD Cert.GbKernelIdeal.τ).loc Cert.GbKernelIdeal.main_arg6))
      ∧ θ_run (Cert.GbReferenceIdeal.defs (F := Ideal)) (onTc (τ := Cert.GbReferenceIdeal.τ) (Cert.GbReferenceIdeal.main (F := Ideal))) ⟨m', fun _ => 0, g'⟩ (fun r => ∀ c : Dev Cert.GbReferenceIdeal.nD,
          r.2.mem ((c.tc : Thread Cert.GbReferenceIdeal.nD Cert.GbReferenceIdeal.τ).loc Cert.GbReferenceIdeal.main_v62) = v0 c
          ∧ r.2.mem ((c.tc : Thread Cert.GbReferenceIdeal.nD Cert.GbReferenceIdeal.τ).loc Cert.GbReferenceIdeal.main_v63) = v1 c
          ∧ r.2.mem ((c.tc : Thread Cert.GbReferenceIdeal.nD Cert.GbReferenceIdeal.τ).loc Cert.GbReferenceIdeal.main_v64) = v2 c
          ∧ r.2.mem ((c.tc : Thread Cert.GbReferenceIdeal.nD Cert.GbReferenceIdeal.τ).loc Cert.GbReferenceIdeal.main_v65) = v3 c
          ∧ r.2.mem ((c.tc : Thread Cert.GbReferenceIdeal.nD Cert.GbReferenceIdeal.τ).loc Cert.GbReferenceIdeal.main_v66) = v4 c
          ∧ r.2.mem ((c.tc : Thread Cert.GbReferenceIdeal.nD Cert.GbReferenceIdeal.τ).loc Cert.GbReferenceIdeal.main_arg0) = m' ((c.tc : Thread Cert.GbReferenceIdeal.nD Cert.GbReferenceIdeal.τ).loc Cert.GbReferenceIdeal.main_arg0)
          ∧ r.2.mem ((c.tc : Thread Cert.GbReferenceIdeal.nD Cert.GbReferenceIdeal.τ).loc Cert.GbReferenceIdeal.main_arg1) = m' ((c.tc : Thread Cert.GbReferenceIdeal.nD Cert.GbReferenceIdeal.τ).loc Cert.GbReferenceIdeal.main_arg1)
          ∧ r.2.mem ((c.tc : Thread Cert.GbReferenceIdeal.nD Cert.GbReferenceIdeal.τ).loc Cert.GbReferenceIdeal.main_arg2) = m' ((c.tc : Thread Cert.GbReferenceIdeal.nD Cert.GbReferenceIdeal.τ).loc Cert.GbReferenceIdeal.main_arg2)
          ∧ r.2.mem ((c.tc : Thread Cert.GbReferenceIdeal.nD Cert.GbReferenceIdeal.τ).loc Cert.GbReferenceIdeal.main_arg3) = m' ((c.tc : Thread Cert.GbReferenceIdeal.nD Cert.GbReferenceIdeal.τ).loc Cert.GbReferenceIdeal.main_arg3)
          ∧ r.2.mem ((c.tc : Thread Cert.GbReferenceIdeal.nD Cert.GbReferenceIdeal.τ).loc Cert.GbReferenceIdeal.main_arg4) = m' ((c.tc : Thread Cert.GbReferenceIdeal.nD Cert.GbReferenceIdeal.τ).loc Cert.GbReferenceIdeal.main_arg4)
          ∧ r.2.mem ((c.tc : Thread Cert.GbReferenceIdeal.nD Cert.GbReferenceIdeal.τ).loc Cert.GbReferenceIdeal.main_arg5) = m' ((c.tc : Thread Cert.GbReferenceIdeal.nD Cert.GbReferenceIdeal.τ).loc Cert.GbReferenceIdeal.main_arg5)
          ∧ r.2.mem ((c.tc : Thread Cert.GbReferenceIdeal.nD Cert.GbReferenceIdeal.τ).loc Cert.GbReferenceIdeal.main_arg6) = m' ((c.tc : Thread Cert.GbReferenceIdeal.nD Cert.GbReferenceIdeal.τ).loc Cert.GbReferenceIdeal.main_arg6))

def Claim : Prop :=
  ∃ (hFfKernel : Cert.FfKernel.Facts) (hFfKernelIdeal : Cert.FfKernelIdeal.Facts) (hFfReferenceIdeal : Cert.FfReferenceIdeal.Facts) (hGfKernel : Cert.GfKernel.Facts) (hGfKernelIdeal : Cert.GfKernelIdeal.Facts) (hGfReferenceIdeal : Cert.GfReferenceIdeal.Facts) (hAtKernel : Cert.AtKernel.Facts) (hAtKernelIdeal : Cert.AtKernelIdeal.Facts) (hAtReferenceIdeal : Cert.AtReferenceIdeal.Facts) (hAbKernel : Cert.AbKernel.Facts) (hAbKernelIdeal : Cert.AbKernelIdeal.Facts) (hAbReferenceIdeal : Cert.AbReferenceIdeal.Facts) (hN2Kernel : Cert.N2Kernel.Facts) (hN2KernelIdeal : Cert.N2KernelIdeal.Facts) (hN2ReferenceIdeal : Cert.N2ReferenceIdeal.Facts) (hN1Kernel : Cert.N1Kernel.Facts) (hN1KernelIdeal : Cert.N1KernelIdeal.Facts) (hN1ReferenceIdeal : Cert.N1ReferenceIdeal.Facts) (hLoKernel : Cert.LoKernel.Facts) (hLoKernelIdeal : Cert.LoKernelIdeal.Facts) (hLoReferenceIdeal : Cert.LoReferenceIdeal.Facts) (hGbKernel : Cert.GbKernel.Facts) (hGbKernelIdeal : Cert.GbKernelIdeal.Facts) (hGbReferenceIdeal : Cert.GbReferenceIdeal.Facts) (hPre_scores_finite : Cert.Pre_scores_finite.Facts) (hPre_all_finite : Cert.Pre_all_finite.Facts) (hPre_norm2_finite : Cert.Pre_norm2_finite.Facts) (hPre_norm1_finite : Cert.Pre_norm1_finite.Facts) (hPre_loss_finite : Cert.Pre_loss_finite.Facts),
    quiescent_FfKernel (hFfKernel := hFfKernel)
    ∧ quiescent_FfKernelIdeal (hFfKernelIdeal := hFfKernelIdeal)
    ∧ quiescent_FfReferenceIdeal (hFfReferenceIdeal := hFfReferenceIdeal)
    ∧ quiescent_GfKernel (hGfKernel := hGfKernel)
    ∧ quiescent_GfKernelIdeal (hGfKernelIdeal := hGfKernelIdeal)
    ∧ quiescent_GfReferenceIdeal (hGfReferenceIdeal := hGfReferenceIdeal)
    ∧ quiescent_AtKernel (hAtKernel := hAtKernel)
    ∧ quiescent_AtKernelIdeal (hAtKernelIdeal := hAtKernelIdeal)
    ∧ quiescent_AtKernelIdeal_pre_scores_finite (hAtKernelIdeal := hAtKernelIdeal) (hPre_scores_finite := hPre_scores_finite)
    ∧ quiescent_AtReferenceIdeal (hAtReferenceIdeal := hAtReferenceIdeal)
    ∧ quiescent_AtReferenceIdeal_pre_scores_finite (hAtReferenceIdeal := hAtReferenceIdeal) (hPre_scores_finite := hPre_scores_finite)
    ∧ quiescent_AbKernel (hAbKernel := hAbKernel)
    ∧ quiescent_AbKernelIdeal (hAbKernelIdeal := hAbKernelIdeal)
    ∧ quiescent_AbKernelIdeal_pre_all_finite (hAbKernelIdeal := hAbKernelIdeal) (hPre_all_finite := hPre_all_finite)
    ∧ quiescent_AbReferenceIdeal (hAbReferenceIdeal := hAbReferenceIdeal)
    ∧ quiescent_AbReferenceIdeal_pre_all_finite (hAbReferenceIdeal := hAbReferenceIdeal) (hPre_all_finite := hPre_all_finite)
    ∧ quiescent_N2Kernel (hN2Kernel := hN2Kernel)
    ∧ quiescent_N2KernelIdeal (hN2KernelIdeal := hN2KernelIdeal)
    ∧ quiescent_N2KernelIdeal_pre_norm2_finite (hN2KernelIdeal := hN2KernelIdeal) (hPre_norm2_finite := hPre_norm2_finite)
    ∧ quiescent_N2ReferenceIdeal (hN2ReferenceIdeal := hN2ReferenceIdeal)
    ∧ quiescent_N2ReferenceIdeal_pre_norm2_finite (hN2ReferenceIdeal := hN2ReferenceIdeal) (hPre_norm2_finite := hPre_norm2_finite)
    ∧ quiescent_N1Kernel (hN1Kernel := hN1Kernel)
    ∧ quiescent_N1KernelIdeal (hN1KernelIdeal := hN1KernelIdeal)
    ∧ quiescent_N1KernelIdeal_pre_norm1_finite (hN1KernelIdeal := hN1KernelIdeal) (hPre_norm1_finite := hPre_norm1_finite)
    ∧ quiescent_N1ReferenceIdeal (hN1ReferenceIdeal := hN1ReferenceIdeal)
    ∧ quiescent_N1ReferenceIdeal_pre_norm1_finite (hN1ReferenceIdeal := hN1ReferenceIdeal) (hPre_norm1_finite := hPre_norm1_finite)
    ∧ quiescent_LoKernel (hLoKernel := hLoKernel)
    ∧ quiescent_LoKernelIdeal (hLoKernelIdeal := hLoKernelIdeal)
    ∧ quiescent_LoKernelIdeal_pre_loss_finite (hLoKernelIdeal := hLoKernelIdeal) (hPre_loss_finite := hPre_loss_finite)
    ∧ quiescent_LoReferenceIdeal (hLoReferenceIdeal := hLoReferenceIdeal)
    ∧ quiescent_LoReferenceIdeal_pre_loss_finite (hLoReferenceIdeal := hLoReferenceIdeal) (hPre_loss_finite := hPre_loss_finite)
    ∧ quiescent_GbKernel (hGbKernel := hGbKernel)
    ∧ quiescent_GbKernelIdeal (hGbKernelIdeal := hGbKernelIdeal)
    ∧ quiescent_GbReferenceIdeal (hGbReferenceIdeal := hGbReferenceIdeal)
    ∧ preserves_FfKernel_FfKernelIdeal
    ∧ algebraic_FfKernelIdeal_FfReferenceIdeal (hFfKernelIdeal := hFfKernelIdeal) (hFfReferenceIdeal := hFfReferenceIdeal)
    ∧ preserves_GfKernel_GfKernelIdeal
    ∧ algebraic_GfKernelIdeal_GfReferenceIdeal (hGfKernelIdeal := hGfKernelIdeal) (hGfReferenceIdeal := hGfReferenceIdeal)
    ∧ preserves_AtKernel_AtKernelIdeal
    ∧ algebraic_AtKernelIdeal_AtReferenceIdeal_pre_scores_finite (hAtKernelIdeal := hAtKernelIdeal) (hAtReferenceIdeal := hAtReferenceIdeal) (hPre_scores_finite := hPre_scores_finite)
    ∧ preserves_AbKernel_AbKernelIdeal
    ∧ algebraic_AbKernelIdeal_AbReferenceIdeal_pre_all_finite (hAbKernelIdeal := hAbKernelIdeal) (hAbReferenceIdeal := hAbReferenceIdeal) (hPre_all_finite := hPre_all_finite)
    ∧ preserves_N2Kernel_N2KernelIdeal
    ∧ algebraic_N2KernelIdeal_N2ReferenceIdeal_pre_norm2_finite (hN2KernelIdeal := hN2KernelIdeal) (hN2ReferenceIdeal := hN2ReferenceIdeal) (hPre_norm2_finite := hPre_norm2_finite)
    ∧ preserves_N1Kernel_N1KernelIdeal
    ∧ algebraic_N1KernelIdeal_N1ReferenceIdeal_pre_norm1_finite (hN1KernelIdeal := hN1KernelIdeal) (hN1ReferenceIdeal := hN1ReferenceIdeal) (hPre_norm1_finite := hPre_norm1_finite)
    ∧ preserves_LoKernel_LoKernelIdeal
    ∧ algebraic_LoKernelIdeal_LoReferenceIdeal_pre_loss_finite (hLoKernelIdeal := hLoKernelIdeal) (hLoReferenceIdeal := hLoReferenceIdeal) (hPre_loss_finite := hPre_loss_finite)
    ∧ preserves_GbKernel_GbKernelIdeal
    ∧ algebraic_GbKernelIdeal_GbReferenceIdeal (hGbKernelIdeal := hGbKernelIdeal) (hGbReferenceIdeal := hGbReferenceIdeal)
-- ==== Pre_all_finite.lean ====
abbrev S2048x5632 : Shape := ⟨2, ![2048, 5632]⟩
abbrev S8x15x31 : Shape := ⟨3, ![8, 15, 31]⟩
abbrev S2048x512 : Shape := ⟨2, ![2048, 512]⟩
abbrev S2048x1536 : Shape := ⟨2, ![2048, 1536]⟩
abbrev S_ : Shape := ⟨0, ![]⟩

class Facts : Prop where
  slices_S2048x5632_S2048x1536_0_0 : S2048x5632.Slices ![0, 0] S2048x1536
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x5632 .bf16) (main_arg1 : FVec F S8x15x31 .f32) (main_arg2 : FVec F S2048x512 .bf16) (main_arg3 : FVec F S2048x5632 .bf16) : IVec S_ 1 :=
  let main_v0 : FVec F S2048x1536 .bf16 := (extractStridedSlice S2048x1536 ![0, 0] · slices_S2048x5632_S2048x1536_0_0) main_arg0
  let main_v1 : FVec F S2048x1536 .f32 := (extf .f32 · bitsLt_bf16_f32) main_v0
  let main_v2 : FVec F S2048x1536 .f32 := Host.absf main_v1
  let main_cst : FVec F S_ .f32 := constant S_ .f32 0x7F800000#32
  let main_v3 : FVec F S2048x1536 .f32 := broadcastInDim S2048x1536 ![] bcast_S_S2048x1536 main_cst
  let main_v4 : IVec S2048x1536 1 := cmpf .olt main_v2 main_v3
  let main_c : IVec S_ 1 := constantI S_ 1 1#1
  let main_v5 : IVec S_ 1 := (fun x v => Host.reduce IntOp.andi x v reducesTo_S2048x1536_S_d0_1 h_S_) main_v4 main_c
  let main_v6 : FVec F S8x15x31 .f32 := Host.absf main_arg1
  let main_cst_0 : FVec F S_ .f32 := constant S_ .f32 0x7F800000#32
  let main_v7 : FVec F S8x15x31 .f32 := broadcastInDim S8x15x31 ![] bcast_S_S8x15x31 main_cst_0
  let main_v8 : IVec S8x15x31 1 := cmpf .olt main_v6 main_v7
  let main_c_1 : IVec S_ 1 := constantI S_ 1 1#1
  let main_v9 : IVec S_ 1 := (fun x v => Host.reduce IntOp.andi x v reducesTo_S8x15x31_S_d0_1_2 h_S_) main_v8 main_c_1
  let main_v10 : IVec S_ 1 := andi main_v5 main_v9
  let main_v11 : FVec F S2048x512 .f32 := (extf .f32 · bitsLt_bf16_f32) main_arg2
  let main_v12 : FVec F S2048x512 .f32 := Host.absf main_v11
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  main_v16
-- ==== Pre_loss_finite.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  main_v24

def fn {F : FTy → Type} [FloatOps F] (main_arg0 : FVec F S2048x4096 .bf16) (main_arg1 : FVec F S4096x1024 .f32) (main_arg2 : FVec F S2048x1024 .f32) (main_arg3 : FVec F S2048x1024 .f32) (main_arg4 : FVec F S1x1024 .f32) : IVec S_ 1 :=
  let main_v0 : FVec F S2048x4096 .f32 := (extf .f32 · bitsLt_bf16_f32) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  let main_v15 : FVec F S2048x1024 .f32 := Host.absf main_arg3
  let main_cst_4 : FVec F S_ .f32 := constant S_ .f32 0x7F800000#32
  let main_v16 : FVec F S2048x1024 .f32 := broadcastInDim S2048x1024 ![] bcast_S_S2048x1024 main_cst_4
  fn_part1 (F := F) main_arg4 main_v14 main_v15 main_v16
-- ==== Pre_norm1_finite.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S2048x5632 .bf16) (main_arg1 : FVec F S1024x5632 .f32) (main_arg2 : FVec F S2048x1024 .f32) (main_arg3 : FVec F S1x1024 .f32) (main_arg4 : FVec F S2048x1024 .f32) : IVec S_ 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_norm2_finite.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S2048x4096 .bf16) (main_arg1 : FVec F S1024x4096 .f32) (main_arg2 : FVec F S2048x1024 .f32) (main_arg3 : FVec F S1x1024 .f32) (main_arg4 : FVec F S2048x1024 .f32) : IVec S_ 1 :=
  let main_v0 : FVec F S2048x4096 .f32 := (extf .f32 · bitsLt_bf16_f32) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  let main_v5 : FVec F S1024x4096 .f32 := Host.absf main_arg1
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : IVec S_ 1 := andi main_v4 main_v8
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_scores_finite.lean ====
abbrev S2048x5632 : Shape := ⟨2, ![2048, 5632]⟩
abbrev S8x15x31 : Shape := ⟨3, ![8, 15, 31]⟩
abbrev S2048x1024 : Shape := ⟨2, ![2048, 1024]⟩
abbrev S_ : Shape := ⟨0, ![]⟩

class Facts : Prop where
  slices_S2048x5632_S2048x1024_0_0 : S2048x5632.Slices ![0, 0] S2048x1024
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S2048x5632 .bf16) (main_arg1 : FVec F S8x15x31 .f32) : IVec S_ 1 :=
  let main_v0 : FVec F S2048x1024 .bf16 := (extractStridedSlice S2048x1024 ![0, 0] · slices_S2048x5632_S2048x1024_0_0) main_arg0
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_c : IVec S_ 1 := constantI S_ 1 1#1
  let main_v5 : IVec S_ 1 := (fun x v => Host.reduce IntOp.andi x v reducesTo_S2048x1024_S_d0_1 h_S_) main_v4 main_c
  let main_v6 : FVec F S8x15x31 .f32 := Host.absf main_arg1
  let main_cst_0 : FVec F S_ .f32 := constant S_ .f32 0x7F800000#32
  let main_v7 : FVec F S8x15x31 .f32 := broadcastInDim S8x15x31 ![] bcast_S_S8x15x31 main_cst_0
  let main_v8 : IVec S8x15x31 1 := cmpf .olt main_v6 main_v7
  let main_c_1 : IVec S_ 1 := constantI S_ 1 1#1
  let main_v9 : IVec S_ 1 := (fun x v => Host.reduce IntOp.andi x v reducesTo_S8x15x31_S_d0_1_2 h_S_) main_v8 main_c_1
  let main_v10 : IVec S_ 1 := andi main_v5 main_v9
  main_v10
-- ==== FfKernel.lean ====
abbrev S2048x1024 : Shape := ⟨2, ![2048, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1x1024x1024 : Shape := ⟨3, ![1, 1024, 1024]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S4096x1024, .f32⟩
  | .hbm, ⟨3, _⟩ => ⟨S2048x1024, .bf16⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S2048x4096, .bf16⟩
  | .hbm, ⟨8, _⟩ => ⟨S4096x1024, .bf16⟩
  | .hbm, ⟨9, _⟩ => ⟨S2048x4096, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== FfReferenceIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S4096x1024, .f32⟩
  | .hbm, ⟨3, _⟩ => ⟨S2048x1024, .bf16⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .i1⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S2048x4096, .bf16⟩
  | .hbm, ⟨30, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== GfKernel.lean ====
abbrev S2048x512 : Shape := ⟨2, ![2048, 512]⟩
abbrev S2048x1024 : Shape := ⟨2, ![2048, 1024]⟩
abbrev S2048x5632 : Shape := ⟨2, ![2048, 5632]⟩
abbrev S512x1024 : Shape := ⟨2, ![512, 1024]⟩
abbrev S1024x1024 : Shape := ⟨2, ![1024, 1024]⟩
abbrev S1x1024 : Shape := ⟨2, ![1, 1024]⟩
abbrev S512x4x256 : Shape := ⟨3, ![512, 4, 256]⟩
abbrev S4x512x256 : Shape := ⟨3, ![4, 512, 256]⟩
abbrev S512x512 : Shape := ⟨2, ![512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 28
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x5632, .bf16⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S512x1024, .bf16⟩
  | .hbm, ⟨9, _⟩ => ⟨S512x4x256, .bf16⟩
  | .hbm, ⟨10, _⟩ => ⟨S4x512x256, .bf16⟩
  | .hbm, ⟨11, _⟩ => ⟨S1024x1024, .bf16⟩
  | .hbm, ⟨12, _⟩ => ⟨S1024x1024, .bf16⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S2048x1024, .f32⟩
  | .hbm, ⟨17, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S4x512x256, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== GfReferenceIdeal.lean ====
abbrev S2048x512 : Shape := ⟨2, ![2048, 512]⟩
abbrev S2048x1024 : Shape := ⟨2, ![2048, 1024]⟩
abbrev S2048x5632 : Shape := ⟨2, ![2048, 5632]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x5632, .bf16⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x512, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== AtKernel.lean ====
abbrev S2048x5632 : Shape := ⟨2, ![2048, 5632]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S2048x512 : Shape := ⟨2, ![2048, 512]⟩
abbrev S2048x4096 : Shape := ⟨2, ![2048, 4096]⟩
abbrev S2048x128 : Shape := ⟨2, ![2048, 128]⟩
abbrev S2x14x64x128 : Shape := ⟨4, ![2, 14, 64, 128]⟩
abbrev S2048x1024 : Shape := ⟨2, ![2048, 1024]⟩
abbrev S2x2048x64 : Shape := ⟨3, ![2, 2048, 64]⟩
abbrev S2048x64 : Shape := ⟨2, ![2048, 64]⟩
abbrev S1x2048x64 : Shape := ⟨3, ![1, 2048, 64]⟩
abbrev S1x64x64 : Shape := ⟨3, ![1, 64, 64]⟩
abbrev S1x512x64 : Shape := ⟨3, ![1, 512, 64]⟩
abbrev S512x64 : Shape := ⟨2, ![512, 64]⟩
abbrev S64x512 : Shape := ⟨2, ![64, 512]⟩
abbrev S1x1x64x128 : Shape := ⟨4, ![1, 1, 64, 128]⟩
abbrev S64x128 : Shape := ⟨2, ![64, 128]⟩
abbrev S64x1024 : Shape := ⟨2, ![64, 1024]⟩

abbrev nBuf : Space → Nat
  | .hbm => 66
  | .vmem => 15
  | .smem => 0
  | _ => 0

abbrev bufTy : (tb : Table) → Fin (tcTables nBuf tb) → BufTy
  | .hbm, ⟨0, _⟩ => ⟨S2048x5632, .bf16⟩
  | .hbm, ⟨1, _⟩ => ⟨S8x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i1⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S64x64x1, .i32⟩
  | .hbm, ⟨55, _⟩ => ⟨S8x15x64x64, .f32⟩
  | .hbm, ⟨56, _⟩ => ⟨S_, .f32⟩
  | .hbm, ⟨57, _⟩ => ⟨S_, .f32⟩
  | .hbm, ⟨58, _⟩ => ⟨S8x15x64x64, .i1⟩
  | .hbm, ⟨59, _⟩ => ⟨S8x15x64x64, .f32⟩
  | .hbm, ⟨60, _⟩ => ⟨S8x15x64x64, .f32⟩
  | .hbm, ⟨61, _⟩ => ⟨S8x14x64x64, .f32⟩
  | .hbm, ⟨62, _⟩ => ⟨S8x14x64x64, .f32⟩
  | .hbm, ⟨63, _⟩ => ⟨S8x14x64x128, .f32⟩
  | .hbm, ⟨64, _⟩ => ⟨S2048x512, .bf16⟩
  | .hbm, ⟨65, _⟩ => ⟨S2048x4096, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x14x64x128, .f32⟩
  | .local _ .vmem, ⟨7, _⟩ => ⟨S2x14x64x128, .f32⟩
  | .local _ .vmem, ⟨8, _⟩ => ⟨S2048x128, .bf16⟩
  | .local _ .vmem, ⟨9, _⟩ => ⟨S2048x128, .bf16⟩
  | .local _ .vmem, ⟨10, _⟩ => ⟨S2048x1024, .bf16⟩
  | .local _ .vmem, ⟨11, _⟩ => ⟨S2048x1024, .bf16⟩
  | .local _ .vmem, ⟨12, _⟩ => ⟨S2x2048x64, .bf16⟩
  | .local _ .vmem, ⟨13, _⟩ => ⟨S2x2048x64, .bf16⟩
  | .local _ .vmem, ⟨14, _⟩ => ⟨S2x2048x64, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38_0 : Ref sig .tc := ⟨.hbm, 64, rfl⟩
abbrev main_v38_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c32_i32 : BitVec 32 := 32#32
  let v28 : BitVec 32 := Scalar.muli c0_i32 c32_i32
  let c0_i32_28 : BitVec 32 := 0#32
  let v29 : BitVec 32 := Scalar.addi v28 c0_i32_28
  let c64_i32 : BitVec 32 := 64#32
  let v33 : BitVec 32 := Scalar.muli v29 c64_i32
  v33
def k0_mult2 : BitVec 32 :=
  let c24_i32 : BitVec 32 := 24#32
  let c0_i32_29 : BitVec 32 := 0#32
  let c0_i32 : BitVec 32 := 0#32
  let c32_i32 : BitVec 32 := 32#32
  let v28 : BitVec 32 := Scalar.muli c0_i32 c32_i32
  let c0_i32_28 : BitVec 32 := 0#32
  let v29 : BitVec 32 := Scalar.addi v28 c0_i32_28
  let c4_i32 : BitVec 32 := 4#32
  let v30 : BitVec 32 := Scalar.subi v29 c4_i32
  let v31 : BitVec 32 := Scalar.maxsi c0_i32_29 v30
  let v32 : BitVec 32 := Scalar.minsi c24_i32 v31
  let c64_i32_30 : BitVec 32 := 64#32
  let v35 : BitVec 32 := Scalar.muli v32 c64_i32_30
  v35
def k0_mult3 : BitVec 32 :=
  let c0_i32 : BitVec 32 := 0#32
  let c32_i32 : BitVec 32 := 32#32
  let v28 : BitVec 32 := Scalar.muli c0_i32 c32_i32
  let c1_i32 : BitVec 32 := 1#32
  let v39 : BitVec 32 := Scalar.addi v28 c1_i32
  let c64_i32_34 : BitVec 32 := 64#32
  let v43 : BitVec 32 := Scalar.muli v39 c64_i32_34
  v43
def k0_mult4 : BitVec 32 :=
  let c24_i32_33 : BitVec 32 := 24#32
  let c0_i32_32 : BitVec 32 := 0#32
  let c0_i32 : BitVec 32 := 0#32
  let c32_i32 : BitVec 32 := 32#32
  let v28 : BitVec 32 := Scalar.muli c0_i32 c32_i32
  let c1_i32 : BitVec 32 := 1#32
  let v39 : BitVec 32 := Scalar.addi v28 c1_i32
  let c4_i32_31 : BitVec 32 := 4#32
  let v40 : BitVec 32 := Scalar.subi v39 c4_i32_31
  let v41 : BitVec 32 := Scalar.maxsi c0_i32_32 v40
  let v42 : BitVec 32 := Scalar.minsi c24_i32_33 v41
  let c64_i32_35 : BitVec 32 := 64#32
  let v45 : BitVec 32 := Scalar.muli v42 c64_i32_35
  v45
def k0_mult5 : BitVec 32 :=
  let c0_i32 : BitVec 32 := 0#32
  let c32_i32 : BitVec 32 := 32#32
  let v28 : BitVec 32 := Scalar.muli c0_i32 c32_i32
  let c2_i32 : BitVec 32 := 2#32
  let v49 : BitVec 32 := Scalar.addi v28 c2_i32
  let c64_i32_40 : BitVec 32 := 64#32
  let v53 : BitVec 32 := Scalar.muli v49 c64_i32_40
  v53
def k0_mult6 : BitVec 32 :=
  let c24_i32_39 : BitVec 32 := 24#32
  let c0_i32_38 : BitVec 32 := 0#32
  let c0_i32 : BitVec 32 := 0#32
  let c32_i32 : BitVec 32 := 32#32
  let v28 : BitVec 32 := Scalar.muli c0_i32 c32_i32
  let c2_i32 : BitVec 32 := 2#32
  let v49 : BitVec 32 := Scalar.addi v28 c2_i32
  let c4_i32_37 : BitVec 32 := 4#32
  let v50 : BitVec 32 := Scalar.subi v49 c4_i32_37
  let v51 : BitVec 32 := Scalar.maxsi c0_i32_38 v50
  let v52 : BitVec 32 := Scalar.minsi c24_i32_39 v51
  let c64_i32_41 : BitVec 32 := 64#32
  let v55 : BitVec 32 := Scalar.muli v52 c64_i32_41
  v55
def k0_mult7 : BitVec 32 :=
  let c0_i32 : BitVec 32 := 0#32
  let c32_i32 : BitVec 32 := 32#32
  let v28 : BitVec 32 := Scalar.muli c0_i32 c32_i32
  let c3_i32 : BitVec 32 := 3#32
  let v59 : BitVec 32 := Scalar.addi v28 c3_i32
  let c64_i32_46 : BitVec 32 := 64#32
  let v63 : BitVec 32 := Scalar.muli v59 c64_i32_46
  v63
def k0_mult8 : BitVec 32 :=
  let c24_i32_45 : BitVec 32 := 24#32
  let c0_i32_44 : BitVec 32 := 0#32
  let c0_i32 : BitVec 32 := 0#32
  let c32_i32 : BitVec 32 := 32#32
  let v28 : BitVec 32 := Scalar.muli c0_i32 c32_i32
  let c3_i32 : BitVec 32 := 3#32
  let v59 : BitVec 32 := Scalar.addi v28 c3_i32
  let c4_i32_43 : BitVec 32 := 4#32
  let v60 : BitVec 32 := Scalar.subi v59 c4_i32_43
  let v61 : BitVec 32 := Scalar.maxsi c0_i32_44 v60
  let v62 : BitVec 32 := Scalar.minsi c24_i32_45 v61
  let c64_i32_47 : BitVec 32 := 64#32
  let v65 : BitVec 32 := Scalar.muli v62 c64_i32_47
  v65
def k0_mult9 : BitVec 32 :=
  let c0_i32 : BitVec 32 := 0#32
  let c32_i32 : BitVec 32 := 32#32
  let v28 : BitVec 32 := Scalar.muli c0_i32 c32_i32
  let c4_i32_49 : BitVec 32 := 4#32
  let v69 : BitVec 32 := Scalar.addi v28 c4_i32_49
  let c64_i32_53 : BitVec 32 := 64#32
  let v73 : BitVec 32 := Scalar.muli v69 c64_i32_53
  v73
def k0_mult10 : BitVec 32 :=
  let c24_i32_52 : BitVec 32 := 24#32
  let c0_i32_51 : BitVec 32 := 0#32
  let c0_i32 : BitVec 32 := 0#32
  let c32_i32 : BitVec 32 := 32#32
  let v28 : BitVec 32 := Scalar.muli c0_i32 c32_i32
  let c4_i32_49 : BitVec 32 := 4#32
  let v69 : BitVec 32 := Scalar.addi v28 c4_i32_49
  let c4_i32_50 : BitVec 32 := 4#32
  let v70 : BitVec 32 := Scalar.subi v69 c4_i32_50
  let v71 : BitVec 32 := Scalar.maxsi c0_i32_51 v70
  let v72 : BitVec 32 := Scalar.minsi c24_i32_52 v71
  let c64_i32_54 : BitVec 32 := 64#32
  let v75 : BitVec 32 := Scalar.muli v72 c64_i32_54
  v75
def k0_mult11 : BitVec 32 :=
  let c0_i32 : BitVec 32 := 0#32
  let c32_i32 : BitVec 32 := 32#32
  let v28 : BitVec 32 := Scalar.muli c0_i32 c32_i32
  let c5_i32 : BitVec 32 := 5#32
  let v79 : BitVec 32 := Scalar.addi v28 c5_i32
  let c64_i32_59 : BitVec 32 := 64#32
  let v83 : BitVec 32 := Scalar.muli v79 c64_i32_59
  v83
def k0_mult12 : BitVec 32 :=
  let c24_i32_58 : BitVec 32 := 24#32
  let c0_i32_57 : BitVec 32 := 0#32
  let c0_i32 : BitVec 32 := 0#32
  let c32_i32 : BitVec 32 := 32#32
  let v28 : BitVec 32 := Scalar.muli c0_i32 c32_i32
  let c5_i32 : BitVec 32 := 5#32
  let v79 : BitVec 32 := Scalar.addi v28 c5_i32
  let c4_i32_56 : BitVec 32 := 4#32
  let v80 : BitVec 32 := Scalar.subi v79 c4_i32_56
  let v81 : BitVec 32 := Scalar.maxsi c0_i32_57 v80
  let v82 : BitVec 32 := Scalar.minsi c24_i32_58 v81
  let c64_i32_60 : BitVec 32 := 64#32
  let v85 : BitVec 32 := Scalar.muli v82 c64_i32_60
  v85
def k0_mult13 : BitVec 32 :=
  let c0_i32 : BitVec 32 := 0#32
  let c32_i32 : BitVec 32 := 32#32
  let v28 : BitVec 32 := Scalar.muli c0_i32 c32_i32
  let c6_i32 : BitVec 32 := 6#32
  let v89 : BitVec 32 := Scalar.addi v28 c6_i32
  let c64_i32_65 : BitVec 32 := 64#32
  let v93 : BitVec 32 := Scalar.muli v89 c64_i32_65
  v93
def k0_mult14 : BitVec 32 :=
  let c24_i32_64 : BitVec 32 := 24#32
  let c0_i32_63 : BitVec 32 := 0#32
  let c0_i32 : BitVec 32 := 0#32
  let c32_i32 : BitVec 32 := 32#32
  let v28 : BitVec 32 := Scalar.muli c0_i32 c32_i32
  let c6_i32 : BitVec 32 := 6#32
  let v89 : BitVec 32 := Scalar.addi v28 c6_i32
  let c4_i32_62 : BitVec 32 := 4#32
  let v90 : BitVec 32 := Scalar.subi v89 c4_i32_62
  let v91 : BitVec 32 := Scalar.maxsi c0_i32_63 v90
  let v92 : BitVec 32 := Scalar.minsi c24_i32_64 v91
  let c64_i32_66 : BitVec 32 := 64#32
  let v95 : BitVec 32 := Scalar.muli v92 c64_i32_66
  v95
def k0_mult15 : BitVec 32 :=
  let c0_i32 : BitVec 32 := 0#32
  let c32_i32 : BitVec 32 := 32#32
  let v28 : BitVec 32 := Scalar.muli c0_i32 c32_i32
  let c7_i32_68 : BitVec 32 := 7#32
  let v99 : BitVec 32 := Scalar.addi v28 c7_i32_68
  let c64_i32_72 : BitVec 32 := 64#32
  let v103 : BitVec 32 := Scalar.muli v99 c64_i32_72
  v103
def k0_mult16 : BitVec 32 :=
  let c24_i32_71 : BitVec 32 := 24#32
  let c0_i32_70 : BitVec 32 := 0#32
  let c0_i32 : BitVec 32 := 0#32
  let c32_i32 : BitVec 32 := 32#32
  let v28 : BitVec 32 := Scalar.muli c0_i32 c32_i32
  let c7_i32_68 : BitVec 32 := 7#32
  let v99 : BitVec 32 := Scalar.addi v28 c7_i32_68
  let c4_i32_69 : BitVec 32 := 4#32
  let v100 : BitVec 32 := Scalar.subi v99 c4_i32_69
  let v101 : BitVec 32 := Scalar.maxsi c0_i32_70 v100
  let v102 : BitVec 32 := Scalar.minsi c24_i32_71 v101
  let c64_i32_73 : BitVec 32 := 64#32
  let v105 : BitVec 32 := Scalar.muli v102 c64_i32_73
  v105
def k0_mult17 : BitVec 32 :=
  let c0_i32 : BitVec 32 := 0#32
  let c32_i32 : BitVec 32 := 32#32
  let v28 : BitVec 32 := Scalar.muli c0_i32 c32_i32
  let c8_i32 : BitVec 32 := 8#32
  let v109 : BitVec 32 := Scalar.addi v28 c8_i32
  let c64_i32_78 : BitVec 32 := 64#32
  let v113 : BitVec 32 := Scalar.muli v109 c64_i32_78
  v113
def k0_mult18 : BitVec 32 :=
  let c24_i32_77 : BitVec 32 := 24#32
  let c0_i32_76 : BitVec 32 := 0#32
  let c0_i32 : BitVec 32 := 0#32
  let c32_i32 : BitVec 32 := 32#32
  let v28 : BitVec 32 := Scalar.muli c0_i32 c32_i32
  let c8_i32 : BitVec 32 := 8#32
  let v109 : BitVec 32 := Scalar.addi v28 c8_i32
  let c4_i32_75 : BitVec 32 := 4#32
  let v110 : BitVec 32 := Scalar.subi v109 c4_i32_75
  let v111 : BitVec 32 := Scalar.maxsi c0_i32_76 v110
  let v112 : BitVec 32 := Scalar.minsi c24_i32_77 v111
  let c64_i32_79 : BitVec 32 := 64#32
  let v115 : BitVec 32 := Scalar.muli v112 c64_i32_79
  v115
def k0_mult19 : BitVec 32 :=
  let c0_i32 : BitVec 32 := 0#32
  let c32_i32 : BitVec 32 := 32#32
  let v28 : BitVec 32 := Scalar.muli c0_i32 c32_i32
  let c9_i32 : BitVec 32 := 9#32
  let v119 : BitVec 32 := Scalar.addi v28 c9_i32
  let c64_i32_84 : BitVec 32 := 64#32
  let v123 : BitVec 32 := Scalar.muli v119 c64_i32_84
  v123
def k0_mult20 : BitVec 32 :=
  let c24_i32_83 : BitVec 32 := 24#32
  let c0_i32_82 : BitVec 32 := 0#32
  let c0_i32 : BitVec 32 := 0#32
  let c32_i32 : BitVec 32 := 32#32
  let v28 : BitVec 32 := Scalar.muli c0_i32 c32_i32
  let c9_i32 : BitVec 32 := 9#32
  let v119 : BitVec 32 := Scalar.addi v28 c9_i32
  let c4_i32_81 : BitVec 32 := 4#32
  let v120 : BitVec 32 := Scalar.subi v119 c4_i32_81
  let v121 : BitVec 32 := Scalar.maxsi c0_i32_82 v120
  let v122 : BitVec 32 := Scalar.minsi c24_i32_83 v121
  let c64_i32_85 : BitVec 32 := 64#32
  let v125 : BitVec 32 := Scalar.muli v122 c64_i32_85
  v125
def k0_mult21 : BitVec 32 :=
  let c0_i32 : BitVec 32 := 0#32
  let c32_i32 : BitVec 32 := 32#32
  let v28 : BitVec 32 := Scalar.muli c0_i32 c32_i32
  let c10_i32 : BitVec 32 := 10#32
  let v129 : BitVec 32 := Scalar.addi v28 c10_i32
  let c64_i32_90 : BitVec 32 := 64#32
  let v133 : BitVec 32 := Scalar.muli v129 c64_i32_90
  v133
def k0_mult22 : BitVec 32 :=
  let c24_i32_89 : BitVec 32 := 24#32
  let c0_i32_88 : BitVec 32 := 0#32
  let c0_i32 : BitVec 32 := 0#32
  let c32_i32 : BitVec 32 := 32#32
  let v28 : BitVec 32 := Scalar.muli c0_i32 c32_i32
  let c10_i32 : BitVec 32 := 10#32
  let v129 : BitVec 32 := Scalar.addi v28 c10_i32
  let c4_i32_87 : BitVec 32 := 4#32
  let v130 : BitVec 32 := Scalar.subi v129 c4_i32_87
  let v131 : BitVec 32 := Scalar.maxsi c0_i32_88 v130
  let v132 : BitVec 32 := Scalar.minsi c24_i32_89 v131
  let c64_i32_91 : BitVec 32 := 64#32
  let v135 : BitVec 32 := Scalar.muli v132 c64_i32_91
  v135
def k0_mult23 : BitVec 32 :=
  let c0_i32 : BitVec 32 := 0#32
  let c32_i32 : BitVec 32 := 32#32
  let v28 : BitVec 32 := Scalar.muli c0_i32 c32_i32
  let c11_i32 : BitVec 32 := 11#32
  let v139 : BitVec 32 := Scalar.addi v28 c11_i32
  let c64_i32_96 : BitVec 32 := 64#32
  let v143 : BitVec 32 := Scalar.muli v139 c64_i32_96
  v143
def k0_mult24 : BitVec 32 :=
  let c24_i32_95 : BitVec 32 := 24#32
  let c0_i32_94 : BitVec 32 := 0#32
  let c0_i32 : BitVec 32 := 0#32
  let c32_i32 : BitVec 32 := 32#32
  let v28 : BitVec 32 := Scalar.muli c0_i32 c32_i32
  let c11_i32 : BitVec 32 := 11#32
  let v139 : BitVec 32 := Scalar.addi v28 c11_i32
  let c4_i32_93 : BitVec 32 := 4#32
  let v140 : BitVec 32 := Scalar.subi v139 c4_i32_93
  let v141 : BitVec 32 := Scalar.maxsi c0_i32_94 v140
  let v142 : BitVec 32 := Scalar.minsi c24_i32_95 v141
  let c64_i32_97 : BitVec 32 := 64#32
  let v145 : BitVec 32 := Scalar.muli v142 c64_i32_97
  v145
def k0_mult25 : BitVec 32 :=
  let c0_i32 : BitVec 32 := 0#32
  let c32_i32 : BitVec 32 := 32#32
  let v28 : BitVec 32 := Scalar.muli c0_i32 c32_i32
  let c12_i32 : BitVec 32 := 12#32
  let v149 : BitVec 32 := Scalar.addi v28 c12_i32
  let c64_i32_102 : BitVec 32 := 64#32
  let v153 : BitVec 32 := Scalar.muli v149 c64_i32_102
  v153
def k0_mult26 : BitVec 32 :=
  let c24_i32_101 : BitVec 32 := 24#32
  let c0_i32_100 : BitVec 32 := 0#32
  let c0_i32 : BitVec 32 := 0#32
  let c32_i32 : BitVec 32 := 32#32
  let v28 : BitVec 32 := Scalar.muli c0_i32 c32_i32
  let c12_i32 : BitVec 32 := 12#32
  let v149 : BitVec 32 := Scalar.addi v28 c12_i32
  let c4_i32_99 : BitVec 32 := 4#32
  let v150 : BitVec 32 := Scalar.subi v149 c4_i32_99
  let v151 : BitVec 32 := Scalar.maxsi c0_i32_100 v150
  let v152 : BitVec 32 := Scalar.minsi c24_i32_101 v151
  let c64_i32_103 : BitVec 32 := 64#32
  let v155 : BitVec 32 := Scalar.muli v152 c64_i32_103
  v155
def k0_mult27 : BitVec 32 :=
  let c0_i32 : BitVec 32 := 0#32
  let c32_i32 : BitVec 32 := 32#32
  let v28 : BitVec 32 := Scalar.muli c0_i32 c32_i32
  let c13_i32 : BitVec 32 := 13#32
  let v159 : BitVec 32 := Scalar.addi v28 c13_i32
  let c64_i32_108 : BitVec 32 := 64#32
  let v163 : BitVec 32 := Scalar.muli v159 c64_i32_108
  v163
def k0_mult28 : BitVec 32 :=
  let c24_i32_107 : BitVec 32 := 24#32
  let c0_i32_106 : BitVec 32 := 0#32
  let c0_i32 : BitVec 32 := 0#32
  let c32_i32 : BitVec 32 := 32#32
  let v28 : BitVec 32 := Scalar.muli c0_i32 c32_i32
  let c13_i32 : BitVec 32 := 13#32
  let v159 : BitVec 32 := Scalar.addi v28 c13_i32
  let c4_i32_105 : BitVec 32 := 4#32
  let v160 : BitVec 32 := Scalar.subi v159 c4_i32_105
  let v161 : BitVec 32 := Scalar.maxsi c0_i32_106 v160
  let v162 : BitVec 32 := Scalar.minsi c24_i32_107 v161
  let c64_i32_109 : BitVec 32 := 64#32
  let v165 : BitVec 32 := Scalar.muli v162 c64_i32_109
  v165
def k0_mult29 : BitVec 32 :=
  let c0_i32 : BitVec 32 := 0#32
  let c32_i32 : BitVec 32 := 32#32
  let v28 : BitVec 32 := Scalar.muli c0_i32 c32_i32
  let c14_i32 : BitVec 32 := 14#32
  let v169 : BitVec 32 := Scalar.addi v28 c14_i32
  let c64_i32_114 : BitVec 32 := 64#32
  let v173 : BitVec 32 := Scalar.muli v169 c64_i32_114
  v173
def k0_mult30 : BitVec 32 :=
  let c24_i32_113 : BitVec 32 := 24#32
  let c0_i32_112 : BitVec 32 := 0#32
  let c0_i32 : BitVec 32 := 0#32
  let c32_i32 : BitVec 32 := 32#32
  let v28 : BitVec 32 := Scalar.muli c0_i32 c32_i32
  let c14_i32 : BitVec 32 := 14#32
  let v169 : BitVec 32 := Scalar.addi v28 c14_i32
  let c4_i32_111 : BitVec 32 := 4#32
  let v170 : BitVec 32 := Scalar.subi v169 c4_i32_111
  let v171 : BitVec 32 := Scalar.maxsi c0_i32_112 v170
  let v172 : BitVec 32 := Scalar.minsi c24_i32_113 v171
  let c64_i32_115 : BitVec 32 := 64#32
  let v175 : BitVec 32 := Scalar.muli v172 c64_i32_115
  v175
def k0_mult31 : BitVec 32 :=
  let c0_i32 : BitVec 32 := 0#32
  let c32_i32 : BitVec 32 := 32#32
  let v28 : BitVec 32 := Scalar.muli c0_i32 c32_i32
  let c15_i32 : BitVec 32 := 15#32
  let v179 : BitVec 32 := Scalar.addi v28 c15_i32
  let c64_i32_120 : BitVec 32 := 64#32
  let v183 : BitVec 32 := Scalar.muli v179 c64_i32_120
  v183
def k0_mult32 : BitVec 32 :=
  let c24_i32_119 : BitVec 32 := 24#32
  let c0_i32_118 : BitVec 32 := 0#32
  let c0_i32 : BitVec 32 := 0#32
  let c32_i32 : BitVec 32 := 32#32
  let v28 : BitVec 32 := Scalar.muli c0_i32 c32_i32
  let c15_i32 : BitVec 32 := 15#32
  let v179 : BitVec 32 := Scalar.addi v28 c15_i32
  let c4_i32_117 : BitVec 32 := 4#32
  let v180 : BitVec 32 := Scalar.subi v179 c4_i32_117
  let v181 : BitVec 32 := Scalar.maxsi c0_i32_118 v180
  let v182 : BitVec 32 := Scalar.minsi c24_i32_119 v181
  let c64_i32_121 : BitVec 32 := 64#32
  let v185 : BitVec 32 := Scalar.muli v182 c64_i32_121
  v185
def k0_mult33 : BitVec 32 :=
  let c0_i32 : BitVec 32 := 0#32
  let c32_i32 : BitVec 32 := 32#32
  let v28 : BitVec 32 := Scalar.muli c0_i32 c32_i32
  let c16_i32 : BitVec 32 := 16#32
  let v189 : BitVec 32 := Scalar.addi v28 c16_i32
  let c64_i32_126 : BitVec 32 := 64#32
  let v193 : BitVec 32 := Scalar.muli v189 c64_i32_126
  v193
def k0_mult34 : BitVec 32 :=
  let c24_i32_125 : BitVec 32 := 24#32
  let c0_i32_124 : BitVec 32 := 0#32
  let c0_i32 : BitVec 32 := 0#32
  let c32_i32 : BitVec 32 := 32#32
  let v28 : BitVec 32 := Scalar.muli c0_i32 c32_i32
  let c16_i32 : BitVec 32 := 16#32
  let v189 : BitVec 32 := Scalar.addi v28 c16_i32
  let c4_i32_123 : BitVec 32 := 4#32
  let v190 : BitVec 32 := Scalar.subi v189 c4_i32_123
  let v191 : BitVec 32 := Scalar.maxsi c0_i32_124 v190
  let v192 : BitVec 32 := Scalar.minsi c24_i32_125 v191
  let c64_i32_127 : BitVec 32 := 64#32
  let v195 : BitVec 32 := Scalar.muli v192 c64_i32_127
  v195
def k0_mult35 : BitVec 32 :=
  let c0_i32 : BitVec 32 := 0#32
  let c32_i32 : BitVec 32 := 32#32
  let v28 : BitVec 32 := Scalar.muli c0_i32 c32_i32
  let c17_i32 : BitVec 32 := 17#32
  let v199 : BitVec 32 := Scalar.addi v28 c17_i32
  let c64_i32_132 : BitVec 32 := 64#32
  let v203 : BitVec 32 := Scalar.muli v199 c64_i32_132
  v203
def k0_mult36 : BitVec 32 :=
  let c24_i32_131 : BitVec 32 := 24#32
  let c0_i32_130 : BitVec 32 := 0#32
  let c0_i32 : BitVec 32 := 0#32
  let c32_i32 : BitVec 32 := 32#32
  let v28 : BitVec 32 := Scalar.muli c0_i32 c32_i32
  let c17_i32 : BitVec 32 := 17#32
  let v199 : BitVec 32 := Scalar.addi v28 c17_i32
  let c4_i32_129 : BitVec 32 := 4#32
  let v200 : BitVec 32 := Scalar.subi v199 c4_i32_129
  let v201 : BitVec 32 := Scalar.maxsi c0_i32_130 v200
  let v202 : BitVec 32 := Scalar.minsi c24_i32_131 v201
  let c64_i32_133 : BitVec 32 := 64#32
  let v205 : BitVec 32 := Scalar.muli v202 c64_i32_133
  v205
def k0_mult37 : BitVec 32 :=
  let c0_i32 : BitVec 32 := 0#32
  let c32_i32 : BitVec 32 := 32#32
  let v28 : BitVec 32 := Scalar.muli c0_i32 c32_i32
  let c18_i32 : BitVec 32 := 18#32
  let v209 : BitVec 32 := Scalar.addi v28 c18_i32
  let c64_i32_138 : BitVec 32 := 64#32
  let v213 : BitVec 32 := Scalar.muli v209 c64_i32_138
  v213
def k0_mult38 : BitVec 32 :=
  let c24_i32_137 : BitVec 32 := 24#32
  let c0_i32_136 : BitVec 32 := 0#32
  let c0_i32 : BitVec 32 := 0#32
  let c32_i32 : BitVec 32 := 32#32
  let v28 : BitVec 32 := Scalar.muli c0_i32 c32_i32
  let c18_i32 : BitVec 32 := 18#32
  let v209 : BitVec 32 := Scalar.addi v28 c18_i32
  let c4_i32_135 : BitVec 32 := 4#32
  let v210 : BitVec 32 := Scalar.subi v209 c4_i32_135
  let v211 : BitVec 32 := Scalar.maxsi c0_i32_136 v210
  let v212 : BitVec 32 := Scalar.minsi c24_i32_137 v211
  let c64_i32_139 : BitVec 32 := 64#32
  let v215 : BitVec 32 := Scalar.muli v212 c64_i32_139
  v215
def k0_mult39 : BitVec 32 :=
  let c0_i32 : BitVec 32 := 0#32
  let c32_i32 : BitVec 32 := 32#32
  let v28 : BitVec 32 := Scalar.muli c0_i32 c32_i32
  let c19_i32 : BitVec 32 := 19#32
  let v219 : BitVec 32 := Scalar.addi v28 c19_i32
  let c64_i32_144 : BitVec 32 := 64#32
  let v223 : BitVec 32 := Scalar.muli v219 c64_i32_144
  v223
def k0_mult40 : BitVec 32 :=
  let c24_i32_143 : BitVec 32 := 24#32
  let c0_i32_142 : BitVec 32 := 0#32
  let c0_i32 : BitVec 32 := 0#32
  let c32_i32 : BitVec 32 := 32#32
  let v28 : BitVec 32 := Scalar.muli c0_i32 c32_i32
  let c19_i32 : BitVec 32 := 19#32
  let v219 : BitVec 32 := Scalar.addi v28 c19_i32
  let c4_i32_141 : BitVec 32 := 4#32
  let v220 : BitVec 32 := Scalar.subi v219 c4_i32_141
  let v221 : BitVec 32 := Scalar.maxsi c0_i32_142 v220
  let v222 : BitVec 32 := Scalar.minsi c24_i32_143 v221
  let c64_i32_145 : BitVec 32 := 64#32
  let v225 : BitVec 32 := Scalar.muli v222 c64_i32_145
  v225
def k0_mult41 : BitVec 32 :=
  let c0_i32 : BitVec 32 := 0#32
  let c32_i32 : BitVec 32 := 32#32
  let v28 : BitVec 32 := Scalar.muli c0_i32 c32_i32
  let c20_i32 : BitVec 32 := 20#32
  let v229 : BitVec 32 := Scalar.addi v28 c20_i32
  let c64_i32_150 : BitVec 32 := 64#32
  let v233 : BitVec 32 := Scalar.muli v229 c64_i32_150
  v233
def k0_mult42 : BitVec 32 :=
  let c24_i32_149 : BitVec 32 := 24#32
  let c0_i32_148 : BitVec 32 := 0#32
  let c0_i32 : BitVec 32 := 0#32
  let c32_i32 : BitVec 32 := 32#32
  let v28 : BitVec 32 := Scalar.muli c0_i32 c32_i32
  let c20_i32 : BitVec 32 := 20#32
  let v229 : BitVec 32 := Scalar.addi v28 c20_i32
  let c4_i32_147 : BitVec 32 := 4#32
  let v230 : BitVec 32 := Scalar.subi v229 c4_i32_147
  let v231 : BitVec 32 := Scalar.maxsi c0_i32_148 v230
  let v232 : BitVec 32 := Scalar.minsi c24_i32_149 v231
  let c64_i32_151 : BitVec 32 := 64#32
  let v235 : BitVec 32 := Scalar.muli v232 c64_i32_151
  v235
def k0_mult43 : BitVec 32 :=
  let c0_i32 : BitVec 32 := 0#32
  let c32_i32 : BitVec 32 := 32#32
  let v28 : BitVec 32 := Scalar.muli c0_i32 c32_i32
  let c21_i32 : BitVec 32 := 21#32
  let v239 : BitVec 32 := Scalar.addi v28 c21_i32
  let c64_i32_156 : BitVec 32 := 64#32
  let v243 : BitVec 32 := Scalar.muli v239 c64_i32_156
  v243
def k0_mult44 : BitVec 32 :=
  let c24_i32_155 : BitVec 32 := 24#32
  let c0_i32_154 : BitVec 32 := 0#32
  let c0_i32 : BitVec 32 := 0#32
  let c32_i32 : BitVec 32 := 32#32
  let v28 : BitVec 32 := Scalar.muli c0_i32 c32_i32
  let c21_i32 : BitVec 32 := 21#32
  let v239 : BitVec 32 := Scalar.addi v28 c21_i32
  let c4_i32_153 : BitVec 32 := 4#32
  let v240 : BitVec 32 := Scalar.subi v239 c4_i32_153
  let v241 : BitVec 32 := Scalar.maxsi c0_i32_154 v240
  let v242 : BitVec 32 := Scalar.minsi c24_i32_155 v241
  let c64_i32_157 : BitVec 32 := 64#32
  let v245 : BitVec 32 := Scalar.muli v242 c64_i32_157
  v245
def k0_mult45 : BitVec 32 :=
  let c0_i32 : BitVec 32 := 0#32
  let c32_i32 : BitVec 32 := 32#32
  let v28 : BitVec 32 := Scalar.muli c0_i32 c32_i32
  let c22_i32 : BitVec 32 := 22#32
  let v249 : BitVec 32 := Scalar.addi v28 c22_i32
  let c64_i32_162 : BitVec 32 := 64#32
  let v253 : BitVec 32 := Scalar.muli v249 c64_i32_162
  v253
def k0_mult46 : BitVec 32 :=
  let c24_i32_161 : BitVec 32 := 24#32
  let c0_i32_160 : BitVec 32 := 0#32
  let c0_i32 : BitVec 32 := 0#32
  let c32_i32 : BitVec 32 := 32#32
  let v28 : BitVec 32 := Scalar.muli c0_i32 c32_i32
  let c22_i32 : BitVec 32 := 22#32
  let v249 : BitVec 32 := Scalar.addi v28 c22_i32
  let c4_i32_159 : BitVec 32 := 4#32
  let v250 : BitVec 32 := Scalar.subi v249 c4_i32_159
  let v251 : BitVec 32 := Scalar.maxsi c0_i32_160 v250
  let v252 : BitVec 32 := Scalar.minsi c24_i32_161 v251
  let c64_i32_163 : BitVec 32 := 64#32
  let v255 : BitVec 32 := Scalar.muli v252 c64_i32_163
  v255
def k0_mult47 : BitVec 32 :=
  let c0_i32 : BitVec 32 := 0#32
  let c32_i32 : BitVec 32 := 32#32
  let v28 : BitVec 32 := Scalar.muli c0_i32 c32_i32
  let c23_i32 : BitVec 32 := 23#32
  let v259 : BitVec 32 := Scalar.addi v28 c23_i32
  let c64_i32_168 : BitVec 32 := 64#32
  let v263 : BitVec 32 := Scalar.muli v259 c64_i32_168
  v263
def k0_mult48 : BitVec 32 :=
  let c24_i32_167 : BitVec 32 := 24#32
  let c0_i32_166 : BitVec 32 := 0#32
  let c0_i32 : BitVec 32 := 0#32
  let c32_i32 : BitVec 32 := 32#32
  let v28 : BitVec 32 := Scalar.muli c0_i32 c32_i32
  let c23_i32 : BitVec 32 := 23#32
  let v259 : BitVec 32 := Scalar.addi v28 c23_i32
  let c4_i32_165 : BitVec 32 := 4#32
  let v260 : BitVec 32 := Scalar.subi v259 c4_i32_165
  let v261 : BitVec 32 := Scalar.maxsi c0_i32_166 v260
  let v262 : BitVec 32 := Scalar.minsi c24_i32_167 v261
  let c64_i32_169 : BitVec 32 := 64#32
  let v265 : BitVec 32 := Scalar.muli v262 c64_i32_169
  v265
def k0_mult49 : BitVec 32 :=
  let c0_i32 : BitVec 32 := 0#32
  let c32_i32 : BitVec 32 := 32#32
  let v28 : BitVec 32 := Scalar.muli c0_i32 c32_i32
  let c24_i32_171 : BitVec 32 := 24#32
  let v269 : BitVec 32 := Scalar.addi v28 c24_i32_171
  let c64_i32_175 : BitVec 32 := 64#32
  let v273 : BitVec 32 := Scalar.muli v269 c64_i32_175
  v273
def k0_mult50 : BitVec 32 :=
  let c24_i32_174 : BitVec 32 := 24#32
  let c0_i32_173 : BitVec 32 := 0#32
  let c0_i32 : BitVec 32 := 0#32
  let c32_i32 : BitVec 32 := 32#32
  let v28 : BitVec 32 := Scalar.muli c0_i32 c32_i32
  let c24_i32_171 : BitVec 32 := 24#32
  let v269 : BitVec 32 := Scalar.addi v28 c24_i32_171
  let c4_i32_172 : BitVec 32 := 4#32
  let v270 : BitVec 32 := Scalar.subi v269 c4_i32_172
  let v271 : BitVec 32 := Scalar.maxsi c0_i32_173 v270
  let v272 : BitVec 32 := Scalar.minsi c24_i32_174 v271
  let c64_i32_176 : BitVec 32 := 64#32
  let v275 : BitVec 32 := Scalar.muli v272 c64_i32_176
  v275
def k0_mult51 : BitVec 32 :=
  let c0_i32 : BitVec 32 := 0#32
  let c32_i32 : BitVec 32 := 32#32
  let v28 : BitVec 32 := Scalar.muli c0_i32 c32_i32
  let c25_i32 : BitVec 32 := 25#32
  let v279 : BitVec 32 := Scalar.addi v28 c25_i32
  let c64_i32_181 : BitVec 32 := 64#32
  let v283 : BitVec 32 := Scalar.muli v279 c64_i32_181
  v283
def k0_mult52 : BitVec 32 :=
  let c24_i32_180 : BitVec 32 := 24#32
  let c0_i32_179 : BitVec 32 := 0#32
  let c0_i32 : BitVec 32 := 0#32
  let c32_i32 : BitVec 32 := 32#32
  let v28 : BitVec 32 := Scalar.muli c0_i32 c32_i32
  let c25_i32 : BitVec 32 := 25#32
  let v279 : BitVec 32 := Scalar.addi v28 c25_i32
  let c4_i32_178 : BitVec 32 := 4#32
  let v280 : BitVec 32 := Scalar.subi v279 c4_i32_178
  let v281 : BitVec 32 := Scalar.maxsi c0_i32_179 v280
  let v282 : BitVec 32 := Scalar.minsi c24_i32_180 v281
  let c64_i32_182 : BitVec 32 := 64#32
  let v285 : BitVec 32 := Scalar.muli v282 c64_i32_182
  v285
def k0_mult53 : BitVec 32 :=
  let c0_i32 : BitVec 32 := 0#32
  let c32_i32 : BitVec 32 := 32#32
  let v28 : BitVec 32 := Scalar.muli c0_i32 c32_i32
  let c26_i32 : BitVec 32 := 26#32
  let v289 : BitVec 32 := Scalar.addi v28 c26_i32
  let c64_i32_187 : BitVec 32 := 64#32
  let v293 : BitVec 32 := Scalar.muli v289 c64_i32_187
  v293
def k0_mult54 : BitVec 32 :=
  let c24_i32_186 : BitVec 32 := 24#32
  let c0_i32_185 : BitVec 32 := 0#32
  let c0_i32 : BitVec 32 := 0#32
  let c32_i32 : BitVec 32 := 32#32
  let v28 : BitVec 32 := Scalar.muli c0_i32 c32_i32
  let c26_i32 : BitVec 32 := 26#32
  let v289 : BitVec 32 := Scalar.addi v28 c26_i32
  let c4_i32_184 : BitVec 32 := 4#32
  let v290 : BitVec 32 := Scalar.subi v289 c4_i32_184
  let v291 : BitVec 32 := Scalar.maxsi c0_i32_185 v290
  let v292 : BitVec 32 := Scalar.minsi c24_i32_186 v291
  let c64_i32_188 : BitVec 32 := 64#32
  let v295 : BitVec 32 := Scalar.muli v292 c64_i32_188
  v295
def k0_mult55 : BitVec 32 :=
  let c0_i32 : BitVec 32 := 0#32
  let c32_i32 : BitVec 32 := 32#32
  let v28 : BitVec 32 := Scalar.muli c0_i32 c32_i32
  let c27_i32 : BitVec 32 := 27#32
  let v299 : BitVec 32 := Scalar.addi v28 c27_i32
  let c64_i32_193 : BitVec 32 := 64#32
  let v303 : BitVec 32 := Scalar.muli v299 c64_i32_193
  v303
def k0_mult56 : BitVec 32 :=
  let c24_i32_192 : BitVec 32 := 24#32
  let c0_i32_191 : BitVec 32 := 0#32
  let c0_i32 : BitVec 32 := 0#32
  let c32_i32 : BitVec 32 := 32#32
  let v28 : BitVec 32 := Scalar.muli c0_i32 c32_i32
  let c27_i32 : BitVec 32 := 27#32
  let v299 : BitVec 32 := Scalar.addi v28 c27_i32
  let c4_i32_190 : BitVec 32 := 4#32
  let v300 : BitVec 32 := Scalar.subi v299 c4_i32_190
  let v301 : BitVec 32 := Scalar.maxsi c0_i32_191 v300
  let v302 : BitVec 32 := Scalar.minsi c24_i32_192 v301
  let c64_i32_194 : BitVec 32 := 64#32
  let v305 : BitVec 32 := Scalar.muli v302 c64_i32_194
  v305
def k0_mult57 : BitVec 32 :=
  let c0_i32 : BitVec 32 := 0#32
  let c32_i32 : BitVec 32 := 32#32
  let v28 : BitVec 32 := Scalar.muli c0_i32 c32_i32
  let c28_i32 : BitVec 32 := 28#32
  let v309 : BitVec 32 := Scalar.addi v28 c28_i32
  let c64_i32_199 : BitVec 32 := 64#32
  let v313 : BitVec 32 := Scalar.muli v309 c64_i32_199
  v313
def k0_mult58 : BitVec 32 :=
  let c24_i32_198 : BitVec 32 := 24#32
  let c0_i32_197 : BitVec 32 := 0#32
  let c0_i32 : BitVec 32 := 0#32
  let c32_i32 : BitVec 32 := 32#32
  let v28 : BitVec 32 := Scalar.muli c0_i32 c32_i32
  let c28_i32 : BitVec 32 := 28#32
  let v309 : BitVec 32 := Scalar.addi v28 c28_i32
  let c4_i32_196 : BitVec 32 := 4#32
  let v310 : BitVec 32 := Scalar.subi v309 c4_i32_196
  let v311 : BitVec 32 := Scalar.maxsi c0_i32_197 v310
  let v312 : BitVec 32 := Scalar.minsi c24_i32_198 v311
  let c64_i32_200 : BitVec 32 := 64#32
  let v315 : BitVec 32 := Scalar.muli v312 c64_i32_200
  v315
def k0_mult59 : BitVec 32 :=
  let c0_i32 : BitVec 32 := 0#32
  let c32_i32 : BitVec 32 := 32#32
  let v28 : BitVec 32 := Scalar.muli c0_i32 c32_i32
  let c29_i32 : BitVec 32 := 29#32
  let v319 : BitVec 32 := Scalar.addi v28 c29_i32
  let c64_i32_205 : BitVec 32 := 64#32
  let v323 : BitVec 32 := Scalar.muli v319 c64_i32_205
  v323
def k0_mult60 : BitVec 32 :=
  let c24_i32_204 : BitVec 32 := 24#32
  let c0_i32_203 : BitVec 32 := 0#32
  let c0_i32 : BitVec 32 := 0#32
  let c32_i32 : BitVec 32 := 32#32
  let v28 : BitVec 32 := Scalar.muli c0_i32 c32_i32
  let c29_i32 : BitVec 32 := 29#32
  let v319 : BitVec 32 := Scalar.addi v28 c29_i32
  let c4_i32_202 : BitVec 32 := 4#32
  let v320 : BitVec 32 := Scalar.subi v319 c4_i32_202
  let v321 : BitVec 32 := Scalar.maxsi c0_i32_203 v320
  let v322 : BitVec 32 := Scalar.minsi c24_i32_204 v321
  let c64_i32_206 : BitVec 32 := 64#32
  let v325 : BitVec 32 := Scalar.muli v322 c64_i32_206
  v325
def k0_mult61 : BitVec 32 :=
  let c0_i32 : BitVec 32 := 0#32
  let c32_i32 : BitVec 32 := 32#32
  let v28 : BitVec 32 := Scalar.muli c0_i32 c32_i32
  let c30_i32 : BitVec 32 := 30#32
  let v329 : BitVec 32 := Scalar.addi v28 c30_i32
  let c64_i32_211 : BitVec 32 := 64#32
  let v333 : BitVec 32 := Scalar.muli v329 c64_i32_211
  v333
def k0_mult62 : BitVec 32 :=
  let c24_i32_210 : BitVec 32 := 24#32
  let c0_i32_209 : BitVec 32 := 0#32
  let c0_i32 : BitVec 32 := 0#32
  let c32_i32 : BitVec 32 := 32#32
  let v28 : BitVec 32 := Scalar.muli c0_i32 c32_i32
  let c30_i32 : BitVec 32 := 30#32
  let v329 : BitVec 32 := Scalar.addi v28 c30_i32
  let c4_i32_208 : BitVec 32 := 4#32
  let v330 : BitVec 32 := Scalar.subi v329 c4_i32_208
  let v331 : BitVec 32 := Scalar.maxsi c0_i32_209 v330
  let v332 : BitVec 32 := Scalar.minsi c24_i32_210 v331
  let c64_i32_212 : BitVec 32 := 64#32
  let v335 : BitVec 32 := Scalar.muli v332 c64_i32_212
  v335
def k0_mult63 : BitVec 32 :=
  let c0_i32 : BitVec 32 := 0#32
  let c32_i32 : BitVec 32 := 32#32
  let v28 : BitVec 32 := Scalar.muli c0_i32 c32_i32
  let c31_i32 : BitVec 32 := 31#32
  let v339 : BitVec 32 := Scalar.addi v28 c31_i32
  let c64_i32_217 : BitVec 32 := 64#32
  let v343 : BitVec 32 := Scalar.muli v339 c64_i32_217
  v343
def k0_mult64 : BitVec 32 :=
  let c24_i32_216 : BitVec 32 := 24#32
  let c0_i32_215 : BitVec 32 := 0#32
  let c0_i32 : BitVec 32 := 0#32
  let c32_i32 : BitVec 32 := 32#32
  let v28 : BitVec 32 := Scalar.muli c0_i32 c32_i32
  let c31_i32 : BitVec 32 := 31#32
  let v339 : BitVec 32 := Scalar.addi v28 c31_i32
  let c4_i32_214 : BitVec 32 := 4#32
  let v340 : BitVec 32 := Scalar.subi v339 c4_i32_214
  let v341 : BitVec 32 := Scalar.maxsi c0_i32_215 v340
  let v342 : BitVec 32 := Scalar.minsi c24_i32_216 v341
  let c64_i32_218 : BitVec 32 := 64#32
  let v345 : BitVec 32 := Scalar.muli v342 c64_i32_218
  v345
def k0_off1 (c0_i32_28 : BitVec 32) : Fin 3 → Nat :=
  let c0_220 : Index := 0#32
  let c0_i32 : BitVec 32 := 0#32
  let c32_i32 : BitVec 32 := 32#32
  let v28 : BitVec 32 := Scalar.muli c0_i32 c32_i32
  let v29 : BitVec 32 := Scalar.addi v28 c0_i32_28
  let c64_i32 : BitVec 32 := 64#32
  let v33 : BitVec 32 := Scalar.muli v29 c64_i32
  let v34 : BitVec 32 := v33
  let v349 : Index := Scalar.indexCast v34
  let c0_221 : Index := 0#32
  ![0, v349.toNat, 0]
def k0_off2 (c0_i32_28 : BitVec 32) : Fin 3 → Nat :=
  let c1_222 : Index := 1#32
  let c0_i32 : BitVec 32 := 0#32
  let c32_i32 : BitVec 32 := 32#32
  let v28 : BitVec 32 := Scalar.muli c0_i32 c32_i32
  let v29 : BitVec 32 := Scalar.addi v28 c0_i32_28
  let c64_i32 : BitVec 32 := 64#32
  let v33 : BitVec 32 := Scalar.muli v29 c64_i32
  let v34 : BitVec 32 := v33
  let v352 : Index := Scalar.indexCast v34
  let c0_223 : Index := 0#32
  ![1, v352.toNat, 0]
def k0_off3 (c0_i32_28 : BitVec 32) : Fin 3 → Nat :=
  let c0_348 : Index := 0#32
  let c24_i32 : BitVec 32 := 24#32
  let c0_i32_29 : BitVec 32 := 0#32
  let c0_i32 : BitVec 32 := 0#32
  let c32_i32 : BitVec 32 := 32#32
  let v28 : BitVec 32 := Scalar.muli c0_i32 c32_i32
  let v29 : BitVec 32 := Scalar.addi v28 c0_i32_28
  let c4_i32 : BitVec 32 := 4#32
  let v30 : BitVec 32 := Scalar.subi v29 c4_i32
  let v31 : BitVec 32 := Scalar.maxsi c0_i32_29 v30
  let v32 : BitVec 32 := Scalar.minsi c24_i32 v31
  let c64_i32_30 : BitVec 32 := 64#32
  let v35 : BitVec 32 := Scalar.muli v32 c64_i32_30
  let v36 : BitVec 32 := v35
  let v541 : Index := Scalar.indexCast v36
  let c0_349 : Index := 0#32
  ![0, v541.toNat, 0]
def k0_off4 (c0_i32_28 : BitVec 32) : Fin 3 → Nat :=
  let c1_350 : Index := 1#32
  let c24_i32 : BitVec 32 := 24#32
  let c0_i32_29 : BitVec 32 := 0#32
  let c0_i32 : BitVec 32 := 0#32
  let c32_i32 : BitVec 32 := 32#32
  let v28 : BitVec 32 := Scalar.muli c0_i32 c32_i32
  let v29 : BitVec 32 := Scalar.addi v28 c0_i32_28
  let c4_i32 : BitVec 32 := 4#32
  let v30 : BitVec 32 := Scalar.subi v29 c4_i32
  let v31 : BitVec 32 := Scalar.maxsi c0_i32_29 v30
  let v32 : BitVec 32 := Scalar.minsi c24_i32 v31
  let c64_i32_30 : BitVec 32 := 64#32
  let v35 : BitVec 32 := Scalar.muli v32 c64_i32_30
  let v36 : BitVec 32 := v35
  let v544 : Index := Scalar.indexCast v36
  let c0_351 : Index := 0#32
  ![1, v544.toNat, 0]
def k0_off5 (c0_i32_28 : BitVec 32) (c0_i32_605 : BitVec 32) : Fin 4 → Nat :=
  let c0_606 : Index := 0#32
  let c24_i32 : BitVec 32 := 24#32
  let c0_i32_29 : BitVec 32 := 0#32
  let c0_i32 : BitVec 32 := 0#32
  let c32_i32 : BitVec 32 := 32#32
  let v28 : BitVec 32 := Scalar.muli c0_i32 c32_i32
  let v29 : BitVec 32 := Scalar.addi v28 c0_i32_28
  let c4_i32 : BitVec 32 := 4#32
  let v30 : BitVec 32 := Scalar.subi v29 c4_i32
  let v31 : BitVec 32 := Scalar.maxsi c0_i32_29 v30
  let v32 : BitVec 32 := Scalar.minsi c24_i32 v31
  let v37 : BitVec 32 := Scalar.subi v32 v29
  let c7_i32 : BitVec 32 := 7#32
  let v38 : BitVec 32 := Scalar.addi v37 c7_i32
  let v926 : BitVec 32 := Scalar.addi v38 c0_i32_605
  let v927 : Index := Scalar.indexCast v926
  let c0_607 : Index := 0#32
  let c0_608 : Index := 0#32
  ![0, v927.toNat, 0, 0]
def k0_off6 (c0_i32_28 : BitVec 32) (c0_i32_622 : BitVec 32) : Fin 4 → Nat :=
  let c1_623 : Index := 1#32
  let c24_i32 : BitVec 32 := 24#32
  let c0_i32_29 : BitVec 32 := 0#32
  let c0_i32 : BitVec 32 := 0#32
  let c32_i32 : BitVec 32 := 32#32
  let v28 : BitVec 32 := Scalar.muli c0_i32 c32_i32
  let v29 : BitVec 32 := Scalar.addi v28 c0_i32_28
  let c4_i32 : BitVec 32 := 4#32
  let v30 : BitVec 32 := Scalar.subi v29 c4_i32
  let v31 : BitVec 32 := Scalar.maxsi c0_i32_29 v30
  let v32 : BitVec 32 := Scalar.minsi c24_i32 v31
  let v37 : BitVec 32 := Scalar.subi v32 v29
  let c7_i32 : BitVec 32 := 7#32
  let v38 : BitVec 32 := Scalar.addi v37 c7_i32
  let v945 : BitVec 32 := Scalar.addi v38 c0_i32_622
  let v946 : Index := Scalar.indexCast v945
  let c0_624 : Index := 0#32
  let c0_625 : Index := 0#32
  ![1, v946.toNat, 0, 0]
def k0_off7 (c0_i32_28 : BitVec 32) : Fin 2 → Nat :=
  let c0_i32 : BitVec 32 := 0#32
  let c32_i32 : BitVec 32 := 32#32
  let v28 : BitVec 32 := Scalar.muli c0_i32 c32_i32
  let v29 : BitVec 32 := Scalar.addi v28 c0_i32_28
  let c64_i32 : BitVec 32 := 64#32
  let v33 : BitVec 32 := Scalar.muli v29 c64_i32
  let v34 : BitVec 32 := v33
  let v2975 : Index := Scalar.indexCast v34
  let c0_1948 : Index := 0#32
  ![v2975.toNat, 0]
def k0_off8 (c0_i32_28 : BitVec 32) : Fin 2 → Nat :=
  let c0_i32 : BitVec 32 := 0#32
  let c32_i32 : BitVec 32 := 32#32
  let v28 : BitVec 32 := Scalar.muli c0_i32 c32_i32
  let v29 : BitVec 32 := Scalar.addi v28 c0_i32_28
  let c64_i32 : BitVec 32 := 64#32
  let v33 : BitVec 32 := Scalar.muli v29 c64_i32
  let v34 : BitVec 32 := v33
  let v2978 : Index := Scalar.indexCast v34
  let c0_1949 : Index := 0#32
  ![v2978.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x14x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AtReferenceIdeal.lean ====
abbrev S2048x5632 : Shape := ⟨2, ![2048, 5632]⟩
abbrev S8x15x31 : Shape := ⟨3, ![8, 15, 31]⟩
abbrev S32x1x8x1 : Shape := ⟨4, ![32, 1, 8, 1]⟩
abbrev S1x4x1x32 : Shape := ⟨4, ![1, 4, 1, 32]⟩
abbrev S32x1x1x8x1 : Shape := ⟨5, ![32, 1, 1, 8, 1]⟩
abbrev S1x4x16x1x32 : Shape := ⟨5, ![1, 4, 16, 1, 32]⟩
abbrev S4x16x32 : Shape := ⟨3, ![4, 16, 32]⟩
abbrev S4x16x1x32 : Shape := ⟨4, ![4, 16, 1, 32]⟩
abbrev S2048x512 : Shape := ⟨2, ![2048, 512]⟩
abbrev S1x2048x8x64 : Shape := ⟨4, ![1, 2048, 8, 64]⟩
abbrev S_ : Shape := ⟨0, ![]⟩
abbrev S1x32x4x16x8x64 : Shape := ⟨6, ![1, 32, 4, 16, 8, 64]⟩
abbrev S1x8x32x4x16x64 : Shape := ⟨6, ![1, 8, 32, 4, 16, 64]⟩
abbrev S1x32x64x8x64 : Shape := ⟨5, ![1, 32, 64, 8, 64]⟩
abbrev S1x8x32x64x64 : Shape := ⟨5, ![1, 8, 32, 64, 64]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S1x8x32x4x8x32x64 : Shape := ⟨7, ![1, 8, 32, 4, 8, 32, 64]⟩
abbrev S1x8x32x4x16x8x32 : Shape := ⟨7, ![1, 8, 32, 4, 16, 8, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S8x32x4x16x8x32 : Shape := ⟨6, ![8, 32, 4, 16, 8, 32]⟩
abbrev S1x8x32x4x16 : Shape := ⟨5, ![1, 8, 32, 4, 16]⟩
abbrev S1x8x32x4x16x1x1 : Shape := ⟨7, ![1, 8, 32, 4, 16, 1, 1]⟩
abbrev S1x2048x512 : Shape := ⟨3, ![1, 2048, 512]⟩

abbrev nBuf : Space → Nat
  | .hbm => 101
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S8x15x31, .f32⟩
  | .hbm, ⟨2, _⟩ => ⟨S32x1x8x1, .i32⟩
  | .hbm, ⟨3, _⟩ => ⟨S32x1x8x1, .i1⟩
  | .hbm, ⟨4, _⟩ => ⟨S1x4x1x32, .i32⟩
  | .hbm, ⟨5, _⟩ => ⟨S1x4x1x32, .i1⟩
  | .hbm, ⟨6, _⟩ => ⟨S32x1x8x1, .i1⟩
  | .hbm, ⟨7, _⟩ => ⟨S1x4x1x32, .i1⟩
  | .hbm, ⟨8, _⟩ => ⟨S32x1x1x8x1, .i32⟩
  | .hbm, ⟨9, _⟩ => ⟨S32x1x1x8x1, .i1⟩
  | .hbm, ⟨10, _⟩ => ⟨S1x4x16x1x32, .i32⟩
  | .hbm, ⟨11, _⟩ => ⟨S1x4x16x1x32, .i1⟩
  | .hbm, ⟨12, _⟩ => ⟨S4x16x32, .i1⟩
  | .hbm, ⟨13, _⟩ => ⟨S4x16x1x32, .i1⟩
  | .hbm, ⟨14, _⟩ => ⟨S2048x512, .bf16⟩
  | .hbm, ⟨15, _⟩ => ⟨S2048x512, .f32⟩
  | .hbm, ⟨16, _⟩ => ⟨S2048x512, .bf16⟩
  | .hbm, ⟨17, _⟩ => ⟨S2048x512, .f32⟩
  | .hbm, ⟨18, _⟩ => ⟨S2048x512, .bf16⟩
  | .hbm, ⟨19, _⟩ => ⟨S2048x512, .f32⟩
  | .hbm, ⟨20, _⟩ => ⟨S1x2048x8x64, .f32⟩
  | .hbm, ⟨21, _⟩ => ⟨S1x2048x8x64, .f32⟩
  | .hbm, ⟨22, _⟩ => ⟨S1x2048x8x64, .f32⟩
  | .hbm, ⟨23, _⟩ => ⟨S_, .f32⟩
  | .hbm, ⟨24, _⟩ => ⟨S1x2048x8x64, .f32⟩
  | .hbm, ⟨25, _⟩ => ⟨S1x2048x8x64, .f32⟩
  | .hbm, ⟨26, _⟩ => ⟨S1x32x4x16x8x64, .f32⟩
  | .hbm, ⟨27, _⟩ => ⟨S1x8x32x4x16x64, .f32⟩
  | .hbm, ⟨28, _⟩ => ⟨S1x32x64x8x64, .f32⟩
  | .hbm, ⟨29, _⟩ => ⟨S1x8x32x64x64, .f32⟩
  | .hbm, ⟨30, _⟩ => ⟨S1x32x64x8x64, .f32⟩
  | .hbm, ⟨31, _⟩ => ⟨S1x8x32x64x64, .f32⟩
  | .hbm, ⟨32, _⟩ => ⟨S_, .i32⟩
  | .hbm, ⟨33, _⟩ => ⟨S32x1x8x1, .i32⟩
  | .hbm, ⟨34, _⟩ => ⟨S32x1x8x1, .i32⟩
  | .hbm, ⟨35, _⟩ => ⟨S32x1x8x1, .i32⟩
  | .hbm, ⟨36, _⟩ => ⟨S_, .i32⟩
  | .hbm, ⟨37, _⟩ => ⟨S1x4x1x32, .i32⟩
  | .hbm, ⟨38, _⟩ => ⟨S1x4x1x32, .i32⟩
  | .hbm, ⟨39, _⟩ => ⟨S1x4x1x32, .i32⟩
  | .hbm, ⟨40, _⟩ => ⟨S32x4x8x32, .i32⟩
  | .hbm, ⟨41, _⟩ => ⟨S32x4x8x32, .i32⟩
  | .hbm, ⟨42, _⟩ => ⟨S32x4x8x32x1, .i32⟩
  | .hbm, ⟨43, _⟩ => ⟨S32x4x8x32x1, .i32⟩
  | .hbm, ⟨44, _⟩ => ⟨S32x4x8x32x2, .i32⟩
  | .hbm, ⟨45, _⟩ => ⟨S1x8x32x4x8x32x64, .f32⟩
  | .hbm, ⟨46, _⟩ => ⟨S_, .i32⟩
  | .hbm, ⟨47, _⟩ => ⟨S32x1x8x1, .i32⟩
  | .hbm, ⟨48, _⟩ => ⟨S32x1x8x1, .i32⟩
  | .hbm, ⟨49, _⟩ => ⟨S32x1x8x1, .i32⟩
  | .hbm, ⟨50, _⟩ => ⟨S_, .i32⟩
  | .hbm, ⟨51, _⟩ => ⟨S1x4x1x32, .i32⟩
  | .hbm, ⟨52, _⟩ => ⟨S1x4x1x32, .i32⟩
  | .hbm, ⟨53, _⟩ => ⟨S1x4x1x32, .i32⟩
  | .hbm, ⟨54, _⟩ => ⟨S32x4x8x32, .i32⟩
  | .hbm, ⟨55, _⟩ => ⟨S32x4x8x32, .i32⟩
  | .hbm, ⟨56, _⟩ => ⟨S32x4x8x32x1, .i32⟩
  | .hbm, ⟨57, _⟩ => ⟨S32x4x8x32x1, .i32⟩
  | .hbm, ⟨58, _⟩ => ⟨S32x4x8x32x2, .i32⟩
  | .hbm, ⟨59, _⟩ => ⟨S1x8x32x4x8x32x64, .f32⟩
  | .hbm, ⟨60, _⟩ => ⟨S1x8x32x4x16x8x32, .f32⟩
  | .hbm, ⟨61, _⟩ => ⟨S_, .i32⟩
  | .hbm, ⟨62, _⟩ => ⟨S32x1x1x8x1, .i32⟩
  | .hbm, ⟨63, _⟩ => ⟨S32x1x1x8x1, .i32⟩
  | .hbm, ⟨64, _⟩ => ⟨S32x1x1x8x1, .i32⟩
  | .hbm, ⟨65, _⟩ => ⟨S_, .i32⟩
  | .hbm, ⟨66, _⟩ => ⟨S1x4x16x1x32, .i32⟩
  | .hbm, ⟨67, _⟩ => ⟨S1x4x16x1x32, .i32⟩
  | .hbm, ⟨68, _⟩ => ⟨S1x4x16x1x32, .i32⟩
  | .hbm, ⟨69, _⟩ => ⟨S32x4x16x8x32, .i32⟩
  | .hbm, ⟨70, _⟩ => ⟨S32x4x16x8x32, .i32⟩
  | .hbm, ⟨71, _⟩ => ⟨S32x4x16x8x32x1, .i32⟩
  | .hbm, ⟨72, _⟩ => ⟨S32x4x16x8x32x1, .i32⟩
  | .hbm, ⟨73, _⟩ => ⟨S32x4x16x8x32x2, .i32⟩
  | .hbm, ⟨74, _⟩ => ⟨S8x32x4x16x8x32, .f32⟩
  | .hbm, ⟨75, _⟩ => ⟨S1x8x32x4x16x8x32, .f32⟩
  | .hbm, ⟨76, _⟩ => ⟨S1x8x32x4x16x8x32, .f32⟩
  | .hbm, ⟨77, _⟩ => ⟨S_, .f32⟩
  | .hbm, ⟨78, _⟩ => ⟨S_, .f32⟩
  | .hbm, ⟨79, _⟩ => ⟨S1x8x32x4x16x8x32, .i1⟩
  | .hbm, ⟨80, _⟩ => ⟨S1x8x32x4x16x8x32, .f32⟩
  | .hbm, ⟨81, _⟩ => ⟨S1x8x32x4x16x8x32, .f32⟩
  | .hbm, ⟨82, _⟩ => ⟨S_, .f32⟩
  | .hbm, ⟨83, _⟩ => ⟨S1x8x32x4x16, .f32⟩
  | .hbm, ⟨84, _⟩ => ⟨S_, .f32⟩
  | .hbm, ⟨85, _⟩ => ⟨S1x8x32x4x16, .f32⟩
  | .hbm, ⟨86, _⟩ => ⟨S1x8x32x4x16, .f32⟩
  | .hbm, ⟨87, _⟩ => ⟨S1x8x32x4x16x1x1, .f32⟩
  | .hbm, ⟨88, _⟩ => ⟨S1x8x32x4x16x8x32, .f32⟩
  | .hbm, ⟨89, _⟩ => ⟨S1x8x32x4x16x8x32, .f32⟩
  | .hbm, ⟨90, _⟩ => ⟨S1x8x32x4x16x8x32, .f32⟩
  | .hbm, ⟨91, _⟩ => ⟨S_, .f32⟩
  | .hbm, ⟨92, _⟩ => ⟨S1x8x32x4x16, .f32⟩
  | .hbm, ⟨93, _⟩ => ⟨S1x8x32x4x16x1x1, .f32⟩
  | .hbm, ⟨94, _⟩ => ⟨S1x8x32x4x16x8x32, .f32⟩
  | .hbm, ⟨95, _⟩ => ⟨S1x8x32x4x16x8x32, .f32⟩
  | .hbm, ⟨96, _⟩ => ⟨S1x8x32x4x16x64, .f32⟩
  | .hbm, ⟨97, _⟩ => ⟨S1x32x4x16x8x64, .f32⟩
  | .hbm, ⟨98, _⟩ => ⟨S1x2048x512, .f32⟩
  | .hbm, ⟨99, _⟩ => ⟨S2048x512, .f32⟩
  | .hbm, ⟨100, _⟩ => ⟨S2048x512, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_10 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_11 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_12 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_13 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_16 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== AbKernel.lean ====
abbrev S2048x5632 : Shape := ⟨2, ![2048, 5632]⟩
abbrev S8x15x31 : Shape := ⟨3, ![8, 15, 31]⟩
abbrev S2048x512 : Shape := ⟨2, ![2048, 512]⟩
abbrev S32x8 : Shape := ⟨2, ![32, 8]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S32x8x1 : Shape := ⟨3, ![32, 8, 1]⟩
abbrev S8x32x8x64x64 : Shape := ⟨5, ![8, 32, 8, 64, 64]⟩
abbrev S32x64x8x64 : Shape := ⟨4, ![32, 64, 8, 64]⟩
abbrev S32x8x64x8x64 : Shape := ⟨5, ![32, 8, 64, 8, 64]⟩
abbrev S8x32x64x8x64 : Shape := ⟨5, ![8, 32, 64, 8, 64]⟩
abbrev S8x32x64 : Shape := ⟨3, ![8, 32, 64]⟩
abbrev S8x32x64x1x1 : Shape := ⟨5, ![8, 32, 64, 1, 1]⟩
abbrev S32x64x8x8x64 : Shape := ⟨5, ![32, 64, 8, 8, 64]⟩
abbrev S2048x4096 : Shape := ⟨2, ![2048, 4096]⟩
abbrev S128x128 : Shape := ⟨2, ![128, 128]⟩
abbrev S4x32x128 : Shape := ⟨3, ![4, 32, 128]⟩
abbrev S2048x128 : Shape := ⟨2, ![2048, 128]⟩
abbrev S2048x1024 : Shape := ⟨2, ![2048, 1024]⟩
abbrev S1x32x128 : Shape := ⟨3, ![1, 32, 128]⟩
abbrev S2x2048x64 : Shape := ⟨3, ![2, 2048, 64]⟩
abbrev S2x14x64x128 : Shape := ⟨4, ![2, 14, 64, 128]⟩
abbrev S3 : Shape := ⟨1, ![3]⟩
abbrev S2048x64 : Shape := ⟨2, ![2048, 64]⟩
abbrev S1x2048x64 : Shape := ⟨3, ![1, 2048, 64]⟩
abbrev S1x64x64 : Shape := ⟨3, ![1, 64, 64]⟩
abbrev S1x512x64 : Shape := ⟨3, ![1, 512, 64]⟩
abbrev S512x64 : Shape := ⟨2, ![512, 64]⟩
abbrev S64x512 : Shape := ⟨2, ![64, 512]⟩
abbrev S1x1x64x128 : Shape := ⟨4, ![1, 1, 64, 128]⟩
abbrev S64x128 : Shape := ⟨2, ![64, 128]⟩
abbrev S1 : Shape := ⟨1, ![1]⟩
abbrev S128 : Shape := ⟨1, ![128]⟩
abbrev S1x128 : Shape := ⟨2, ![1, 128]⟩
abbrev S4x128 : Shape := ⟨2, ![4, 128]⟩
abbrev S32x128 : Shape := ⟨2, ![32, 128]⟩

abbrev nBuf : Space → Nat
  | .hbm => 116
  | .vmem => 23
  | .smem => 0
  | _ => 0

abbrev bufTy : (tb : Table) → Fin (tcTables nBuf tb) → BufTy
  | .hbm, ⟨0, _⟩ => ⟨S2048x5632, .bf16⟩
  | .hbm, ⟨1, _⟩ => ⟨S8x15x31, .f32⟩
  | .hbm, ⟨2, _⟩ => ⟨S2048x512, .bf16⟩
  | .hbm, ⟨3, _⟩ => ⟨S2048x5632, .bf16⟩
  | .hbm, ⟨4, _⟩ => ⟨S32x8, .i32⟩
  | .hbm, ⟨5, _⟩ => ⟨S32x8, .i1⟩
  | .hbm, ⟨6, _⟩ => ⟨S32x8, .i32⟩
  | .hbm, ⟨7, _⟩ => ⟨S32x8, .i1⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S1x64, .i32⟩
  | .hbm, ⟨21, _⟩ => ⟨S64x1, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S1x64, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .i1⟩
  | .hbm, ⟨34, _⟩ => ⟨S1x64, .i32⟩
  | .hbm, ⟨35, _⟩ => ⟨S64x1, .i32⟩
  | .hbm, ⟨36, _⟩ => ⟨S64x64, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i1⟩
  | .hbm, ⟨56, _⟩ => ⟨S_, .i32⟩
  | .hbm, ⟨57, _⟩ => ⟨S64x64, .i32⟩
  | .hbm, ⟨58, _⟩ => ⟨S64x64, .i32⟩
  | .hbm, ⟨59, _⟩ => ⟨S64x64, .i32⟩
  | .hbm, ⟨60, _⟩ => ⟨S64x64x1, .i32⟩
  | .hbm, ⟨61, _⟩ => ⟨S8x15x64x64, .f32⟩
  | .hbm, ⟨62, _⟩ => ⟨S_, .f32⟩
  | .hbm, ⟨63, _⟩ => ⟨S_, .f32⟩
  | .hbm, ⟨64, _⟩ => ⟨S8x15x64x64, .i1⟩
  | .hbm, ⟨65, _⟩ => ⟨S8x15x64x64, .f32⟩
  | .hbm, ⟨66, _⟩ => ⟨S8x15x64x64, .f32⟩
  | .hbm, ⟨67, _⟩ => ⟨S_, .i32⟩
  | .hbm, ⟨68, _⟩ => ⟨S32x8, .i32⟩
  | .hbm, ⟨69, _⟩ => ⟨S32x8, .i32⟩
  | .hbm, ⟨70, _⟩ => ⟨S32x8, .i32⟩
  | .hbm, ⟨71, _⟩ => ⟨S32x8x1, .i32⟩
  | .hbm, ⟨72, _⟩ => ⟨S8x32x8x64x64, .f32⟩
  | .hbm, ⟨73, _⟩ => ⟨S2048x512, .bf16⟩
  | .hbm, ⟨74, _⟩ => ⟨S_, .bf16⟩
  | .hbm, ⟨75, _⟩ => ⟨S2048x512, .bf16⟩
  | .hbm, ⟨76, _⟩ => ⟨S2048x512, .bf16⟩
  | .hbm, ⟨77, _⟩ => ⟨S32x64x8x64, .bf16⟩
  | .hbm, ⟨78, _⟩ => ⟨S2048x512, .bf16⟩
  | .hbm, ⟨79, _⟩ => ⟨S32x64x8x64, .bf16⟩
  | .hbm, ⟨80, _⟩ => ⟨S_, .i32⟩
  | .hbm, ⟨81, _⟩ => ⟨S32x8, .i32⟩
  | .hbm, ⟨82, _⟩ => ⟨S32x8, .i32⟩
  | .hbm, ⟨83, _⟩ => ⟨S32x8, .i32⟩
  | .hbm, ⟨84, _⟩ => ⟨S32x8x1, .i32⟩
  | .hbm, ⟨85, _⟩ => ⟨S32x8x64x8x64, .bf16⟩
  | .hbm, ⟨86, _⟩ => ⟨S8x32x64x8x64, .f32⟩
  | .hbm, ⟨87, _⟩ => ⟨S8x32x64x8x64, .f32⟩
  | .hbm, ⟨88, _⟩ => ⟨S8x32x64x8x64, .f32⟩
  | .hbm, ⟨89, _⟩ => ⟨S_, .f32⟩
  | .hbm, ⟨90, _⟩ => ⟨S8x32x64, .f32⟩
  | .hbm, ⟨91, _⟩ => ⟨S8x32x64x1x1, .f32⟩
  | .hbm, ⟨92, _⟩ => ⟨S8x32x64x8x64, .f32⟩
  | .hbm, ⟨93, _⟩ => ⟨S8x32x64x8x64, .f32⟩
  | .hbm, ⟨94, _⟩ => ⟨S8x32x64x8x64, .f32⟩
  | .hbm, ⟨95, _⟩ => ⟨S_, .f32⟩
  | .hbm, ⟨96, _⟩ => ⟨S8x32x64, .f32⟩
  | .hbm, ⟨97, _⟩ => ⟨S8x32x64x1x1, .f32⟩
  | .hbm, ⟨98, _⟩ => ⟨S_, .f32⟩
  | .hbm, ⟨99, _⟩ => ⟨S8x32x64x1x1, .f32⟩
  | .hbm, ⟨100, _⟩ => ⟨S8x32x64x1x1, .f32⟩
  | .hbm, ⟨101, _⟩ => ⟨S8x32x64x8x64, .f32⟩
  | .hbm, ⟨102, _⟩ => ⟨S8x32x64x8x64, .f32⟩
  | .hbm, ⟨103, _⟩ => ⟨S8x32x64x8x64, .bf16⟩
  | .hbm, ⟨104, _⟩ => ⟨S32x64x8x8x64, .bf16⟩
  | .hbm, ⟨105, _⟩ => ⟨S2048x4096, .bf16⟩
  | .hbm, ⟨106, _⟩ => ⟨S128x128, .i32⟩
  | .hbm, ⟨107, _⟩ => ⟨S128x128, .i32⟩
  | .hbm, ⟨108, _⟩ => ⟨S128x128, .i32⟩
  | .hbm, ⟨109, _⟩ => ⟨S_, .i32⟩
  | .hbm, ⟨110, _⟩ => ⟨S128x128, .i32⟩
  | .hbm, ⟨111, _⟩ => ⟨S128x128, .i1⟩
  | .hbm, ⟨112, _⟩ => ⟨S128x128, .f32⟩
  | .hbm, ⟨113, _⟩ => ⟨S128x128, .bf16⟩
  | .hbm, ⟨114, _⟩ => ⟨S2048x5632, .bf16⟩
  | .hbm, ⟨115, _⟩ => ⟨S4x32x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .bf16⟩
  | .local _ .vmem, ⟨9, _⟩ => ⟨S2048x128, .bf16⟩
  | .local _ .vmem, ⟨10, _⟩ => ⟨S128x128, .bf16⟩
  | .local _ .vmem, ⟨11, _⟩ => ⟨S1x32x128, .f32⟩
  | .local _ .vmem, ⟨12, _⟩ => ⟨S1x32x128, .f32⟩
  | .local _ .vmem, ⟨13, _⟩ => ⟨S2x2048x64, .bf16⟩
  | .local _ .vmem, ⟨14, _⟩ => ⟨S2x2048x64, .bf16⟩
  | .local _ .vmem, ⟨15, _⟩ => ⟨S2x2048x64, .bf16⟩
  | .local _ .vmem, ⟨16, _⟩ => ⟨S2x2048x64, .bf16⟩
  | .local _ .vmem, ⟨17, _⟩ => ⟨S2x2048x64, .f32⟩
  | .local _ .vmem, ⟨18, _⟩ => ⟨S2x2048x64, .f32⟩
  | .local _ .vmem, ⟨19, _⟩ => ⟨S2x14x64x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_c_3 : Ref sig .tc := ⟨.hbm, 9, rfl⟩
abbrev main_v1 : Ref sig .tc := ⟨.hbm, 10, rfl⟩
abbrev main_v2 : Ref sig .tc := ⟨.hbm, 11, rfl⟩
abbrev main_c_4 : Ref sig .tc := ⟨.hbm, 12, rfl⟩
abbrev main_c_5 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_6 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_c_8 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v22 : Ref sig .tc := ⟨.hbm, 46, rfl⟩
abbrev main_c_9 : Ref sig .tc := ⟨.hbm, 47, rfl⟩
abbrev main_v23 : Ref sig .tc := ⟨.hbm, 48, rfl⟩
abbrev main_v24 : Ref sig .tc := ⟨.hbm, 49, rfl⟩
abbrev main_c_10 : Ref sig .tc := ⟨.hbm, 50, rfl⟩
abbrev main_v25 : Ref sig .tc := ⟨.hbm, 51, rfl⟩
abbrev main_v26 : Ref sig .tc := ⟨.hbm, 52, rfl⟩
abbrev main_c_11 : Ref sig .tc := ⟨.hbm, 53, rfl⟩
abbrev main_v27 : Ref sig .tc := ⟨.hbm, 54, rfl⟩
abbrev main_v28 : Ref sig .tc := ⟨.hbm, 55, rfl⟩
abbrev main_c_12 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v34 : Ref sig .tc := ⟨.hbm, 66, rfl⟩
abbrev main_c_13 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_14 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_15 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_16 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_cst_18 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_19 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75_0 : Ref sig .tc := ⟨.hbm, 114, rfl⟩
abbrev main_v75_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c128_i32 : BitVec 32 := 128#32
  let v4322 : BitVec 32 := Scalar.muli arg0 c128_i32
  v4322
def k0_off1 (i : grid0.Coords) (c0_i32 : BitVec 32) : Fin 2 → Nat :=
  let c0_i32_4186 : BitVec 32 := 0#32
  let arg0 : BitVec 32 := BitVec.ofNat 32 (i 0).val
  let c128_i32 : BitVec 32 := 128#32
  let v4322 : BitVec 32 := Scalar.muli arg0 c128_i32
  let v4323 : BitVec 32 := v4322
  let v4324 : BitVec 32 := Scalar.addi c0_i32 v4323
  ![0, v4324.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AbReferenceIdeal.lean ====
abbrev S2048x5632 : Shape := ⟨2, ![2048, 5632]⟩
abbrev S8x15x31 : Shape := ⟨3, ![8, 15, 31]⟩
abbrev S2048x512 : Shape := ⟨2, ![2048, 512]⟩
abbrev S32x1x8x1 : Shape := ⟨4, ![32, 1, 8, 1]⟩
abbrev S1x4x1x32 : Shape := ⟨4, ![1, 4, 1, 32]⟩
abbrev S32x1x1x8x1 : Shape := ⟨5, ![32, 1, 1, 8, 1]⟩
abbrev S1x4x16x1x32 : Shape := ⟨5, ![1, 4, 16, 1, 32]⟩
abbrev S4x16x32 : Shape := ⟨3, ![4, 16, 32]⟩
abbrev S4x16x1x32 : Shape := ⟨4, ![4, 16, 1, 32]⟩
abbrev S1x2048x8x64 : Shape := ⟨4, ![1, 2048, 8, 64]⟩
abbrev S_ : Shape := ⟨0, ![]⟩
abbrev S1x32x4x16x8x64 : Shape := ⟨6, ![1, 32, 4, 16, 8, 64]⟩
abbrev S1x8x32x4x16x64 : Shape := ⟨6, ![1, 8, 32, 4, 16, 64]⟩
abbrev S1x32x64x8x64 : Shape := ⟨5, ![1, 32, 64, 8, 64]⟩
abbrev S1x8x32x64x64 : Shape := ⟨5, ![1, 8, 32, 64, 64]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S1x8x32x4x8x32x64 : Shape := ⟨7, ![1, 8, 32, 4, 8, 32, 64]⟩
abbrev S1x8x32x4x16x8x32 : Shape := ⟨7, ![1, 8, 32, 4, 16, 8, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S8x32x4x16x8x32 : Shape := ⟨6, ![8, 32, 4, 16, 8, 32]⟩
abbrev S1x8x32x4x16 : Shape := ⟨5, ![1, 8, 32, 4, 16]⟩
abbrev S1x8x32x4x16x1x1 : Shape := ⟨7, ![1, 8, 32, 4, 16, 1, 1]⟩
abbrev S1x2048x512 : Shape := ⟨3, ![1, 2048, 512]⟩
abbrev S1x8x32x4x64x8x32 : Shape := ⟨7, ![1, 8, 32, 4, 64, 8, 32]⟩
abbrev S8x32x4x16 : Shape := ⟨4, ![8, 32, 4, 16]⟩
abbrev S2048x4096 : Shape := ⟨2, ![2048, 4096]⟩

abbrev nBuf : Space → Nat
  | .hbm => 183
  | .vmem => 0
  | .smem => 0
  | _ => 0

abbrev hbmTy0_0 (i : Nat) : BufTy := match i % 128 with
  | 0 => ⟨S2048x5632, .bf16⟩
  | 1 => ⟨S8x15x31, .f32⟩
  | 2 => ⟨S2048x512, .bf16⟩
  | 3 => ⟨S2048x5632, .bf16⟩
  | 4 => ⟨S32x1x8x1, .i32⟩
  | 5 => ⟨S32x1x8x1, .i1⟩
  | 6 => ⟨S1x4x1x32, .i32⟩
  | 7 => ⟨S1x4x1x32, .i1⟩
  | 8 => ⟨S32x1x8x1, .i1⟩
  | 9 => ⟨S1x4x1x32, .i1⟩
  | 10 => ⟨S32x1x1x8x1, .i32⟩
  | 11 => ⟨S32x1x1x8x1, .i1⟩
  | 12 => ⟨S1x4x16x1x32, .i32⟩
  | 13 => ⟨S1x4x16x1x32, .i1⟩
  | 14 => ⟨S4x16x32, .i1⟩
  | 15 => ⟨S4x16x1x32, .i1⟩
  | 16 => ⟨S2048x512, .bf16⟩
  | 17 => ⟨S2048x512, .f32⟩
  | 18 => ⟨S2048x512, .bf16⟩
  | 19 => ⟨S2048x512, .f32⟩
  | 20 => ⟨S2048x512, .bf16⟩
  | 21 => ⟨S2048x512, .f32⟩
  | 22 => ⟨S1x2048x8x64, .f32⟩
  | 23 => ⟨S1x2048x8x64, .f32⟩
  | 24 => ⟨S1x2048x8x64, .f32⟩
  | 25 => ⟨S_, .f32⟩
  | 26 => ⟨S1x2048x8x64, .f32⟩
  | 27 => ⟨S1x2048x8x64, .f32⟩
  | 28 => ⟨S1x32x4x16x8x64, .f32⟩
  | 29 => ⟨S1x8x32x4x16x64, .f32⟩
  | 30 => ⟨S1x32x64x8x64, .f32⟩
  | 31 => ⟨S1x8x32x64x64, .f32⟩
  | 32 => ⟨S1x32x64x8x64, .f32⟩
  | 33 => ⟨S1x8x32x64x64, .f32⟩
  | 34 => ⟨S_, .i32⟩
  | 35 => ⟨S32x1x8x1, .i32⟩
  | 36 => ⟨S32x1x8x1, .i32⟩
  | 37 => ⟨S32x1x8x1, .i32⟩
  | 38 => ⟨S_, .i32⟩
  | 39 => ⟨S1x4x1x32, .i32⟩
  | 40 => ⟨S1x4x1x32, .i32⟩
  | 41 => ⟨S1x4x1x32, .i32⟩
  | 42 => ⟨S32x4x8x32, .i32⟩
  | 43 => ⟨S32x4x8x32, .i32⟩
  | 44 => ⟨S32x4x8x32x1, .i32⟩
  | 45 => ⟨S32x4x8x32x1, .i32⟩
  | 46 => ⟨S32x4x8x32x2, .i32⟩
  | 47 => ⟨S1x8x32x4x8x32x64, .f32⟩
  | 48 => ⟨S_, .i32⟩
  | 49 => ⟨S32x1x8x1, .i32⟩
  | 50 => ⟨S32x1x8x1, .i32⟩
  | 51 => ⟨S32x1x8x1, .i32⟩
  | 52 => ⟨S_, .i32⟩
  | 53 => ⟨S1x4x1x32, .i32⟩
  | 54 => ⟨S1x4x1x32, .i32⟩
  | 55 => ⟨S1x4x1x32, .i32⟩
  | 56 => ⟨S32x4x8x32, .i32⟩
  | 57 => ⟨S32x4x8x32, .i32⟩
  | 58 => ⟨S32x4x8x32x1, .i32⟩
  | 59 => ⟨S32x4x8x32x1, .i32⟩
  | 60 => ⟨S32x4x8x32x2, .i32⟩
  | 61 => ⟨S1x8x32x4x8x32x64, .f32⟩
  | 62 => ⟨S1x8x32x4x16x8x32, .f32⟩
  | 63 => ⟨S_, .i32⟩
  | 64 => ⟨S32x1x1x8x1, .i32⟩
  | 65 => ⟨S32x1x1x8x1, .i32⟩
  | 66 => ⟨S32x1x1x8x1, .i32⟩
  | 67 => ⟨S_, .i32⟩
  | 68 => ⟨S1x4x16x1x32, .i32⟩
  | 69 => ⟨S1x4x16x1x32, .i32⟩
  | 70 => ⟨S1x4x16x1x32, .i32⟩
  | 71 => ⟨S32x4x16x8x32, .i32⟩
  | 72 => ⟨S32x4x16x8x32, .i32⟩
  | 73 => ⟨S32x4x16x8x32x1, .i32⟩
  | 74 => ⟨S32x4x16x8x32x1, .i32⟩
  | 75 => ⟨S32x4x16x8x32x2, .i32⟩
  | 76 => ⟨S8x32x4x16x8x32, .f32⟩
  | 77 => ⟨S1x8x32x4x16x8x32, .f32⟩
  | 78 => ⟨S1x8x32x4x16x8x32, .f32⟩
  | 79 => ⟨S_, .f32⟩
  | 80 => ⟨S_, .f32⟩
  | 81 => ⟨S1x8x32x4x16x8x32, .i1⟩
  | 82 => ⟨S1x8x32x4x16x8x32, .f32⟩
  | 83 => ⟨S1x8x32x4x16x8x32, .f32⟩
  | 84 => ⟨S_, .f32⟩
  | 85 => ⟨S1x8x32x4x16x8x32, .f32⟩
  | 86 => ⟨S_, .f32⟩
  | 87 => ⟨S1x8x32x4x16, .f32⟩
  | 88 => ⟨S1x8x32x4x16x1x1, .f32⟩
  | 89 => ⟨S1x8x32x4x16x8x32, .f32⟩
  | 90 => ⟨S1x8x32x4x16x8x32, .i1⟩
  | 91 => ⟨S1x8x32x4x16x8x32, .f32⟩
  | 92 => ⟨S_, .f32⟩
  | 93 => ⟨S1x8x32x4x16, .f32⟩
  | 94 => ⟨S_, .f32⟩
  | 95 => ⟨S1x8x32x4x16, .f32⟩
  | 96 => ⟨S1x8x32x4x16, .f32⟩
  | 97 => ⟨S_, .f32⟩
  | 98 => ⟨S1x8x32x4x16, .f32⟩
  | 99 => ⟨S1x8x32x4x16, .i1⟩
  | 100 => ⟨S_, .f32⟩
  | 101 => ⟨S1x8x32x4x16, .f32⟩
  | 102 => ⟨S1x8x32x4x16, .i1⟩
  | 103 => ⟨S_, .f32⟩
  | 104 => ⟨S1x8x32x4x16, .f32⟩
  | 105 => ⟨S_, .f32⟩
  | 106 => ⟨S1x8x32x4x16, .f32⟩
  | 107 => ⟨S_, .f32⟩
  | 108 => ⟨S1x8x32x4x16, .f32⟩
  | 109 => ⟨S1x8x32x4x16, .f32⟩
  | 110 => ⟨S1x8x32x4x16, .f32⟩
  | 111 => ⟨S1x8x32x4x16x1x1, .f32⟩
  | 112 => ⟨S1x8x32x4x16x8x32, .f32⟩
  | 113 => ⟨S1x8x32x4x16x8x32, .f32⟩
  | 114 => ⟨S1x8x32x4x16x8x32, .f32⟩
  | 115 => ⟨S_, .f32⟩
  | 116 => ⟨S1x8x32x4x16, .f32⟩
  | 117 => ⟨S1x8x32x4x16x1x1, .f32⟩
  | 118 => ⟨S1x8x32x4x16x8x32, .f32⟩
  | 119 => ⟨S1x8x32x4x16x8x32, .f32⟩
  | 120 => ⟨S1x8x32x4x16x1x1, .f32⟩
  | 121 => ⟨S_, .f32⟩
  | 122 => ⟨S1x8x32x4x16x1x1, .f32⟩
  | 123 => ⟨S1x8x32x4x16x1x1, .f32⟩
  | 124 => ⟨S1x8x32x4x16x64, .f32⟩
  | 125 => ⟨S1x32x4x16x8x64, .f32⟩
  | 126 => ⟨S1x2048x512, .f32⟩
  | 127 => ⟨S2048x512, .f32⟩
  | _ => ⟨S2048x5632, .bf16⟩

abbrev hbmTy0_1 (i : Nat) : BufTy := match i % 128 with
  | 0 => ⟨S2048x512, .f32⟩
  | 1 => ⟨S1x2048x512, .f32⟩
  | 2 => ⟨S1x32x4x16x8x64, .f32⟩
  | 3 => ⟨S1x8x32x4x16x64, .f32⟩
  | 4 => ⟨S1x8x32x4x64x8x32, .f32⟩
  | 5 => ⟨S1x8x32x4x8x32x64, .f32⟩
  | 6 => ⟨S1x8x32x4x16x8x32, .f32⟩
  | 7 => ⟨S1x8x32x4x16x8x32, .f32⟩
  | 8 => ⟨S1x8x32x4x16x8x32, .f32⟩
  | 9 => ⟨S1x8x32x4x16x8x32, .f32⟩
  | 10 => ⟨S_, .f32⟩
  | 11 => ⟨S1x8x32x4x16, .f32⟩
  | 12 => ⟨S1x8x32x4x16x1x1, .f32⟩
  | 13 => ⟨S1x8x32x4x16x1x1, .f32⟩
  | 14 => ⟨S1x8x32x4x16x8x32, .f32⟩
  | 15 => ⟨S1x8x32x4x16x8x32, .f32⟩
  | 16 => ⟨S_, .f32⟩
  | 17 => ⟨S8x32x4x16, .f32⟩
  | 18 => ⟨S1x8x32x4x16, .f32⟩
  | 19 => ⟨S1x8x32x4x16x8x32, .f32⟩
  | 20 => ⟨S1x8x32x4x16x8x32, .f32⟩
  | 21 => ⟨S1x8x32x4x16x8x32, .f32⟩
  | 22 => ⟨S_, .f32⟩
  | 23 => ⟨S1x8x32x4x16x8x32, .f32⟩
  | 24 => ⟨S1x8x32x4x16x8x32, .f32⟩
  | 25 => ⟨S_, .f32⟩
  | 26 => ⟨S8x32x4x16x8x32, .f32⟩
  | 27 => ⟨S_, .f32⟩
  | 28 => ⟨S8x15x31, .f32⟩
  | 29 => ⟨S8x15x31, .f32⟩
  | 30 => ⟨S1x8x32x4x8x32x64, .f32⟩
  | 31 => ⟨S1x8x32x4x16x64, .f32⟩
  | 32 => ⟨S_, .f32⟩
  | 33 => ⟨S1x8x32x64x64, .f32⟩
  | 34 => ⟨S1x8x32x64x64, .f32⟩
  | 35 => ⟨S_, .f32⟩
  | 36 => ⟨S1x8x32x64x64, .f32⟩
  | 37 => ⟨S1x8x32x64x64, .f32⟩
  | 38 => ⟨S1x32x64x8x64, .f32⟩
  | 39 => ⟨S1x2048x8x64, .f32⟩
  | 40 => ⟨S1x32x64x8x64, .f32⟩
  | 41 => ⟨S1x2048x8x64, .f32⟩
  | 42 => ⟨S1x32x4x16x8x64, .f32⟩
  | 43 => ⟨S1x2048x8x64, .f32⟩
  | 44 => ⟨S_, .f32⟩
  | 45 => ⟨S1x2048x8x64, .f32⟩
  | 46 => ⟨S1x2048x8x64, .f32⟩
  | 47 => ⟨S2048x512, .f32⟩
  | 48 => ⟨S2048x512, .f32⟩
  | 49 => ⟨S2048x512, .f32⟩
  | 50 => ⟨S2048x512, .bf16⟩
  | 51 => ⟨S2048x512, .bf16⟩
  | 52 => ⟨S2048x512, .bf16⟩
  | 53 => ⟨S2048x4096, .bf16⟩
  | 54 => ⟨S2048x5632, .bf16⟩
  | _ => ⟨S2048x5632, .bf16⟩

abbrev hbmTy (i : Nat) : BufTy := match i / 128 with
  | 0 => hbmTy0_0 i
  | 1 => hbmTy0_1 i
  | _ => ⟨S2048x5632, .bf16⟩

abbrev bufTy : (tb : Table) → Fin (tcTables nBuf tb) → BufTy
  | .hbm, ⟨i, _⟩ => hbmTy i
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_10 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_11 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_12 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_13 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_15 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_call0_v0 : Ref sig .tc := ⟨.hbm, 80, rfl⟩
abbrev main_v57_1 : Ref sig .tc := ⟨.hbm, 81, rfl⟩
abbrev main_call0_v2 : Ref sig .tc := ⟨.hbm, 82, rfl⟩
abbrev main_v57_0 : Ref sig .tc := ⟨.hbm, 83, rfl⟩
abbrev main_call0_cst : Ref sig .tc := ⟨.hbm, 84, rfl⟩
abbrev main_v57_2 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_18 : Ref sig .tc := ⟨.hbm, 92, rfl⟩
abbrev main_v63 : Ref sig .tc := ⟨.hbm, 93, rfl⟩
abbrev main_cst_19 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_cst_21 : Ref sig .tc := ⟨.hbm, 100, rfl⟩
abbrev main_v68 : Ref sig .tc := ⟨.hbm, 101, rfl⟩
abbrev main_v69 : Ref sig .tc := ⟨.hbm, 102, rfl⟩
abbrev main_cst_22 : Ref sig .tc := ⟨.hbm, 103, rfl⟩
abbrev main_v70 : Ref sig .tc := ⟨.hbm, 104, rfl⟩
abbrev main_cst_23 : Ref sig .tc := ⟨.hbm, 105, rfl⟩
abbrev main_v71 : Ref sig .tc := ⟨.hbm, 106, rfl⟩
abbrev main_cst_24 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_25 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_26 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_27 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_28 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call1_cst : Ref sig .tc := ⟨.hbm, 150, rfl⟩
abbrev main_call1_v0 : Ref sig .tc := ⟨.hbm, 151, rfl⟩
abbrev main_v110 : Ref sig .tc := ⟨.hbm, 152, rfl⟩
abbrev main_cst_29 : Ref sig .tc := ⟨.hbm, 153, rfl⟩
abbrev main_v111 : Ref sig .tc := ⟨.hbm, 154, rfl⟩
abbrev main_cst_30 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_31 : Ref sig .tc := ⟨.hbm, 160, rfl⟩
abbrev main_v116 : Ref sig .tc := ⟨.hbm, 161, rfl⟩
abbrev main_v117 : Ref sig .tc := ⟨.hbm, 162, rfl⟩
abbrev main_cst_32 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_33 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩

abbrev nD : Nat := 1
abbrev τ : Topo := Topo.v7x

variable {F : FTy → Type} [FloatOps F]
-- ==== N2Kernel.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S2048x1024, .f32⟩
  | .hbm, ⟨9, _⟩ => ⟨S2048x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_29 : BitVec 32 := 0#32
  let v50 : BitVec 1 := Scalar.cmpi .ne v49 c0_i32_29
  v50

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v51 : BitVec 1 := Scalar.xori v0 v_true
  let v52 : BitVec 32 := Scalar.extui v51
  let c0_i32_30 : BitVec 32 := 0#32
  let v53 : BitVec 1 := Scalar.cmpi .ne v52 c0_i32_30
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== N2ReferenceIdeal.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x4096, .f32⟩
  | .hbm, ⟨27, _⟩ => ⟨S2048x4096, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | .hbm, ⟨56, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== N1Kernel.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S1024x1408 : Shape := ⟨2, ![1024, 1408]⟩
abbrev S1x1024x1408 : Shape := ⟨3, ![1, 1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2048x1024, .f32⟩
  | .hbm, ⟨9, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_27 : BitVec 32 := 0#32
  let v48 : BitVec 1 := Scalar.cmpi .ne v47 c0_i32_27
  v48

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v49 : BitVec 1 := Scalar.xori v0 v_true
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== N1ReferenceIdeal.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x5632, .f32⟩
  | .hbm, ⟨27, _⟩ => ⟨S2048x5632, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== LoKernel.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 10
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S4096x1024, .bf16⟩
  | .hbm, ⟨6, _⟩ => ⟨S1x1, .f32⟩
  | .hbm, ⟨7, _⟩ => ⟨S2048x1024, .f32⟩
  | .hbm, ⟨8, _⟩ => ⟨S2048x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v61 : BitVec 32 := Scalar.extui v0
  let c0_i32_32 : BitVec 32 := 0#32
  let v62 : BitVec 1 := Scalar.cmpi .ne v61 c0_i32_32
  v62

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v63 : BitVec 1 := Scalar.xori v0 v_true
  let v64 : BitVec 32 := Scalar.extui v63
  let c0_i32_33 : BitVec 32 := 0#32
  let v65 : BitVec 1 := Scalar.cmpi .ne v64 c0_i32_33
  v65

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== LoReferenceIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S1x1024, .f32⟩
  | .hbm, ⟨78, _⟩ => ⟨S1x1, .f32⟩
  | .hbm, ⟨79, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== GbKernel.lean ====
abbrev S2048x1024 : Shape := ⟨2, ![2048, 1024]⟩
abbrev S2048x512 : Shape := ⟨2, ![2048, 512]⟩
abbrev S2048x5632 : Shape := ⟨2, ![2048, 5632]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S2 : Shape := ⟨1, ![2]⟩
abbrev S1 : Shape := ⟨1, ![1]⟩
abbrev S_ : Shape := ⟨0, ![]⟩
abbrev S512x256 : Shape := ⟨2, ![512, 256]⟩
abbrev S1x512x256 : Shape := ⟨3, ![1, 512, 256]⟩
abbrev S2048x2048 : Shape := ⟨2, ![2048, 2048]⟩

abbrev nBuf : Space → Nat
  | .hbm => 21
  | .vmem => 27
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .bf16⟩
  | .hbm, ⟨3, _⟩ => ⟨S2048x5632, .bf16⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S512x1024, .bf16⟩
  | .hbm, ⟨8, _⟩ => ⟨S512x4x256, .bf16⟩
  | .hbm, ⟨9, _⟩ => ⟨S4x512x256, .bf16⟩
  | .hbm, ⟨10, _⟩ => ⟨S1024x1024, .bf16⟩
  | .hbm, ⟨11, _⟩ => ⟨S1024x1024, .bf16⟩
  | .hbm, ⟨12, _⟩ => ⟨S512x1024, .bf16⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S2048x1024, .bf16⟩
  | .hbm, ⟨17, _⟩ => ⟨S2048x512, .bf16⟩
  | .hbm, ⟨18, _⟩ => ⟨S2048x1024, .bf16⟩
  | .hbm, ⟨19, _⟩ => ⟨S2048x5632, .bf16⟩
  | .hbm, ⟨20, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S4x512x256, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c3584_i32 : BitVec 32 := 3584#32
  ![v1.toNat, 3584]
def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c4608_i32 : BitVec 32 := 4608#32
  ![v1.toNat, 4608]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== GbReferenceIdeal.lean ====
abbrev S2048x1024 : Shape := ⟨2, ![2048, 1024]⟩
abbrev S2048x512 : Shape := ⟨2, ![2048, 512]⟩
abbrev S2048x5632 : Shape := ⟨2, ![2048, 5632]⟩
abbrev S512x1024 : Shape := ⟨2, ![512, 1024]⟩
abbrev S1024x1024 : Shape := ⟨2, ![1024, 1024]⟩
abbrev S_ : Shape := ⟨0, ![]⟩
abbrev S2048x2048 : Shape := ⟨2, ![2048, 2048]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .bf16⟩
  | .hbm, ⟨3, _⟩ => ⟨S2048x5632, .bf16⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x512, .f32⟩
  | .hbm, ⟨78, _⟩ => ⟨S2048x2048, .f32⟩
  | .hbm, ⟨79, _⟩ => ⟨S2048x1024, .bf16⟩
  | .hbm, ⟨80, _⟩ => ⟨S2048x1024, .bf16⟩
  | .hbm, ⟨81, _⟩ => ⟨S2048x512, .bf16⟩
  | .hbm, ⟨82, _⟩ => ⟨S2048x1024, .bf16⟩
  | .hbm, ⟨83, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Ff.Run.lean ====
/- The run of the two forward/backward calls of the squared ReLU: what every buffer of a device that no call
   holds inside itself contains at the end. The frame reads only the arguments off the same launch; a value claim
   needs the results too. -/
module

public import proofs.«01_k».proof.Proof.Gen.FfKernelIdeal.Frame

@[expose] public section

noncomputable section

namespace Cert.FfKernelIdeal.Value

open Cert.FfKernelIdeal Cert.FfKernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer of @main at the contents that the last segment leaves (`W4`). -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c b hb => h c b hb)

end Cert.FfKernelIdeal.Value

end
-- ==== Proof.Ff.Value.lean ====
/- The two results of the squared ReLU's calls, as functions of the arguments: what `mm_ff1` saves
   (`relu (h2 @ w_ff1) ^ 2`) and what `mm_df` makes of it (`(dx2 @ w_ff2ᵀ) * 2 * sqrt s`). -/
module

public import proofs.«01_k».proof.Proof.Gen.FfKernelIdeal.Frame
public import proofs.«01_k».proof.Proof.Ff.Run
public import Idealize.ShloMosaic.Lib.Pipeline.ValueKit

@[expose] public section

set_option maxRecDepth 16384

noncomputable section

namespace Cert.FfKernelIdeal.Value

open Cert.FfKernelIdeal Cert.FfKernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The squared ReLU of `h2 @ w_ff1`, element by element. -/
def act (H : FVec Ideal S2048x1024 .bf16) (W : FVec Ideal S1024x4096 .f32) : FVec Ideal S2048x4096 .bf16 := fun i =>
  max (∑ k : Fin 1024, H (ix2 (i 0) k) * W (ix2 k (i 1))) 0 * max (∑ k : Fin 1024, H (ix2 (i 0) k) * W (ix2 k (i 1))) 0

/-- The cotangent of `h2 @ w_ff1`: that of the activation times the activation's derivative, read off its square root. -/
def dact (S : FVec Ideal S2048x4096 .bf16) (W : FVec Ideal S4096x1024 .f32) (C : FVec Ideal S2048x1024 .bf16) :
    FVec Ideal S2048x4096 .bf16 := fun i =>
  (∑ k : Fin 1024, C (ix2 (i 0) k) * W (ix2 (i 1) k)) * Ideal.ofBits .f32 0x40000000#32 * Ideal.sqrt (S i)

theorem idx0 : ∀ t : Fin cfg0.N, win0_0.index t = ![0, 0] ∧ win0_1.index t = ![t.val, 0, 0] ∧ win0_2.index t = ![0, t.val] :=
  (by decide +kernel : ∀ t : Fin grid0.N, _)

theorem idx1 : ∀ t : Fin cfg1.N, win1_0.index t = ![0, 0] ∧ win1_1.index t = ![t.val, 0] ∧ win1_2.index t = ![0, t.val]
    ∧ win1_3.index t = ![0, t.val] :=
  (by decide +kernel : ∀ t : Fin grid1.N, _)

/-- The weight as the call finds it: cut by columns, one shard per leading index. -/
theorem V1_v2 (c : Dev nD) (j : S4x1024x1024.Idx) : W1 m ρ c (Proc.tc.devRef main_v2) j
    = m ((c : Thread nD τ).loc main_arg1) (ix2 (j 1) ⟨(j 0).val * 1024 + (j 2).val, by have := (j 0).isLt; have := (j 2).isLt; simp at *; omega⟩) := by
  unfold W1 hostOps0
  after_results
  unfold W0
  pointwise

/-- What the forward call saves. -/
theorem final0 (c : Dev nD) : (dat0 (V1 m ρ) c).arrAt 2 cfg0.N
    = act (m ((c : Thread nD τ).loc main_arg0)) (m ((c : Thread nD τ).loc main_arg1)) := by
  refine (dat0 (V1 m ρ) c).arrAt_eq_of_covers 2 _ (by decide +kernel) fun t _ y => ?_
  blk_simp
  rw [after0_2]
  unfold outsAt0
  frame_out
  pointwise [k0_pay3, k0_pay2, k0_pay1, act]
  blk_point [iblk0, V1, idx0 t]
  rw [V1_v2]
  blk_point [idx0 t]

/-- The saved array is still in its buffer when the backward call starts. -/
theorem W3_v3 (c : Dev nD) : W3 m ρ c (Proc.tc.devRef main_v3)
    = act (m ((c : Thread nD τ).loc main_arg0)) (m ((c : Thread nD τ).loc main_arg1)) :=
  (W3_of m ρ c main_v3 (by decide)).trans ((W2_arr m ρ c 2).trans (final0 m ρ c))

/-- The other weight as the backward call finds it. -/
theorem W3_v4 (c : Dev nD) (j : S4096x1024.Idx) : W3 m ρ c (Proc.tc.devRef main_v4) j
    = m ((c : Thread nD τ).loc main_arg2) j := by
  unfold W3 hostOps1
  after_results
  rw [W2_args m ρ c main_arg2 (by decide)]
  pointwise

/-- What the backward call computes. -/
theorem final1 (c : Dev nD) : (dat1 (V3 m ρ) c).arrAt 3 cfg1.N
    = dact (act (m ((c : Thread nD τ).loc main_arg0)) (m ((c : Thread nD τ).loc main_arg1)))
        (m ((c : Thread nD τ).loc main_arg2)) (m ((c : Thread nD τ).loc main_arg3)) := by
  refine (dat1 (V3 m ρ) c).arrAt_eq_of_covers 3 _ (by decide +kernel) fun t _ y => ?_
  blk_simp
  rw [after1_3]
  unfold outsAt1
  frame_out
  pointwise [k1_pay3, k1_pay2, k1_pay1, dact]
  rw [← W3_v3 m ρ c]
  blk_point [iblk1, V3, idx1 t]

/-- Both results and the arguments at the end of every execution. -/
theorem run : θ_run defs (onTc (τ := τ) (main (F := Ideal))) ⟨m, fun _ => 0, ρ⟩ (fun r => ∀ c : Dev nD,
      r.2.mem ((c.tc : Thread nD τ).loc main_v3)
        = act (m ((c : Thread nD τ).loc main_arg0)) (m ((c : Thread nD τ).loc main_arg1))
      ∧ r.2.mem ((c.tc : Thread nD τ).loc main_v5)
        = dact (act (m ((c : Thread nD τ).loc main_arg0)) (m ((c : Thread nD τ).loc main_arg1)))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans ((W4_of m ρ c main_v3 (by decide +kernel)).trans (W3_v3 m ρ c)),
     (h c _ (mem_uc main_v5 (by decide))).trans ((W4_arr m ρ c 3).trans (final1 m ρ c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- Over the extended reals `max x 0` is the root of its own square. -/
theorem sqrt_relu (x : EReal) : Ideal.sqrt (max x 0 * max x 0) = max x 0 := by
  induction x with
  | bot => rw [max_eq_right bot_le, zero_mul, ← EReal.coe_zero, Ideal.sqrt_coe]; simp
  | top => rw [max_eq_left le_top, EReal.top_mul_top, Ideal.sqrt_top]
  | coe r =>
    rw [← EReal.coe_zero, ← EReal.coe_strictMono.monotone.map_max, ← EReal.coe_mul, Ideal.sqrt_coe, if_neg (not_lt.mpr (mul_self_nonneg _)),
      Real.sqrt_mul_self (le_max_right _ _)]

end Cert.FfKernelIdeal.Value

end
-- ==== Proof.Ff.Claim.lean ====
/- The squared ReLU's value claim: the derivative of `relu (h2 @ w_ff1) ^ 2 @ w_ff2` is what the two calls compute. -/
module

public import proofs.«01_k».proof.Defs
public import proofs.«01_k».proof.Proof.Gen.FfReferenceIdeal.Run
public import proofs.«01_k».proof.Proof.Ff.Value
public import Idealize.ShloMosaic.Lib.Claim
public import Idealize.ShloMosaic.Lib.Quiescent

@[expose] public section

set_option maxRecDepth 16384

noncomputable section

namespace Cert.Ff

open Idealize.ShloMosaic Idealize.ShloMosaic.TcCoe Idealize.SL.Sem
open Cert.FfKernelIdeal.Value (act dact sqrt_relu)

/-- The derivative of the square of `max x 0`, chosen by the sign of `x`, is the root's form. -/
theorem dact_eq (r x t : EReal) : (if 0 < x then r * (t * max x 0) else 0) = r * t * Ideal.sqrt (max x 0 * max x 0) := by
  rw [sqrt_relu]
  split
  · rw [mul_assoc]
  · rw [max_eq_right (not_lt.mp ‹_›), mul_zero]

theorem frame_reference : Cert.quiescent_FfReferenceIdeal := fun m ρ _ =>
  θ_run_mono (Cert.FfReferenceIdeal.Value.run m ρ) fun r h =>
    ⟨fun c => (h c).2.2, sem_eq_zero_of_no_sems (sig := Cert.FfReferenceIdeal.sig) (by decide) r.2⟩

theorem algebraic : Cert.algebraic_FfKernelIdeal_FfReferenceIdeal := by
  pair_intro
  · run_from Cert.FfKernelIdeal.Value.run m g
  · run_from Cert.FfReferenceIdeal.Value.run m' g'
    · funext i
      pointwise [act]
    · funext i
      pointwise [act, dact]
      exact dact_eq _ _ _

end Cert.Ff

end
-- ==== Proof.Math.Gate.lean ====
/- The logistic function as half a hyperbolic tangent, over the extended reals. -/
module

public import Idealize.ShloMosaic.Lib.Pipeline.ValueKit

@[expose] public section

noncomputable section

namespace Cert.Gate

open Idealize.ShloMosaic

/-- The word of one half. -/
theorem half_word : Ideal.ofBits .f32 0x3F000000#32 = ((1 / 2 : ℝ) : EReal) := by
  simp [Ideal.ofBits, Ideal.ieee, -EReal.coe_mul]; norm_num

/-- The logistic function, `1 / (1 + exp (-x))`. -/
def opening (x : EReal) : EReal := Ideal.div 1 (1 + Ideal.exp (-x))

theorem opening_coe (r : ℝ) : opening r = (((1 + Real.exp (-r))⁻¹ : ℝ) : EReal) := Ideal.logistic_coe (r := r)

/-- `tanh (x / 2) / 2 + 1 / 2` is the logistic function, at the infinities too. -/
theorem half_tanh (x : EReal) :
    Ideal.ofBits .f32 0x3F000000#32 * Ideal.tanh (Ideal.ofBits .f32 0x3F000000#32 * x) + Ideal.ofBits .f32 0x3F000000#32 = opening x := by
  rw [half_word]
  induction x with
  | bot =>
    rw [EReal.coe_mul_bot_of_pos (by norm_num), Ideal.tanh_bot, show opening ⊥ = 0 from Ideal.logistic_bot]
    rw [show (-1 : EReal) = ((-1 : ℝ) : EReal) from by simp, ← EReal.coe_mul, ← EReal.coe_add]
    norm_num
  | top =>
    rw [EReal.coe_mul_top_of_pos (by norm_num), Ideal.tanh_top, show opening ⊤ = 1 from Ideal.logistic_top]
    rw [mul_one, ← EReal.coe_add]
    norm_num
  | coe r =>
    rw [opening_coe, ← EReal.coe_mul, Ideal.tanh_coe, ← EReal.coe_mul, ← EReal.coe_add, EReal.coe_eq_coe_iff, Real.tanh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have hp := Real.exp_pos (1 / 2 * r)
    have hq := Real.exp_pos (-(1 / 2 * r))
    rw [h1]
    generalize Real.exp (1 / 2 * r) = a at *
    generalize Real.exp (-(1 / 2 * r)) = b at *
    have hab : a + b ≠ 0 := by positivity
    have hb : 1 + b * b ≠ 0 := by positivity
    field_simp
    ring_nf
    nlinarith

end Cert.Gate

end
-- ==== Proof.Gf.Value.lean ====
/- The five results of the gated merge's forward call, as functions of the arguments. -/
module

public import proofs.«01_k».proof.Proof.Gen.GfKernelIdeal.Value
public import proofs.«01_k».proof.Proof.Math.Gate
public import Idealize.ShloMosaic.Lib.Pipeline.ValueKit

@[expose] public section

set_option maxRecDepth 16384

noncomputable section

namespace Cert.GfKernelIdeal.Value

open Cert.GfKernelIdeal Cert.GfKernelIdeal.Gen
open Idealize.ShloMosaic Idealize.ShloMosaic.TcCoe Idealize.SL.Sem
open Idealize.ShloMosaic.Pipeline (Dat)
open Cert.Gate (opening half_tanh)

variable (m : (ℓ : Loc nD τ sig) → Buf (Elt Ideal) ℓ) (ρ : Dev nD → PrngReg)

/-- The attention's output projection. -/
def yAtt (a : FVec Ideal S2048x512 .bf16) (w : FVec Ideal S512x1024 .f32) : FVec Ideal S2048x1024 .f32 := fun i =>
  ∑ k : Fin 512, a (ix2 (i 0) k) * w (ix2 k (i 1))

/-- The recurrence's output projection. -/
def yRec (a : FVec Ideal S2048x1024 .bf16) (w : FVec Ideal S1024x1024 .f32) : FVec Ideal S2048x1024 .f32 := fun i =>
  ∑ k : Fin 1024, a (ix2 (i 0) k) * w (ix2 k (i 1))

/-- The two branches merged through their gates, which are columns 3584… and 4608… of `z`. -/
def gate (z : FVec Ideal S2048x5632 .bf16) (ya yr : FVec Ideal S2048x1024 .f32) : FVec Ideal S2048x1024 .bf16 := fun i =>
  opening (z (ix2 (i 0) ⟨3584 + (i 1).val, by have := (i 1).isLt; simp at *; omega⟩)) * ya i
    + opening (z (ix2 (i 0) ⟨4608 + (i 1).val, by have := (i 1).isLt; simp at *; omega⟩)) * yr i

/-- The residual sum. -/
def residualSum (x : FVec Ideal S2048x1024 .f32) (mx : FVec Ideal S2048x1024 .bf16) (w : FVec Ideal S1024x1024 .f32) :
    FVec Ideal S2048x1024 .f32 := fun i => x i + ∑ k : Fin 1024, mx (ix2 (i 0) k) * w (ix2 k (i 1))

/-- The norm of each row. -/
def normed (x : FVec Ideal S2048x1024 .f32) (g : FVec Ideal S1x1024 .f32) : FVec Ideal S2048x1024 .bf16 := fun i =>
  x i * Ideal.rsqrt (Ideal.div (∑ k : Fin 1024, x (ix2 (i 0) k) * x (ix2 (i 0) k)) (Ideal.ofBits .f32 0x44800000#32)
    + Ideal.ofBits .f32 0x358637BD#32) * g (ix2 0 (i 1))

/-- The index facts of the windows. -/
theorem idx : ∀ t : Fin cfg0.N, win0_0.index t = ![t.val, 0] ∧ win0_1.index t = ![t.val, 0] ∧ win0_2.index t = ![t.val, 7]
    ∧ win0_3.index t = ![t.val, 8] ∧ win0_4.index t = ![t.val, 9] ∧ win0_5.index t = ![t.val, 10] ∧ win0_6.index t = ![t.val, 0]
    ∧ win0_7.index t = ![0, 0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

/-- Row `r` of point `t`'s block of rows. -/
def row (t : Fin cfg0.N) (r : Fin 512) : Fin 2048 := ⟨t.val * 512 + r.val, by have := t.isLt; have h : cfg0.N = 4 := N_0; omega⟩

theorem pay10_eq (c : Dev nD) (t : Fin cfg0.N) (y : S512x1024.Idx) :
    k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = yAtt (m ((c : Thread nD τ).loc main_arg0)) (m ((c : Thread nD τ).loc main_arg4)) (ix2 (row t (y 0)) (y 1)) := by
  unfold k0_pay10
  pointwise [k0_pay2, yAtt]
  repeat' split
  all_goals (blk_point [iblk, V, idx t] <;> rfl)

theorem pay11_eq (c : Dev nD) (t : Fin cfg0.N) (y : S512x1024.Idx) :
    k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = yRec (m ((c : Thread nD τ).loc main_arg1)) (m ((c : Thread nD τ).loc main_arg5)) (ix2 (row t (y 0)) (y 1)) := by
  unfold k0_pay11
  pointwise [k0_pay3, yRec]
  (blk_point [iblk, V, idx t] <;> rfl)

theorem pay7_eq (c : Dev nD) (t : Fin cfg0.N) (y : S512x1024.Idx) :
    k0_pay7 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (FloatOps.ofBits FTy.f32 1056964608#32) y
    = (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (ix2 (row t (y 0)) (y 1)) := by
  pointwise [k0_pay7, gate, k0_pay12, k0_pay13, k0_pay14, k0_pay4, k0_pay5, k0_pay6]
  rw [pay10_eq, pay11_eq, half_tanh, half_tanh]
  repeat' split
  all_goals (blk_point [iblk, V, idx t] <;> rfl)

theorem pay8_eq (c : Dev nD) (t : Fin cfg0.N) (y : S512x1024.Idx) :
    k0_pay8 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (FloatOps.ofBits FTy.f32 1056964608#32)
      (iblk m c 6 t) (iblk m c 9 t) y
    = (residualSum (m ((c : Thread nD τ).loc main_arg3)) (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (m ((c : Thread nD τ).loc main_arg6))) (ix2 (row t (y 0)) (y 1)) := by
  dsimp only [k0_pay8]
  rw [funext (pay7_eq m c t)]
  pointwise [residualSum]
  (blk_point [iblk, V, idx t] <;> rfl)

theorem pay1_eq (c : Dev nD) (t : Fin cfg0.N) (y : S512x1024.Idx) :
    k0_pay1 (k0_pay8 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (FloatOps.ofBits FTy.f32 1056964608#32)
      (iblk m c 6 t) (iblk m c 9 t)) (k0_pay9 (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (FloatOps.ofBits FTy.f32 1056964608#32)
      (iblk m c 6 t) (iblk m c 9 t)) (iblk m c 10 t) y
    = (normed (residualSum (m ((c : Thread nD τ).loc main_arg3)) (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (m ((c : Thread nD τ).loc main_arg6))) (m ((c : Thread nD τ).loc main_arg7))) (ix2 (row t (y 0)) (y 1)) := by
  dsimp only [k0_pay1, k0_pay9]
  rw [funext (pay8_eq m c t)]
  pointwise [normed]
  (blk_point [iblk, V, idx t] <;> rfl)

theorem final11 (c : Dev nD) : (dats m 0 c).arrAt 11 cfg0.N
    = yAtt (m ((c : Thread nD τ).loc main_arg0)) (m ((c : Thread nD τ).loc main_arg4)) := by
  refine (dats m 0 c).arrAt_eq_of_covers 11 _ (by decide +kernel) fun t _ y => ?_
  blk_simp
  rw [after0_11]
  frame_out
  refine (pay10_eq m c t y).trans ?_
  blk_ext [idx t, row]

theorem final12 (c : Dev nD) : (dats m 0 c).arrAt 12 cfg0.N
    = yRec (m ((c : Thread nD τ).loc main_arg1)) (m ((c : Thread nD τ).loc main_arg5)) := by
  refine (dats m 0 c).arrAt_eq_of_covers 12 _ (by decide +kernel) fun t _ y => ?_
  blk_simp
  rw [after0_12]
  frame_out
  refine (pay11_eq m c t y).trans ?_
  blk_ext [idx t, row]

theorem final13 (c : Dev nD) : (dats m 0 c).arrAt 13 cfg0.N
    = (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) := by
  refine (dats m 0 c).arrAt_eq_of_covers 13 _ (by decide +kernel) fun t _ y => ?_
  blk_simp
  rw [after0_13]
  frame_out
  refine (pay7_eq m c t y).trans ?_
  blk_ext [idx t, row]

theorem final14 (c : Dev nD) : (dats m 0 c).arrAt 14 cfg0.N
    = (residualSum (m ((c : Thread nD τ).loc main_arg3)) (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (m ((c : Thread nD τ).loc main_arg6))) := by
  refine (dats m 0 c).arrAt_eq_of_covers 14 _ (by decide +kernel) fun t _ y => ?_
  blk_simp
  rw [after0_14]
  frame_out
  refine (pay8_eq m c t y).trans ?_
  blk_ext [idx t, row]

theorem final15 (c : Dev nD) : (dats m 0 c).arrAt 15 cfg0.N
    = (normed (residualSum (m ((c : Thread nD τ).loc main_arg3)) (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (m ((c : Thread nD τ).loc main_arg6))) (m ((c : Thread nD τ).loc main_arg7))) := by
  refine (dats m 0 c).arrAt_eq_of_covers 15 _ (by decide +kernel) fun t _ y => ?_
  blk_simp
  rw [after0_15]
  frame_out
  refine (pay1_eq m c t y).trans ?_
  blk_ext [idx t, row]

/-- All results and the arguments at the end of every execution. -/
theorem run_vals : θ_run defs (onTc (τ := τ) (main (F := Ideal))) ⟨m, fun _ => 0, ρ⟩ fun r => ∀ c : Dev nD,
      r.2.mem ((c : Thread nD τ).loc main_v5_0) = yAtt (m ((c : Thread nD τ).loc main_arg0)) (m ((c : Thread nD τ).loc main_arg4))
      ∧ r.2.mem ((c : Thread nD τ).loc main_v5_1) = yRec (m ((c : Thread nD τ).loc main_arg1)) (m ((c : Thread nD τ).loc main_arg5))
      ∧ r.2.mem ((c : Thread nD τ).loc main_v5_2) = (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5))))
      ∧ r.2.mem ((c : Thread nD τ).loc main_v5_3) = (residualSum (m ((c : Thread nD τ).loc main_arg3)) (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (m ((c : Thread nD τ).loc main_arg6)))
      ∧ r.2.mem ((c : Thread nD τ).loc main_v5_4) = (normed (residualSum (m ((c : Thread nD τ).loc main_arg3)) (gate (m ((c : Thread nD τ).loc main_arg2)) (yAtt (m ((c : Thread nD τ).loc main_arg0)) (m ((c : Thread nD τ).loc main_arg4))) (yRec (m ((c : Thread nD τ).loc main_arg1)) (m ((c : Thread nD τ).loc main_arg5)))) (m ((c : Thread nD τ).loc main_arg6))) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨(h c).1.trans (final11 m c), (h c).2.1.trans (final12 m c), (h c).2.2.1.trans (final13 m c), (h c).2.2.2.1.trans (final14 m c),
      (h c).2.2.2.2.1.trans (final15 m c), (h c).2.2.2.2.2⟩) (run_blocks m ρ)

end Cert.GfKernelIdeal.Value

end
-- ==== Proof.Gf.Claim.lean ====
module

public import proofs.«01_k».proof.Defs
public import proofs.«01_k».proof.Proof.Gen.GfReferenceIdeal.Run
public import proofs.«01_k».proof.Proof.Gf.Value
public import Idealize.ShloMosaic.Lib.Claim
public import Idealize.ShloMosaic.Lib.Quiescent

@[expose] public section

set_option maxRecDepth 16384

noncomputable section

namespace Cert.Gf

open Idealize.ShloMosaic Idealize.ShloMosaic.TcCoe Idealize.SL.Sem
open Cert.GfKernelIdeal.Value (yAtt yRec gate residualSum normed)
open Cert.Gate (opening)

theorem frame_reference : Cert.quiescent_GfReferenceIdeal := fun m ρ _ =>
  θ_run_mono (Cert.GfReferenceIdeal.Value.run m ρ) fun r h =>
    ⟨fun c => (h c).2.2.2.2.2, sem_eq_zero_of_no_sems (sig := Cert.GfReferenceIdeal.sig) (by decide) r.2⟩

theorem algebraic : Cert.algebraic_GfKernelIdeal_GfReferenceIdeal := by
  pair_intro
  · run_from Cert.GfKernelIdeal.Value.run_vals m g
  · run_from Cert.GfReferenceIdeal.Value.run m' g'
    all_goals funext i
    · pointwise [yAtt]
    · pointwise [yRec]
    · pointwise [gate, opening, yAtt, yRec]
    · pointwise [residualSum, gate, opening, yAtt, yRec]
    · pointwise [Cert.GfReferenceIdeal.Value.res_main_v40, normed]
      simp only [residualSum, gate, opening, yAtt, yRec]
      obtain ⟨h0, h1, h2, h3, h4, h5, h6, h7⟩ := hagree c
      simp only [h0, h1, h2, h3, h4, h5, h6, h7]
      rfl

end Cert.Gf

end
-- ==== Proof.Ab.Kit.lean ====
/-
The attention backward: what its launch needs.

The kernel of this pair receives the array of gradients as an operand left in place and as its second result at once,
so it is one buffer, which the kernel writes by copies of its own. Here are the facts that hold before the kernel's
body is looked at: what the host code leaves in each buffer, that it leaves the arguments alone, what block of which
array each point of the grid is given, and which buffers and signals the body owns besides.
-/
module

public import proofs.«01_k».proof.Proof.Gen.AbKernelIdeal.Launch
public import proofs.«01_k».proof.Proof.Gen.AbKernelIdeal.Skeleton
public import proofs.«01_k».proof.Proof.Gen.AbKernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.AttnGrad

open Cert.AbKernelIdeal Cert.AbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host code -/

/-- The host operations before the kernel, line by line. -/
abbrev lines : List (List (HloOp τ sig (Elt F))) :=
  [hostOps0, hostOps0_1, hostOps0_2, hostOps0_3, hostOps0_4, hostOps0_5, hostOps0_6]

/-- What buffer `b` holds when the kernel starts. -/
abbrev V (c : Dev nD) (b : Ref sig .tc) : Buf (Elt F) ((c : Thread nD τ).loc b) :=
  StableHlo.after (List.flatten lines) (fun b => m (c, b)) b

/-- No line of the host code allocates a buffer. -/
theorem lines_fresh : (lines : List (List (HloOp τ sig (Elt F)))).Forall fun l => l.Forall fun op => op.fresh = ∅ := by
  simp only [lines, List.Forall]; repeat' constructor

set_option maxHeartbeats 800000 in
/-- The program is the host code and then the kernel. -/
theorem main_shape (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main lines
    (by simp only [lines, List.Forall]; exact ⟨hostOps0_sub, hostOps0_1_sub, hostOps0_2_sub, hostOps0_3_sub, hostOps0_4_sub, hostOps0_5_sub, hostOps0_6_sub⟩)
    lines_fresh main_chain

/-- Does some operation of the host code write buffer `b`? -/
abbrev Untouched (b : Ref sig .tc) : Prop :=
  (List.flatten (lines : List (List (HloOp τ sig (Elt F))))).Forall fun op => Proc.devRef .tc b ∉ op.writes

/-- A buffer no host operation writes is still as launched when the kernel starts. -/
theorem V_of_untouched (c : Dev nD) {b : Ref sig .tc} (h : Untouched (F := F) b) : V m c b = m ((c : Thread nD τ).loc b) :=
  StableHlo.after_of_forall_not_mem (b := Proc.devRef .tc b) _ _ (List.forall_iff_forall_mem.mp h)

theorem untouched0 : Untouched (F := F) main_arg0 := by
  simp only [Untouched, lines, hostOps0, hostOps0_1, hostOps0_2, hostOps0_3, hostOps0_4, hostOps0_5, hostOps0_6, List.flatten_cons, List.flatten_nil,
    List.append_nil, List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)
theorem untouched1 : Untouched (F := F) main_arg1 := by
  simp only [Untouched, lines, hostOps0, hostOps0_1, hostOps0_2, hostOps0_3, hostOps0_4, hostOps0_5, hostOps0_6, List.flatten_cons, List.flatten_nil,
    List.append_nil, List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)
theorem untouched2 : Untouched (F := F) main_arg2 := by
  simp only [Untouched, lines, hostOps0, hostOps0_1, hostOps0_2, hostOps0_3, hostOps0_4, hostOps0_5, hostOps0_6, List.flatten_cons, List.flatten_nil,
    List.append_nil, List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)
theorem untouched3 : Untouched (F := F) main_arg3 := by
  simp only [Untouched, lines, hostOps0, hostOps0_1, hostOps0_2, hostOps0_3, hostOps0_4, hostOps0_5, hostOps0_6, List.flatten_cons, List.flatten_nil,
    List.append_nil, List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)

/-! ## The blocks of a point -/

/-- The block of input `w` at point `t`, cut out of its array. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0: the body finds the point's block. -/
theorem finds0 {c : Dev nD} (dat : Dat τ (Elt F) Unit ℕ (Pipeline.UD sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input 1: the body finds the point's block. -/
theorem finds1 {c : Dev nD} (dat : Dat τ (Elt F) Unit ℕ (Pipeline.UD sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input 2: the body finds the point's block. -/
theorem finds2 {c : Dev nD} (dat : Dat τ (Elt F) Unit ℕ (Pipeline.UD sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input 3: the body finds the point's block. -/
theorem finds3 {c : Dev nD} (dat : Dat τ (Elt F) Unit ℕ (Pipeline.UD sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input 4: the body finds the point's block. -/
theorem finds4 {c : Dev nD} (dat : Dat τ (Elt F) Unit ℕ (Pipeline.UD sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input 5: the body finds the point's block. -/
theorem finds5 {c : Dev nD} (dat : Dat τ (Elt F) Unit ℕ (Pipeline.UD sig nD τ) ℕ cfg0 c) (hA : dat.A 5 = V m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## What else the body owns -/

/-- The array of gradients, which the body writes by its own copies. -/
def written : Finset (Ref sig .tc) := {main_v75_0}

/-- No buffer is only read by the body's own copies. -/
def readOnly : Finset (Ref sig .tc) := ∅

theorem readOnly_sub : readOnly ⊆ Pipeline.restRefs sig spec0 := by decide
theorem written_sub : written ⊆ Pipeline.restRefs sig spec0 \ readOnly := by decide

abbrev stg0 (t : Fin cfg0.N) : Memref sig .tc .vmem S2048x128 .bf16 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S2048x128 .bf16 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S2048x128 .bf16 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S2048x1024 .bf16 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S2048x128 .bf16 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S128x128 .bf16 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S1x32x128 .f32 := win0_6.stage (cfg0.slots t 6)
abbrev stgWhole6 (t : Fin cfg0.N) : (stg6 t).IsWhole := hstage0_6 ((cfg0.slots t 6).cast nbuf0_6)
abbrev scr0 : Memref sig .tc .vmem S2x2048x64 .bf16 := Memref.whole cc0_scratch0
abbrev scr1 : Memref sig .tc .vmem S2x2048x64 .bf16 := Memref.whole cc0_scratch1
abbrev scr2 : Memref sig .tc .vmem S2x2048x64 .bf16 := Memref.whole cc0_scratch2
abbrev scr3 : Memref sig .tc .vmem S2x2048x64 .bf16 := Memref.whole cc0_scratch3
abbrev scr4 : Memref sig .tc .vmem S2x2048x64 .f32 := Memref.whole cc0_scratch4
abbrev scr5 : Memref sig .tc .vmem S2x2048x64 .f32 := Memref.whole cc0_scratch5
abbrev scr6 : Memref sig .tc .vmem S2x14x64x128 .f32 := Memref.whole cc0_scratch6
abbrev scr7 : Memref sig .tc .vmem S2048x128 .bf16 := Memref.whole cc0_scratch7
abbrev scr8 : Memref sig .tc .vmem S2048x128 .bf16 := Memref.whole cc0_scratch8
abbrev scr9 : Memref sig .tc .vmem S2048x128 .bf16 := Memref.whole cc0_scratch9

/-- The array of gradients as the body sees it. -/
abbrev gradArr : Memref sig .tc .hbm S2048x5632 .bf16 := Memref.whole main_v75_0

/-- The contents of the buffer behind `M` on core `c`, and that buffer held whole. -/
abbrev Held (c : Dev nD) {sp : Space} {S : Shape} {e : EltTy} (M : Memref sig .tc sp S e) : Type := Buf (Elt F) (M.view.loc (c : Thread nD τ))
abbrev holds (c : Dev nD) {sp : Space} {S : Shape} {e : EltTy} (M : Memref sig .tc sp S e) (f : Held (F := F) c M) : sProp 𝕄 :=
  M.view.loc (c : Thread nD τ) ↦{fullShare} f

/-- The three signals of the body's copies. -/
abbrev signals : Fin 3 → SemLoc sig := fun j => (![SemLoc.dma 13, SemLoc.dma 14, SemLoc.dma 15] : Fin 3 → SemLoc sig) j
theorem signals_own : Pipeline.OwnSemFacts spec0 signals := by decide

theorem signals_zero (c : Dev nD) :
    (Pipeline.ownSems0 (Ix := Unit) (Name := ℕ) (U := Pipeline.UD sig nD τ) (Lvl := ℕ) (Val := Elt F) (τ := τ) signals c : sProp 𝕄)
      = iprop(semVal ((c : Thread nD τ), SemLoc.dma 13) 0 ∗ semVal ((c : Thread nD τ), SemLoc.dma 14) 0 ∗ semVal ((c : Thread nD τ), SemLoc.dma 15) 0) := by
  rw [Pipeline.ownSems0_eq_of_list c signals [0, 1, 2] (by decide) (by decide)]; rfl

/-- The invariant between two points, with the array of gradients at `G`: conjunct by conjunct. -/
theorem invariant_eq (G : (c : Dev nD) → (b : Ref sig .tc) → Buf (Elt F) ((c : Thread nD τ).loc b)) (c : Dev nD) :
    (Pipeline.ΦDRG signals spec0 readOnly written (V m) G c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)) ∗ (∃ r, prngReg c r)
          ∗ iprop(semVal ((c : Thread nD τ), SemLoc.dma 13) 0 ∗ semVal ((c : Thread nD τ), SemLoc.dma 14) 0 ∗ semVal ((c : Thread nD τ), SemLoc.dma 15) 0)
          ∗ iprop(emp) ∗ holds c gradArr (G c main_v75_0)) := by
  rw [Pipeline.ΦDRG_eq, scopedRest0_eq, signals_zero, show written = {main_v75_0} from rfl, Pipeline.routed_singleton,
    show readOnly = ∅ from rfl, BI.bigSep_empty]
  simp only [scr0, scr1, scr2, scr3, scr4, scr5, scr6, scr7, scr8, scr9, owns_whole]; try rfl

/-- The arguments end as they began, given a run whose arrays start as the host code leaves them. -/
theorem args_kept (dats : (p : Fin 1) → (c : Dev nD) → Dat τ (Elt F) Unit ℕ (Pipeline.UD sig nD τ) ℕ (cfgs p) c)
    (hA : ∀ c w, (dats 0 c).A w = V m c (Pipeline.arrRef spec0 w))
    (r : PUnit × MemSt nD τ sig (Elt F)) (h : Pipeline.FramePostR cfgs dats 0 written (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 2).trans (((dats 0 c).arrAt_in 2 rfl _).trans ((hA c 2).trans (V_of_untouched m c untouched0))),
    ((h c).2 main_arg1 (Finset.mem_sdiff.mpr ⟨Pipeline.mem_restRefs_of main_arg1 (by decide) (by decide), by decide⟩)).trans (V_of_untouched m c untouched1),
    ((h c).1 4).trans (((dats 0 c).arrAt_in 4 rfl _).trans ((hA c 4).trans (V_of_untouched m c untouched2))),
    ((h c).2 main_arg3 (Finset.mem_sdiff.mpr ⟨Pipeline.mem_restRefs_of main_arg3 (by decide) (by decide), by decide⟩)).trans (V_of_untouched m c untouched3)⟩

end Cert.AttnGrad

end
-- ==== Proof.Ab.Run.lean ====
/-
The attention backward: one run of the body.

The body of the kernel on any buffers: the inputs at given contents, the scratch buffers at anything, the array of
gradients at anything. It ends with the inputs as they were, and with three windows of the array of gradients
replaced by what three scratch buffers hold when their copies start: the gradients of the queries, of the keys and of
the values. The three copies are in flight together; no two of the windows have an entry in common. What a scratch buffer holds is a list of pieces, each what one store put in one box.
-/
module

public import proofs.«01_k».proof.Proof.Ab.Kit

@[expose] public section

set_option maxRecDepth 16384

noncomputable section

namespace Cert.AttnGrad

open Cert.AbKernelIdeal Cert.AbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
set_option sl_exec.dmaWindow true in
set_option sl_exec.dmaWindowSet true in
set_option sl_exec.dmaWindowLent true in
/-- One run of the body: the pieces of the second output and of the three scratch buffers copied out, found by the run,
    with the run's proof. -/
noncomputable def bodyRun (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S128x128 .bf16) (harg6 : arg6.IsWhole)
    (arg9 : Memref sig .tc .vmem S1x32x128 .f32) (harg9 : arg9.IsWhole)
    (arg10 : Memref sig .tc .vmem S2x2048x64 .bf16) (harg10 : arg10.IsWhole)
    (arg11 : Memref sig .tc .vmem S2x2048x64 .bf16) (harg11 : arg11.IsWhole)
    (arg12 : Memref sig .tc .vmem S2x2048x64 .bf16) (harg12 : arg12.IsWhole)
    (arg13 : Memref sig .tc .vmem S2x2048x64 .bf16) (harg13 : arg13.IsWhole)
    (arg14 : Memref sig .tc .vmem S2x2048x64 .f32) (harg14 : arg14.IsWhole)
    (arg15 : Memref sig .tc .vmem S2x2048x64 .f32) (harg15 : arg15.IsWhole)
    (arg16 : Memref sig .tc .vmem S2x14x64x128 .f32) (harg16 : arg16.IsWhole)
    (arg17 : Memref sig .tc .vmem S2048x128 .bf16) (harg17 : arg17.IsWhole)
    (arg18 : Memref sig .tc .vmem S2048x128 .bf16) (harg18 : arg18.IsWhole)
    (arg19 : Memref sig .tc .vmem S2048x128 .bf16) (harg19 : arg19.IsWhole)
    (apart10 : Disjoint ((Memref.whole main_v75_0).slice (Rect.unit (s := S2048x5632) (k0_off1 i 512#32) S2048x128.size (k0_off1_inb i 1)) (fun _ => rfl)).view.set ((Memref.whole main_v75_0).slice (Rect.unit (s := S2048x5632) (k0_off1 i 0#32) S2048x128.size (k0_off1_inb i 0)) (fun _ => rfl)).view.set)
    (apart20 : Disjoint ((Memref.whole main_v75_0).slice (Rect.unit (s := S2048x5632) (k0_off1 i 1024#32) S2048x128.size (k0_off1_inb i 2)) (fun _ => rfl)).view.set ((Memref.whole main_v75_0).slice (Rect.unit (s := S2048x5632) (k0_off1 i 0#32) S2048x128.size (k0_off1_inb i 0)) (fun _ => rfl)).view.set)
    (apart21 : Disjoint ((Memref.whole main_v75_0).slice (Rect.unit (s := S2048x5632) (k0_off1 i 1024#32) S2048x128.size (k0_off1_inb i 2)) (fun _ => rfl)).view.set ((Memref.whole main_v75_0).slice (Rect.unit (s := S2048x5632) (k0_off1 i 512#32) S2048x128.size (k0_off1_inb i 1)) (fun _ => rfl)).view.set)
    (x0 : Vec F S2048x128 .bf16) (x1 : Vec F S2048x128 .bf16) (x2 : Vec F S2048x128 .bf16) (x3 : Vec F S2048x1024 .bf16) (x4 : Vec F S2048x128 .bf16) (x5 : Vec F S128x128 .bf16) :
    Σ' (L6 : List (View.Piece (Elt F) S1x32x128 .f32)),
    { D : Held (F := F) c gradArr → Buf (Elt F) (arg17.view.loc (c : Thread nD τ)) → Buf (Elt F) (arg18.view.loc (c : Thread nD τ)) →
        Buf (Elt F) (arg19.view.loc (c : Thread nD τ)) → Held (F := F) c gradArr //
      ∀ (fw : Held (F := F) c gradArr) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg9 fullShare d)
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ semVal ((c : Thread nD τ), SemLoc.dma 13) 0 ∗ semVal ((c : Thread nD τ), SemLoc.dma 14) 0 ∗ semVal ((c : Thread nD τ), SemLoc.dma 15) 0 ∗ holds c gradArr fw ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ f, arg9.view.loc (c : Thread nD τ) ↦[arg9.view.set]{fullShare} arg9.view.writes (Elt F) f L6)
              ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
              ∗ semVal ((c : Thread nD τ), SemLoc.dma 13) 0 ∗ semVal ((c : Thread nD τ), SemLoc.dma 14) 0 ∗ semVal ((c : Thread nD τ), SemLoc.dma 15) 0 ∗ (∃ g7 g8 g9, holds c gradArr (D fw g7 g8 g9)) ∗ (∃ W', owes (c : Thread nD τ) 0 W')) -∗ K ⟨⟩))
          ⊢ wp frame (wpE (defs₀ (F := F)) Variants.none c none) Set.univ (cc0_attn_bwd i arg1 harg1 arg2 harg2 arg3 harg3 arg4 harg4 arg5 harg5 arg6 harg6 (Memref.whole main_v75_0) (Memref.isWhole_whole _) (Memref.whole main_v75_0) (Memref.isWhole_whole _) arg9 harg9 arg10 harg10 arg11 harg11 arg12 harg12 arg13 harg13 arg14 harg14 arg15 harg15 arg16 harg16 arg17 harg17 arg18 harg18 arg19 harg19 cc0_scratch10) K } := by
  refine ⟨?_, ?_, fun fw W K => ?run⟩
  case run =>
    simp only [cc0_attn_bwd_eq_skeleton]; unfold cc0_attn_bwd_skel
    simp only [k0_part167_eq_skeleton, k0_part165_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton, k0_part16_eq_skeleton,
      k0_part17_eq_skeleton, k0_part18_eq_skeleton, k0_part19_eq_skeleton, k0_part20_eq_skeleton, k0_part21_eq_skeleton, k0_part22_eq_skeleton,
      k0_part23_eq_skeleton, k0_part24_eq_skeleton, k0_part25_eq_skeleton, k0_part26_eq_skeleton, k0_part27_eq_skeleton, k0_part28_eq_skeleton,
      k0_part29_eq_skeleton, k0_part30_eq_skeleton, k0_part31_eq_skeleton, k0_part32_eq_skeleton, k0_part33_eq_skeleton, k0_part34_eq_skeleton,
      k0_part35_eq_skeleton, k0_part36_eq_skeleton, k0_part37_eq_skeleton, k0_part38_eq_skeleton, k0_part39_eq_skeleton, k0_part40_eq_skeleton,
      k0_part41_eq_skeleton, k0_part42_eq_skeleton, k0_part43_eq_skeleton, k0_part44_eq_skeleton, k0_part45_eq_skeleton, k0_part46_eq_skeleton,
      k0_part47_eq_skeleton, k0_part48_eq_skeleton, k0_part49_eq_skeleton, k0_part50_eq_skeleton, k0_part51_eq_skeleton, k0_part52_eq_skeleton,
      k0_part53_eq_skeleton, k0_part54_eq_skeleton, k0_part55_eq_skeleton, k0_part56_eq_skeleton, k0_part57_eq_skeleton, k0_part58_eq_skeleton,
      k0_part59_eq_skeleton, k0_part60_eq_skeleton, k0_part166_eq_skeleton, k0_part61_eq_skeleton, k0_part62_eq_skeleton, k0_part63_eq_skeleton,
      k0_part64_eq_skeleton, k0_part65_eq_skeleton, k0_part66_eq_skeleton, k0_part67_eq_skeleton, k0_part68_eq_skeleton, k0_part69_eq_skeleton,
      k0_part70_eq_skeleton, k0_part71_eq_skeleton, k0_part72_eq_skeleton, k0_part73_eq_skeleton, k0_part74_eq_skeleton, k0_part75_eq_skeleton,
      k0_part76_eq_skeleton, k0_part77_eq_skeleton, k0_part78_eq_skeleton, k0_part79_eq_skeleton, k0_part80_eq_skeleton, k0_part81_eq_skeleton,
      k0_part82_eq_skeleton, k0_part83_eq_skeleton, k0_part84_eq_skeleton, k0_part85_eq_skeleton, k0_part86_eq_skeleton, k0_part87_eq_skeleton,
      k0_part88_eq_skeleton, k0_part89_eq_skeleton, k0_part90_eq_skeleton, k0_part91_eq_skeleton, k0_part92_eq_skeleton, k0_part93_eq_skeleton,
      k0_part94_eq_skeleton, k0_part95_eq_skeleton, k0_part96_eq_skeleton, k0_part97_eq_skeleton, k0_part98_eq_skeleton, k0_part99_eq_skeleton,
      k0_part100_eq_skeleton, k0_part101_eq_skeleton, k0_part102_eq_skeleton, k0_part103_eq_skeleton, k0_part104_eq_skeleton, k0_part105_eq_skeleton,
      k0_part106_eq_skeleton, k0_part107_eq_skeleton, k0_part108_eq_skeleton, k0_part109_eq_skeleton, k0_part110_eq_skeleton, k0_part111_eq_skeleton,
      k0_part112_eq_skeleton, k0_part113_eq_skeleton, k0_part114_eq_skeleton, k0_part115_eq_skeleton, k0_part116_eq_skeleton, k0_part117_eq_skeleton,
      k0_part118_eq_skeleton, k0_part119_eq_skeleton, k0_part120_eq_skeleton, k0_part121_eq_skeleton, k0_part122_eq_skeleton, k0_part123_eq_skeleton,
      k0_part124_eq_skeleton, k0_part125_eq_skeleton, k0_part126_eq_skeleton, k0_part127_eq_skeleton, k0_part128_eq_skeleton, k0_part129_eq_skeleton,
      k0_part130_eq_skeleton, k0_part131_eq_skeleton, k0_part132_eq_skeleton, k0_part133_eq_skeleton, k0_part134_eq_skeleton, k0_part135_eq_skeleton,
      k0_part136_eq_skeleton, k0_part137_eq_skeleton, k0_part138_eq_skeleton, k0_part139_eq_skeleton, k0_part140_eq_skeleton, k0_part141_eq_skeleton,
      k0_part142_eq_skeleton, k0_part143_eq_skeleton, k0_part144_eq_skeleton, k0_part145_eq_skeleton, k0_part146_eq_skeleton, k0_part147_eq_skeleton,
      k0_part148_eq_skeleton, k0_part149_eq_skeleton, k0_part150_eq_skeleton, k0_part151_eq_skeleton, k0_part152_eq_skeleton, k0_part153_eq_skeleton,
      k0_part154_eq_skeleton, k0_part155_eq_skeleton, k0_part156_eq_skeleton, k0_part157_eq_skeleton, k0_part158_eq_skeleton, k0_part159_eq_skeleton,
      k0_part160_eq_skeleton, k0_part161_eq_skeleton, k0_part162_eq_skeleton, k0_part163_eq_skeleton, k0_part164_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hq0, Hq1, Hq2, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [Hq0]; · iexact Hq0
    isplitl [Hq1]; · iexact Hq1
    isplitl [Hq2]; · iexact Hq2
    isplitl [Hh1]; · iexists fs7, fs8, fs9; iexact Hh1
    iexists _; iexact HW

end Cert.AttnGrad

end
-- ==== Proof.Math.Softmax.lean ====
/- The softmax of a row of scores over the extended reals: a score of `⊥` counts for nothing, and dividing by the row's
   total is multiplying by its reciprocal. -/
module

public import Idealize.ShloMosaic.PureOps.Ideal

@[expose] public section

noncomputable section

namespace Cert.Softmax

open Idealize.ShloMosaic

variable {ι κ : Type} [Fintype ι] [Fintype κ]

/-- The greatest score of a row. -/
def peak (s : ι → EReal) : EReal := Finset.univ.fold max ⊥ s

/-- The exponential of a score less the row's greatest. -/
def weight (s : ι → EReal) (k : ι) : EReal := Ideal.exp (s k - peak s)

/-- The row's total. -/
def total (s : ι → EReal) : EReal := ∑ k, weight s k

/-- The mean of `v` at the row's weights, by the total's reciprocal. -/
def attend (s v : ι → EReal) : EReal := ∑ k, weight s k * Ideal.div 1 (total s) * v k

/-- The mean of `v` at the row's weights, by quotients. -/
def attendDiv (s v : ι → EReal) : EReal := ∑ k, Ideal.div (weight s k) (total s) * v k

theorem peak_le_iff (s : ι → EReal) (b : EReal) : peak s ≤ b ↔ ∀ k, s k ≤ b := by
  unfold peak; rw [Finset.fold_max_le]; simp

theorem le_peak (s : ι → EReal) (k : ι) : s k ≤ peak s := (peak_le_iff s _).1 le_rfl k

theorem peak_ne_top (s : ι → EReal) (h : ∀ k, s k ≠ ⊤) : peak s ≠ ⊤ := by
  intro ht
  have : (⊤ : EReal) ≤ Finset.univ.fold max ⊥ s := ht ▸ le_rfl
  rw [Finset.le_fold_max] at this
  rcases this with h1 | ⟨k, -, hk⟩
  · simp at h1
  · exact h k (top_le_iff.1 hk)

theorem exp_nonneg (x : EReal) : 0 ≤ Ideal.exp x := by
  induction x with
  | bot => simp
  | top => simp
  | coe r => rw [Ideal.exp_coe]; exact_mod_cast (Real.exp_pos r).le

theorem total_ne_zero (s : ι → EReal) (h : ∀ k, s k ≠ ⊤) (k : ι) (hk : s k ≠ ⊥) : total s ≠ 0 := by
  have hM := peak_ne_top s h
  have hM' : peak s ≠ ⊥ := fun hb => hk (le_bot_iff.1 (hb ▸ le_peak s k))
  have hw : 0 < weight s k := by
    unfold weight
    lift s k to ℝ using ⟨h k, hk⟩ with x
    lift peak s to ℝ using ⟨hM, hM'⟩ with y
    rw [← EReal.coe_sub, Ideal.exp_coe]
    exact_mod_cast Real.exp_pos _
  exact (hw.trans_le (Finset.single_le_sum (f := weight s) (fun i _ => exp_nonneg _) (Finset.mem_univ k))).ne'

theorem attend_eq (s v : ι → EReal) (h : total s ≠ 0) : attend s v = attendDiv s v := by
  unfold attend attendDiv
  refine Finset.sum_congr rfl fun k _ => ?_
  simp only [Ideal.div, if_neg h, one_mul]

theorem weight_bot (s : ι → EReal) (k : ι) (h : s k = ⊥) : weight s k = 0 := by
  unfold weight; rw [h, EReal.bot_sub, Ideal.exp_bot]

variable (f : κ → ι) (hf : Function.Injective f) (s v : ι → EReal) (h : ∀ i, i ∉ Set.range f → s i = ⊥)

include h in
theorem peak_comp : peak s = peak (s ∘ f) := by
  refine le_antisymm ((peak_le_iff _ _).2 fun i => ?_) ((peak_le_iff _ _).2 fun k => le_peak s (f k))
  by_cases hi : i ∈ Set.range f
  · obtain ⟨k, rfl⟩ := hi
    exact le_peak (s ∘ f) k
  · rw [h i hi]; exact bot_le

include hf h in
theorem total_comp : total s = total (s ∘ f) := by
  unfold total
  refine (Finset.sum_of_injOn f hf.injOn (by simp) (fun i _ hi => weight_bot s i (h i (by simpa using hi))) fun k _ => ?_).symm
  unfold weight; rw [peak_comp f s h]; rfl

include hf h in
/-- Scores of `⊥` may be left out. -/
theorem attend_comp : attend s v = attend (s ∘ f) (v ∘ f) := by
  unfold attend
  refine (Finset.sum_of_injOn f hf.injOn (by simp) (fun i _ hi => ?_) fun k _ => ?_).symm
  · rw [weight_bot s i (h i (by simpa using hi)), zero_mul, zero_mul]
  · rw [total_comp f hf s h]; unfold weight; rw [peak_comp f s h]; rfl

end Cert.Softmax

end
-- ==== Proof.At.Window.lean ====
/- The neighbourhood attention as mathematics: which grid rows and columns a query attends to, its scores with their
   biases, and its output. Both programs are shown to compute it. -/
module

public import proofs.«01_k».proof.Proof.Math.Softmax
public import Idealize.ShloMosaic.Lib.Pointwise

@[expose] public section

noncomputable section

namespace Cert.Attention

open Idealize.ShloMosaic

/-- The first of the eight grid rows that row `u` attends to. -/
def firstRow (u : ℕ) : ℕ := min 24 (u - 4)

/-- Where row `u`'s biases begin in the table of row distances. -/
def rowDist (u : ℕ) : ℕ := firstRow u + 7 - u

/-- The first of the sixteen columns that column `a` attends to. -/
def firstCol (a : ℕ) : ℕ := min 48 (a - 8)

/-- Which columns column `a` attends to. -/
def inWindow (a k : ℕ) : Prop := firstCol a ≤ k ∧ k < firstCol a + 16

instance (a k : ℕ) : Decidable (inWindow a k) := by unfold inWindow; infer_instance

/-- The number of the distance from column `a` to column `k` in a row of biases. -/
def colDist (a k : ℕ) : ℕ := min 30 (k + 15 - a)

theorem firstRow_le (u : ℕ) : firstRow u ≤ 24 := Nat.min_le_left _ _
theorem rowDist_le (u : ℕ) : rowDist u ≤ 7 := by unfold rowDist firstRow; omega
theorem colDist_lt (a k : ℕ) : colDist a k < 31 := by unfold colDist; omega

/-- The projections' indices, and the biases'. -/
abbrev ProjIdx : Type := (⟨2, ![2048, 5632]⟩ : Shape).Idx
abbrev BiasIdx : Type := (⟨3, ![8, 15, 31]⟩ : Shape).Idx

variable (z : ProjIdx → EReal) (b : BiasIdx → EReal)

/-- The bias of one query column and one key column at row distance `j`: below everything outside of the window. -/
def bias (H : Fin 8) (j : Fin 15) (a k : ℕ) : EReal :=
  if inWindow a k then b (ix3 H j ⟨colDist a k, colDist_lt a k⟩) else ⊥

/-- Query number `e` of head `H` at row `u`, column `a`. -/
def query (H : Fin 8) (u : Fin 32) (a e : Fin 64) : EReal := z (ix2 ⟨64 * u.val + a.val, by omega⟩ ⟨64 * H.val + e.val, by omega⟩)

/-- Key number `e` of head `H` at the `i`-th row that row `u` attends to, column `k`. -/
def key (H : Fin 8) (u : Fin 32) (i : Fin 8) (k e : Fin 64) : EReal :=
  z (ix2 ⟨64 * (firstRow u.val + i.val) + k.val, by have := firstRow_le u.val; omega⟩ ⟨512 + (64 * H.val + e.val), by omega⟩)

/-- Value number `e` there. -/
def value (H : Fin 8) (u : Fin 32) (i : Fin 8) (k e : Fin 64) : EReal :=
  z (ix2 ⟨64 * (firstRow u.val + i.val) + k.val, by have := firstRow_le u.val; omega⟩ ⟨1024 + (64 * H.val + e.val), by omega⟩)

/-- The score of one query and one key, queries scaled by `w`. -/
def score (w : EReal) (H : Fin 8) (u : Fin 32) (a : Fin 64) (k : Fin 8 × Fin 64) : EReal :=
  ∑ e, query z H u a e * w * key z H u k.1 k.2 e + bias b H ⟨rowDist u.val + k.1.val, by have := rowDist_le u.val; omega⟩ a.val k.2.val

/-- The attention's output of one query. -/
def output (w : EReal) (H : Fin 8) (u : Fin 32) (a d : Fin 64) : EReal :=
  Softmax.attend (score z b w H u a) fun k => value z H u k.1 k.2 d

/-- The output depends on the numbers of its head, row, column and lane alone. -/
theorem output_congr (w : EReal) {H H' : Fin 8} {u u' : Fin 32} {a a' d d' : Fin 64} (hH : H.val = H'.val) (hu : u.val = u'.val) (ha : a.val = a'.val)
    (hd : d.val = d'.val) : output z b w H u a d = output z b w H' u' a' d' := by
  rw [Fin.ext hH, Fin.ext hu, Fin.ext ha, Fin.ext hd]

/-! ## The keys in blocks of columns -/

/-- The first of the thirty-two columns that the `n`-th block of sixteen query columns reads. -/
def blockCol (n : ℕ) : ℕ := min 32 (16 * n - 8)

theorem blockCol_le (n : ℕ) : blockCol n ≤ 32 := Nat.min_le_left _ _

/-- A block's keys among all. -/
def inBlock (n : Fin 4) (k : Fin 8 × Fin 32) : Fin 8 × Fin 64 := (k.1, ⟨blockCol n.val + k.2.val, by have := blockCol_le n.val; omega⟩)

theorem inBlock_injective (n : Fin 4) : Function.Injective (inBlock n) := by
  rintro ⟨i, l⟩ ⟨i', l'⟩ h
  simp only [inBlock, Prod.mk.injEq, Fin.mk.injEq] at h
  exact Prod.ext h.1 (Fin.ext (by dsimp only; omega))

theorem window_inBlock (n : Fin 4) (q : Fin 16) (k : Fin 8 × Fin 64) (h : k ∉ Set.range (inBlock n)) : ¬ inWindow (16 * n.val + q.val) k.2.val := by
  intro hw
  unfold inWindow firstCol at hw
  have hb : blockCol n.val ≤ k.2.val ∧ k.2.val < blockCol n.val + 32 := by unfold blockCol; omega
  exact h ⟨(k.1, ⟨k.2.val - blockCol n.val, by omega⟩), Prod.ext rfl (Fin.ext (by simp only [inBlock]; omega))⟩

theorem score_bot (w : EReal) (H : Fin 8) (u : Fin 32) (a : Fin 64) (k : Fin 8 × Fin 64) (h : ¬ inWindow a.val k.2.val) : score z b w H u a k = ⊥ := by
  unfold score bias; rw [if_neg h, EReal.add_bot]

/-- The output, over a block's keys alone. -/
theorem output_block (w : EReal) (H : Fin 8) (u : Fin 32) (n : Fin 4) (q : Fin 16) (d : Fin 64) :
    output z b w H u ⟨16 * n.val + q.val, by omega⟩ d
      = Softmax.attend (fun k => score z b w H u ⟨16 * n.val + q.val, by omega⟩ (inBlock n k)) fun k => value z H u k.1 (inBlock n k).2 d :=
  Softmax.attend_comp (inBlock n) (inBlock_injective n) _ _ fun k hk => score_bot z b w H u _ k (window_inBlock n q k hk)

/-! ## The keys in one row -/

/-- The number of a key in the row of 512. -/
def flat (k : Fin 8 × Fin 64) : Fin 512 := ⟨64 * k.1.val + k.2.val, by omega⟩

theorem flat_injective : Function.Injective flat := by
  rintro ⟨i, l⟩ ⟨i', l'⟩ h
  simp only [flat, Fin.mk.injEq] at h
  exact Prod.ext (Fin.ext (by dsimp only; omega)) (Fin.ext (by dsimp only; omega))

theorem flat_surjective (k : Fin 512) : k ∈ Set.range flat :=
  ⟨(⟨k.val / 64, by omega⟩, ⟨k.val % 64, by omega⟩), Fin.ext (by simp only [flat]; omega)⟩

/-- A mean over the row of 512 keys is one over rows and columns. -/
theorem attend_flat (s v : Fin 512 → EReal) : Softmax.attend s v = Softmax.attend (fun k => s (flat k)) fun k => v (flat k) :=
  Softmax.attend_comp flat flat_injective s v fun k hk => absurd (flat_surjective k) hk

/-! ## Finite scores -/

/-- Queries, keys and biases are finite. -/
def Finite : Prop := (∀ (i : Fin 2048) (j : Fin 1024), z (ix2 i ⟨j.val, by omega⟩) ≠ ⊤ ∧ z (ix2 i ⟨j.val, by omega⟩) ≠ ⊥) ∧ ∀ i, b i ≠ ⊤ ∧ b i ≠ ⊥

theorem exists_real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

theorem dot_real (w : ℝ) (hz : Finite z b) (H : Fin 8) (u : Fin 32) (a : Fin 64) (k : Fin 8 × Fin 64) :
    ∃ r : ℝ, ∑ e, query z H u a e * w * key z H u k.1 k.2 e = r := by
  refine exists_real_sum _ _ fun e _ => ?_
  have hq : query z H u a e ≠ ⊤ ∧ query z H u a e ≠ ⊥ := hz.1 ⟨64 * u.val + a.val, by omega⟩ ⟨64 * H.val + e.val, by omega⟩
  have hk : key z H u k.1 k.2 e ≠ ⊤ ∧ key z H u k.1 k.2 e ≠ ⊥ := hz.1 ⟨64 * (firstRow u.val + k.1.val) + k.2.val, by have := firstRow_le u.val; omega⟩ ⟨512 + (64 * H.val + e.val), by omega⟩
  refine ⟨(query z H u a e).toReal * w * (key z H u k.1 k.2 e).toReal, ?_⟩
  rw [EReal.coe_mul, EReal.coe_mul, EReal.coe_toReal hq.1 hq.2, EReal.coe_toReal hk.1 hk.2]

theorem score_total (w : ℝ) (hz : Finite z b) (H : Fin 8) (u : Fin 32) (a : Fin 64) : Softmax.total (score z b w H u a) ≠ 0 := by
  have hb : ∀ k : Fin 8 × Fin 64, inWindow a.val k.2.val → ∃ r : ℝ, score z b w H u a k = r := by
    intro k hk
    obtain ⟨x, hx⟩ := dot_real z b w hz H u a k
    unfold score bias
    rw [if_pos hk, hx]
    have h1 := hz.2 (ix3 H ⟨rowDist u.val + k.1.val, by have := rowDist_le u.val; omega⟩ ⟨colDist a.val k.2.val, colDist_lt _ _⟩)
    exact ⟨x + (b (ix3 H ⟨rowDist u.val + k.1.val, by have := rowDist_le u.val; omega⟩ ⟨colDist a.val k.2.val, colDist_lt _ _⟩)).toReal, by
      rw [EReal.coe_add, EReal.coe_toReal h1.1 h1.2]⟩
  have hw : inWindow a.val (firstCol a.val) := ⟨le_rfl, by omega⟩
  refine Softmax.total_ne_zero _ (fun k => ?_) (0, ⟨firstCol a.val, by unfold firstCol; omega⟩) ?_
  · by_cases h : inWindow a.val k.2.val
    · obtain ⟨r, hr⟩ := hb k h
      rw [hr]; exact EReal.coe_ne_top r
    · rw [score_bot z b w H u a k h]; exact bot_ne_top
  · obtain ⟨r, hr⟩ := hb (0, ⟨firstCol a.val, by unfold firstCol; omega⟩) hw
    rw [hr]; exact EReal.coe_ne_bot r

/-- The output by quotients, over a block's keys alone. -/
theorem output_block_div (w : ℝ) (hz : Finite z b) (H : Fin 8) (u : Fin 32) (n : Fin 4) (q : Fin 16) (d : Fin 64) :
    output z b w H u ⟨16 * n.val + q.val, by omega⟩ d
      = Softmax.attendDiv (fun k => score z b w H u ⟨16 * n.val + q.val, by omega⟩ (inBlock n k)) fun k => value z H u k.1 (inBlock n k).2 d := by
  rw [output_block]
  refine Softmax.attend_eq _ _ fun h => score_total z b w hz H u ⟨16 * n.val + q.val, by omega⟩ ?_
  have e := Softmax.total_comp (inBlock n) (inBlock_injective n) (score z b w H u ⟨16 * n.val + q.val, by omega⟩)
    fun k hk => score_bot z b w H u _ k (window_inBlock n q k hk)
  exact e.trans h

end Cert.Attention

end
-- ==== Proof.Ab.Tiles.lean ====
/-
The attention backward: what one grid step copies out.

Sixty-four heads of rows are worked through, two heads for each of thirty-two grid rows, and all by ONE function of
the row and the head. The gradients of the queries are one tile per row. The gradients of the keys, and of the values,
are a running sum: each head of a row adds its part onto the eight grid rows it attends to.
-/
module

public import proofs.«01_k».proof.Proof.Ab.Run
public import proofs.«01_k».proof.Proof.At.Window
public import Idealize.ShloMosaic.Lib.Pipeline.ValueKit

@[expose] public section

set_option maxRecDepth 16384

noncomputable section

namespace Cert.AttnGrad

open Cert.AbKernelIdeal Cert.AbKernelIdeal.Gen Idealize.ShloMosaic Idealize.ShloMosaic.TcCoe Idealize.SL.Sem
open Cert.Attention (firstRow firstRow_le)

variable {F : FTy → Type} [FloatOps F]

/-! ## One head of one row, from the loaded blocks -/

/-- What the probabilities' gradients are: one row of output gradients against eight rows of values. -/
def probGrads (o : FVec F S64x64 .bf16) (v : FVec F S512x64 .bf16) : FVec F S64x512 .f32 :=
  matmul dot_S64x64_S512x64_S64x512_1_1_0_0_n_n none o v (constant S64x512 .f32 0x00000000#32)

/-- What the scores' gradients are: each probability times its gradient less the row's mean gradient. -/
def scoreGrads (p : FVec F S64x512 .bf16) (dp : FVec F S64x512 .f32) : FVec F S64x512 .f32 :=
  mulf (extf .f32 p bitsLt_bf16_f32) (subf dp (broadcastTo S64x512 (shapeCast S64x1
    (multiReduction .add [1] S64 (mulf dp (extf .f32 p bitsLt_bf16_f32)) 0x00000000#32 reduces_S64x512_S64 (.inl rfl) rfl)
    shapeCasts_S64_S64x1) broadcasts_S64x1_S64x512))

/-- The queries' gradients of one head of one row. -/
def queryGrads (ds : FVec F S64x512 .bf16) (k : FVec F S512x64 .bf16) : FVec F S64x64 .f32 :=
  mulf (matmul dot_S64x512_S512x64_S64x64_1_0_0_1_n_n none ds k (constant S64x64 .f32 0x00000000#32))
    (broadcast S64x64 (Scalar.ofBits .f32 0x3E000000#32))

/-- What one head of one row adds to eight rows of the keys' or of the values' gradients. -/
def spread (s : FVec F S64x512 .bf16) (x : FVec F S64x64 .bf16) : FVec F S512x64 .f32 :=
  matmul dot_S64x512_S64x64_S512x64_0_0_1_1_n_n none s x (constant S512x64 .f32 0x00000000#32)

/-- A part added onto what eight rows hold. -/
def addOnto (part : FVec F S512x64 .f32) (old : Vec F S1x512x64 .f32) : FVec F S1x512x64 .f32 :=
  shapeCast S1x512x64 (addf (shapeCast S512x64 old shapeCasts_S1x512x64_S512x64) part) shapeCasts_S512x64_S1x512x64

/-! ## The boxes -/

theorem inb_row (h : Fin 2) (u : Fin 32) : ∀ a, (![h.val, 64 * u.val, 0] : Fin 3 → ℕ) a + S1x64x64.size a ≤ S2x2048x64.size a := by
  intro a; fin_cases a <;> simp [S1x64x64, S2x2048x64] <;> omega
theorem inb_keys (h : Fin 2) (u : Fin 32) : ∀ a, (![h.val, 64 * firstRow u.val, 0] : Fin 3 → ℕ) a + S1x512x64.size a ≤ S2x2048x64.size a := by
  have := firstRow_le u.val
  intro a; fin_cases a <;> simp [S1x512x64, S2x2048x64] <;> omega
theorem inb_probs (h : Fin 2) (u : Fin 32) : ∀ a, (![64 * u.val, 512 * h.val] : Fin 2 → ℕ) a + S64x512.size a ≤ S2048x1024.size a := by
  intro a; fin_cases a <;> simp [S64x512, S2048x1024] <;> omega
theorem inb_tile (u : Fin 32) : ∀ a, (![64 * u.val, 0] : Fin 2 → ℕ) a + S64x128.size a ≤ S2048x128.size a := by
  intro a; fin_cases a <;> simp [S64x128, S2048x128] <;> omega

/-- Row `u` of head `h`. -/
abbrev rowBox (h : Fin 2) (u : Fin 32) : Rect S2x2048x64 := Rect.unit (s := S2x2048x64) ![h.val, 64 * u.val, 0] S1x64x64.size (inb_row h u)
/-- The eight rows that row `u` of head `h` attends to. -/
abbrev keyBox (h : Fin 2) (u : Fin 32) : Rect S2x2048x64 := Rect.unit (s := S2x2048x64) ![h.val, 64 * firstRow u.val, 0] S1x512x64.size (inb_keys h u)
/-- The probabilities of row `u` of head `h`. -/
abbrev probBox (h : Fin 2) (u : Fin 32) : Rect S2048x1024 := Rect.unit (s := S2048x1024) ![64 * u.val, 512 * h.val] S64x512.size (inb_probs h u)

/-- The row and the head of the `n`-th of the sixty-four. -/
abbrev rowNo (n : ℕ) : Fin 32 := ⟨n / 2 % 32, by omega⟩
/-- The head of the `n`-th of the sixty-four. -/
abbrev headNo (n : ℕ) : Fin 2 := ⟨n % 2, by omega⟩

/-- The pieces of a running sum after `n` of the sixty-four: each adds its part onto the eight rows of its box. -/
def sumPieces (A : Memref sig .tc .vmem S2x2048x64 .f32) (z : FVec F S2x2048x64 .f32) (P : Fin 2 → Fin 32 → FVec F S512x64 .f32) (n : ℕ) :
    List (View.Piece (Elt F) S2x2048x64 .f32) :=
  Nat.rec [⟨Rect.unit ![0, 0, 0] S2x2048x64.size inb_S2x2048x64_S2x2048x64_0_0_0, z⟩]
    (fun n L => ⟨keyBox (headNo n) (rowNo n), addOnto (P (headNo n) (rowNo n)) (A.view.readCov L (keyBox (headNo n) (rowNo n)).toLoadRect)⟩ :: L) n

/-- Two heads of a running sum side by side. -/
def bothHeads (A : Memref sig .tc .vmem S2x2048x64 .f32) (L : List (View.Piece (Elt F) S2x2048x64 .f32)) : FVec F S2048x128 .bf16 :=
  k0_pay1263 (A.view.readCov L (Rect.unit (s := S2x2048x64) ![0, 0, 0] S1x2048x64.size inb_S2x2048x64_S1x2048x64_0_0_0).toLoadRect)
    (A.view.readCov L (Rect.unit (s := S2x2048x64) ![1, 0, 0] S1x2048x64.size inb_S2x2048x64_S1x2048x64_1_0_0).toLoadRect)

section Blocks

variable (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x1024 .bf16) (harg4 : arg4.IsWhole)
  (arg5 : Memref sig .tc .vmem S2048x128 .bf16) (harg5 : arg5.IsWhole)
  (arg10 arg11 arg12 arg13 : Memref sig .tc .vmem S2x2048x64 .bf16)
  (x0 x1 x2 : Vec F S2048x128 .bf16) (x3 : Vec F S2048x1024 .bf16) (x4 : Vec F S2048x128 .bf16)

/-- The two heads of a block, each stored whole. -/
abbrev headPieces (w1 w0 : FVec F S1x2048x64 .bf16) : List (View.Piece (Elt F) S2x2048x64 .bf16) :=
  [⟨Rect.unit ![1, 0, 0] S1x2048x64.size inb_S2x2048x64_S1x2048x64_1_0_0, w1⟩,
   ⟨Rect.unit ![0, 0, 0] S1x2048x64.size inb_S2x2048x64_S1x2048x64_0_0_0, w0⟩]

/-- One head's columns of a block. -/
abbrev colsOne (M : Memref sig .tc .vmem S2048x128 .bf16) (hM : M.IsWhole) (x : Vec F S2048x128 .bf16) : Vec F S2048x64 .bf16 :=
  View.readAt (Elt F) M.view (Rect.unit (s := S2048x128) ![0, 64] S2048x64.size inb_S2048x128_S2048x64_0_64).toLoadRect (hM.unread x)
/-- The other head's columns of a block. -/
abbrev colsZero (M : Memref sig .tc .vmem S2048x128 .bf16) (hM : M.IsWhole) (x : Vec F S2048x128 .bf16) : Vec F S2048x64 .bf16 :=
  View.readAt (Elt F) M.view (Rect.unit (s := S2048x128) ![0, 0] S2048x64.size inb_S2048x128_S2048x64_0_0).toLoadRect (hM.unread x)

/-- The queries, scaled. -/
def qPieces : List (View.Piece (Elt F) S2x2048x64 .bf16) := headPieces (k0_pay2 (colsOne arg1 harg1 x0)) (k0_pay1 (colsZero arg1 harg1 x0))
/-- The keys. -/
def kPieces : List (View.Piece (Elt F) S2x2048x64 .bf16) := headPieces (k0_pay4 (colsOne arg2 harg2 x1)) (k0_pay3 (colsZero arg2 harg2 x1))
/-- The values. -/
def vPieces : List (View.Piece (Elt F) S2x2048x64 .bf16) := headPieces (k0_pay6 (colsOne arg3 harg3 x2)) (k0_pay5 (colsZero arg3 harg3 x2))
/-- The output gradients. -/
def oPieces : List (View.Piece (Elt F) S2x2048x64 .bf16) := headPieces (k0_pay8 (colsOne arg5 harg5 x4)) (k0_pay7 (colsZero arg5 harg5 x4))

/-- A row of a head. -/
def rowOf (A : Memref sig .tc .vmem S2x2048x64 .bf16) (L : List (View.Piece (Elt F) S2x2048x64 .bf16)) (h : Fin 2) (u : Fin 32) : FVec F S64x64 .bf16 :=
  shapeCast S64x64 (A.view.readCov L (rowBox h u).toLoadRect) shapeCasts_S1x64x64_S64x64
/-- The eight rows a row of a head attends to. -/
def winOf (A : Memref sig .tc .vmem S2x2048x64 .bf16) (L : List (View.Piece (Elt F) S2x2048x64 .bf16)) (h : Fin 2) (u : Fin 32) : FVec F S512x64 .bf16 :=
  shapeCast S512x64 (A.view.readCov L (keyBox h u).toLoadRect) shapeCasts_S1x512x64_S512x64

/-- The probabilities of row `u` of head `h`. -/
def probsOf (h : Fin 2) (u : Fin 32) : FVec F S64x512 .bf16 :=
  shapeCast S64x512 (View.readAt (Elt F) arg4.view (probBox h u).toLoadRect (harg4.unread x3)) shapeCasts_S64x512_S64x512

/-- The gradients of the scores of row `u` of head `h`. -/
def scoresOf (h : Fin 2) (u : Fin 32) : FVec F S64x512 .bf16 :=
  truncf .bf16 (scoreGrads (probsOf arg4 harg4 x3 h u)
    (probGrads (rowOf arg13 (oPieces arg5 harg5 x4) h u) (winOf arg12 (vPieces arg3 harg3 x2) h u))) bitsLt_bf16_f32

/-- The gradients of the queries of row `u`, its two heads side by side. -/
def tile (u : Fin 32) : FVec F S64x128 .bf16 :=
  shapeCast S64x128 (truncf .bf16 (concatenate S64x128 1
    [⟨S64x64, queryGrads (scoresOf arg3 harg3 arg4 harg4 arg5 harg5 arg12 arg13 x2 x3 x4 0 u) (winOf arg11 (kPieces arg2 harg2 x1) 0 u)⟩,
     ⟨S64x64, queryGrads (scoresOf arg3 harg3 arg4 harg4 arg5 harg5 arg12 arg13 x2 x3 x4 1 u) (winOf arg11 (kPieces arg2 harg2 x1) 1 u)⟩]
    concatenates_S64x64_S64x64_S64x128_d1) bitsLt_bf16_f32) shapeCasts_S64x128_S64x128

/-- What row `u` of head `h` adds to the keys' gradients. -/
def keyPart (h : Fin 2) (u : Fin 32) : FVec F S512x64 .f32 :=
  spread (scoresOf arg3 harg3 arg4 harg4 arg5 harg5 arg12 arg13 x2 x3 x4 h u) (rowOf arg10 (qPieces arg1 harg1 x0) h u)
/-- What row `u` of head `h` adds to the values' gradients. -/
def valPart (h : Fin 2) (u : Fin 32) : FVec F S512x64 .f32 :=
  spread (probsOf arg4 harg4 x3 h u) (rowOf arg13 (oPieces arg5 harg5 x4) h u)

end Blocks

/-! ## The three copies -/

/-- The three windows of the array of gradients one step writes, in turn. -/
def copied (c : Dev nD) (i : grid0.Coords) (fw : Held (F := F) c gradArr) (a b d : Vec F S2048x128 .bf16) : Held (F := F) c gradArr :=
  View.write (Elt F) (gradArr.slice (Rect.unit (k0_off1 i 1024#32) S2048x128.size (k0_off1_inb i 2)) (fun _ => rfl)).view
    (View.write (Elt F) (gradArr.slice (Rect.unit (k0_off1 i 512#32) S2048x128.size (k0_off1_inb i 1)) (fun _ => rfl)).view
      (View.write (Elt F) (gradArr.slice (Rect.unit (k0_off1 i 0#32) S2048x128.size (k0_off1_inb i 0)) (fun _ => rfl)).view fw a Finset.univ)
      b Finset.univ) d Finset.univ

section Run

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x1024 .bf16) (harg4 : arg4.IsWhole)
  (arg5 : Memref sig .tc .vmem S2048x128 .bf16) (harg5 : arg5.IsWhole)
  (arg6 : Memref sig .tc .vmem S128x128 .bf16) (harg6 : arg6.IsWhole)
  (arg9 : Memref sig .tc .vmem S1x32x128 .f32) (harg9 : arg9.IsWhole)
  (arg10 : Memref sig .tc .vmem S2x2048x64 .bf16) (harg10 : arg10.IsWhole)
  (arg11 : Memref sig .tc .vmem S2x2048x64 .bf16) (harg11 : arg11.IsWhole)
  (arg12 : Memref sig .tc .vmem S2x2048x64 .bf16) (harg12 : arg12.IsWhole)
  (arg13 : Memref sig .tc .vmem S2x2048x64 .bf16) (harg13 : arg13.IsWhole)
  (arg14 : Memref sig .tc .vmem S2x2048x64 .f32) (harg14 : arg14.IsWhole)
  (arg15 : Memref sig .tc .vmem S2x2048x64 .f32) (harg15 : arg15.IsWhole)
  (arg16 : Memref sig .tc .vmem S2x14x64x128 .f32) (harg16 : arg16.IsWhole)
  (arg17 : Memref sig .tc .vmem S2048x128 .bf16) (harg17 : arg17.IsWhole)
  (arg18 : Memref sig .tc .vmem S2048x128 .bf16) (harg18 : arg18.IsWhole)
  (arg19 : Memref sig .tc .vmem S2048x128 .bf16) (harg19 : arg19.IsWhole)
  (apart10 : Disjoint ((Memref.whole main_v75_0).slice (Rect.unit (s := S2048x5632) (k0_off1 i 512#32) S2048x128.size (k0_off1_inb i 1)) (fun _ => rfl)).view.set ((Memref.whole main_v75_0).slice (Rect.unit (s := S2048x5632) (k0_off1 i 0#32) S2048x128.size (k0_off1_inb i 0)) (fun _ => rfl)).view.set)
  (apart20 : Disjoint ((Memref.whole main_v75_0).slice (Rect.unit (s := S2048x5632) (k0_off1 i 1024#32) S2048x128.size (k0_off1_inb i 2)) (fun _ => rfl)).view.set ((Memref.whole main_v75_0).slice (Rect.unit (s := S2048x5632) (k0_off1 i 0#32) S2048x128.size (k0_off1_inb i 0)) (fun _ => rfl)).view.set)
  (apart21 : Disjoint ((Memref.whole main_v75_0).slice (Rect.unit (s := S2048x5632) (k0_off1 i 1024#32) S2048x128.size (k0_off1_inb i 2)) (fun _ => rfl)).view.set ((Memref.whole main_v75_0).slice (Rect.unit (s := S2048x5632) (k0_off1 i 512#32) S2048x128.size (k0_off1_inb i 1)) (fun _ => rfl)).view.set)
  (x0 x1 x2 : Vec F S2048x128 .bf16) (x3 : Vec F S2048x1024 .bf16) (x4 : Vec F S2048x128 .bf16) (x5 : Vec F S128x128 .bf16)

theorem copies_eq (fw : Held (F := F) c gradArr) (g7 : Buf (Elt F) (arg17.view.loc (c : Thread nD τ)))
    (g8 : Buf (Elt F) (arg18.view.loc (c : Thread nD τ))) (g9 : Buf (Elt F) (arg19.view.loc (c : Thread nD τ))) :
    (bodyRun c i arg1 harg1 arg2 harg2 arg3 harg3 arg4 harg4 arg5 harg5 arg6 harg6 arg9 harg9 arg10 harg10 arg11 harg11 arg12 harg12 arg13 harg13
      arg14 harg14 arg15 harg15 arg16 harg16 arg17 harg17 arg18 harg18 arg19 harg19 apart10 apart20 apart21 x0 x1 x2 x3 x4 x5).2.1 fw g7 g8 g9
    = copied c i fw
        (View.read (Elt F) arg17.view (arg17.view.writes (Elt F) g7 (List.ofFn fun k : Fin 32 =>
          (⟨Rect.unit ![64 * (31 - k.val), 0] S64x128.size (inb_tile ⟨31 - k.val, by omega⟩),
            tile arg2 harg2 arg3 harg3 arg4 harg4 arg5 harg5 arg11 arg12 arg13 x1 x2 x3 x4 ⟨31 - k.val, by omega⟩⟩ : View.Piece (Elt F) S2048x128 .bf16))))
        (View.read (Elt F) arg18.view (arg18.view.writes (Elt F) g8
          [⟨Rect.unit ![0, 0] S2048x128.size inb_S2048x128_S2048x128_0_0, bothHeads arg14 (sumPieces arg14 k0_pay9
            (keyPart arg1 harg1 arg3 harg3 arg4 harg4 arg5 harg5 arg10 arg12 arg13 x0 x2 x3 x4) 64)⟩]))
        (View.read (Elt F) arg19.view (arg19.view.writes (Elt F) g9
          [⟨Rect.unit ![0, 0] S2048x128.size inb_S2048x128_S2048x128_0_0, bothHeads arg15 (sumPieces arg15 k0_pay10
            (valPart arg4 harg4 arg5 harg5 arg13 x3 x4) 64)⟩])) := by
  sl_kernel_rfl

end Run

end Cert.AttnGrad

end
-- ==== Proof.Ab.Frame.lean ====
/-
The attention backward: the launch.

The grid has four steps. The array of gradients is written only by the body's own copies, three windows a step, so the
invariant between two steps says what it holds: the array as the region found it, with the windows of the steps so far
replaced. From the run of one step follow the run of the whole program, what the array of gradients holds at its end,
and that the arguments end as they began.
-/
module

public import proofs.«01_k».proof.Proof.Ab.Tiles
public import Idealize.ShloMosaic.Lib.Claim

@[expose] public section

set_option maxRecDepth 16384

noncomputable section

namespace Cert.AttnGrad

open Cert.AbKernelIdeal Cert.AbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One step -/

section Step

variable (c : Dev nD) (t : Fin cfg0.N)

/-- Of the three windows a step writes no two have an entry in common. -/
theorem disjoint_windows : ∀ t : Fin cfg0.N, ∀ a b : Fin 3, b.val < a.val →
    LoadRect.disj (Rect.unit (s := S2048x5632) (k0_off1 (grid0.coords t) (BitVec.ofNat 32 (512 * a.val))) S2048x128.size (k0_off1_inb (grid0.coords t) a))
      (Rect.unit (s := S2048x5632) (k0_off1 (grid0.coords t) (BitVec.ofNat 32 (512 * b.val))) S2048x128.size (k0_off1_inb (grid0.coords t) b)).toLoadRect = true := by
  decide +kernel

theorem apart (a b : Fin 3) (h : b.val < a.val) : Disjoint ((Memref.whole main_v75_0).slice (Rect.unit (s := S2048x5632) (k0_off1 (grid0.coords t) (BitVec.ofNat 32 (512 * a.val))) S2048x128.size (k0_off1_inb (grid0.coords t) a)) (fun _ => rfl)).view.set
    ((Memref.whole main_v75_0).slice (Rect.unit (s := S2048x5632) (k0_off1 (grid0.coords t) (BitVec.ofNat 32 (512 * b.val))) S2048x128.size (k0_off1_inb (grid0.coords t) b)) (fun _ => rfl)).view.set :=
  View.disjoint_slice_of_disj (Memref.whole main_v75_0).view _ _ (disjoint_windows t a b h)

/-- The body's run at point `t`: its staging buffers, its scratch, the point's blocks. -/
abbrev runAt := bodyRun (F := F) c (grid0.coords t) (stg0 t) (stgWhole0 t) (stg1 t) (stgWhole1 t) (stg2 t) (stgWhole2 t) (stg3 t) (stgWhole3 t) (stg4 t) (stgWhole4 t)
  (stg5 t) (stgWhole5 t) (stg6 t) (stgWhole6 t) scr0 (Memref.isWhole_whole _) scr1 (Memref.isWhole_whole _) scr2 (Memref.isWhole_whole _) scr3 (Memref.isWhole_whole _)
  scr4 (Memref.isWhole_whole _) scr5 (Memref.isWhole_whole _) scr6 (Memref.isWhole_whole _) scr7 (Memref.isWhole_whole _) scr8 (Memref.isWhole_whole _)
  scr9 (Memref.isWhole_whole _) (apart t 1 0 (by decide)) (apart t 2 0 (by decide)) (apart t 2 1 (by decide)) (blockAt m c 0 t) (blockAt m c 1 t) (blockAt m c 2 t) (blockAt m c 3 t) (blockAt m c 4 t) (blockAt m c 5 t)

/-- The tile of row `u` at point `t`. -/
def tileAt (u : Fin 32) : FVec F S64x128 .bf16 :=
  tile (stg1 t) (stgWhole1 t) (stg2 t) (stgWhole2 t) (stg3 t) (stgWhole3 t) (stg4 t) (stgWhole4 t) scr1 scr2 scr3
    (blockAt m c 1 t) (blockAt m c 2 t) (blockAt m c 3 t) (blockAt m c 4 t) u
/-- What row `u` of head `h` adds to the keys' gradients at point `t`. -/
def keyPartAt : Fin 2 → Fin 32 → FVec F S512x64 .f32 :=
  keyPart (stg0 t) (stgWhole0 t) (stg2 t) (stgWhole2 t) (stg3 t) (stgWhole3 t) (stg4 t) (stgWhole4 t) scr0 scr2 scr3
    (blockAt m c 0 t) (blockAt m c 2 t) (blockAt m c 3 t) (blockAt m c 4 t)
/-- What row `u` of head `h` adds to the values' gradients at point `t`. -/
def valPartAt : Fin 2 → Fin 32 → FVec F S512x64 .f32 :=
  valPart (stg3 t) (stgWhole3 t) (stg4 t) (stgWhole4 t) scr3 (blockAt m c 3 t) (blockAt m c 4 t)

/-- The thirty-two tiles of the queries' gradients, the last row first. -/
abbrev queryTiles : List (View.Piece (Elt F) S2048x128 .bf16) :=
  List.ofFn fun k : Fin 32 => ⟨Rect.unit ![64 * (31 - k.val), 0] S64x128.size (inb_tile ⟨31 - k.val, by omega⟩), tileAt m c t ⟨31 - k.val, by omega⟩⟩

/-- The queries' gradients of the two heads of point `t`. -/
def queryBlock : FVec F S2048x128 .bf16 := View.canon (queryTiles m c t)
/-- Their keys' gradients. -/
def keyBlock : FVec F S2048x128 .bf16 := bothHeads scr4 (sumPieces scr4 k0_pay9 (keyPartAt m c t) 64)
/-- Their values' gradients. -/
def valBlock : FVec F S2048x128 .bf16 := bothHeads scr5 (sumPieces scr5 k0_pay10 (valPartAt m c t) 64)

theorem tiles_cover (y : S2048x128.Idx) : ∃ p ∈ queryTiles m c t, y ∈ p.1.set := by
  have h0 : (y 0).val < 2048 := (y 0).isLt
  have h1 : (y 1).val < 128 := (y 1).isLt
  have hy : y ∈ (Rect.unit (s := S2048x128) ![64 * (31 - (31 - (y 0).val / 64)), 0] S64x128.size (inb_tile ⟨31 - (31 - (y 0).val / 64), by omega⟩)).set := by
    rw [Rect.mem_set_unit]
    intro a
    match a with
    | ⟨0, _⟩ =>
      show 64 * (31 - (31 - (y 0).val / 64)) ≤ (y 0).val ∧ (y 0).val < 64 * (31 - (31 - (y 0).val / 64)) + 64
      omega
    | ⟨1, _⟩ =>
      show 0 ≤ (y 1).val ∧ (y 1).val < 0 + 128
      omega
  exact ⟨_, List.mem_ofFn.mpr ⟨⟨31 - (y 0).val / 64, by omega⟩, rfl⟩, hy⟩

theorem whole_cover (w : FVec F S2048x128 .bf16) (y : S2048x128.Idx) :
    ∃ p ∈ ([⟨Rect.unit ![0, 0] S2048x128.size inb_S2048x128_S2048x128_0_0, w⟩] : List (View.Piece (Elt F) S2048x128 .bf16)), y ∈ p.1.set := by
  have h0 : (y 0).val < 2048 := (y 0).isLt
  have h1 : (y 1).val < 128 := (y 1).isLt
  have hy : y ∈ (Rect.unit (s := S2048x128) ![0, 0] S2048x128.size inb_S2048x128_S2048x128_0_0).set := by
    rw [Rect.mem_set_unit]
    intro a
    match a with
    | ⟨0, _⟩ => exact ⟨Nat.zero_le _, by show (y 0).val < 0 + 2048; omega⟩
    | ⟨1, _⟩ => exact ⟨Nat.zero_le _, by show (y 1).val < 0 + 128; omega⟩
  exact ⟨_, List.mem_singleton_self _, hy⟩

/-- Point `t` replaces its three windows by its three blocks, whatever the scratch held before. -/
def stepAt (fw : Held (F := F) c gradArr) : Held (F := F) c gradArr :=
  copied c (grid0.coords t) fw (queryBlock m c t) (keyBlock m c t) (valBlock m c t)

theorem copied_congr (i : grid0.Coords) (fw : Held (F := F) c gradArr) {a a' b b' d d' : Vec F S2048x128 .bf16} (ha : a = a') (hb : b = b') (hd : d = d') :
    copied c i fw a b d = copied c i fw a' b' d' := by rw [ha, hb, hd]

/-- One store of a whole buffer leaves what it stores. -/
theorem read_whole (A : Memref sig .tc .vmem S2048x128 .bf16) (g : Buf (Elt F) (A.view.loc (c : Thread nD τ))) (w : FVec F S2048x128 .bf16) :
    View.read (Elt F) A.view (A.view.writes (Elt F) g [⟨Rect.unit ![0, 0] S2048x128.size inb_S2048x128_S2048x128_0_0, w⟩]) = w :=
  (View.read_writes_eq_canon _ _ _ (whole_cover _)).trans
    (View.canon_cons_unit_zero (by funext a; fin_cases a <;> rfl) _ _ _)

theorem copies_at (fw : Held (F := F) c gradArr) (g7 : Buf (Elt F) (scr7.view.loc (c : Thread nD τ)))
    (g8 : Buf (Elt F) (scr8.view.loc (c : Thread nD τ))) (g9 : Buf (Elt F) (scr9.view.loc (c : Thread nD τ))) :
    (runAt m c t).2.1 fw g7 g8 g9 = stepAt m c t fw :=
  (copies_eq c (grid0.coords t) (stg0 t) (stgWhole0 t) (stg1 t) (stgWhole1 t) (stg2 t) (stgWhole2 t) (stg3 t) (stgWhole3 t) (stg4 t) (stgWhole4 t)
    (stg5 t) (stgWhole5 t) (stg6 t) (stgWhole6 t) scr0 (Memref.isWhole_whole _) scr1 (Memref.isWhole_whole _) scr2 (Memref.isWhole_whole _) scr3 (Memref.isWhole_whole _)
    scr4 (Memref.isWhole_whole _) scr5 (Memref.isWhole_whole _) scr6 (Memref.isWhole_whole _) scr7 (Memref.isWhole_whole _) scr8 (Memref.isWhole_whole _)
    scr9 (Memref.isWhole_whole _) (apart t 1 0 (by decide)) (apart t 2 0 (by decide)) (apart t 2 1 (by decide)) (blockAt m c 0 t) (blockAt m c 1 t) (blockAt m c 2 t) (blockAt m c 3 t) (blockAt m c 4 t) (blockAt m c 5 t) fw g7 g8 g9).trans
    (copied_congr c (grid0.coords t) fw (View.read_writes_eq_canon scr7.view g7 (queryTiles m c t) (tiles_cover m c t))
      (read_whole c scr8 g8 _) (read_whole c scr9 g9 _))

theorem cover6 (y : S1x32x128.Idx) : ∃ p ∈ (runAt m c t).1, y ∈ p.1.set :=
  View.cover_of_tiledL (runAt m c t).1 ![1, 32, 128] (by sl_kernel_rfl) y

end Step

/-! ## The steps so far -/

/-- What the array of gradients holds before point `n`. -/
def gradsAfter (c : Dev nD) (n : ℕ) : Held (F := F) c gradArr :=
  Nat.rec (V m c main_v75_0) (fun n f => if h : n < cfg0.N then stepAt m c ⟨n, h⟩ f else f) n

theorem gradsAfter_zero (c : Dev nD) : gradsAfter m c 0 = V m c main_v75_0 := rfl
theorem gradsAfter_succ (c : Dev nD) (t : Fin cfg0.N) : gradsAfter m c (t.val + 1) = stepAt m c t (gradsAfter m c t.val) := by
  show (if h : t.val < cfg0.N then stepAt m c ⟨t.val, h⟩ (gradsAfter m c t.val) else gradsAfter m c t.val) = _
  rw [dif_pos t.isLt]

/-- The buffers before point `n`: the array of gradients after the steps so far, all else as the region found it. -/
def bufsAt (n : ℕ) (c : Dev nD) (b : Ref sig .tc) : Buf (Elt F) ((c : Thread nD τ).loc b) :=
  Function.update (V m c) main_v75_0 (gradsAfter m c n) b
theorem bufsAt_grad (n : ℕ) (c : Dev nD) : bufsAt m n c main_v75_0 = gradsAfter m c n := Function.update_self _ _ _
theorem bufsAt_zero : bufsAt m 0 = V m := by
  funext c b; unfold bufsAt; rw [gradsAfter_zero, Function.update_eq_self]

/-! ## The proof data -/

/-- The one pipeline on core `c`: its arrays as the region finds them, each input's buffer at its block after every
    point, the second output at the run's pieces, and the invariant with the array of gradients named. -/
def dats (_ : Fin 1) (c : Dev nD) : Dat τ (Elt F) Unit ℕ (Pipeline.UD sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => View.canon (runAt m c t).1
  Φ n := Pipeline.ΦDRG signals spec0 readOnly written (V m) (bufsAt m n.val) c
  q w := Pipeline.shareOf spec0 w
  owed _ := 0

theorem arrays_eq (c : Dev nD) (w : Fin cfg0.W) : (dats m 0 c).A w = V m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) : (dats m 0 c).after 3 t = blockAt m c 3 t := by dsimp only [dats]
theorem left4 (c : Dev nD) (t : Fin cfg0.N) : (dats m 0 c).after 4 t = blockAt m c 4 t := by dsimp only [dats]
theorem left5 (c : Dev nD) (t : Fin cfg0.N) : (dats m 0 c).after 5 t = blockAt m c 5 t := by dsimp only [dats]
theorem left6 (c : Dev nD) (t : Fin cfg0.N) : (dats m 0 c).after 6 t = View.canon (runAt m c t).1 := by dsimp only [dats]

/-! ## The body at a point -/

/-- What the body finds at point `t`. -/
def before (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What it leaves. -/
def afterwards (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 1600000 in
theorem body_at (c : Dev nD) (t : Fin cfg0.N) :
    before m c t ⊢ wp frame (wpE (defs₀ (F := F)) Variants.none c none) Set.univ (bodyAt0 t) (fun _ => afterwards m c t) := by
  unfold before afterwards bodyAt0
  simp only [finds0 m (dats m 0 c) (arrays_eq m c 0) (left0 m c) t, finds1 m (dats m 0 c) (arrays_eq m c 1) (left1 m c) t,
    finds2 m (dats m 0 c) (arrays_eq m c 2) (left2 m c) t, finds3 m (dats m 0 c) (arrays_eq m c 3) (left3 m c) t,
    finds4 m (dats m 0 c) (arrays_eq m c 4) (left4 m c) t, finds5 m (dats m 0 c) (arrays_eq m c 5) (left5 m c) t]
  rw [left0, left1, left2, left3, left4, left5, left6]
  rw [show (dats m 0 c).Φ t.succ = Pipeline.ΦDRG signals spec0 readOnly written (V m) (bufsAt m (t.val + 1)) c from rfl,
    show (dats m 0 c).Φ t.castSucc = Pipeline.ΦDRG signals spec0 readOnly written (V m) (bufsAt m t.val) c from rfl,
    invariant_eq, invariant_eq, bufsAt_grad, bufsAt_grad, gradsAfter_succ]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9⟩, Hg, ⟨Hq0, Hq1, Hq2⟩, He, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((runAt m c t).2.2 (gradsAfter m c t.val) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hq1]; · iexact Hq1
  isplitl [Hq2]; · iexact Hq2
  isplitl [Hh]; · iexact Hh
  isplitl [HW]; · iexact HW
  iintro ⟨H0, H1, H2, H3, H4, H5, ⟨%e6, H6⟩, HS0, HS1, HS2, HS3, HS4, HS5, HS6, HS7, HS8, HS9, Hq0, Hq1, Hq2, ⟨%g7, %g8, %g9, Hh⟩, ⟨%W', HW'⟩⟩
  isplitl [HS0 HS1 HS2 HS3 HS4 HS5 HS6 HS7 HS8 HS9 Hg Hq0 Hq1 Hq2 He Hh]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq0 Hq1 Hq2]
    · isplitl [Hq0]; · iexact Hq0
      isplitl [Hq1]; · iexact Hq1
      iexact Hq2
    isplitl [He]; · iexact He
    rw [← copies_at m c t (gradsAfter m c t.val) g7 g8 g9]
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_eq_canon _ _ _ (cover6 m c t)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The launch -/

set_option backward.isDefEq.respectTransparency.types false in
/-- The whole run: every array of the pipeline and the array of gradients at what the steps leave, all signals at zero. -/
theorem run : θ_run defs (onTc (τ := τ) (main (F := F))) (s₀ m ρ)
    (fun r => Pipeline.FramePostRG cfgs (dats m) 0 written (V m) (bufsAt m 4) r ∧ r.2.sem = fun _ => 0) :=
  Pipeline.θ_run_frame_dmaRG_shared (Q' := _) cfgs (dats m) (0 : Fin 1) launch₀0 signals defs₀ Variants.none signals_own readOnly written readOnly_sub written_sub m ρ main
    (hbody := fun c => (obligation m c).loose) (hq := fun _ _ _ => rfl)
    (howed := fun _ _ => rfl) (V := V m) (hmain := main_shape m Variants.none) (hA := arrays_eq m) (G := bufsAt m 4)
    (hin := fun c => by
      rw [show (dats m 0 c).Φ 0 = Pipeline.ΦDRG signals spec0 readOnly written (V m) (bufsAt m 0) c from rfl, bufsAt_zero])
    (hout := fun _ => .rfl)

/-- The program ends with its arguments as they were and all signals at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m (dats m) (arrays_eq m) r h.1.toR c, h.2⟩) (run m ρ)

end Cert.AttnGrad

end
-- ==== Proof.Math.SoftmaxGrad.lean ====
/- The gradient of a softmax row: the two ways of writing it agree where everything is finite. -/
module

public import proofs.«01_k».proof.Proof.Math.Softmax

@[expose] public section

noncomputable section

namespace Cert.Softmax

open Idealize.ShloMosaic

variable {ι κ : Type} [Fintype ι] [Fintype κ]

/-- A row's probabilities. -/
def prob (s : ι → EReal) (k : ι) : EReal := weight s k * Ideal.div 1 (total s)

/-- The gradient of the scores, from the probabilities `p` and their gradient `dp`. -/
def grad (p dp : ι → EReal) (k : ι) : EReal := p k * (dp k - ∑ j, dp j * p j)

/-- The same as the quotient's and the exponential's own rules give it. -/
def gradQuotient (s dp : ι → EReal) (k : ι) : EReal :=
  (Ideal.div (dp k) (total s) + -∑ j, dp j * Ideal.div 1 (total s * total s) * weight s j) * weight s k

theorem weight_real (s : ι → EReal) (h : ∀ k, s k ≠ ⊤) (k₀ : ι) (h₀ : s k₀ ≠ ⊥) (k : ι) : ∃ r : ℝ, weight s k = r := by
  by_cases hk : s k = ⊥
  · exact ⟨0, by rw [weight_bot s k hk]; rfl⟩
  · have hM := peak_ne_top s h
    have hM' : peak s ≠ ⊥ := fun hb => h₀ (le_bot_iff.1 (hb ▸ le_peak s k₀))
    refine ⟨Real.exp ((s k).toReal - (peak s).toReal), ?_⟩
    unfold weight
    rw [← Ideal.exp_coe, EReal.coe_sub, EReal.coe_toReal (h k) hk, EReal.coe_toReal hM hM']

theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem grad_eq (s dp : ι → EReal) (hdp : ∀ k, ∃ r : ℝ, dp k = r) (h : ∀ k, s k ≠ ⊤) (k₀ : ι) (h₀ : s k₀ ≠ ⊥) (k : ι) :
    gradQuotient s dp k = grad (prob s) dp k := by
  choose e he using weight_real s h k₀ h₀
  choose g hg using hdp
  have hL : total s = ((∑ i, e i : ℝ) : EReal) := by unfold total; rw [coe_sum]; exact Finset.sum_congr rfl fun i _ => he i
  have h0 : (∑ i, e i : ℝ) ≠ 0 := fun hz => total_ne_zero s h k₀ h₀ (by rw [hL, hz]; rfl)
  unfold gradQuotient grad prob
  rw [hL]
  generalize (∑ i, e i : ℝ) = L at h0 ⊢
  have h1 : Ideal.div 1 (L : EReal) = ((1 / L : ℝ) : EReal) := by rw [Ideal.div_coe h0, one_mul]
  have h2 : Ideal.div 1 ((L * L : ℝ) : EReal) = ((1 / (L * L) : ℝ) : EReal) := by
    rw [Ideal.div_coe (mul_ne_zero h0 h0), one_mul]
  have h3 : Ideal.div (g k : EReal) (L : EReal) = ((g k * (1 / L) : ℝ) : EReal) := by rw [Ideal.div_coe h0, EReal.coe_mul]
  simp only [he, hg, h1, h3, ← EReal.coe_mul, h2]
  simp only [← EReal.coe_mul, ← coe_sum, ← EReal.coe_sub, ← EReal.coe_neg, ← EReal.coe_add]
  refine congrArg _ ?_
  have e1 : ∑ i, g i * (1 / (L * L)) * e i = (1 / L) * ∑ i, g i * (e i * (1 / L)) := by
    rw [Finset.mul_sum]; exact Finset.sum_congr rfl fun i _ => by field_simp
  rw [e1]
  field_simp
  ring

theorem prob_bot (s : ι → EReal) (k : ι) (h : s k = ⊥) : prob s k = 0 := by unfold prob; rw [weight_bot s k h, zero_mul]

theorem grad_zero (p dp : ι → EReal) (k : ι) (h : p k = 0) : grad p dp k = 0 := by unfold grad; rw [h, zero_mul]

/-- A sum whose terms outside of the image are zero. -/
theorem sum_comp (f : κ → ι) (hf : Function.Injective f) (t : ι → EReal) (h : ∀ i, i ∉ Set.range f → t i = 0) : ∑ i, t i = ∑ k, t (f k) :=
  (Finset.sum_of_injOn f hf.injOn (by simp) (fun i _ hi => h i (by simpa using hi)) fun k _ => rfl).symm

variable (f : κ → ι) (hf : Function.Injective f) (s dp : ι → EReal) (h : ∀ i, i ∉ Set.range f → s i = ⊥)
include hf h

theorem prob_comp (k : κ) : prob s (f k) = prob (s ∘ f) k := by
  unfold prob; rw [total_comp f hf s h]; unfold weight; rw [peak_comp f s h]; rfl

/-- Scores of `⊥` may be left out of the gradient too. -/
theorem grad_comp (k : κ) : grad (prob s) dp (f k) = grad (prob (s ∘ f)) (dp ∘ f) k := by
  unfold grad
  rw [prob_comp f hf s h, sum_comp f hf (fun j => dp j * prob s j) fun i hi => by rw [prob_bot s i (h i hi), mul_zero]]
  refine congrArg (fun x => prob (s ∘ f) k * (dp (f k) - x)) (Finset.sum_congr rfl fun j _ => ?_)
  rw [prob_comp f hf s h]; rfl

end Cert.Softmax

end
-- ==== Proof.Ab.Spec.lean ====
/- The gradients of the neighbourhood attention, entry by entry, and the same over the keys in blocks of columns. -/
module

public import proofs.«01_k».proof.Proof.At.Window
public import proofs.«01_k».proof.Proof.Math.SoftmaxGrad

@[expose] public section

noncomputable section

namespace Cert.Attention

open Idealize.ShloMosaic

/-- The indices of the output's gradient. -/
abbrev GradIdx : Type := (⟨2, ![2048, 512]⟩ : Shape).Idx

variable (z : ProjIdx → EReal) (b : BiasIdx → EReal) (g : GradIdx → EReal) (w : EReal)

/-- The gradient of output number `d` of head `H` at row `u`, column `a`. -/
def outGrad (H : Fin 8) (u : Fin 32) (a d : Fin 64) : EReal := g (ix2 ⟨64 * u.val + a.val, by omega⟩ ⟨64 * H.val + d.val, by omega⟩)

/-- The gradient of a query's probabilities. -/
def probGrad (H : Fin 8) (u : Fin 32) (a : Fin 64) (k : Fin 8 × Fin 64) : EReal := ∑ d, outGrad g H u a d * value z H u k.1 k.2 d

/-- The gradient of its scores. -/
def scoreGrad (H : Fin 8) (u : Fin 32) (a : Fin 64) (k : Fin 8 × Fin 64) : EReal :=
  Softmax.grad (Softmax.prob (score z b w H u a)) (probGrad z g H u a) k

/-- The gradient of a query. -/
def queryGrad (H : Fin 8) (u : Fin 32) (a d : Fin 64) : EReal := (∑ k, scoreGrad z b g w H u a k * key z H u k.1 k.2 d) * w

/-- What the queries of row `u` give to the gradient of a key. -/
def keyPart (H : Fin 8) (u : Fin 32) (k : Fin 8 × Fin 64) (d : Fin 64) : EReal := ∑ a, scoreGrad z b g w H u a k * (query z H u a d * w)

/-- What they give to the gradient of a value. -/
def valuePart (H : Fin 8) (u : Fin 32) (k : Fin 8 × Fin 64) (d : Fin 64) : EReal := ∑ a, Softmax.prob (score z b w H u a) k * outGrad g H u a d

/-- The sum over the rows that attend to row `r`; `P u i` is what row `u` gives to the `i`-th row of its window. -/
def gathered (P : Fin 32 → Fin 8 → EReal) (r : Fin 32) : EReal :=
  ∑ u : Fin 32, if h : firstRow u.val ≤ r.val ∧ r.val < firstRow u.val + 8 then P u ⟨r.val - firstRow u.val, by omega⟩ else 0

/-- The gradient of a key at row `r`, column `c`. -/
def keyGrad (H : Fin 8) (r : Fin 32) (c d : Fin 64) : EReal := gathered (fun u i => keyPart z b g w H u (i, c) d) r

/-- The gradient of a value. -/
def valueGrad (H : Fin 8) (r : Fin 32) (c d : Fin 64) : EReal := gathered (fun u i => valuePart z b g w H u (i, c) d) r

/-- The gradients at the columns `j` of one row of 1536: of the queries, of the keys, of the values. -/
def grads (i : Fin 2048) (j : Fin 1536) : EReal :=
  if j.val < 512 then queryGrad z b g w ⟨j.val % 512 / 64, by omega⟩ ⟨i.val / 64, by omega⟩ ⟨i.val % 64, by omega⟩ ⟨j.val % 64, by omega⟩
  else if j.val < 1024 then keyGrad z b g w ⟨j.val % 512 / 64, by omega⟩ ⟨i.val / 64, by omega⟩ ⟨i.val % 64, by omega⟩ ⟨j.val % 64, by omega⟩
  else valueGrad z b g w ⟨j.val % 512 / 64, by omega⟩ ⟨i.val / 64, by omega⟩ ⟨i.val % 64, by omega⟩ ⟨j.val % 64, by omega⟩

/-! ## In blocks of columns -/

section Blocks

variable (H : Fin 8) (u : Fin 32) (n : Fin 4) (q : Fin 16)

/-- Column `q` of block `n`. -/
abbrev colOf (n : Fin 4) (q : Fin 16) : Fin 64 := ⟨16 * n.val + q.val, by omega⟩

theorem score_outside (k : Fin 8 × Fin 64) (hk : k ∉ Set.range (inBlock n)) : score z b w H u (colOf n q) k = ⊥ :=
  score_bot z b w H u _ k (window_inBlock n q k hk)

theorem prob_outside (k : Fin 8 × Fin 64) (hk : k ∉ Set.range (inBlock n)) : Softmax.prob (score z b w H u (colOf n q)) k = 0 :=
  Softmax.prob_bot _ _ (score_outside z b w H u n q k hk)

theorem scoreGrad_outside (k : Fin 8 × Fin 64) (hk : k ∉ Set.range (inBlock n)) : scoreGrad z b g w H u (colOf n q) k = 0 :=
  Softmax.grad_zero _ _ _ (prob_outside z b w H u n q k hk)

theorem queryGrad_block (d : Fin 64) :
    queryGrad z b g w H u (colOf n q) d
      = (∑ k : Fin 8 × Fin 32, scoreGrad z b g w H u (colOf n q) (inBlock n k) * key z H u k.1 (inBlock n k).2 d) * w := by
  unfold queryGrad
  exact congrArg (· * w) (Softmax.sum_comp (inBlock n) (inBlock_injective n) _ fun k hk => by rw [scoreGrad_outside z b g w H u n q k hk, zero_mul])

end Blocks

/-- Finite queries, keys, values, biases and gradient of the output. -/
def AllFinite : Prop :=
  (∀ (i : Fin 2048) (j : Fin 1536), z (ix2 i ⟨j.val, by omega⟩) ≠ ⊤ ∧ z (ix2 i ⟨j.val, by omega⟩) ≠ ⊥) ∧ (∀ i, b i ≠ ⊤ ∧ b i ≠ ⊥)
    ∧ ∀ i, g i ≠ ⊤ ∧ g i ≠ ⊥

theorem AllFinite.scores {z : ProjIdx → EReal} {b : BiasIdx → EReal} {g : GradIdx → EReal} (h : AllFinite z b g) : Finite z b :=
  ⟨fun i j => h.1 i ⟨j.val, by omega⟩, h.2.1⟩

theorem probGrad_real (h : AllFinite z b g) (H : Fin 8) (u : Fin 32) (a : Fin 64) (k : Fin 8 × Fin 64) : ∃ r : ℝ, probGrad z g H u a k = r := by
  refine exists_real_sum _ _ fun d _ => ?_
  have hg : outGrad g H u a d ≠ ⊤ ∧ outGrad g H u a d ≠ ⊥ := h.2.2 _
  have hv : value z H u k.1 k.2 d ≠ ⊤ ∧ value z H u k.1 k.2 d ≠ ⊥ :=
    h.1 ⟨64 * (firstRow u.val + k.1.val) + k.2.val, by have := firstRow_le u.val; omega⟩ ⟨1024 + (64 * H.val + d.val), by omega⟩
  exact ⟨(outGrad g H u a d).toReal * (value z H u k.1 k.2 d).toReal, by rw [EReal.coe_mul, EReal.coe_toReal hg.1 hg.2, EReal.coe_toReal hv.1 hv.2]⟩

theorem score_real (w : ℝ) (hz : Finite z b) (H : Fin 8) (u : Fin 32) (a : Fin 64) (k : Fin 8 × Fin 64) (hk : inWindow a.val k.2.val) :
    ∃ r : ℝ, score z b w H u a k = r := by
  obtain ⟨x, hx⟩ := dot_real z b w hz H u a k
  have h1 := hz.2 (ix3 H ⟨rowDist u.val + k.1.val, by have := rowDist_le u.val; omega⟩ ⟨colDist a.val k.2.val, colDist_lt _ _⟩)
  refine ⟨x + (b (ix3 H ⟨rowDist u.val + k.1.val, by have := rowDist_le u.val; omega⟩ ⟨colDist a.val k.2.val, colDist_lt _ _⟩)).toReal, ?_⟩
  unfold score bias
  rw [if_pos hk, hx, EReal.coe_add, EReal.coe_toReal h1.1 h1.2]

theorem score_ne_top (w : ℝ) (hz : Finite z b) (H : Fin 8) (u : Fin 32) (a : Fin 64) (k : Fin 8 × Fin 64) : score z b w H u a k ≠ ⊤ := by
  by_cases h : inWindow a.val k.2.val
  · obtain ⟨r, hr⟩ := score_real z b w hz H u a k h
    rw [hr]; exact EReal.coe_ne_top r
  · rw [score_bot z b w H u a k h]; exact bot_ne_top

theorem prob_block (H : Fin 8) (u : Fin 32) (n : Fin 4) (q : Fin 16) (k : Fin 8 × Fin 32) :
    Softmax.prob (score z b w H u (colOf n q)) (inBlock n k) = Softmax.prob (fun k => score z b w H u (colOf n q) (inBlock n k)) k :=
  Softmax.prob_comp (inBlock n) (inBlock_injective n) _ (score_outside z b w H u n q) k

/-- The scores' gradient over a block's keys alone, by the rules of quotient and exponential. -/
theorem scoreGrad_block (w : ℝ) (hz : AllFinite z b g) (H : Fin 8) (u : Fin 32) (n : Fin 4) (q : Fin 16) (k : Fin 8 × Fin 32) :
    Softmax.gradQuotient (fun k => score z b w H u (colOf n q) (inBlock n k)) (fun k => probGrad z g H u (colOf n q) (inBlock n k)) k
      = scoreGrad z b g w H u (colOf n q) (inBlock n k) := by
  have hin : ∀ a : ℕ, a < 64 → firstCol a < 64 := fun a h => by unfold firstCol; omega
  have hw : inWindow (colOf n q).val (firstCol (colOf n q).val) := ⟨le_rfl, by omega⟩
  obtain ⟨k₀, hk₀⟩ : ((0, ⟨firstCol (colOf n q).val, hin _ (colOf n q).isLt⟩) : Fin 8 × Fin 64) ∈ Set.range (inBlock n) := by
    by_contra hc; exact window_inBlock n q _ hc hw
  obtain ⟨r, hr⟩ := score_real z b w hz.scores H u (colOf n q) (inBlock n k₀) (by rw [hk₀]; exact hw)
  rw [Softmax.grad_eq _ _ (fun k => probGrad_real z b g hz H u _ _) (fun k => score_ne_top z b w hz.scores H u _ _) k₀ (by rw [hr]; exact EReal.coe_ne_bot r)]
  exact (Softmax.grad_comp (inBlock n) (inBlock_injective n) (score z b w H u (colOf n q)) (probGrad z g H u (colOf n q))
    (score_outside z b w H u n q) k).symm

/-- A mask does not change it: outside of the window it is zero. -/
theorem scoreGrad_mask (H : Fin 8) (u : Fin 32) (a : Fin 64) (k : Fin 8 × Fin 64) (h : ¬ inWindow a.val k.2.val) : scoreGrad z b g w H u a k = 0 :=
  Softmax.grad_zero _ _ _ (Softmax.prob_bot _ _ (score_bot z b w H u a k h))

end Cert.Attention

end
-- ==== Proof.Ab.Sums.lean ====
/-
The attention backward: what the scratch buffers hold, entry by entry.

A buffer of two heads stored whole reads back each head where it was put. A running sum holds, at every row, its start
and the parts of all rows whose eight rows it is among.
-/
module

public import proofs.«01_k».proof.Proof.Ab.Tiles
public import proofs.«01_k».proof.Proof.Ab.Spec
public import Idealize.ShloMosaic.Lib.Pointwise
public import Idealize.ShloMosaic.Lib.ValueLayout

@[expose] public section

set_option maxRecDepth 16384

noncomputable section

namespace Cert.AttnGrad

open Cert.AbKernelIdeal Cert.AbKernelIdeal.Gen Idealize.ShloMosaic Idealize.ShloMosaic.TcCoe Idealize.SL.Sem
open Cert.Attention (firstRow firstRow_le)

/-! ## Boxes -/

theorem keyRow_lt (u : Fin 32) (k : Fin 512) : 64 * firstRow u.val + k.val < 2048 := by have := firstRow_le u.val; omega

theorem wholeHead_emb (h : Fin 2) (inb : ∀ a, (![h.val, 0, 0] : Fin 3 → ℕ) a + S1x2048x64.size a ≤ S2x2048x64.size a) (r : Fin 2048) (e : Fin 64) :
    (Rect.unit (s := S2x2048x64) ![h.val, 0, 0] S1x2048x64.size inb).emb (ix3 0 r e) = ix3 h r e := by
  funext a; apply Fin.ext
  rw [ValueKit.rect_emb_unit_val]
  fin_cases a
  · rfl
  · exact Nat.zero_add _
  · exact Nat.zero_add _

theorem row_idx (h : Fin 2) (u : Fin 32) (a e : Fin 64) :
    (rowBox h u).toLoadRect.idx (ix3 0 a e) = ix3 h ⟨64 * u.val + a.val, by omega⟩ e := by
  funext b; apply Fin.ext
  rw [Rect.idx_unit_val]
  fin_cases b
  · rfl
  · rfl
  · exact Nat.zero_add _

theorem keys_idx (h : Fin 2) (u : Fin 32) (k : Fin 512) (e : Fin 64) :
    (keyBox h u).toLoadRect.idx (ix3 0 k e) = ix3 h ⟨64 * firstRow u.val + k.val, keyRow_lt u k⟩ e := by
  funext b; apply Fin.ext
  rw [Rect.idx_unit_val]
  fin_cases b
  · rfl
  · rfl
  · exact Nat.zero_add _

theorem keys_emb (h : Fin 2) (u : Fin 32) (k : Fin 512) (e : Fin 64) :
    (keyBox h u).emb (ix3 0 k e) = ix3 h ⟨64 * firstRow u.val + k.val, keyRow_lt u k⟩ e := by
  funext b; apply Fin.ext
  rw [ValueKit.rect_emb_unit_val]
  fin_cases b
  · rfl
  · rfl
  · exact Nat.zero_add _

/-- Is row `r` of head `h` in the box of row `u` of head `h0`? -/
abbrev inBox (h0 : Fin 2) (u : Fin 32) (h : Fin 2) (r : Fin 2048) : Prop :=
  h0 = h ∧ 64 * firstRow u.val ≤ r.val ∧ r.val < 64 * firstRow u.val + 512

theorem not_mem_keyBox (h0 : Fin 2) (u : Fin 32) (h : Fin 2) (r : Fin 2048) (e : Fin 64) (hn : ¬ inBox h0 u h r) :
    (ix3 h r e : S2x2048x64.Idx) ∉ (keyBox h0 u).set := by
  rw [Rect.mem_set_unit]
  intro hm
  have e0 := hm 0
  have h1 := hm 1
  replace e0 : h0.val ≤ h.val ∧ h.val < h0.val + 1 := e0
  replace h1 : 64 * firstRow u.val ≤ r.val ∧ r.val < 64 * firstRow u.val + 512 := h1
  exact hn ⟨Fin.ext (by omega), h1⟩

/-! ## Two heads, each stored whole -/

theorem heads_canon (w1 w0 : FVec Ideal S1x2048x64 .bf16) (h : Fin 2) (r : Fin 2048) (e : Fin 64) :
    View.canon (headPieces w1 w0) (ix3 h r e) = if h = 0 then w0 (ix3 0 r e) else w1 (ix3 0 r e) := by
  have one := wholeHead_emb 1 inb_S2x2048x64_S1x2048x64_1_0_0 r e
  have zero := wholeHead_emb 0 inb_S2x2048x64_S1x2048x64_0_0_0 r e
  unfold headPieces
  by_cases hh : h = 0
  · subst hh
    rw [if_pos rfl, View.canon_cons_of_not_mem]
    · rw [← zero]; exact View.canon_cons_emb _ _ _ _
    · show (ix3 0 r e : S2x2048x64.Idx) ∉ (Rect.unit (s := S2x2048x64) ![1, 0, 0] S1x2048x64.size inb_S2x2048x64_S1x2048x64_1_0_0).set
      rw [Rect.mem_set_unit]
      intro hm
      have h0 : 1 ≤ 0 := (hm 0).1
      omega
  · have h1 : h = 1 := Fin.ext (by have := h.isLt; have h2 : h.val ≠ 0 := fun hv => hh (Fin.ext hv); show h.val = 1; omega)
    subst h1
    rw [if_neg hh, ← one]; exact View.canon_cons_emb _ _ _ _

variable (A : Memref sig .tc .vmem S2x2048x64 .bf16)

theorem rowOf_entry (w1 w0 : FVec Ideal S1x2048x64 .bf16) (h : Fin 2) (u : Fin 32) (a e : Fin 64) :
    (rowOf A (headPieces w1 w0) h u (ix2 a e) : EReal)
      = if h = 0 then w0 (ix3 0 ⟨64 * u.val + a.val, by omega⟩ e) else w1 (ix3 0 ⟨64 * u.val + a.val, by omega⟩ e) := by
  rw [← heads_canon]
  generalize headPieces w1 w0 = L
  unfold rowOf
  rw [View.readCov_eq_canon']
  refine (ValueIdx.shapeCast_1ab_ab_apply _ _ _ _).trans ?_
  exact congrArg (View.canon L) (row_idx h u a e)

theorem winOf_entry (w1 w0 : FVec Ideal S1x2048x64 .bf16) (h : Fin 2) (u : Fin 32) (k : Fin 512) (e : Fin 64) :
    (winOf A (headPieces w1 w0) h u (ix2 k e) : EReal)
      = if h = 0 then w0 (ix3 0 ⟨64 * firstRow u.val + k.val, keyRow_lt u k⟩ e)
        else w1 (ix3 0 ⟨64 * firstRow u.val + k.val, keyRow_lt u k⟩ e) := by
  rw [← heads_canon]
  generalize headPieces w1 w0 = L
  unfold winOf
  rw [View.readCov_eq_canon']
  refine (ValueIdx.shapeCast_1ab_ab_apply _ _ _ _).trans ?_
  exact congrArg (View.canon L) (keys_idx h u k e)

/-! ## Running sums -/

section Sums

variable (B : Memref sig .tc .vmem S2x2048x64 .f32) (z : FVec Ideal S2x2048x64 .f32) (P : Fin 2 → Fin 32 → FVec Ideal S512x64 .f32)

/-- What a part added at row `u` of head `h0` is at row `r` of head `h`. -/
def partAt (part : FVec Ideal S512x64 .f32) (h0 : Fin 2) (u : Fin 32) (h : Fin 2) (r : Fin 2048) (e : Fin 64) : EReal :=
  if hb : inBox h0 u h r then part (ix2 ⟨r.val - 64 * firstRow u.val, by have := hb.2; omega⟩ e) else 0

theorem addOnto_entry (part : FVec Ideal S512x64 .f32) (old : Vec Ideal S1x512x64 .f32) (k : Fin 512) (e : Fin 64) :
    (addOnto part old (ix3 0 k e) : EReal) = old (ix3 0 k e) + part (ix2 k e) := by
  unfold addOnto
  refine (ValueIdx.shapeCast_ab_1ab_apply _ _ _ _ _).trans ?_
  exact congrArg (· + (part (ix2 k e) : EReal)) (ValueIdx.shapeCast_1ab_ab_apply old shapeCasts_S1x512x64_S512x64 k e)

theorem step_canon (L : List (View.Piece (Elt Ideal) S2x2048x64 .f32)) (part : FVec Ideal S512x64 .f32) (h0 : Fin 2) (u : Fin 32)
    (h : Fin 2) (r : Fin 2048) (e : Fin 64) :
    (View.canon (⟨keyBox h0 u, addOnto part (B.view.readCov L (keyBox h0 u).toLoadRect)⟩ :: L) (ix3 h r e) : EReal)
      = View.canon L (ix3 h r e) + partAt part h0 u h r e := by
  unfold partAt
  by_cases hb : inBox h0 u h r
  · rw [dif_pos hb]
    obtain ⟨rfl, hb⟩ := hb
    obtain ⟨k, hk⟩ : ∃ k : Fin 512, r = ⟨64 * firstRow u.val + k.val, keyRow_lt u k⟩ :=
      ⟨⟨r.val - 64 * firstRow u.val, by omega⟩, Fin.ext (by dsimp only; omega)⟩
    subst hk
    have hk : (⟨64 * firstRow u.val + k.val - 64 * firstRow u.val, by omega⟩ : Fin 512) = k := Fin.ext (by dsimp only; omega)
    dsimp only
    rw [hk, ← keys_emb]
    refine (View.canon_cons_emb _ _ _ _).trans ((addOnto_entry _ _ _ _).trans ?_)
    rw [View.readCov_eq_canon']
    beta_reduce
    rw [keys_idx, keys_emb]
  · rw [dif_neg hb, add_zero]
    exact View.canon_cons_of_not_mem _ _ (not_mem_keyBox h0 u h r e hb)

theorem whole_emb (y : S2x2048x64.Idx) : (Rect.unit (s := S2x2048x64) ![0, 0, 0] S2x2048x64.size inb_S2x2048x64_S2x2048x64_0_0_0).emb y = y := by
  funext b; apply Fin.ext
  rw [ValueKit.rect_emb_unit_val]
  fin_cases b
  · exact Nat.zero_add _
  · exact Nat.zero_add _
  · exact Nat.zero_add _

theorem start_canon (y : S2x2048x64.Idx) :
    View.canon [(⟨Rect.unit (s := S2x2048x64) ![0, 0, 0] S2x2048x64.size inb_S2x2048x64_S2x2048x64_0_0_0, z⟩ :
      View.Piece (Elt Ideal) S2x2048x64 .f32)] y = z y := by
  conv_lhs => rw [← whole_emb y]
  exact View.canon_cons_emb _ _ _ _

theorem sum_canon (n : ℕ) (h : Fin 2) (r : Fin 2048) (e : Fin 64) :
    (View.canon (sumPieces B z P n) (ix3 h r e) : EReal)
      = z (ix3 h r e) + ∑ i ∈ Finset.range n, partAt (P (headNo i) (rowNo i)) (headNo i) (rowNo i) h r e := by
  induction n with
  | zero =>
    rw [Finset.sum_range_zero, add_zero]
    exact start_canon z _
  | succ n ih =>
    rw [Finset.sum_range_succ, ← add_assoc, ← ih]
    exact step_canon B (sumPieces B z P n) (P (headNo n) (rowNo n)) (headNo n) (rowNo n) h r e

/-- After all 64 parts: every row `u` of the head once. -/
theorem sum_all (h : Fin 2) (r : Fin 2048) (e : Fin 64) :
    (View.canon (sumPieces B z P 64) (ix3 h r e) : EReal) = z (ix3 h r e) + ∑ u : Fin 32, partAt (P h u) h u h r e := by
  rw [sum_canon]
  congr 1
  have split : ∀ (n : ℕ) (f : ℕ → EReal), ∑ i ∈ Finset.range (2 * n), f i = ∑ u ∈ Finset.range n, (f (2 * u) + f (2 * u + 1)) := by
    intro n f
    induction n with
    | zero => rfl
    | succ n ih => rw [Nat.mul_succ, Finset.sum_range_succ, Finset.sum_range_succ, Finset.sum_range_succ, ih, add_assoc]
  rw [show (64 : ℕ) = 2 * 32 from rfl, split, ← Fin.sum_univ_eq_sum_range]
  refine Finset.sum_congr rfl fun u _ => ?_
  have r0 : rowNo (2 * u.val) = u := Fin.ext (by show 2 * u.val / 2 % 32 = u.val; omega)
  have r1 : rowNo (2 * u.val + 1) = u := Fin.ext (by show (2 * u.val + 1) / 2 % 32 = u.val; omega)
  have h0 : headNo (2 * u.val) = 0 := Fin.ext (by show 2 * u.val % 2 = 0; omega)
  have h1 : headNo (2 * u.val + 1) = 1 := Fin.ext (by show (2 * u.val + 1) % 2 = 1; omega)
  rw [r0, r1, h0, h1]
  have other : ∀ a : Fin 2, a ≠ h → partAt (P a u) a u h r e = 0 := fun a ha => dif_neg fun hb => ha hb.1
  by_cases hh : h = 0
  · subst hh
    rw [other 1 (by decide), add_zero]
  · have h1 : h = 1 := Fin.ext (by have := h.isLt; have h2 : h.val ≠ 0 := fun hv => hh (Fin.ext hv); show h.val = 1; omega)
    subst h1
    rw [other 0 (by decide), zero_add]

end Sums

end Cert.AttnGrad

end
-- ==== Proof.Ab.Head.lean ====
/- The attention backward's formulas, entry by entry. -/
module

public import proofs.«01_k».proof.Proof.Ab.Sums

@[expose] public section

set_option maxRecDepth 16384

noncomputable section

namespace Cert.AttnGrad

open Cert.AbKernelIdeal Cert.AbKernelIdeal.Gen Idealize.ShloMosaic Idealize.ShloMosaic.TcCoe Idealize.SL.Sem
open Cert.Attention (firstRow firstRow_le flat flat_injective flat_surjective)

theorem probGrads_entry (o : FVec Ideal S64x64 .bf16) (v : FVec Ideal S512x64 .bf16) (a : Fin 64) (k : Fin 512) :
    (probGrads o v (ix2 a k) : EReal) = ∑ d : Fin 64, o (ix2 a d) * v (ix2 k d) := by
  pointwise [probGrads]

theorem scoreGrads_entry (p : FVec Ideal S64x512 .bf16) (dp : FVec Ideal S64x512 .f32) (a : Fin 64) (k : Fin 512) :
    (scoreGrads p dp (ix2 a k) : EReal) = Softmax.grad (fun k : Fin 512 => (p (ix2 a k) : EReal)) (fun k => dp (ix2 a k)) k := by
  unfold Softmax.grad
  pointwise [scoreGrads]

theorem queryGrads_entry (ds : FVec Ideal S64x512 .bf16) (k : FVec Ideal S512x64 .bf16) (a d : Fin 64) :
    (queryGrads ds k (ix2 a d) : EReal) = (∑ x : Fin 512, ds (ix2 a x) * k (ix2 x d)) * Ideal.ofBits .f32 0x3E000000#32 := by
  pointwise [queryGrads]

theorem spread_entry (s : FVec Ideal S64x512 .bf16) (x : FVec Ideal S64x64 .bf16) (k : Fin 512) (d : Fin 64) :
    (spread s x (ix2 k d) : EReal) = ∑ a : Fin 64, s (ix2 a k) * x (ix2 a d) := by
  pointwise [spread]

/-- The sum over 512 keys as one over eight rows of 64. -/
theorem sum_flat (f : Fin 512 → EReal) : ∑ x, f x = ∑ k, f (flat k) :=
  (Function.Bijective.sum_comp ⟨flat_injective, flat_surjective⟩ f).symm

theorem grad_flat (p dp : Fin 512 → EReal) (k : Fin 8 × Fin 64) :
    Softmax.grad p dp (flat k) = Softmax.grad (fun k => p (flat k)) (fun k => dp (flat k)) k := by
  unfold Softmax.grad
  rw [sum_flat]

theorem zero9 (y : S2x2048x64.Idx) : (k0_pay9 (F := Ideal) y : EReal) = 0 := by pointwise [k0_pay9]
theorem zero10 (y : S2x2048x64.Idx) : (k0_pay10 (F := Ideal) y : EReal) = 0 := by pointwise [k0_pay10]

theorem sides_entry (x y : Vec Ideal S1x2048x64 .f32) (r : Fin 2048) (l : Fin 128) :
    (k0_pay1263 x y (ix2 r l) : EReal) = if h : l.val < 64 then x (ix3 0 r ⟨l.val, h⟩) else y (ix3 0 r ⟨l.val - 64, by omega⟩) := by
  pointwise [k0_pay1263]

theorem head_idx (h : Fin 2) (inb : ∀ a, (![h.val, 0, 0] : Fin 3 → ℕ) a + S1x2048x64.size a ≤ S2x2048x64.size a) (r : Fin 2048) (e : Fin 64) :
    (Rect.unit (s := S2x2048x64) ![h.val, 0, 0] S1x2048x64.size inb).toLoadRect.idx (ix3 0 r e) = ix3 h r e := by
  funext b; apply Fin.ext
  rw [Rect.idx_unit_val]
  fin_cases b
  · rfl
  · exact Nat.zero_add _
  · exact Nat.zero_add _

theorem bothHeads_entry (A : Memref sig .tc .vmem S2x2048x64 .f32) (L : List (View.Piece (Elt Ideal) S2x2048x64 .f32)) (r : Fin 2048) (l : Fin 128) :
    (bothHeads A L (ix2 r l) : EReal) = View.canon L (ix3 ⟨l.val / 64, by omega⟩ r ⟨l.val % 64, by omega⟩) := by
  unfold bothHeads
  rw [sides_entry, View.readCov_eq_canon', View.readCov_eq_canon']
  beta_reduce
  have zero := fun e => head_idx 0 inb_S2x2048x64_S1x2048x64_0_0_0 r e
  have one := fun e => head_idx 1 inb_S2x2048x64_S1x2048x64_1_0_0 r e
  generalize View.canon L = C
  by_cases h : l.val < 64
  · rw [dif_pos h]
    refine congrArg C ((zero _).trans ?_)
    congr 1
    · exact Fin.ext (by show 0 = l.val / 64; omega)
    · exact Fin.ext (by show l.val = l.val % 64; omega)
  · rw [dif_neg h]
    refine congrArg C ((one _).trans ?_)
    congr 1
    · exact Fin.ext (by show 1 = l.val / 64; omega)
    · exact Fin.ext (by show l.val - 64 = l.val % 64; omega)

/-- One running sum written out: every row's part, where it reaches. -/
theorem sums_entry (A : Memref sig .tc .vmem S2x2048x64 .f32) (z : FVec Ideal S2x2048x64 .f32) (hz : ∀ y, (z y : EReal) = 0)
    (P : Fin 2 → Fin 32 → FVec Ideal S512x64 .f32) (r : Fin 2048) (l : Fin 128) :
    (bothHeads A (sumPieces A z P 64) (ix2 r l) : EReal)
      = ∑ u : Fin 32, if h : firstRow u.val ≤ r.val / 64 ∧ r.val / 64 < firstRow u.val + 8
          then P ⟨l.val / 64, by omega⟩ u (ix2 (flat (⟨r.val / 64 - firstRow u.val, by omega⟩, ⟨r.val % 64, by omega⟩)) ⟨l.val % 64, by omega⟩) else 0 := by
  rw [bothHeads_entry, sum_all, hz, zero_add]
  refine Finset.sum_congr rfl fun u _ => ?_
  unfold partAt
  by_cases h : firstRow u.val ≤ r.val / 64 ∧ r.val / 64 < firstRow u.val + 8
  · rw [dif_pos h, dif_pos ⟨rfl, by omega, by omega⟩]
    congr 2
    exact Fin.ext (by show r.val - 64 * firstRow u.val = 64 * (r.val / 64 - firstRow u.val) + r.val % 64; omega)
  · rw [dif_neg h, dif_neg]
    intro hb
    have := hb.2
    omega

end Cert.AttnGrad

end
-- ==== Proof.Ab.Loads.lean ====
/-
What one point of the attention backward computes, entry by entry, when its blocks are columns of the projections, of
the probabilities and of the output's gradient.
-/
module

public import proofs.«01_k».proof.Proof.Ab.Head

@[expose] public section

set_option maxRecDepth 16384

noncomputable section

namespace Cert.AttnGrad

open Cert.AbKernelIdeal Cert.AbKernelIdeal.Gen Idealize.ShloMosaic Idealize.ShloMosaic.TcCoe Idealize.SL.Sem
open Cert.Attention (firstRow firstRow_le flat)

/-- The scaling of the queries. -/
abbrev eighth : EReal := ((1 / 8 : ℝ) : EReal)

theorem eighth_bf16 : Ideal.ofBits .bf16 0x3E00#16 = eighth := by
  simp [Ideal.ofBits, Ideal.ieee, -EReal.coe_mul]; norm_num

theorem eighth_f32 : Ideal.ofBits .f32 0x3E000000#32 = eighth := by
  simp [Ideal.ofBits, Ideal.ieee, -EReal.coe_mul]; norm_num

/-! ## The columns of a block -/

section Columns

variable (M : Memref sig .tc .vmem S2048x128 .bf16) (hM : M.IsWhole) (x : Vec Ideal S2048x128 .bf16)

theorem colsZero_entry (r : Fin 2048) (e : Fin 64) : (colsZero M hM x (ix2 r e) : EReal) = x (ix2 r ⟨e.val, by omega⟩) := by
  unfold colsZero
  simp only [View.readAt_eq_ld, Memref.IsWhole.read_unread]
  refine congrArg x (funext fun b => Fin.ext ?_)
  rw [Rect.idx_unit_val]
  fin_cases b
  · exact Nat.zero_add _
  · exact Nat.zero_add _

theorem colsOne_entry (r : Fin 2048) (e : Fin 64) : (colsOne M hM x (ix2 r e) : EReal) = x (ix2 r ⟨64 + e.val, by omega⟩) := by
  unfold colsOne
  simp only [View.readAt_eq_ld, Memref.IsWhole.read_unread]
  refine congrArg x (funext fun b => Fin.ext ?_)
  rw [Rect.idx_unit_val]
  fin_cases b
  · exact Nat.zero_add _
  · rfl

end Columns

theorem scaled_entry (y : Vec Ideal S2048x64 .bf16) (r : Fin 2048) (e : Fin 64) :
    (k0_pay1 y (ix3 0 r e) : EReal) = y (ix2 r e) * eighth ∧ (k0_pay2 y (ix3 0 r e) : EReal) = y (ix2 r e) * eighth := by
  rw [← eighth_bf16]
  constructor
  · pointwise [k0_pay1]
  · pointwise [k0_pay2]

theorem plain_entry (y : Vec Ideal S2048x64 .bf16) (r : Fin 2048) (e : Fin 64) :
    (k0_pay3 y (ix3 0 r e) : EReal) = y (ix2 r e) ∧ (k0_pay4 y (ix3 0 r e) : EReal) = y (ix2 r e)
      ∧ (k0_pay5 y (ix3 0 r e) : EReal) = y (ix2 r e) ∧ (k0_pay6 y (ix3 0 r e) : EReal) = y (ix2 r e)
      ∧ (k0_pay7 y (ix3 0 r e) : EReal) = y (ix2 r e) ∧ (k0_pay8 y (ix3 0 r e) : EReal) = y (ix2 r e) := by
  refine ⟨?_, ?_, ?_, ?_, ?_, ?_⟩
  · pointwise [k0_pay3]
  · pointwise [k0_pay4]
  · pointwise [k0_pay5]
  · pointwise [k0_pay6]
  · pointwise [k0_pay7]
  · pointwise [k0_pay8]

/-- Of two heads' columns, those of head `h`. -/
theorem both_cols (x : Vec Ideal S2048x128 .bf16) (h : Fin 2) (r : Fin 2048) (e : Fin 64) (f : EReal → EReal) (x0 x1 : EReal)
    (h0 : x0 = f (x (ix2 r ⟨e.val, by omega⟩))) (h1 : x1 = f (x (ix2 r ⟨64 + e.val, by omega⟩))) :
    (if h = 0 then x0 else x1) = f (x (ix2 r ⟨64 * h.val + e.val, by omega⟩)) := by
  by_cases hh : h = 0
  · subst hh
    rw [if_pos rfl, h0]
    congr 3
    exact Fin.ext (by show e.val = 64 * 0 + e.val; omega)
  · have e1 : h = 1 := Fin.ext (by have := h.isLt; have h2 : h.val ≠ 0 := fun hv => hh (Fin.ext hv); show h.val = 1; omega)
    subst e1
    rw [if_neg hh, h1]
    rfl

section Blocks

variable (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x1024 .bf16) (harg4 : arg4.IsWhole)
  (arg5 : Memref sig .tc .vmem S2048x128 .bf16) (harg5 : arg5.IsWhole)
  (arg10 arg11 arg12 arg13 : Memref sig .tc .vmem S2x2048x64 .bf16)
  (x0 x1 x2 : Vec Ideal S2048x128 .bf16) (x3 : Vec Ideal S2048x1024 .bf16) (x4 : Vec Ideal S2048x128 .bf16)
  (h : Fin 2) (u : Fin 32)

theorem q_entry (a e : Fin 64) : (rowOf arg10 (qPieces arg1 harg1 x0) h u (ix2 a e) : EReal)
    = x0 (ix2 ⟨64 * u.val + a.val, by omega⟩ ⟨64 * h.val + e.val, by omega⟩) * eighth := by
  unfold qPieces
  rw [rowOf_entry, (scaled_entry _ _ _).1, (scaled_entry _ _ _).2]
  exact both_cols x0 h _ e (· * eighth) _ _ (by rw [colsZero_entry]) (by rw [colsOne_entry])

theorem o_entry (a e : Fin 64) : (rowOf arg13 (oPieces arg5 harg5 x4) h u (ix2 a e) : EReal)
    = x4 (ix2 ⟨64 * u.val + a.val, by omega⟩ ⟨64 * h.val + e.val, by omega⟩) := by
  unfold oPieces
  rw [rowOf_entry, (plain_entry _ _ _).2.2.2.2.1, (plain_entry _ _ _).2.2.2.2.2]
  exact both_cols x4 h _ e id _ _ (colsZero_entry _ _ _ _ _) (colsOne_entry _ _ _ _ _)

theorem k_entry (k : Fin 512) (e : Fin 64) : (winOf arg11 (kPieces arg2 harg2 x1) h u (ix2 k e) : EReal)
    = x1 (ix2 ⟨64 * firstRow u.val + k.val, keyRow_lt u k⟩ ⟨64 * h.val + e.val, by omega⟩) := by
  unfold kPieces
  rw [winOf_entry, (plain_entry _ _ _).1, (plain_entry _ _ _).2.1]
  exact both_cols x1 h _ e id _ _ (colsZero_entry _ _ _ _ _) (colsOne_entry _ _ _ _ _)

theorem v_entry (k : Fin 512) (e : Fin 64) : (winOf arg12 (vPieces arg3 harg3 x2) h u (ix2 k e) : EReal)
    = x2 (ix2 ⟨64 * firstRow u.val + k.val, keyRow_lt u k⟩ ⟨64 * h.val + e.val, by omega⟩) := by
  unfold vPieces
  rw [winOf_entry, (plain_entry _ _ _).2.2.1, (plain_entry _ _ _).2.2.2.1]
  exact both_cols x2 h _ e id _ _ (colsZero_entry _ _ _ _ _) (colsOne_entry _ _ _ _ _)

theorem p_entry (a : Fin 64) (k : Fin 512) : (probsOf arg4 harg4 x3 h u (ix2 a k) : EReal)
    = x3 (ix2 ⟨64 * u.val + a.val, by omega⟩ ⟨512 * h.val + k.val, by omega⟩) := by
  unfold probsOf
  simp only [View.readAt_eq_ld, Memref.IsWhole.read_unread]
  refine (congrFun (shapeCast_self (s := S64x512) (View.ld x3 (probBox h u)) _) (ix2 a k)).trans ?_
  refine congrArg x3 (funext fun b => Fin.ext ?_)
  rw [Rect.idx_unit_val]
  fin_cases b
  · rfl
  · rfl

/-! ## The blocks as columns of the arrays -/

variable (z : Cert.Attention.ProjIdx → EReal) (b : Cert.Attention.BiasIdx → EReal) (g : Cert.Attention.GradIdx → EReal) (t : Fin 4)

/-- The head numbered `h` in pair `t`. -/
def headAt (t : Fin 4) (h : Fin 2) : Fin 8 := ⟨2 * t.val + h.val, by omega⟩

/-- Query, key, value and output gradient blocks of pair `t`, and its probabilities. -/
structure IsPair : Prop where
  q : ∀ r l, (x0 (ix2 r l) : EReal) = z (ix2 r ⟨128 * t.val + l.val, by omega⟩)
  k : ∀ r l, (x1 (ix2 r l) : EReal) = z (ix2 r ⟨512 + (128 * t.val + l.val), by omega⟩)
  v : ∀ r l, (x2 (ix2 r l) : EReal) = z (ix2 r ⟨1024 + (128 * t.val + l.val), by omega⟩)
  p : ∀ (h : Fin 2) (u : Fin 32) (a : Fin 64) (k : Fin 8 × Fin 64), (x3 (ix2 ⟨64 * u.val + a.val, by omega⟩ ⟨512 * h.val + (flat k).val, by omega⟩) : EReal)
    = Softmax.prob (Attention.score z b eighth (headAt t h) u a) k
  o : ∀ r l, (x4 (ix2 r l) : EReal) = g (ix2 r ⟨128 * t.val + l.val, by omega⟩)

variable (H : IsPair x0 x1 x2 x3 x4 z b g t)

include H

theorem q_at (a e : Fin 64) : (rowOf arg10 (qPieces arg1 harg1 x0) h u (ix2 a e) : EReal) = Attention.query z (headAt t h) u a e * eighth := by
  rw [q_entry, H.q]
  unfold Attention.query headAt
  congr 3; apply Fin.ext; dsimp only; omega

theorem o_at (a e : Fin 64) : (rowOf arg13 (oPieces arg5 harg5 x4) h u (ix2 a e) : EReal) = Attention.outGrad g (headAt t h) u a e := by
  rw [o_entry, H.o]
  unfold Attention.outGrad headAt
  congr 2; apply Fin.ext; dsimp only; omega

theorem k_at (k : Fin 8 × Fin 64) (e : Fin 64) :
    (winOf arg11 (kPieces arg2 harg2 x1) h u (ix2 (flat k) e) : EReal) = Attention.key z (headAt t h) u k.1 k.2 e := by
  rw [k_entry, H.k]
  unfold Attention.key headAt flat
  congr 2 <;> (apply Fin.ext; dsimp only; omega)

theorem v_at (k : Fin 8 × Fin 64) (e : Fin 64) :
    (winOf arg12 (vPieces arg3 harg3 x2) h u (ix2 (flat k) e) : EReal) = Attention.value z (headAt t h) u k.1 k.2 e := by
  rw [v_entry, H.v]
  unfold Attention.value headAt flat
  congr 2 <;> (apply Fin.ext; dsimp only; omega)

theorem p_at (a : Fin 64) (k : Fin 8 × Fin 64) :
    (probsOf arg4 harg4 x3 h u (ix2 a (flat k)) : EReal) = Softmax.prob (Attention.score z b eighth (headAt t h) u a) k := by
  rw [p_entry]
  exact H.p h u a k

theorem dp_at (a : Fin 64) (k : Fin 8 × Fin 64) :
    (probGrads (rowOf arg13 (oPieces arg5 harg5 x4) h u) (winOf arg12 (vPieces arg3 harg3 x2) h u) (ix2 a (flat k)) : EReal)
      = Attention.probGrad z g (headAt t h) u a k := by
  rw [probGrads_entry]
  exact Finset.sum_congr rfl fun d _ => congrArg₂ (· * ·) (o_at arg5 harg5 arg13 x0 x1 x2 x3 x4 h u z b g t H a d)
    (v_at arg3 harg3 arg12 x0 x1 x2 x3 x4 h u z b g t H k d)

theorem ds_at (a : Fin 64) (k : Fin 8 × Fin 64) :
    (scoresOf arg3 harg3 arg4 harg4 arg5 harg5 arg12 arg13 x2 x3 x4 h u (ix2 a (flat k)) : EReal)
      = Attention.scoreGrad z b g eighth (headAt t h) u a k := by
  unfold scoresOf
  refine (scoreGrads_entry _ _ a (flat k)).trans ((grad_flat _ _ k).trans ?_)
  unfold Attention.scoreGrad
  exact congrArg₂ (Softmax.grad · · k) (funext fun k => p_at arg4 harg4 x0 x1 x2 x3 x4 h u z b g t H a k)
    (funext fun k => dp_at arg3 harg3 arg5 harg5 arg12 arg13 x0 x1 x2 x3 x4 h u z b g t H a k)

theorem dq_at (a d : Fin 64) :
    (queryGrads (scoresOf arg3 harg3 arg4 harg4 arg5 harg5 arg12 arg13 x2 x3 x4 h u) (winOf arg11 (kPieces arg2 harg2 x1) h u) (ix2 a d) : EReal)
      = Attention.queryGrad z b g eighth (headAt t h) u a d := by
  rw [queryGrads_entry, eighth_f32, sum_flat]
  unfold Attention.queryGrad
  refine congrArg (· * eighth) (Finset.sum_congr rfl fun k _ => ?_)
  exact congrArg₂ (· * ·) (ds_at arg3 harg3 arg4 harg4 arg5 harg5 arg12 arg13 x0 x1 x2 x3 x4 h u z b g t H a k)
    (k_at arg2 harg2 arg11 x0 x1 x2 x3 x4 h u z b g t H k d)

theorem keyPart_at (k : Fin 8 × Fin 64) (d : Fin 64) :
    (keyPart arg1 harg1 arg3 harg3 arg4 harg4 arg5 harg5 arg10 arg12 arg13 x0 x2 x3 x4 h u (ix2 (flat k) d) : EReal)
      = Attention.keyPart z b g eighth (headAt t h) u k d := by
  unfold keyPart Attention.keyPart
  rw [spread_entry]
  exact Finset.sum_congr rfl fun a _ => congrArg₂ (· * ·) (ds_at arg3 harg3 arg4 harg4 arg5 harg5 arg12 arg13 x0 x1 x2 x3 x4 h u z b g t H a k)
    (q_at arg1 harg1 arg10 x0 x1 x2 x3 x4 h u z b g t H a d)

theorem valPart_at (k : Fin 8 × Fin 64) (d : Fin 64) :
    (valPart arg4 harg4 arg5 harg5 arg13 x3 x4 h u (ix2 (flat k) d) : EReal) = Attention.valuePart z b g eighth (headAt t h) u k d := by
  unfold valPart Attention.valuePart
  rw [spread_entry]
  exact Finset.sum_congr rfl fun a _ => congrArg₂ (· * ·) (p_at arg4 harg4 x0 x1 x2 x3 x4 h u z b g t H a k)
    (o_at arg5 harg5 arg13 x0 x1 x2 x3 x4 h u z b g t H a d)

omit H h in
theorem sides (x y : FVec Ideal S64x64 .f32) (a : Fin 64) (l : Fin 128) :
    (shapeCast S64x128 (truncf .bf16 (concatenate S64x128 1 [⟨S64x64, x⟩, ⟨S64x64, y⟩] concatenates_S64x64_S64x64_S64x128_d1) bitsLt_bf16_f32)
      shapeCasts_S64x128_S64x128 (ix2 a l) : EReal)
      = if h : l.val < 64 then x (ix2 a ⟨l.val, h⟩) else y (ix2 a ⟨l.val - 64, by omega⟩) := by
  pointwise

theorem tile_at (a : Fin 64) (l : Fin 128) :
    (tile arg2 harg2 arg3 harg3 arg4 harg4 arg5 harg5 arg11 arg12 arg13 x1 x2 x3 x4 u (ix2 a l) : EReal)
      = Attention.queryGrad z b g eighth (headAt t ⟨l.val / 64, by omega⟩) u a ⟨l.val % 64, by omega⟩ := by
  unfold tile
  rw [sides]
  have hl := l.isLt
  by_cases h : l.val < 64
  · have e0 : (⟨l.val / 64, by omega⟩ : Fin 2) = 0 := Fin.ext (by show l.val / 64 = 0; omega)
    have e1 : (⟨l.val % 64, by omega⟩ : Fin 64) = ⟨l.val, h⟩ := Fin.ext (by dsimp only; omega)
    rw [dif_pos h, e0, e1]
    exact dq_at arg2 harg2 arg3 harg3 arg4 harg4 arg5 harg5 arg11 arg12 arg13 x0 x1 x2 x3 x4 0 u z b g t H a _
  · have e0 : (⟨l.val / 64, by omega⟩ : Fin 2) = 1 := Fin.ext (by show l.val / 64 = 1; omega)
    have e1 : (⟨l.val % 64, by omega⟩ : Fin 64) = ⟨l.val - 64, by omega⟩ := Fin.ext (by dsimp only; omega)
    rw [dif_neg h, e0, e1]
    exact dq_at arg2 harg2 arg3 harg3 arg4 harg4 arg5 harg5 arg11 arg12 arg13 x0 x1 x2 x3 x4 1 u z b g t H a _

end Blocks

end Cert.AttnGrad

end
-- ==== Proof.At.Tiles.lean ====
/- What one grid step of the neighbourhood attention writes: thirty-two tiles, one per row of the grid, all of ONE
   function of the row's number. -/
module

public import proofs.«01_k».proof.Proof.Gen.AtKernelIdeal.Value
public import proofs.«01_k».proof.Proof.At.Window
public import Idealize.ShloMosaic.Lib.Pipeline.ValueKit

@[expose] public section

set_option maxRecDepth 16384

noncomputable section

namespace Cert.AtKernelIdeal.Value

open Cert.AtKernelIdeal Cert.AtKernelIdeal.Gen Idealize.ShloMosaic Idealize.ShloMosaic.TcCoe Idealize.SL.Sem
open Idealize.ShloMosaic.Pipeline (Dat)
open Cert.Attention (firstRow rowDist firstRow_le rowDist_le)

variable {F : FTy → Type} [FloatOps F]

/-! ## One head of one row, from the loaded blocks -/

/-- The scores of one row of queries against eight rows of keys, with the bias. -/
def scores (q : Vec F S1x64x64 .bf16) (k : Vec F S1x512x64 .bf16) (b : Fin 4 → Vec F S1x1x64x128 .f32) : FVec F S64x512 .f32 :=
  addf (matmul dot_S64x64_S512x64_S64x512_1_1_0_0_n_n none (shapeCast S64x64 q shapeCasts_S1x64x64_S64x64)
      (shapeCast S512x64 k shapeCasts_S1x512x64_S512x64) (constant S64x512 .f32 0x00000000#32))
    (concatenate S64x512 1 [⟨S64x128, shapeCast S64x128 (b 0) shapeCasts_S1x1x64x128_S64x128⟩, ⟨S64x128, shapeCast S64x128 (b 1) shapeCasts_S1x1x64x128_S64x128⟩,
      ⟨S64x128, shapeCast S64x128 (b 2) shapeCasts_S1x1x64x128_S64x128⟩, ⟨S64x128, shapeCast S64x128 (b 3) shapeCasts_S1x1x64x128_S64x128⟩]
      concatenates_S64x128_S64x128_S64x128_S64x128_S64x512_d1)

/-- The exponentials of the scores less their row's maximum. -/
def expos (s : FVec F S64x512 .f32) : FVec F S64x512 .f32 :=
  exp (subf s (broadcastTo S64x512 (shapeCast S64x1 (multiReduction .maximumf [1] S64 s 0xFF800000#32 reduces_S64x512_S64 (.inl rfl) rfl)
    shapeCasts_S64_S64x1) broadcasts_S64x1_S64x512))

/-- The reciprocal of each row's sum. -/
def inverse (e : FVec F S64x512 .f32) : FVec F S64x1 .f32 :=
  divf (broadcast S64x1 (Scalar.ofBits .f32 0x3F800000#32))
    (shapeCast S64x1 (multiReduction .add [1] S64 e 0x00000000#32 reduces_S64x512_S64 (.inl rfl) rfl) shapeCasts_S64_S64x1)

/-- The probabilities of one row. -/
def probs (e : FVec F S64x512 .f32) : FVec F S64x512 .bf16 :=
  truncf .bf16 (mulf e (broadcastTo S64x512 (inverse e) broadcasts_S64x1_S64x512)) bitsLt_bf16_f32

/-- One head's output for one row of queries. -/
def head (q : Vec F S1x64x64 .bf16) (k v : Vec F S1x512x64 .bf16) (b : Fin 4 → Vec F S1x1x64x128 .f32) : FVec F S64x64 .f32 :=
  matmul dot_S64x512_S512x64_S64x64_1_0_0_1_n_n none (probs (expos (scores q k b))) (shapeCast S512x64 v shapeCasts_S1x512x64_S512x64)
    (constant S64x64 .f32 0x00000000#32)

variable (m : (ℓ : Loc nD τ sig) → Buf (Elt F) ℓ) (c : Dev nD) (t : Fin cfg0.N)

/-! ## The loads -/

/-- The query scratch: both heads' queries, scaled. -/
def qPieces : List (View.Piece (Elt F) S2x2048x64 .bf16) :=
  [⟨Rect.unit ![1, 0, 0] S1x2048x64.size inb_S2x2048x64_S1x2048x64_1_0_0,
    k0_pay3 (View.readAt (Elt F) (ms0_0 t).view (Rect.unit (s := S2048x128) ![0, 64] S2048x64.size inb_S2048x128_S2048x64_0_64).toLoadRect ((hs0_0 t).unread (iblk m c 0 t)))⟩,
   ⟨Rect.unit ![0, 0, 0] S1x2048x64.size inb_S2x2048x64_S1x2048x64_0_0_0,
    k0_pay2 (View.readAt (Elt F) (ms0_0 t).view (Rect.unit (s := S2048x128) ![0, 0] S2048x64.size inb_S2048x128_S2048x64_0_0).toLoadRect ((hs0_0 t).unread (iblk m c 0 t)))⟩]

/-- The key scratch. -/
def kPieces : List (View.Piece (Elt F) S2x2048x64 .bf16) :=
  [⟨Rect.unit ![1, 0, 0] S1x2048x64.size inb_S2x2048x64_S1x2048x64_1_0_0,
    k0_pay5 (View.readAt (Elt F) (ms0_1 t).view (Rect.unit (s := S2048x128) ![0, 64] S2048x64.size inb_S2048x128_S2048x64_0_64).toLoadRect ((hs0_1 t).unread (iblk m c 1 t)))⟩,
   ⟨Rect.unit ![0, 0, 0] S1x2048x64.size inb_S2x2048x64_S1x2048x64_0_0_0,
    k0_pay4 (View.readAt (Elt F) (ms0_1 t).view (Rect.unit (s := S2048x128) ![0, 0] S2048x64.size inb_S2048x128_S2048x64_0_0).toLoadRect ((hs0_1 t).unread (iblk m c 1 t)))⟩]

/-- The value scratch. -/
def vPieces : List (View.Piece (Elt F) S2x2048x64 .bf16) :=
  [⟨Rect.unit ![1, 0, 0] S1x2048x64.size inb_S2x2048x64_S1x2048x64_1_0_0,
    k0_pay7 (View.readAt (Elt F) (ms0_2 t).view (Rect.unit (s := S2048x128) ![0, 64] S2048x64.size inb_S2048x128_S2048x64_0_64).toLoadRect ((hs0_2 t).unread (iblk m c 2 t)))⟩,
   ⟨Rect.unit ![0, 0, 0] S1x2048x64.size inb_S2x2048x64_S1x2048x64_0_0_0,
    k0_pay6 (View.readAt (Elt F) (ms0_2 t).view (Rect.unit (s := S2048x128) ![0, 0] S2048x64.size inb_S2048x128_S2048x64_0_0).toLoadRect ((hs0_2 t).unread (iblk m c 2 t)))⟩]

theorem inb_row (h : Fin 2) (u : Fin 32) : ∀ a, (![h.val, 64 * u.val, 0] : Fin 3 → ℕ) a + S1x64x64.size a ≤ S2x2048x64.size a := by
  intro a; fin_cases a <;> simp [S1x64x64, S2x2048x64] <;> omega
theorem inb_keys (h : Fin 2) (u : Fin 32) : ∀ a, (![h.val, 64 * firstRow u.val, 0] : Fin 3 → ℕ) a + S1x512x64.size a ≤ S2x2048x64.size a := by
  have := firstRow_le u.val
  intro a; fin_cases a <;> simp [S1x512x64, S2x2048x64] <;> omega
theorem inb_bias (h : Fin 2) (u : Fin 32) (g : Fin 4) : ∀ a, (![h.val, rowDist u.val + 2 * g.val, 0, 0] : Fin 4 → ℕ) a + S1x1x64x128.size a ≤ S2x14x64x128.size a := by
  have := rowDist_le u.val
  intro a; fin_cases a <;> simp [S1x1x64x128, S2x14x64x128] <;> omega
theorem inb_tile (u : Fin 32) : ∀ a, (![64 * u.val, 0] : Fin 2 → ℕ) a + (![64, 128] : Fin 2 → ℕ) a ≤ S2048x128.size a := by
  intro a; fin_cases a <;> simp [S2048x128] <;> omega

/-- Head `h` of row `u`. -/
def headOf (h : Fin 2) (u : Fin 32) : FVec F S64x64 .f32 :=
  head (scM0_0.view.readCov (qPieces m c t) (Rect.unit (s := S2x2048x64) ![h.val, 64 * u.val, 0] S1x64x64.size (inb_row h u)).toLoadRect)
    (scM0_1.view.readCov (kPieces m c t) (Rect.unit (s := S2x2048x64) ![h.val, 64 * firstRow u.val, 0] S1x512x64.size (inb_keys h u)).toLoadRect)
    (scM0_2.view.readCov (vPieces m c t) (Rect.unit (s := S2x2048x64) ![h.val, 64 * firstRow u.val, 0] S1x512x64.size (inb_keys h u)).toLoadRect)
    (fun g => View.readAt (Elt F) (ms0_3 t).view (Rect.unit (s := S2x14x64x128) ![h.val, rowDist u.val + 2 * g.val, 0, 0] S1x1x64x128.size (inb_bias h u g)).toLoadRect
      ((hs0_3 t).unread (iblk m c 3 t)))

/-- The tile row `u` writes: its two heads side by side. -/
def tile (u : Fin 32) : FVec F S64x128 .bf16 :=
  truncf .bf16 (concatenate S64x128 1 [⟨S64x64, headOf m c t 0 u⟩, ⟨S64x64, headOf m c t 1 u⟩] concatenates_S64x64_S64x64_S64x128_d1) bitsLt_bf16_f32

theorem pieces_eq :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _)
      (iblk m c 0 t) (iblk m c 1 t) (iblk m c 2 t) (iblk m c 3 t)).1
    = List.ofFn fun k : Fin 32 => (⟨Rect.unit ![64 * (31 - k.val), 0] ![64, 128] (inb_tile ⟨31 - k.val, by omega⟩), tile m c t ⟨31 - k.val, by omega⟩⟩ :
        View.Piece (Elt F) S2048x128 .bf16) := by
  sl_kernel_rfl

end Cert.AtKernelIdeal.Value

end
-- ==== Proof.At.Bias.lean ====
/- The table of biases that the host lays out for the neighbourhood attention, entry by entry. -/
module

public import proofs.«01_k».proof.Proof.At.Tiles
public import Idealize.ShloMosaic.Lib.StableHlo.ReadAt

@[expose] public section

set_option maxRecDepth 16384

noncomputable section

namespace Cert.AtKernelIdeal.Value

open Cert.Attention (inWindow colDist colDist_lt bias)
open Cert.AtKernelIdeal Cert.AtKernelIdeal.Gen Idealize.ShloMosaic Idealize.ShloMosaic.TcCoe Idealize.SL.Sem

/-- The gather of a bias row at a table of column distances, entry by entry. -/
theorem gather_entry {α : Type} (x : S8x15x31.Idx → α) (p : IVec S64x64x1 32) (H : Fin 8) (j : Fin 15) (a kc : Fin 64) (n : Fin 31)
    (hn : (p (ix3 a kc 0)).toInt = n.val) :
    Host.gather gather_S8x15x31_S64x64x1_S8x15x64x64_01_2_n_n_2_2_8151 x p (ix4 H j a kc) = x (ix3 H j n) := by
  unfold Host.gather
  congr 1
  have hs : gather_S8x15x31_S64x64x1_S8x15x64x64_01_2_n_n_2_2_8151.start (ix4 H j a kc) p 2 = min (p (ix3 a kc 0)).toInt.toNat 30 := by
    simp only [GatherDims.start]
    rw [dif_pos (by decide)]
    congr 3
    exact congrArg p (funext fun b => Fin.ext (by fin_cases b <;> rfl))
  funext b
  apply Fin.ext
  fin_cases b
  · exact Nat.zero_add _
  · exact Nat.zero_add _
  · show gather_S8x15x31_S64x64x1_S8x15x64x64_01_2_n_n_2_2_8151.start (ix4 H j a kc) p 2 + 0 + 0 = n.val
    omega

theorem window_word : ∀ a k : Fin 64, IntOp.andi
          (IntOp.cmpi CmpIPredicate.sge (BitVec.ofNat 32 k.val) (IntOp.minsi 48#32 (IntOp.maxsi 0#32 (IntOp.subi (BitVec.ofNat 32 a.val) 8#32))))
          (IntOp.cmpi CmpIPredicate.slt (BitVec.ofNat 32 k.val)
            (IntOp.addi (IntOp.minsi 48#32 (IntOp.maxsi 0#32 (IntOp.subi (BitVec.ofNat 32 a.val) 8#32))) 16#32))
     = if inWindow a.val k.val then 1#1 else 0#1 := by decide +kernel

theorem col_word : ∀ a k : Fin 64,
    (Scalar.select
        (IntOp.cmpi CmpIPredicate.slt (IntOp.subi (IntOp.addi (IntOp.minsi 15#32 (IntOp.maxsi 4294967281#32
          (IntOp.subi (BitVec.ofNat 32 k.val) (BitVec.ofNat 32 a.val)))) 16#32) 1#32) 0#32)
        (IntOp.addi (IntOp.subi (IntOp.addi (IntOp.minsi 15#32 (IntOp.maxsi 4294967281#32
          (IntOp.subi (BitVec.ofNat 32 k.val) (BitVec.ofNat 32 a.val)))) 16#32) 1#32) 31#32)
        (IntOp.subi (IntOp.addi (IntOp.minsi 15#32 (IntOp.maxsi 4294967281#32
          (IntOp.subi (BitVec.ofNat 32 k.val) (BitVec.ofNat 32 a.val)))) 16#32) 1#32)).toInt = (colDist a.val k.val : ℤ) := by
  decide +kernel

theorem neg_inf_word : Ideal.ofBits FTy.f32 4286578688#32 = ⊥ := by
  simp [Ideal.ofBits, Ideal.ieee]

/-- The mask picks the bias within the window and `⊥` outside. -/
theorem select_bias (b : S8x15x31.Idx → EReal) (H : Fin 8) (j : Fin 15) (a k : Fin 64) (w : BitVec 1) (hw : w = if inWindow a.val k.val then 1#1 else 0#1) :
    Scalar.select w (b (ix3 H j ⟨colDist a.val k.val, colDist_lt _ _⟩)) (Ideal.ofBits FTy.f32 4286578688#32) = bias b H j a.val k.val := by
  subst hw
  unfold bias
  split
  · exact if_pos rfl
  · exact (if_neg (by decide)).trans neg_inf_word

variable (m : (ℓ : Loc nD τ sig) → Buf (Elt Ideal) ℓ) (c : Dev nD)

/-- The biases as launched. -/
def biases : S8x15x31.Idx → EReal := m ((c : Thread nD τ).loc main_arg1)

/-- The biases' table, as the host lays it out: of row distance `j`, both grid rows `j` and `j + 1` side by side. -/
def table : S8x14x64x128.Idx → EReal := V m c main_v37

/-- The bias of one query and one key, as the table holds it. -/
theorem table_entry (H : Fin 8) (j : Fin 14) (a : Fin 64) (l : Fin 128) :
    table m c (ix4 H j a l) = bias (biases m c) H ⟨j.val + l.val / 64, by omega⟩ a.val (l.val % 64) := by
  unfold table V
  after_reads_at
  split
  case isTrue h =>
    rw [gather_entry (n := ⟨colDist a.val l.val, colDist_lt _ _⟩)]
    · refine (select_bias (biases m c) H ⟨j.val, by omega⟩ a ⟨l.val, h⟩ _ (window_word a ⟨l.val, h⟩)).trans ?_
      congr 1
      · exact Fin.ext (by simp [Nat.div_eq_of_lt h])
      · exact (Nat.mod_eq_of_lt h).symm
    · pointwise
      exact col_word a ⟨l.val, h⟩
  case isFalse h =>
    have h' : l.val - 64 < 64 := by omega
    rw [gather_entry (n := ⟨colDist a.val (l.val - 64), colDist_lt _ _⟩)]
    · refine (select_bias (biases m c) H ⟨1 + j.val, by omega⟩ a ⟨l.val - 64, h'⟩ _ (window_word a ⟨l.val - 64, h'⟩)).trans ?_
      congr 1
      · exact Fin.ext (by simp; omega)
      · simp; omega
    · pointwise
      exact col_word a ⟨l.val - 64, h'⟩

end Cert.AtKernelIdeal.Value

end
-- ==== Proof.Ab.Host.lean ====
/- The probabilities that the host prepares for the attention backward, entry by entry: the scores. -/
module

public import proofs.«01_k».proof.Proof.Ab.Kit
public import proofs.«01_k».proof.Proof.Ab.Spec
public import proofs.«01_k».proof.Proof.At.Bias
public import Idealize.ShloMosaic.Lib.StableHlo.ReadAt
public import Idealize.ShloMosaic.Lib.IdealHost

@[expose] public section

set_option maxRecDepth 16384

noncomputable section

namespace Cert.AttnGrad

open Cert.AbKernelIdeal Cert.AbKernelIdeal.Gen Idealize.ShloMosaic Idealize.ShloMosaic.TcCoe Idealize.SL.Sem
open Cert.Attention (firstRow firstRow_le rowDist rowDist_le inWindow colDist colDist_lt)

variable (m : (ℓ : Loc nD τ sig) → Buf (Elt Ideal) ℓ) (c : Dev nD)

/-- The projections as launched. -/
def proj : S2048x5632.Idx → EReal := m ((c : Thread nD τ).loc main_arg0)
/-- The biases as launched. -/
def biases : S8x15x31.Idx → EReal := m ((c : Thread nD τ).loc main_arg1)

/-- The masked biases, of every row distance. -/
theorem bias_entry (H : Fin 8) (j : Fin 15) (a k : Fin 64) :
    (V m c main_v34 : S8x15x64x64.Idx → EReal) (ix4 H j a k) = Attention.bias (biases m c) H j a.val k.val := by
  unfold V
  after_reads_at
  have hg := fun p => Cert.AtKernelIdeal.Value.gather_entry (biases m c) p H j a k ⟨colDist a.val k.val, colDist_lt _ _⟩
  refine Eq.trans (congrArg (Scalar.select _ · _) (hg _ ?_)) (Cert.AtKernelIdeal.Value.select_bias (biases m c) H j a k _ (Cert.AtKernelIdeal.Value.window_word a k))
  pointwise
  exact Cert.AtKernelIdeal.Value.col_word a k

/-! ## Tables -/

theorem row_word (u : Fin 32) (i : Fin 8) : (lit1 (S32x8.rowMajor (ix2 u i))).toInt = firstRow u.val + i.val := by
  revert u i; decide +kernel

theorem rowDist_word (u : Fin 32) (i : Fin 8) : (lit0 (S32x8.rowMajor (ix2 u i))).toInt = rowDist u.val + i.val := by
  revert u i; decide +kernel

/-- The table of a row's eight distances. -/
def distTable : IVec S32x8x1 32 :=
  broadcastInDim S32x8x1 ![0, 1] bcast_S32x8_S32x8x1_0_1 (select (constantI S32x8 1 0#1)
    (addi (fun i => lit0 (S32x8.rowMajor i)) (broadcastInDim S32x8 ![] bcast_S_S32x8 (constantI S_ 32 15#32))) (fun i => lit0 (S32x8.rowMajor i)))
/-- The table of a row's eight rows of keys. -/
def rowTable : IVec S32x8x1 32 :=
  broadcastInDim S32x8x1 ![0, 1] bcast_S32x8_S32x8x1_0_1 (select (constantI S32x8 1 0#1)
    (addi (fun i => lit1 (S32x8.rowMajor i)) (broadcastInDim S32x8 ![] bcast_S_S32x8 (constantI S_ 32 32#32))) (fun i => lit1 (S32x8.rowMajor i)))

theorem distTable_entry (u : Fin 32) (i : Fin 8) : (distTable (ix3 u i 0)).toInt = rowDist u.val + i.val := by
  refine Eq.trans (congrArg BitVec.toInt ?_) (rowDist_word u i)
  pointwise [distTable]

theorem rowTable_entry (u : Fin 32) (i : Fin 8) : (rowTable (ix3 u i 0)).toInt = firstRow u.val + i.val := by
  refine Eq.trans (congrArg BitVec.toInt ?_) (row_word u i)
  pointwise [rowTable]

/-! ## Gathers -/

abbrev gDist := gather_S8x15x64x64_S32x8x1_S8x32x8x64x64_034_1_n_n_1_2_816464
abbrev gRow := gather_S32x64x8x64_S32x8x1_S32x8x64x8x64_234_0_n_n_0_2_164864

theorem dist_gather (x : FVec Ideal S8x15x64x64 .f32) (H : Fin 8) (u : Fin 32) (i : Fin 8) (a k : Fin 64) :
    (Host.gather gDist x distTable (ix5 H u i a k) : EReal) = x (ix4 H ⟨rowDist u.val + i.val, by have := rowDist_le u.val; omega⟩ a k) := by
  unfold Host.gather; refine congrArg x ?_
  have hr := distTable_entry u i
  have h1 : gDist.start (ix5 H u i a k) distTable 1 = min (distTable (ix3 u i 0)).toInt.toNat 14 := by
    simp only [GatherDims.start]; rw [dif_pos (by decide)]; congr 3
  have hf := rowDist_le u.val
  funext b; apply Fin.ext; fin_cases b
  · exact Nat.zero_add _
  · show gDist.start (ix5 H u i a k) distTable 1 + 0 + 0 = rowDist u.val + i.val; omega
  · exact Nat.zero_add _
  · exact Nat.zero_add _

theorem row_gather (x : FVec Ideal S32x64x8x64 .bf16) (u : Fin 32) (i : Fin 8) (k : Fin 64) (H : Fin 8) (e : Fin 64) :
    (Host.gather gRow x rowTable (ix5 u i k H e) : EReal) = x (ix4 ⟨firstRow u.val + i.val, by have := firstRow_le u.val; omega⟩ k H e) := by
  unfold Host.gather; refine congrArg x ?_
  have hr := rowTable_entry u i
  have h0 : gRow.start (ix5 u i k H e) rowTable 0 = min (rowTable (ix3 u i 0)).toInt.toNat 31 := by
    simp only [GatherDims.start]; rw [dif_pos (by decide)]; congr 3
  have hf := firstRow_le u.val
  funext b; apply Fin.ext; fin_cases b
  · show gRow.start (ix5 u i k H e) rowTable 0 + 0 + 0 = firstRow u.val + i.val; omega
  · exact Nat.zero_add _
  · exact Nat.zero_add _
  · exact Nat.zero_add _

/-! ## Scores -/

/-- The scores, from the projections and the masked biases. -/
def hostScores (z : FVec Ideal S2048x5632 .bf16) (B : FVec Ideal S8x15x64x64 .f32) : FVec Ideal S8x32x64x8x64 .f32 :=
  addf (Host.dotGeneral dot_S32x64x8x64_S32x8x64x8x64_S8x32x64x8x64_3_4_1_12_20_30 none
    (shapeCast S32x64x8x64 (mulf (extractStridedSlice S2048x512 ![0, 0] z slices_S2048x5632_S2048x512_0_0)
      (broadcastInDim S2048x512 ![] bcast_S_S2048x512 (constant S_ .bf16 0x3E00#16))) shapeCasts_S2048x512_S32x64x8x64)
    (Host.gather gRow (shapeCast S32x64x8x64 (extractStridedSlice S2048x512 ![0, 512] z slices_S2048x5632_S2048x512_0_512) shapeCasts_S2048x512_S32x64x8x64) rowTable))
    (transpose S8x32x64x8x64 [0, 1, 3, 2, 4] (Host.gather gDist B distTable) transposes_S8x32x8x64x64_S8x32x64x8x64_0_1_3_2_4)

theorem hostScores_eq : V m c main_v53 = hostScores (m ((c : Thread nD τ).loc main_arg0)) (V m c main_v34) := by
  unfold V
  after_reads_simp
  rfl

theorem hostScores_entry (z : FVec Ideal S2048x5632 .bf16) (b : Attention.BiasIdx → EReal) (B : FVec Ideal S8x15x64x64 .f32)
    (hB : ∀ (H : Fin 8) (j : Fin 15) (a k : Fin 64), (B (ix4 H j a k) : EReal) = Attention.bias b H j a.val k.val)
    (H : Fin 8) (u : Fin 32) (a : Fin 64) (k : Fin 8 × Fin 64) :
    (hostScores z B (ix5 H u a k.1 k.2) : EReal) = Attention.score z b (Ideal.ofBits .bf16 0x3E00#16) H u a k := by
  have hd := fun i k => dist_gather B H u i a k
  have hr := fun (x : FVec Ideal S32x64x8x64 .bf16) i k e => row_gather x u i k H e
  unfold hostScores Attention.score
  generalize Host.gather gDist B distTable = D at hd ⊢
  generalize hx : shapeCast S32x64x8x64 (extractStridedSlice S2048x512 ![0, 512] z slices_S2048x5632_S2048x512_0_512) shapeCasts_S2048x512_S32x64x8x64 = K
  generalize hG : Host.gather gRow K rowTable = G
  have hk : ∀ (i : Fin 8) (l e : Fin 64), (G (ix5 u i l H e) : EReal) = Attention.key z H u i l e := by
    intro i l e
    rw [← hG, hr, ← hx]
    unfold Attention.key
    pointwise
    refine congrArg z ?_
    funext b; apply Fin.ext; fin_cases b <;> simp <;> omega
  pointwise
  refine congrArg₂ (· + ·) (Finset.sum_congr rfl fun e _ => congrArg₂ (· * ·) (congrArg (· * Ideal.ofBits .bf16 0x3E00#16) ?_) (hk _ _ _)) ?_
  · unfold Attention.query
    refine congrArg z ?_
    funext b; apply Fin.ext; fin_cases b <;> simp <;> omega
  · exact (hd _ _).trans (hB _ _ _ _)

/-! ## Probabilities -/

section Reduce

variable (H : Fin 8) (u : Fin 32) (a : Fin 64)

theorem drop_iff (i : S8x32x64x8x64.Idx) :
    reducesTo_S8x32x64x8x64_S8x32x64_d3_4.drop i = ix3 H u a ↔ ∃ k : Fin 8 × Fin 64, ix5 H u a k.1 k.2 = i := by
  constructor
  · intro e
    refine ⟨(i 3, i 4), ?_⟩
    funext b; apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext b
    apply Fin.ext
    fin_cases b <;> rfl

theorem keys_injective : Function.Injective fun k : Fin 8 × Fin 64 => (ix5 H u a k.1 k.2 : S8x32x64x8x64.Idx) :=
  fun _ _ e => Prod.ext (congrFun e 3) (congrFun e 4)

theorem sum_entry (e : FVec Ideal S8x32x64x8x64 .f32) :
    (Host.reduceAdd e (constant S_ .f32 0x00000000#32) reducesTo_S8x32x64x8x64_S8x32x64_d3_4 h_S_ (ix3 H u a) : Ideal FTy.f32)
      = ∑ k : Fin 8 × Fin 64, e (ix5 H u a k.1 k.2) := by
  refine (ValueIdx.hostReduceAdd_apply _ _ _ _ _).trans ?_
  have hz : Ideal.ofBits FTy.f32 0x00000000#32 = (0 : EReal) := by simp [Ideal.ofBits, Ideal.ieee]
  refine (congrArg₂ (· + ·) hz (Finset.sum_filter_eq_sum_of_fiber _ _ (fun _ _ e => keys_injective H u a e) (drop_iff H u a) e)).trans ?_
  exact zero_add _

theorem max_entry (s : FVec Ideal S8x32x64x8x64 .f32) :
    (Host.reduce (α := Ideal FTy.f32) FloatOps.maximumf s (constant S_ .f32 0xFF800000#32) reducesTo_S8x32x64x8x64_S8x32x64_d3_4 h_S_ (ix3 H u a) : Ideal FTy.f32)
      = Softmax.peak fun k : Fin 8 × Fin 64 => s (ix5 H u a k.1 k.2) := by
  have hb : Ideal.ofBits FTy.f32 0xFF800000#32 = (⊥ : EReal) := by simp [Ideal.ofBits, Ideal.ieee]
  refine (Host.reduce_eq_fold _ _ _ _ _ _).trans ?_
  unfold Softmax.peak
  rw [Finset.fold_filter_eq_fold_of_fiber _ _ _ (keys_injective H u a) (drop_iff H u a) _ s]
  exact congrArg (fun x => Finset.univ.fold max x fun k : Fin 8 × Fin 64 => s (ix5 H u a k.1 k.2)) hb

/-- A query's number, repeated along both key axes. -/
theorem repeated_entry {α : Type} (M : S8x32x64x1x1.Idx → α) (k : Fin 8 × Fin 64) :
    broadcastInDim S8x32x64x8x64 ![0, 1, 2, 3, 4] bcast_S8x32x64x1x1_S8x32x64x8x64_0_1_2_3_4 M (ix5 H u a k.1 k.2) = M (ix5 H u a 0 0) :=
  congrArg M (funext fun b => Fin.ext (by fin_cases b <;> rfl))

theorem unit_entry {α : Type} (M : S8x32x64.Idx → α) :
    broadcastInDim S8x32x64x1x1 ![0, 1, 2] bcast_S8x32x64_S8x32x64x1x1_0_1_2 M (ix5 H u a 0 0) = M (ix3 H u a) :=
  congrArg M (funext fun b => Fin.ext (by fin_cases b <;> rfl))

end Reduce

/-- The exponentials of the scores less their greatest. -/
def hostExps (s : FVec Ideal S8x32x64x8x64 .f32) : FVec Ideal S8x32x64x8x64 .f32 :=
  Host.exp (subf s (broadcastInDim S8x32x64x8x64 ![0, 1, 2, 3, 4] bcast_S8x32x64x1x1_S8x32x64x8x64_0_1_2_3_4
    (broadcastInDim S8x32x64x1x1 ![0, 1, 2] bcast_S8x32x64_S8x32x64x1x1_0_1_2
      (Host.reduce FloatOps.maximumf s (constant S_ .f32 0xFF800000#32) reducesTo_S8x32x64x8x64_S8x32x64_d3_4 h_S_))))

/-- Each times its total's reciprocal. -/
def hostMeans (e : FVec Ideal S8x32x64x8x64 .f32) : FVec Ideal S8x32x64x8x64 .f32 :=
  mulf e (broadcastInDim S8x32x64x8x64 ![0, 1, 2, 3, 4] bcast_S8x32x64x1x1_S8x32x64x8x64_0_1_2_3_4
    (Host.divf (broadcastInDim S8x32x64x1x1 ![] bcast_S_S8x32x64x1x1 (constant S_ .f32 0x3F800000#32))
      (broadcastInDim S8x32x64x1x1 ![0, 1, 2] bcast_S8x32x64_S8x32x64x1x1_0_1_2
        (Host.reduceAdd e (constant S_ .f32 0x00000000#32) reducesTo_S8x32x64x8x64_S8x32x64_d3_4 h_S_))))

/-- Laid out as a matrix: a row per query, 512 columns per head. -/
def hostMatrix (p : FVec Ideal S8x32x64x8x64 .f32) : FVec Ideal S2048x4096 .bf16 :=
  shapeCast S2048x4096 (transpose S32x64x8x8x64 [1, 2, 0, 3, 4] (truncf .bf16 p bitsLt_bf16_f32) transposes_S8x32x64x8x64_S32x64x8x8x64_1_2_0_3_4)
    shapeCasts_S32x64x8x8x64_S2048x4096

theorem hostExps_eq : V m c main_v58 = hostExps (V m c main_v53) := by
  unfold V
  after_reads_simp
  rfl

set_option maxHeartbeats 2000000 in
theorem hostMatrix_eq : V m c main_v67 = hostMatrix (hostMeans (hostExps (V m c main_v53))) := by
  rw [← hostExps_eq]
  unfold V
  after_reads_simp
  rfl

theorem hostExps_entry (s : FVec Ideal S8x32x64x8x64 .f32) (H : Fin 8) (u : Fin 32) (a : Fin 64) (k : Fin 8 × Fin 64) :
    (hostExps s (ix5 H u a k.1 k.2) : EReal) = Softmax.weight (fun k : Fin 8 × Fin 64 => s (ix5 H u a k.1 k.2)) k := by
  unfold hostExps
  refine (congrArg (fun x : EReal => Ideal.exp ((s (ix5 H u a k.1 k.2) : EReal) - x))
    ((repeated_entry H u a _ k).trans ((unit_entry H u a _).trans (max_entry H u a s)))).trans ?_
  rfl

theorem hostMeans_entry (s : FVec Ideal S8x32x64x8x64 .f32) (H : Fin 8) (u : Fin 32) (a : Fin 64) (k : Fin 8 × Fin 64) :
    (hostMeans (hostExps s) (ix5 H u a k.1 k.2) : EReal) = Softmax.prob (fun k : Fin 8 × Fin 64 => s (ix5 H u a k.1 k.2)) k := by
  have hx := hostExps_entry s H u a
  have h1 : Ideal.ofBits FTy.f32 0x3F800000#32 = (1 : EReal) := by
    simp [Ideal.ofBits, Ideal.ieee, -EReal.coe_mul]; norm_num
  unfold Softmax.prob
  rw [← hx]
  unfold hostMeans
  refine congrArg ((hostExps s (ix5 H u a k.1 k.2) : EReal) * ·) ((repeated_entry H u a _ k).trans ?_)
  refine congrArg₂ Ideal.div ((ValueIdx.broadcastInDim_scalar_apply _ _ _).trans h1) ((unit_entry H u a _).trans ((sum_entry H u a _).trans ?_))
  exact Finset.sum_congr rfl fun k _ => hx k

theorem hostMatrix_entry (p : FVec Ideal S8x32x64x8x64 .f32) (H : Fin 8) (u : Fin 32) (a : Fin 64) (k : Fin 8 × Fin 64) :
    (hostMatrix p (ix2 ⟨64 * u.val + a.val, by omega⟩ ⟨512 * H.val + (64 * k.1.val + k.2.val), by omega⟩) : EReal) = p (ix5 H u a k.1 k.2) := by
  pointwise [hostMatrix]

/-- The saved probabilities: row `64 u + a`, column `512 H` and the key's number. -/
theorem probs_entry (H : Fin 8) (u : Fin 32) (a : Fin 64) (k : Fin 8 × Fin 64) :
    (V m c main_v67 : S2048x4096.Idx → EReal) (ix2 ⟨64 * u.val + a.val, by omega⟩ ⟨512 * H.val + (64 * k.1.val + k.2.val), by omega⟩)
      = Softmax.prob (Attention.score (proj m c) (biases m c) (Ideal.ofBits .bf16 0x3E00#16) H u a) k := by
  rw [hostMatrix_eq, hostMatrix_entry, hostMeans_entry, hostScores_eq]
  exact congrArg (Softmax.prob · k) (funext fun k => hostScores_entry _ (biases m c) _ (bias_entry m c) H u a k)

end Cert.AttnGrad

end
-- ==== Proof.At.Head.lean ====
/- One head of one row of queries, entry by entry: the mean of the row's values at the softmax of its scores. -/
module

public import proofs.«01_k».proof.Proof.At.Tiles

@[expose] public section

set_option maxRecDepth 16384

noncomputable section

namespace Cert.AtKernelIdeal.Value

open Cert.AtKernelIdeal Cert.AtKernelIdeal.Gen Idealize.ShloMosaic Idealize.ShloMosaic.TcCoe Idealize.SL.Sem

variable (q : Vec Ideal S1x64x64 .bf16) (k v : Vec Ideal S1x512x64 .bf16) (b : Fin 4 → Vec Ideal S1x1x64x128 .f32)

theorem scores_entry (a : Fin 64) (x : Fin 512) :
    (scores q k b (ix2 a x) : EReal)
      = ∑ e : Fin 64, q (ix3 0 a e) * k (ix3 0 x e) + b ⟨x.val / 128, by omega⟩ (ix4 0 0 a ⟨x.val % 128, by omega⟩) := by
  have hx := x.isLt
  pointwise [scores]
  refine congrArg (_ + ·) ?_
  have part : ∀ (g : Fin 4) (y : ℕ) (hy : y < 128), x.val = 128 * g.val + y →
      b g (ix4 0 0 a ⟨y, hy⟩) = b ⟨x.val / 128, by omega⟩ (ix4 0 0 a ⟨x.val % 128, by omega⟩) := by
    intro g y hy e
    have e0 : (⟨x.val / 128, by omega⟩ : Fin 4) = g := Fin.ext (by dsimp only; omega)
    have e1 : (⟨x.val % 128, by omega⟩ : Fin 128) = ⟨y, hy⟩ := Fin.ext (by dsimp only; omega)
    rw [e0, e1]
  by_cases h0 : x.val < 128
  · rw [dif_pos h0]; exact part 0 _ _ (by show _ = 128 * 0 + _; omega)
  rw [dif_neg h0]
  by_cases h1 : x.val - 128 < 128
  · rw [dif_pos h1]; exact part 1 _ _ (by show _ = 128 * 1 + _; omega)
  rw [dif_neg h1]
  by_cases h2 : x.val - 128 - 128 < 128
  · rw [dif_pos h2]; exact part 2 _ _ (by show _ = 128 * 2 + _; omega)
  rw [dif_neg h2]
  exact part 3 _ _ (by show _ = 128 * 3 + _; omega)

theorem head_entry (a d : Fin 64) :
    head q k v b (ix2 a d) = Softmax.attend (fun x : Fin 512 => scores q k b (ix2 a x)) fun x => v (ix3 0 x d) := by
  have hb : Ideal.ofBits FTy.f32 0xFF800000#32 = (⊥ : EReal) := by simp [Ideal.ofBits, Ideal.ieee]
  unfold head
  generalize scores q k b = s
  pointwise [probs, expos, inverse]
  rw [hb]
  rfl

end Cert.AtKernelIdeal.Value

end
-- ==== Proof.At.Loads.lean ====
/- What the neighbourhood attention's rows load, entry by entry, in terms of the projections and the bias table. -/
module

public import proofs.«01_k».proof.Proof.At.Bias

@[expose] public section

set_option maxRecDepth 16384

noncomputable section

namespace Cert.AtKernelIdeal.Value

open Cert.AtKernelIdeal Cert.AtKernelIdeal.Gen Idealize.ShloMosaic Idealize.ShloMosaic.TcCoe Idealize.SL.Sem
open Idealize.ShloMosaic.Pipeline (Dat)
open Cert.Attention (firstRow rowDist firstRow_le rowDist_le)

variable (m : (ℓ : Loc nD τ sig) → Buf (Elt Ideal) ℓ) (c : Dev nD) (t : Fin cfg0.N)

theorem idx : ∀ t : Fin cfg0.N, win0_0.index t = ![0, t.val] ∧ win0_1.index t = ![0, 4 + t.val] ∧ win0_2.index t = ![0, 8 + t.val]
    ∧ win0_3.index t = ![t.val, 0, 0, 0] ∧ win0_4.index t = ![0, t.val] :=
  (by decide +kernel : ∀ t : Fin grid0.N, _)

theorem t_lt : t.val < 4 := lt_of_lt_of_eq t.isLt N_0

theorem lane_lt (h : Fin 2) (e : Fin 64) : 128 * t.val + 64 * h.val + e.val < 512 := by have := t_lt t; omega

theorem row_lt (u : Fin 32) (a : Fin 64) : 64 * u.val + a.val < 2048 := by omega

theorem keyRow_lt (u : Fin 32) (k : Fin 512) : 64 * firstRow u.val + k.val < 2048 := by have := firstRow_le u.val; omega

/-- The projections as launched: queries in columns 0 to 511, keys in 512 to 1023, values in 1024 to 1535. -/
def proj : S2048x5632.Idx → EReal := m ((c : Thread nD τ).loc main_arg0)

/-- One number of row `u`'s queries, of head `h` of pair `t`. -/
def query (h : Fin 2) (u : Fin 32) (a e : Fin 64) : EReal :=
  proj m c (ix2 ⟨64 * u.val + a.val, row_lt u a⟩ ⟨128 * t.val + 64 * h.val + e.val, by have := lane_lt t h e; omega⟩)

/-- One number of the keys that row `u` attends to. -/
def key (h : Fin 2) (u : Fin 32) (k : Fin 512) (e : Fin 64) : EReal :=
  proj m c (ix2 ⟨64 * firstRow u.val + k.val, keyRow_lt u k⟩ ⟨512 + (128 * t.val + 64 * h.val + e.val), by have := lane_lt t h e; omega⟩)

/-- One number of the values that row `u` attends to. -/
def value (h : Fin 2) (u : Fin 32) (k : Fin 512) (e : Fin 64) : EReal :=
  proj m c (ix2 ⟨64 * firstRow u.val + k.val, keyRow_lt u k⟩ ⟨1024 + (128 * t.val + 64 * h.val + e.val), by have := lane_lt t h e; omega⟩)

theorem q_entry (h : Fin 2) (u : Fin 32) (y : S1x64x64.Idx) :
    scM0_0.view.readCov (qPieces m c t) (Rect.unit (s := S2x2048x64) ![h.val, 64 * u.val, 0] S1x64x64.size (inb_row h u)).toLoadRect y
      = (query m c t h u (y 1) (y 2) * Ideal.ofBits .bf16 0x3E00#16 : EReal) := by
  rw [View.readCov_eq_canon']
  unfold qPieces query proj
  canon_tiles x hx <;> simp only [View.readAt_eq_ld, Memref.IsWhole.read_unread]
  · simp only [Rect.idx_unit_val] at hx0 hx1 hx2
    dsimp at hx0 hx1 hx2
    pointwise [k0_pay3]
    blk_point [iblk, V, idx t]
  · simp only [Rect.idx_unit_val] at hx0 hx1 hx2
    dsimp at hx0 hx1 hx2
    pointwise [k0_pay2]
    blk_point [iblk, V, idx t]

theorem k_entry (h : Fin 2) (u : Fin 32) (y : S1x512x64.Idx) :
    scM0_1.view.readCov (kPieces m c t) (Rect.unit (s := S2x2048x64) ![h.val, 64 * firstRow u.val, 0] S1x512x64.size (inb_keys h u)).toLoadRect y
      = key m c t h u (y 1) (y 2) := by
  rw [View.readCov_eq_canon']
  unfold kPieces key proj
  canon_tiles x hx <;> simp only [View.readAt_eq_ld, Memref.IsWhole.read_unread]
  · simp only [Rect.idx_unit_val] at hx0 hx1 hx2
    dsimp at hx0 hx1 hx2
    pointwise [k0_pay5]
    blk_point [iblk, V, idx t]
  · simp only [Rect.idx_unit_val] at hx0 hx1 hx2
    dsimp at hx0 hx1 hx2
    pointwise [k0_pay4]
    blk_point [iblk, V, idx t]

theorem v_entry (h : Fin 2) (u : Fin 32) (y : S1x512x64.Idx) :
    scM0_2.view.readCov (vPieces m c t) (Rect.unit (s := S2x2048x64) ![h.val, 64 * firstRow u.val, 0] S1x512x64.size (inb_keys h u)).toLoadRect y
      = value m c t h u (y 1) (y 2) := by
  rw [View.readCov_eq_canon']
  unfold vPieces value proj
  canon_tiles x hx <;> simp only [View.readAt_eq_ld, Memref.IsWhole.read_unread]
  · simp only [Rect.idx_unit_val] at hx0 hx1 hx2
    dsimp at hx0 hx1 hx2
    pointwise [k0_pay7]
    blk_point [iblk, V, idx t]
  · simp only [Rect.idx_unit_val] at hx0 hx1 hx2
    dsimp at hx0 hx1 hx2
    pointwise [k0_pay6]
    blk_point [iblk, V, idx t]

theorem b_entry (h : Fin 2) (u : Fin 32) (g : Fin 4) (y : S1x1x64x128.Idx) :
    View.readAt (Elt Ideal) (ms0_3 t).view (Rect.unit (s := S2x14x64x128) ![h.val, rowDist u.val + 2 * g.val, 0, 0] S1x1x64x128.size (inb_bias h u g)).toLoadRect
        ((hs0_3 t).unread (iblk m c 3 t)) y
      = table m c (ix4 ⟨2 * t.val + h.val, by have := t_lt t; omega⟩ ⟨rowDist u.val + 2 * g.val, by have := rowDist_le u.val; omega⟩ (y 2) (y 3)) := by
  simp only [View.readAt_eq_ld, Memref.IsWhole.read_unread]
  unfold table iblk
  have hw : V m c (Pipeline.arrRef spec0 3) = V m c main_v37 := rfl
  rw [hw]
  generalize V m c main_v37 = B
  obtain ⟨-, -, -, hi, -⟩ := idx t
  show B _ = B _
  congr 1
  funext b
  apply Fin.ext
  fin_cases b <;> simp [View.emb, hi, mul_comm]

end Cert.AtKernelIdeal.Value

end
-- ==== Proof.At.Value.lean ====
/- What the neighbourhood attention's kernel leaves in its result: at every row and column, the attention's output. -/
module

public import proofs.«01_k».proof.Proof.At.Head
public import proofs.«01_k».proof.Proof.At.Loads

@[expose] public section

set_option maxRecDepth 16384

noncomputable section

namespace Cert.AtKernelIdeal.Value

open Cert.AtKernelIdeal Cert.AtKernelIdeal.Gen Idealize.ShloMosaic Idealize.ShloMosaic.TcCoe Idealize.SL.Sem
open Idealize.ShloMosaic.Pipeline (Dat)
open Cert.Attention (firstRow rowDist firstRow_le rowDist_le flat)

variable (m : (ℓ : Loc nD τ sig) → Buf (Elt Ideal) ℓ) (c : Dev nD) (t : Fin cfg0.N)

/-- The head numbered `h` in pair `t`. -/
def headNo (h : Fin 2) : Fin 8 := ⟨2 * t.val + h.val, by have := t_lt t; omega⟩

theorem query_eq (h : Fin 2) (u : Fin 32) (a e : Fin 64) : query m c t h u a e = Attention.query (proj m c) (headNo t h) u a e := by
  unfold query Attention.query headNo
  congr 2; apply Fin.ext; dsimp only; omega

theorem key_eq (h : Fin 2) (u : Fin 32) (k : Fin 8 × Fin 64) (e : Fin 64) : key m c t h u (flat k) e = Attention.key (proj m c) (headNo t h) u k.1 k.2 e := by
  unfold key Attention.key headNo flat
  congr 2 <;> (apply Fin.ext; dsimp only; omega)

theorem value_eq (h : Fin 2) (u : Fin 32) (k : Fin 8 × Fin 64) (e : Fin 64) : value m c t h u (flat k) e = Attention.value (proj m c) (headNo t h) u k.1 k.2 e := by
  unfold value Attention.value headNo flat
  congr 2 <;> (apply Fin.ext; dsimp only; omega)

theorem bias_eq (h : Fin 2) (u : Fin 32) (a : Fin 64) (k : Fin 8 × Fin 64) :
    table m c (ix4 (headNo t h) ⟨rowDist u.val + 2 * ((flat k).val / 128), by have := rowDist_le u.val; omega⟩ a ⟨(flat k).val % 128, by omega⟩)
      = Attention.bias (biases m c) (headNo t h) ⟨rowDist u.val + k.1.val, by have := rowDist_le u.val; omega⟩ a.val k.2.val := by
  rw [table_entry]
  have e0 : rowDist u.val + 2 * ((flat k).val / 128) + (flat k).val % 128 / 64 = rowDist u.val + k.1.val := by unfold flat; dsimp only; omega
  have e1 : (flat k).val % 128 % 64 = k.2.val := by unfold flat; dsimp only; omega
  simp only [e0, e1]

/-- The kernel's scaling of the queries. -/
abbrev scale : EReal := Ideal.ofBits .bf16 0x3E00#16

theorem headOf_entry (h : Fin 2) (u : Fin 32) (a d : Fin 64) :
    headOf m c t h u (ix2 a d) = Attention.output (proj m c) (biases m c) scale (headNo t h) u a d := by
  unfold headOf
  rw [head_entry, Attention.attend_flat]
  unfold Attention.output
  refine congrArg₂ Softmax.attend (funext fun k => ?_) (funext fun k => ?_)
  · rw [scores_entry]
    unfold Attention.score
    refine congrArg₂ (· + ·) (Finset.sum_congr rfl fun e _ => ?_) ?_
    · rw [q_entry, k_entry]
      exact congrArg₂ (· * ·) (congrArg (· * scale) (query_eq m c t h u a e)) (key_eq m c t h u k e)
    · rw [b_entry]
      exact bias_eq m c t h u a k
  · rw [v_entry]
    exact value_eq m c t h u k d

/-- The kernel's result as mathematics: row `64 u + a`, column `64 H + d`. -/
def attention : S2048x512.Idx → EReal := fun i =>
  Attention.output (proj m c) (biases m c) scale ⟨(i 1).val / 64, by have : (i 1).val < 512 := (i 1).isLt; omega⟩
    ⟨(i 0).val / 64, by have : (i 0).val < 2048 := (i 0).isLt; omega⟩ ⟨(i 0).val % 64, by omega⟩ ⟨(i 1).val % 64, by omega⟩

theorem tile_entry (u : Fin 32) (a : Fin 64) (l : Fin 128) :
    tile m c t u (ix2 a l) = Attention.output (proj m c) (biases m c) scale (headNo t ⟨l.val / 64, by omega⟩) u a ⟨l.val % 64, by omega⟩ := by
  rw [← headOf_entry]
  unfold tile
  generalize hh : headOf m c t = f
  have hl := l.isLt
  pointwise
  by_cases h : l.val < 64
  · have e0 : (⟨l.val / 64, by omega⟩ : Fin 2) = 0 := Fin.ext (by show l.val / 64 = 0; omega)
    have e1 : (⟨l.val % 64, by omega⟩ : Fin 64) = ⟨l.val, h⟩ := Fin.ext (by dsimp only; omega)
    rw [dif_pos h, e0, e1]
  · have e0 : (⟨l.val / 64, by omega⟩ : Fin 2) = 1 := Fin.ext (by show l.val / 64 = 1; omega)
    have e1 : (⟨l.val % 64, by omega⟩ : Fin 64) = ⟨l.val - 64, by omega⟩ := Fin.ext (by dsimp only; omega)
    rw [dif_neg h, e0, e1]

/-- Thirty-two tiles under each other are what their rows are. -/
theorem stacked (P : Fin 32 → FVec Ideal S64x128 .bf16) (G : FVec Ideal S2048x128 .bf16)
    (h : ∀ (u : Fin 32) (a : Fin 64) (l : Fin 128), P u (ix2 a l) = G (ix2 ⟨64 * u.val + a.val, by omega⟩ l)) :
    View.canon (List.ofFn fun k : Fin 32 => (⟨Rect.unit ![64 * (31 - k.val), 0] ![64, 128] (inb_tile ⟨31 - k.val, by omega⟩), P ⟨31 - k.val, by omega⟩⟩ :
        View.Piece (Elt Ideal) S2048x128 .bf16)) = G := by
  funext y
  have hy : (y 0).val < 2048 := (y 0).isLt
  have hl : (y 1).val < 128 := (y 1).isLt
  refine View.canon_ofFn_unit_eq_of_forall (Val := Elt Ideal) (e := .bf16) (fun k : Fin 32 => ![64 * (31 - k.val), 0]) ![64, 128] (fun k => inb_tile ⟨31 - k.val, by omega⟩)
    (fun k => P ⟨31 - k.val, by omega⟩) y _ ⟨⟨31 - (y 0).val / 64, by omega⟩, ?_⟩ ?_
  · intro a
    match a with
    | ⟨0, _⟩ =>
      show 64 * (31 - (31 - (y 0).val / 64)) ≤ (y 0).val ∧ (y 0).val < 64 * (31 - (31 - (y 0).val / 64)) + 64
      omega
    | ⟨1, _⟩ =>
      show 0 ≤ (y 1).val ∧ (y 1).val < 0 + 128
      omega
  · intro k x hx
    have h0 : (y 0).val = 64 * (31 - k.val) + (x 0).val := hx 0
    have h1 : (y 1).val = 0 + (x 1).val := hx 1
    have hxx : x = (ix2 (x 0) (x 1) : S64x128.Idx) := funext fun a => by match a with | ⟨0, _⟩ => rfl | ⟨1, _⟩ => rfl
    rw [hxx]
    refine (h _ _ _).trans (congrArg G (funext fun a => Fin.ext ?_))
    match a with
    | ⟨0, _⟩ => exact h0.symm
    | ⟨1, _⟩ => exact (h1.trans (Nat.zero_add _)).symm

theorem outs_entry : (outsAt0 m c t).1 = fun y : S2048x128.Idx =>
    attention m c (ix2 (y 0) ⟨128 * t.val + (y 1).val, by have := t_lt t; have : (y 1).val < 128 := (y 1).isLt; omega⟩) := by
  have ht := t_lt t
  refine Eq.trans ?_ (stacked (tile m c t) _ fun u a l => ?_)
  · rw [← pieces_eq m c t]
    exact View.read_writes_junk_eq_canon (Val := Elt Ideal) VO0_4 _
  · refine (tile_entry m c t u a l).trans ?_
    exact Attention.output_congr _ _ _ (H' := ⟨(128 * t.val + l.val) / 64, by omega⟩) (u' := ⟨(64 * u.val + a.val) / 64, by omega⟩)
      (a' := ⟨(64 * u.val + a.val) % 64, by omega⟩) (d' := ⟨(128 * t.val + l.val) % 64, by omega⟩)
      (by show 2 * t.val + l.val / 64 = _; dsimp only; omega) (by dsimp only; omega) (by dsimp only; omega) (by dsimp only; omega)

theorem final4 : (dats m 0 c).arrAt 4 cfg0.N = attention m c := by
  refine (dats m 0 c).arrAt_eq_of_covers 4 _ (by decide +kernel) fun t _ y => ?_
  blk_simp
  rw [after0_4]
  rw [outs_entry]
  dsimp only
  blk_ext [idx t]

end Cert.AtKernelIdeal.Value

end
-- ==== Proof.Ab.Value.lean ====
/- The attention backward's result, entry by entry: three gradients side by side, the rest as launched. -/
module

public import proofs.«01_k».proof.Proof.Ab.Frame
public import proofs.«01_k».proof.Proof.Ab.Loads
public import proofs.«01_k».proof.Proof.Ab.Host
public import proofs.«01_k».proof.Proof.At.Value

@[expose] public section

set_option maxRecDepth 16384

noncomputable section

namespace Cert.AttnGrad

open Cert.AbKernelIdeal Cert.AbKernelIdeal.Gen Idealize.ShloMosaic Idealize.ShloMosaic.TcCoe Idealize.SL.Sem
open Cert.Attention (firstRow firstRow_le flat)

variable (m : (ℓ : Loc nD τ sig) → Buf (Elt Ideal) ℓ) (c : Dev nD) (t : Fin cfg0.N)

/-- The output's gradient as launched. -/
def outGrads : S2048x512.Idx → EReal := m ((c : Thread nD τ).loc main_arg2)

theorem t_lt : t.val < 4 := lt_of_lt_of_eq t.isLt N_0

/-- Point `t` as the number of a pair of heads. -/
abbrev pairNo : Fin 4 := ⟨t.val, t_lt t⟩

theorem idx : ∀ t : Fin cfg0.N, win0_0.index t = ![0, t.val] ∧ win0_1.index t = ![0, 4 + t.val] ∧ win0_2.index t = ![0, 8 + t.val]
    ∧ win0_3.index t = ![0, t.val] ∧ win0_4.index t = ![0, t.val] :=
  (by decide +kernel : ∀ t : Fin grid0.N, _)

theorem block0 (r : Fin 2048) (l : Fin 128) : (blockAt m c 0 t (ix2 r l) : EReal) = proj m c (ix2 r ⟨128 * t.val + l.val, by have := t_lt t; omega⟩) := by
  unfold blockAt proj
  have hw : V m c (Pipeline.arrRef spec0 0) = m ((c : Thread nD τ).loc main_arg0) := V_of_untouched m c untouched0
  rw [hw]
  generalize m ((c : Thread nD τ).loc main_arg0) = B
  obtain ⟨hi, -⟩ := idx t
  show B _ = B _
  congr 1
  funext b; apply Fin.ext
  fin_cases b <;> simp [View.emb, hi, mul_comm]

theorem block1 (r : Fin 2048) (l : Fin 128) : (blockAt m c 1 t (ix2 r l) : EReal) = proj m c (ix2 r ⟨512 + (128 * t.val + l.val), by have := t_lt t; omega⟩) := by
  unfold blockAt proj
  have hw : V m c (Pipeline.arrRef spec0 1) = m ((c : Thread nD τ).loc main_arg0) := V_of_untouched m c untouched0
  rw [hw]
  generalize m ((c : Thread nD τ).loc main_arg0) = B
  obtain ⟨-, hi, -⟩ := idx t
  show B _ = B _
  congr 1
  funext b; apply Fin.ext
  fin_cases b <;> simp [View.emb, hi] <;> omega

theorem block2 (r : Fin 2048) (l : Fin 128) : (blockAt m c 2 t (ix2 r l) : EReal) = proj m c (ix2 r ⟨1024 + (128 * t.val + l.val), by have := t_lt t; omega⟩) := by
  unfold blockAt proj
  have hw : V m c (Pipeline.arrRef spec0 2) = m ((c : Thread nD τ).loc main_arg0) := V_of_untouched m c untouched0
  rw [hw]
  generalize m ((c : Thread nD τ).loc main_arg0) = B
  obtain ⟨-, -, hi, -⟩ := idx t
  show B _ = B _
  congr 1
  funext b; apply Fin.ext
  fin_cases b <;> simp [View.emb, hi] <;> omega

theorem block4 (r : Fin 2048) (l : Fin 128) : (blockAt m c 4 t (ix2 r l) : EReal) = outGrads m c (ix2 r ⟨128 * t.val + l.val, by have := t_lt t; omega⟩) := by
  unfold blockAt outGrads
  have hw : V m c (Pipeline.arrRef spec0 4) = m ((c : Thread nD τ).loc main_arg2) := V_of_untouched m c untouched2
  rw [hw]
  generalize m ((c : Thread nD τ).loc main_arg2) = B
  obtain ⟨-, -, -, -, hi⟩ := idx t
  show B _ = B _
  congr 1
  funext b; apply Fin.ext
  fin_cases b <;> simp [View.emb, hi] <;> omega

theorem block3 (r : Fin 2048) (l : Fin 1024) :
    (blockAt m c 3 t (ix2 r l) : EReal) = (V m c main_v67 : S2048x4096.Idx → EReal) (ix2 r ⟨1024 * t.val + l.val, by have := t_lt t; omega⟩) := by
  unfold blockAt
  have hw : V m c (Pipeline.arrRef spec0 3) = V m c main_v67 := rfl
  rw [hw]
  generalize V m c main_v67 = B
  obtain ⟨-, -, -, hi, -⟩ := idx t
  show B _ = B _
  congr 1
  funext b; apply Fin.ext
  fin_cases b <;> simp [View.emb, hi] <;> omega

/-- Point `t` has the blocks of pair `t`. -/
theorem isPair : IsPair (blockAt m c 0 t) (blockAt m c 1 t) (blockAt m c 2 t) (blockAt m c 3 t) (blockAt m c 4 t) (proj m c) (biases m c) (outGrads m c) (pairNo t) where
  q r l := block0 m c t r l
  k r l := block1 m c t r l
  v r l := block2 m c t r l
  o r l := block4 m c t r l
  p h u a k := by
    have ht := t_lt t
    refine (block3 m c t _ _).trans (Eq.trans ?_ ((probs_entry m c (headAt (pairNo t) h) u a k).trans (by rw [eighth_bf16])))
    generalize V m c main_v67 = B
    refine congrArg B (congrArg (ix2 _) (Fin.ext ?_))
    show 1024 * t.val + (512 * h.val + (64 * k.1.val + k.2.val)) = 512 * (2 * t.val + h.val) + (64 * k.1.val + k.2.val)
    omega

/-! ## The three blocks -/

theorem queryBlock_eq : queryBlock m c t = fun y : S2048x128.Idx =>
    Attention.queryGrad (proj m c) (biases m c) (outGrads m c) eighth
      (headAt (pairNo t) ⟨(y 1).val / 64, by have : (y 1).val < 128 := (y 1).isLt; omega⟩) ⟨(y 0).val / 64, by have : (y 0).val < 2048 := (y 0).isLt; omega⟩
      ⟨(y 0).val % 64, by omega⟩ ⟨(y 1).val % 64, by omega⟩ := by
  refine Cert.AtKernelIdeal.Value.stacked (tileAt m c t) _ fun u a l => ?_
  refine (tile_at (stg1 t) (stgWhole1 t) (stg2 t) (stgWhole2 t) (stg3 t) (stgWhole3 t) (stg4 t) (stgWhole4 t) scr1 scr2 scr3
    (blockAt m c 0 t) (blockAt m c 1 t) (blockAt m c 2 t) (blockAt m c 3 t) (blockAt m c 4 t) u _ _ _ _ (isPair m c t) a l).trans ?_
  show Attention.queryGrad _ _ _ _ _ _ _ _ = Attention.queryGrad _ _ _ _ _ ⟨(64 * u.val + a.val) / 64, _⟩ ⟨(64 * u.val + a.val) % 64, _⟩ _
  congr 1
  · exact Fin.ext (by dsimp only; omega)
  · exact Fin.ext (by dsimp only; omega)

theorem keyBlock_entry (r : Fin 2048) (l : Fin 128) : (keyBlock m c t (ix2 r l) : EReal)
    = Attention.keyGrad (proj m c) (biases m c) (outGrads m c) eighth (headAt (pairNo t) ⟨l.val / 64, by omega⟩) ⟨r.val / 64, by omega⟩ ⟨r.val % 64, by omega⟩ ⟨l.val % 64, by omega⟩ := by
  unfold keyBlock
  rw [sums_entry scr4 k0_pay9 zero9]
  unfold Attention.keyGrad Attention.gathered
  refine Finset.sum_congr rfl fun u _ => ?_
  split
  · exact keyPart_at (stg0 t) (stgWhole0 t) (stg2 t) (stgWhole2 t) (stg3 t) (stgWhole3 t) (stg4 t) (stgWhole4 t) scr0 scr2 scr3
      (blockAt m c 0 t) (blockAt m c 1 t) (blockAt m c 2 t) (blockAt m c 3 t) (blockAt m c 4 t) _ u _ _ _ _ (isPair m c t) _ _
  · rfl

theorem valBlock_entry (r : Fin 2048) (l : Fin 128) : (valBlock m c t (ix2 r l) : EReal)
    = Attention.valueGrad (proj m c) (biases m c) (outGrads m c) eighth (headAt (pairNo t) ⟨l.val / 64, by omega⟩) ⟨r.val / 64, by omega⟩ ⟨r.val % 64, by omega⟩ ⟨l.val % 64, by omega⟩ := by
  unfold valBlock
  rw [sums_entry scr5 k0_pay10 zero10]
  unfold Attention.valueGrad Attention.gathered
  refine Finset.sum_congr rfl fun u _ => ?_
  split
  · exact valPart_at (stg3 t) (stgWhole3 t) (stg4 t) (stgWhole4 t) scr3
      (blockAt m c 0 t) (blockAt m c 1 t) (blockAt m c 2 t) (blockAt m c 3 t) (blockAt m c 4 t) _ u _ _ _ _ (isPair m c t) _ _
  · rfl

/-! ## The copies -/

theorem write_entry (o : Fin 2 → ℕ) (q : ℕ) (ho : o = ![0, q]) (inb : ∀ a, o a + S2048x128.size a ≤ S2048x5632.size a)
    (f : Held (F := Ideal) c gradArr) (w : FVec Ideal S2048x128 .bf16) (i : Fin 2048) (j : Fin 5632) :
    View.write (Elt Ideal) (gradArr.slice (Rect.unit o S2048x128.size inb) (fun _ => rfl)).view f w Finset.univ (ix2 i j)
      = if h : q ≤ j.val ∧ j.val < q + 128 then w (ix2 i ⟨j.val - q, by omega⟩) else f (ix2 i j) := by
  subst ho
  refine (congrFun (View.write_whole_slice_unit (Val := Elt Ideal) main_v75_0 ![0, q] S2048x128.size inb f w) (ix2 i j)).trans ?_
  unfold updateSlice
  have hi := i.isLt
  by_cases h : q ≤ j.val ∧ j.val < q + 128
  · rw [dif_pos h, dif_pos]
    · refine congrArg w (funext fun b => Fin.ext ?_)
      match b with
      | ⟨0, _⟩ => rfl
      | ⟨1, _⟩ => rfl
    · intro b
      match b with
      | ⟨0, _⟩ => exact ⟨Nat.zero_le _, by show i.val < 0 + 2048; omega⟩
      | ⟨1, _⟩ => exact h
  · rw [dif_neg h, dif_neg]
    exact fun hb => h (hb 1)

theorem coord (t : Fin cfg0.N) : (grid0.coords t 0).val = t.val :=
  (by decide +kernel : ∀ t : Fin grid0.N, (grid0.coords t 0).val = t.val) t

theorem off_eq (r : Fin 3) (w : BitVec 32) (hw : w = BitVec.ofNat 32 (512 * r.val)) : k0_off1 (grid0.coords t) w = ![0, 512 * r.val + 128 * t.val] := by
  subst hw; rw [k0_off1_eq, coord]

theorem step_entry (f : Held (F := Ideal) c gradArr) (i : Fin 2048) (j : Fin 5632) :
    stepAt m c t f (ix2 i j)
      = if h : 512 * 2 + 128 * t.val ≤ j.val ∧ j.val < 512 * 2 + 128 * t.val + 128 then valBlock m c t (ix2 i ⟨j.val - (512 * 2 + 128 * t.val), by omega⟩)
        else if h : 512 * 1 + 128 * t.val ≤ j.val ∧ j.val < 512 * 1 + 128 * t.val + 128 then keyBlock m c t (ix2 i ⟨j.val - (512 * 1 + 128 * t.val), by omega⟩)
        else if h : 512 * 0 + 128 * t.val ≤ j.val ∧ j.val < 512 * 0 + 128 * t.val + 128 then queryBlock m c t (ix2 i ⟨j.val - (512 * 0 + 128 * t.val), by omega⟩)
        else f (ix2 i j) := by
  unfold stepAt copied
  rw [write_entry c _ _ (off_eq t 2 1024#32 rfl), write_entry c _ _ (off_eq t 1 512#32 rfl), write_entry c _ _ (off_eq t 0 0#32 rfl)]
  rfl

/-- The result: the three gradients in columns 0 to 1535, the rest as launched. -/
def result (i : Fin 2048) (j : Fin 5632) : EReal :=
  if h : j.val < 1536 then Attention.grads (proj m c) (biases m c) (outGrads m c) eighth i ⟨j.val, h⟩
  else (m ((c : Thread nD τ).loc main_arg3) : S2048x5632.Idx → EReal) (ix2 i j)

theorem start_eq : V m c main_v75_0 = m ((c : Thread nD τ).loc main_arg3) := by
  unfold V
  after_reads_simp
  rfl

theorem gradsAfter_entry (n : ℕ) (hn : n ≤ 4) (i : Fin 2048) (j : Fin 5632) :
    (gradsAfter m c n (ix2 i j) : EReal)
      = if j.val < 1536 ∧ j.val % 512 / 128 < n then result m c i j else (m ((c : Thread nD τ).loc main_arg3) : S2048x5632.Idx → EReal) (ix2 i j) := by
  induction n with
  | zero =>
    rw [gradsAfter_zero, start_eq, if_neg (by omega)]
  | succ n ih =>
    have hN : n < cfg0.N := lt_of_lt_of_eq (by omega) N_0.symm
    refine (congrFun (gradsAfter_succ m c ⟨n, hN⟩) _).trans ?_
    rw [step_entry]
    have ih := ih (by omega)
    have hj := j.isLt
    dsimp only
    by_cases h2 : 512 * 2 + 128 * n ≤ j.val ∧ j.val < 512 * 2 + 128 * n + 128
    · rw [dif_pos h2, if_pos (by omega), valBlock_entry]
      unfold result Attention.grads
      rw [dif_pos (by omega), if_neg (by dsimp only; omega), if_neg (by dsimp only; omega)]
      congr 1 <;> (apply Fin.ext; dsimp only [headAt]; omega)
    rw [dif_neg h2]
    by_cases h1 : 512 * 1 + 128 * n ≤ j.val ∧ j.val < 512 * 1 + 128 * n + 128
    · rw [dif_pos h1, if_pos (by omega), keyBlock_entry]
      unfold result Attention.grads
      rw [dif_pos (by omega), if_neg (by dsimp only; omega), if_pos (by dsimp only; omega)]
      congr 1 <;> (apply Fin.ext; dsimp only [headAt]; omega)
    rw [dif_neg h1]
    by_cases h0 : 512 * 0 + 128 * n ≤ j.val ∧ j.val < 512 * 0 + 128 * n + 128
    · rw [dif_pos h0, if_pos (by omega), queryBlock_eq]
      unfold result Attention.grads
      rw [dif_pos (by omega), if_pos (by dsimp only; omega)]
      show Attention.queryGrad _ _ _ _ (headAt _ ⟨(j.val - (512 * 0 + 128 * n)) / 64, _⟩) ⟨i.val / 64, _⟩ ⟨i.val % 64, _⟩ ⟨(j.val - (512 * 0 + 128 * n)) % 64, _⟩ = _
      congr 1 <;> (apply Fin.ext; dsimp only [headAt]; omega)
    rw [dif_neg h0]
    refine ih.trans ?_
    by_cases hc : j.val < 1536 ∧ j.val % 512 / 128 < n
    · rw [if_pos hc, if_pos (by omega)]
    · rw [if_neg hc, if_neg (by omega)]

/-- The array of gradients at the end. -/
theorem final_entry (i : Fin 2048) (j : Fin 5632) : (gradsAfter m c 4 (ix2 i j) : EReal) = result m c i j := by
  rw [gradsAfter_entry m c 4 le_rfl]
  by_cases h : j.val < 1536
  · rw [if_pos (by omega)]
  · rw [if_neg (by omega)]
    unfold result
    rw [dif_neg h]

end Cert.AttnGrad

end
-- ==== Proof.At.Reference.lean ====
/- The neighbourhood attention's reference, stage by stage, entry by entry. -/
module

public import proofs.«01_k».proof.Proof.Gen.AtReferenceIdeal.Run
public import proofs.«01_k».proof.Proof.Math.Softmax
public import Idealize.ShloMosaic.Lib.Claim
public import Idealize.ShloMosaic.Lib.Pointwise

@[expose] public section

set_option maxRecDepth 16384

noncomputable section

namespace Cert.AtReferenceIdeal.Value

open Cert.AtReferenceIdeal Cert.AtReferenceIdeal.Gen Idealize.ShloMosaic Idealize.ShloMosaic.TcCoe Idealize.SL.Sem

/-! ## The index tables -/

/-- Of grid row `r`, column block `n` and key `(i, l)`: the key's grid row and column. -/
def keyTable : IVec S32x4x8x32x2 32 :=
  concatenate S32x4x8x32x2 4
    [⟨S32x4x8x32x1, broadcastInDim S32x4x8x32x1 ![0, 1, 2, 3] bcast_S32x4x8x32_S32x4x8x32x1_0_1_2_3
        (broadcastInDim S32x4x8x32 ![0, 1, 2, 3] bcast_S32x1x8x1_S32x4x8x32_0_1_2_3
          (select (constantI S32x1x8x1 1 0#1) (addi (fun i => lit0 (S32x1x8x1.rowMajor i)) (broadcastInDim S32x1x8x1 ![] bcast_S_S32x1x8x1 (constantI S_ 32 32#32)))
            (fun i => lit0 (S32x1x8x1.rowMajor i))))⟩,
      ⟨S32x4x8x32x1, broadcastInDim S32x4x8x32x1 ![0, 1, 2, 3] bcast_S32x4x8x32_S32x4x8x32x1_0_1_2_3
        (broadcastInDim S32x4x8x32 ![0, 1, 2, 3] bcast_S1x4x1x32_S32x4x8x32_0_1_2_3
          (select (constantI S1x4x1x32 1 0#1) (addi (fun i => lit1 (S1x4x1x32.rowMajor i)) (broadcastInDim S1x4x1x32 ![] bcast_S_S1x4x1x32 (constantI S_ 32 64#32)))
            (fun i => lit1 (S1x4x1x32.rowMajor i))))⟩] concatenates_S32x4x8x32x1_S32x4x8x32x1_S32x4x8x32x2_d4

/-- The row distance and the column distance of a query and a key. -/
def biasTable : IVec S32x4x16x8x32x2 32 :=
  concatenate S32x4x16x8x32x2 5
    [⟨S32x4x16x8x32x1, broadcastInDim S32x4x16x8x32x1 ![0, 1, 2, 3, 4] bcast_S32x4x16x8x32_S32x4x16x8x32x1_0_1_2_3_4
        (broadcastInDim S32x4x16x8x32 ![0, 1, 2, 3, 4] bcast_S32x1x1x8x1_S32x4x16x8x32_0_1_2_3_4
          (select (constantI S32x1x1x8x1 1 0#1) (addi (fun i => lit2 (S32x1x1x8x1.rowMajor i)) (broadcastInDim S32x1x1x8x1 ![] bcast_S_S32x1x1x8x1 (constantI S_ 32 15#32)))
            (fun i => lit2 (S32x1x1x8x1.rowMajor i))))⟩,
      ⟨S32x4x16x8x32x1, broadcastInDim S32x4x16x8x32x1 ![0, 1, 2, 3, 4] bcast_S32x4x16x8x32_S32x4x16x8x32x1_0_1_2_3_4
        (broadcastInDim S32x4x16x8x32 ![0, 1, 2, 3, 4] bcast_S1x4x16x1x32_S32x4x16x8x32_0_1_2_3_4
          (select (constantI S1x4x16x1x32 1 0#1) (addi (fun i => lit3 (S1x4x16x1x32.rowMajor i)) (broadcastInDim S1x4x16x1x32 ![] bcast_S_S1x4x16x1x32 (constantI S_ 32 31#32)))
            (fun i => lit3 (S1x4x16x1x32.rowMajor i))))⟩] concatenates_S32x4x16x8x32x1_S32x4x16x8x32x1_S32x4x16x8x32x2_d5

/-! ## The stages -/

variable (z : FVec Ideal S2048x5632 .bf16) (b : FVec Ideal S8x15x31 .f32)

/-- The queries, scaled, by head, grid row, column block and place in the block. -/
def queries : FVec Ideal S1x8x32x4x16x64 .f32 :=
  transpose S1x8x32x4x16x64 [0, 4, 1, 2, 3, 5] (shapeCast _ (mulf (shapeCast _ (extf .f32 (extractStridedSlice S2048x512 ![0, 0] z slices_S2048x5632_S2048x512_0_0)
    bitsLt_bf16_f32) shapeCasts_S2048x512_S1x2048x8x64) (broadcastInDim S1x2048x8x64 ![] bcast_S_S1x2048x8x64 (constant S_ .f32 0x3E000000#32)))
    shapeCasts_S1x2048x8x64_S1x32x4x16x8x64) transposes_S1x32x4x16x8x64_S1x8x32x4x16x64_0_4_1_2_3_5

/-- The keys that each column block attends to. -/
def keys : FVec Ideal S1x8x32x4x8x32x64 .f32 :=
  Host.gather gather_S1x8x32x64x64_S32x4x8x32x2_S1x8x32x4x8x32x64_016_23_n_n_23_4_181164 (transpose S1x8x32x64x64 [0, 3, 1, 2, 4]
    (shapeCast _ (shapeCast _ (extf .f32 (extractStridedSlice S2048x512 ![0, 512] z slices_S2048x5632_S2048x512_0_512) bitsLt_bf16_f32)
      shapeCasts_S2048x512_S1x2048x8x64) shapeCasts_S1x2048x8x64_S1x32x64x8x64) transposes_S1x32x64x8x64_S1x8x32x64x64_0_3_1_2_4) keyTable

/-- The values that each column block attends to. -/
def values : FVec Ideal S1x8x32x4x8x32x64 .f32 :=
  Host.gather gather_S1x8x32x64x64_S32x4x8x32x2_S1x8x32x4x8x32x64_016_23_n_n_23_4_181164 (transpose S1x8x32x64x64 [0, 3, 1, 2, 4]
    (shapeCast _ (shapeCast _ (extf .f32 (extractStridedSlice S2048x512 ![0, 1024] z slices_S2048x5632_S2048x512_0_1024) bitsLt_bf16_f32)
      shapeCasts_S2048x512_S1x2048x8x64) shapeCasts_S1x2048x8x64_S1x32x64x8x64) transposes_S1x32x64x8x64_S1x8x32x64x64_0_3_1_2_4) keyTable

/-- The bias of each query and key. -/
def biasOf : FVec Ideal S8x32x4x16x8x32 .f32 :=
  Host.gather gather_S8x15x31_S32x4x16x8x32x2_S8x32x4x16x8x32_0_12_n_n_12_5_811 b biasTable

/-- The scores, `⊥` outside of the window. -/
def maskedScores : FVec Ideal S1x8x32x4x16x8x32 .f32 :=
  select (broadcastInDim S1x8x32x4x16x8x32 ![3, 4, 5, 6] bcast_S4x16x1x32_S1x8x32x4x16x8x32_3_4_5_6
      (broadcastInDim S4x16x1x32 ![0, 1, 3] bcast_S4x16x32_S4x16x1x32_0_1_3 (fun i => lit4 (S4x16x32.rowMajor i))))
    (addf (Host.dotGeneral dot_S1x8x32x4x16x64_S1x8x32x4x8x32x64_S1x8x32x4x16x8x32_5_6_4_45_0123_0123 none (queries z) (keys z))
      (broadcastInDim S1x8x32x4x16x8x32 ![1, 2, 3, 4, 5, 6] bcast_S8x32x4x16x8x32_S1x8x32x4x16x8x32_1_2_3_4_5_6 (biasOf b)))
    (broadcastInDim S1x8x32x4x16x8x32 ![] bcast_S_S1x8x32x4x16x8x32 (id (constant S_ .f32 0xFF800000#32)))

/-- The exponentials of scores less their row's maximum. -/
def expScores (s : FVec Ideal S1x8x32x4x16x8x32 .f32) : FVec Ideal S1x8x32x4x16x8x32 .f32 :=
  Host.exp (subf s (broadcastInDim S1x8x32x4x16x8x32 ![0, 1, 2, 3, 4, 5, 6] bcast_S1x8x32x4x16x1x1_S1x8x32x4x16x8x32_0_1_2_3_4_5_6
    (broadcastInDim S1x8x32x4x16x1x1 ![0, 1, 2, 3, 4] bcast_S1x8x32x4x16_S1x8x32x4x16x1x1_0_1_2_3_4
      (maximumf (broadcastInDim S1x8x32x4x16 ![] bcast_S_S1x8x32x4x16 (constant S_ .f32 0xFF800000#32))
        (Host.reduce FloatOps.maximumf s (constant S_ .f32 0xFF800000#32) reducesTo_S1x8x32x4x16x8x32_S1x8x32x4x16_d5_6 h_S_)))))

/-- The mean of the values at the softmax of the scores. -/
def mean (s : FVec Ideal S1x8x32x4x16x8x32 .f32) (v : FVec Ideal S1x8x32x4x8x32x64 .f32) : FVec Ideal S1x8x32x4x16x64 .f32 :=
  Host.dotGeneral dot_S1x8x32x4x16x8x32_S1x8x32x4x8x32x64_S1x8x32x4x16x64_56_45_4_6_0123_0123 none
    (Host.divf (expScores s) (broadcastInDim S1x8x32x4x16x8x32 ![0, 1, 2, 3, 4, 5, 6] bcast_S1x8x32x4x16x1x1_S1x8x32x4x16x8x32_0_1_2_3_4_5_6
      (broadcastInDim S1x8x32x4x16x1x1 ![0, 1, 2, 3, 4] bcast_S1x8x32x4x16_S1x8x32x4x16x1x1_0_1_2_3_4
        (Host.reduceAdd (expScores s) (constant S_ .f32 0x00000000#32) reducesTo_S1x8x32x4x16x8x32_S1x8x32x4x16_d5_6 h_S_)))) v

theorem result_eq (m : (ℓ : Loc nD τ sig) → Buf (Elt Ideal) ℓ) (c : Dev nD) :
    res_main_v73 m c = truncf .bf16 (shapeCast _ (shapeCast _ (transpose S1x32x4x16x8x64 [0, 2, 3, 4, 1, 5]
      (mean (maskedScores (m ((c.tc : Thread nD τ).loc main_arg0)) (m ((c.tc : Thread nD τ).loc main_arg1))) (values (m ((c.tc : Thread nD τ).loc main_arg0))))
      transposes_S1x8x32x4x16x64_S1x32x4x16x8x64_0_2_3_4_1_5) shapeCasts_S1x32x4x16x8x64_S1x2048x512) shapeCasts_S1x2048x512_S2048x512) bitsLt_bf16_f32 := by
  unfold res_main_v73 mean expScores maskedScores queries keys values biasOf keyTable biasTable
  rfl

end Cert.AtReferenceIdeal.Value

end
-- ==== Proof.Ab.Reference.lean ====
/- The attention backward's reference, stage by stage: the forward stages are those of the attention's own reference. -/
module

public import proofs.«01_k».proof.Proof.Gen.AbReferenceIdeal.Run
public import proofs.«01_k».proof.Proof.At.Reference
public import Idealize.ShloMosaic.Lib.Claim

@[expose] public section

set_option maxRecDepth 16384

noncomputable section

namespace Cert.AbReferenceIdeal.Value

open Cert.AbReferenceIdeal Cert.AbReferenceIdeal.Gen Idealize.ShloMosaic Idealize.ShloMosaic.TcCoe Idealize.SL.Sem StableHlo
open Cert.AtReferenceIdeal.Value (keyTable biasTable queries keys values biasOf maskedScores expScores)

/-! ## The tables of both programs are the same -/

theorem lit0_eq : lit0 = Cert.AtReferenceIdeal.lit0 := by funext i; revert i; decide +kernel
theorem lit1_eq : lit1 = Cert.AtReferenceIdeal.lit1 := by funext i; revert i; decide +kernel
theorem lit2_eq : lit2 = Cert.AtReferenceIdeal.lit2 := by funext i; revert i; decide +kernel
theorem lit3_eq : lit3 = Cert.AtReferenceIdeal.lit3 := by funext i; revert i; decide +kernel
theorem lit4_eq : lit4 = Cert.AtReferenceIdeal.lit4 := by funext i; revert i; decide +kernel

/-! ## The backward's stages -/

/-- The output's gradient, by head, grid row, column block and place in the block. -/
def cotangents (g : FVec Ideal S2048x512 .bf16) : FVec Ideal S1x8x32x4x16x64 .f32 :=
  transpose S1x8x32x4x16x64 [0, 4, 1, 2, 3, 5] (shapeCast _ (broadcastInDim S1x2048x512 ![1, 2] bcast_S2048x512_S1x2048x512_1_2 (extf .f32 g bitsLt_bf16_f32))
    shapeCasts_S1x2048x512_S1x32x4x16x8x64) transposes_S1x32x4x16x8x64_S1x8x32x4x16x64_0_4_1_2_3_5

/-- Which keys of a block lie in a query's window. -/
def windowMask : IVec S1x8x32x4x16x8x32 1 :=
  broadcastInDim S1x8x32x4x16x8x32 ![3, 4, 5, 6] bcast_S4x16x1x32_S1x8x32x4x16x8x32_3_4_5_6
    (broadcastInDim S4x16x1x32 ![0, 1, 3] bcast_S4x16x32_S4x16x1x32_0_1_3 (fun i => Cert.AtReferenceIdeal.lit4 (S4x16x32.rowMajor i)))

/-- A row's total, with two axes of one key. -/
def totals (e : FVec Ideal S1x8x32x4x16x8x32 .f32) : FVec Ideal S1x8x32x4x16x1x1 .f32 :=
  broadcastInDim S1x8x32x4x16x1x1 ![0, 1, 2, 3, 4] bcast_S1x8x32x4x16_S1x8x32x4x16x1x1_0_1_2_3_4
    (Host.reduceAdd e (constant S_ .f32 0x00000000#32) reducesTo_S1x8x32x4x16x8x32_S1x8x32x4x16_d5_6 h_S_)

/-- A row's number at each of its keys. -/
abbrev atKeys (x : FVec Ideal S1x8x32x4x16x1x1 .f32) : FVec Ideal S1x8x32x4x16x8x32 .f32 :=
  broadcastInDim S1x8x32x4x16x8x32 ![0, 1, 2, 3, 4, 5, 6] bcast_S1x8x32x4x16x1x1_S1x8x32x4x16x8x32_0_1_2_3_4_5_6 x

/-- The probabilities, of exponentials `e` with totals `t`. -/
def probs (e : FVec Ideal S1x8x32x4x16x8x32 .f32) (t : FVec Ideal S1x8x32x4x16x1x1 .f32) : FVec Ideal S1x8x32x4x16x8x32 .f32 :=
  Host.divf e (atKeys t)

/-- The probabilities' gradient. -/
def probGrads (o : FVec Ideal S1x8x32x4x16x64 .f32) (v : FVec Ideal S1x8x32x4x8x32x64 .f32) : FVec Ideal S1x8x32x4x16x8x32 .f32 :=
  Host.dotGeneral dot_S1x8x32x4x16x64_S1x8x32x4x8x32x64_S1x8x32x4x16x8x32_5_6_4_45_0123_0123 none o v

/-- What the quotient's rule sums over a row. -/
def quotientTerms (dp e : FVec Ideal S1x8x32x4x16x8x32 .f32) (t : FVec Ideal S1x8x32x4x16x1x1 .f32) : FVec Ideal S1x8x32x4x16x8x32 .f32 :=
  mulf (mulf dp (atKeys (Host.divf (broadcastInDim S1x8x32x4x16x1x1 ![] bcast_S_S1x8x32x4x16x1x1 (constant S_ .f32 0x3F800000#32)) (mulf t t)))) e

/-- The total's gradient. -/
def totalGrads (dp e : FVec Ideal S1x8x32x4x16x8x32 .f32) (t : FVec Ideal S1x8x32x4x16x1x1 .f32) : FVec Ideal S8x32x4x16 .f32 :=
  Host.reduceAdd (Host.negf (shapeCast S1x8x32x4x16x1x1 (Host.reduceAdd (quotientTerms dp e t) (constant S_ .f32 0x00000000#32)
    reducesTo_S1x8x32x4x16x8x32_S1x8x32x4x16_d5_6 h_S_) shapeCasts_S1x8x32x4x16_S1x8x32x4x16x1x1)) (constant S_ .f32 0x00000000#32)
    reducesTo_S1x8x32x4x16x1x1_S8x32x4x16_d0_5_6 h_S_

/-- The scores' gradient before the mask. -/
def openGrads (dp e : FVec Ideal S1x8x32x4x16x8x32 .f32) (t : FVec Ideal S1x8x32x4x16x1x1 .f32) : FVec Ideal S1x8x32x4x16x8x32 .f32 :=
  mulf (addf (Host.divf dp (atKeys t)) (broadcastInDim S1x8x32x4x16x8x32 ![0, 1, 2, 3, 4] bcast_S1x8x32x4x16_S1x8x32x4x16x8x32_0_1_2_3_4
    (broadcastInDim S1x8x32x4x16 ![1, 2, 3, 4] bcast_S8x32x4x16_S1x8x32x4x16_1_2_3_4 (totalGrads dp e t)))) e

/-- The scores' gradient. -/
def scoreGrads (dp e : FVec Ideal S1x8x32x4x16x8x32 .f32) (t : FVec Ideal S1x8x32x4x16x1x1 .f32) : FVec Ideal S1x8x32x4x16x8x32 .f32 :=
  select windowMask (openGrads dp e t) (broadcastInDim S1x8x32x4x16x8x32 ![] bcast_S_S1x8x32x4x16x8x32 (constant S_ .f32 0x00000000#32))

/-- The scaled queries' gradient. -/
def queryParts (ds : FVec Ideal S1x8x32x4x16x8x32 .f32) (k : FVec Ideal S1x8x32x4x8x32x64 .f32) : FVec Ideal S1x8x32x4x16x64 .f32 :=
  Host.dotGeneral dot_S1x8x32x4x16x8x32_S1x8x32x4x8x32x64_S1x8x32x4x16x64_56_45_4_6_0123_0123 none ds k

/-- What each row and block gives to the keys' gradients. -/
def keyParts (ds : FVec Ideal S1x8x32x4x16x8x32 .f32) (q : FVec Ideal S1x8x32x4x16x64 .f32) : FVec Ideal S1x8x32x4x8x32x64 .f32 :=
  Host.dotGeneral dot_S1x8x32x4x16x8x32_S1x8x32x4x16x64_S1x8x32x4x8x32x64_4_4_56_5_0123_0123 none ds q

/-- What each row and block gives to the values' gradients. -/
def valueParts (o : FVec Ideal S1x8x32x4x16x64 .f32) (p : FVec Ideal S1x8x32x4x16x8x32 .f32) : FVec Ideal S1x8x32x4x8x32x64 .f32 :=
  transpose S1x8x32x4x8x32x64 [0, 1, 2, 3, 5, 6, 4] (Host.dotGeneral dot_S1x8x32x4x16x64_S1x8x32x4x16x8x32_S1x8x32x4x64x8x32_4_4_5_56_0123_0123 none o p)
    transposes_S1x8x32x4x64x8x32_S1x8x32x4x8x32x64_0_1_2_3_5_6_4

/-- The parts, added where their keys lie. -/
def scattered (x : FVec Ideal S1x8x32x4x8x32x64 .f32) : FVec Ideal S1x8x32x64x64 .f32 :=
  Host.scatterAdd scatter_S1x8x32x64x64_S32x4x8x32x2_S1x8x32x4x8x32x64_016_23_23_4
    (broadcastInDim S1x8x32x64x64 ![] bcast_S_S1x8x32x64x64 (constant S_ .f32 0x00000000#32)) keyTable x

/-- The queries' gradient as columns. -/
def queryColumns (x : FVec Ideal S1x8x32x4x16x64 .f32) : FVec Ideal S2048x512 .bf16 :=
  truncf .bf16 (shapeCast _ (mulf (shapeCast _ (transpose S1x32x4x16x8x64 [0, 2, 3, 4, 1, 5] x transposes_S1x8x32x4x16x64_S1x32x4x16x8x64_0_2_3_4_1_5)
    shapeCasts_S1x32x4x16x8x64_S1x2048x8x64) (broadcastInDim S1x2048x8x64 ![] bcast_S_S1x2048x8x64 (constant S_ .f32 0x3E000000#32)))
    shapeCasts_S1x2048x8x64_S2048x512) bitsLt_bf16_f32

/-- The keys' or the values' gradient as columns. -/
def keyColumns (x : FVec Ideal S1x8x32x64x64 .f32) : FVec Ideal S2048x512 .bf16 :=
  truncf .bf16 (shapeCast _ (shapeCast _ (transpose S1x32x64x8x64 [0, 2, 3, 1, 4] x transposes_S1x8x32x64x64_S1x32x64x8x64_0_2_3_1_4)
    shapeCasts_S1x32x64x8x64_S1x2048x8x64) shapeCasts_S1x2048x8x64_S2048x512) bitsLt_bf16_f32

/-- The gradients side by side, before the columns that are no queries, keys or values. -/
def joined (a b c : FVec Ideal S2048x512 .bf16) (y : FVec Ideal S2048x5632 .bf16) : FVec Ideal S2048x5632 .bf16 :=
  concatenate S2048x5632 1 [⟨S2048x512, a⟩, ⟨S2048x512, b⟩, ⟨S2048x512, c⟩,
    ⟨S2048x4096, extractStridedSlice S2048x4096 ![0, 1536] y slices_S2048x5632_S2048x4096_0_1536⟩] concatenates_S2048x512_S2048x512_S2048x512_S2048x4096_S2048x5632_d1

/-! ## The program's terms are these stages -/

section Terms

variable (V : Valuation τ sig (Elt Ideal))

abbrev zOf : FVec Ideal S2048x5632 .bf16 := V (Proc.devRef .tc main_arg0)
abbrev bOf : FVec Ideal S8x15x31 .f32 := V (Proc.devRef .tc main_arg1)
abbrev gOf : FVec Ideal S2048x512 .bf16 := V (Proc.devRef .tc main_arg2)
abbrev yOf : FVec Ideal S2048x5632 .bf16 := V (Proc.devRef .tc main_arg3)

theorem queries_eq : res_main_v13 V = queries (zOf V) := rfl

theorem keyTable_eq : res_main_v28 V = keyTable := by
  unfold res_main_v28 res_main_c res_main_c_1
  rw [lit0_eq, lit1_eq]; rfl

theorem keyTable_eq' : res_main_v40 V = keyTable := (show res_main_v40 V = res_main_v28 V from rfl).trans (keyTable_eq V)

theorem keys_eq : res_main_v29 V = keys (zOf V) := by
  unfold res_main_v29; rw [keyTable_eq]; rfl

theorem values_eq : res_main_v41 V = values (zOf V) := by
  unfold res_main_v41; rw [keyTable_eq']; rfl

theorem biasTable_eq : res_main_v53 V = biasTable := by
  unfold res_main_v53 res_main_c_5 res_main_c_7
  rw [lit2_eq, lit3_eq]; rfl

theorem mask_eq : res_main_v57_1 V = windowMask := by
  unfold res_main_v57_1
  rw [lit4_eq]; rfl

theorem scores_eq : res_main_v57_0 V = maskedScores (zOf V) (bOf V) := by
  unfold res_main_v57_0
  rw [mask_eq, queries_eq, keys_eq, biasTable_eq]; rfl

/-- The scores' exponentials. -/
abbrev expsOf : FVec Ideal S1x8x32x4x16x8x32 .f32 := expScores (maskedScores (zOf V) (bOf V))

theorem exps_eq : res_main_v78 V = expsOf V := by
  unfold res_main_v78 res_main_v58
  rw [scores_eq]; rfl

theorem totals_eq : res_main_v80 V = totals (expsOf V) := by
  unfold res_main_v80
  rw [exps_eq]; rfl

theorem probs_eq : res_main_v82 V = probs (expsOf V) (totals (expsOf V)) := by
  unfold res_main_v82
  rw [exps_eq, totals_eq]; rfl

theorem cotangents_eq : res_main_v93 V = cotangents (gOf V) := rfl

theorem probGrads_eq : res_main_v96 V = probGrads (cotangents (gOf V)) (values (zOf V)) := by
  unfold res_main_v96
  rw [cotangents_eq, values_eq]; rfl

/-- The scores' gradients. -/
abbrev scoreGradsOf : FVec Ideal S1x8x32x4x16x8x32 .f32 :=
  scoreGrads (probGrads (cotangents (gOf V)) (values (zOf V))) (expsOf V) (totals (expsOf V))

theorem scoreGrads_eq : res_main_v110 V = scoreGradsOf V := by
  unfold res_main_v110
  rw [mask_eq, probGrads_eq, totals_eq, exps_eq]; rfl

/-- The result, in stages. -/
def resultOf : FVec Ideal S2048x5632 .bf16 :=
  joined (queryColumns (queryParts (scoreGradsOf V) (keys (zOf V)))) (keyColumns (scattered (keyParts (scoreGradsOf V) (queries (zOf V)))))
    (keyColumns (scattered (valueParts (cotangents (gOf V)) (probs (expsOf V) (totals (expsOf V)))))) (yOf V)

end Terms

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v135) = resultOf (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
    rw [scoreGrads_eq, keys_eq, queries_eq, keyTable_eq, keyTable_eq', cotangents_eq, probs_eq]; rfl), (h c).2⟩) (run m ρ)

end Cert.AbReferenceIdeal.Value

end
-- ==== Proof.Ab.Places.lean ====
/- Where the parts of the keys' and values' gradients are added: every key of a column block is a key of a row's window. -/
module

public import proofs.«01_k».proof.Proof.Ab.Spec

@[expose] public section

noncomputable section

namespace Cert.Attention

/-- A sum over the columns, block by block. -/
theorem sum_cols (f : Fin 64 → EReal) : ∑ a, f a = ∑ n : Fin 4, ∑ q : Fin 16, f (colOf n q) := by
  rw [← Fintype.sum_prod_type']
  have hb : Function.Bijective fun p : Fin 4 × Fin 16 => colOf p.1 p.2 := by
    refine ⟨fun x y e => ?_, fun a => ?_⟩
    · have e' := congrArg Fin.val e
      have h : 16 * x.1.val + x.2.val = 16 * y.1.val + y.2.val := e'
      exact Prod.ext (Fin.ext (by omega)) (Fin.ext (by omega))
    · exact ⟨(⟨a.val / 16, by omega⟩, ⟨a.val % 16, by omega⟩), Fin.ext (by show 16 * (a.val / 16) + a.val % 16 = a.val; omega)⟩
  exact (hb.sum_comp f).symm

/-- Of a block's keys at row `i` of the window, the one at column `c`, if there is one; outside of the block all is zero. -/
theorem block_sum (n : Fin 4) (f : Fin 16 → Fin 8 × Fin 64 → EReal) (hf : ∀ q k, k ∉ Set.range (inBlock n) → f q k = 0) (i : Fin 8) (c : Fin 64) :
    (∑ l : Fin 32, if blockCol n.val + l.val = c.val then ∑ q, f q (inBlock n (i, l)) else 0) = ∑ q, f q (i, c) := by
  by_cases h : blockCol n.val ≤ c.val ∧ c.val < blockCol n.val + 32
  · have hk : inBlock n (i, ⟨c.val - blockCol n.val, by omega⟩) = (i, c) :=
      Prod.ext rfl (Fin.ext (by show blockCol n.val + (c.val - blockCol n.val) = c.val; omega))
    rw [Finset.sum_eq_single (⟨c.val - blockCol n.val, by omega⟩ : Fin 32)]
    · rw [if_pos (by show blockCol n.val + (c.val - blockCol n.val) = c.val; omega), hk]
    · intro l _ hl
      exact if_neg fun e => hl (Fin.ext (by show l.val = c.val - blockCol n.val; omega))
    · exact fun e => absurd (Finset.mem_univ _) e
  · rw [Finset.sum_eq_zero fun l _ => if_neg fun e => h (by omega), Finset.sum_eq_zero fun q _ => hf q _ ?_]
    rintro ⟨k, hk⟩
    have e : blockCol n.val + k.2.val = c.val := congrArg (fun x : Fin 8 × Fin 64 => x.2.val) hk
    exact h (by omega)

/-- Of a window's rows, the one that is row `r`, if there is one. -/
theorem row_sum (P : Fin 8 → EReal) (u r : Fin 32) :
    (∑ i : Fin 8, if firstRow u.val + i.val = r.val then P i else 0)
      = if h : firstRow u.val ≤ r.val ∧ r.val < firstRow u.val + 8 then P ⟨r.val - firstRow u.val, by omega⟩ else 0 := by
  by_cases h : firstRow u.val ≤ r.val ∧ r.val < firstRow u.val + 8
  · rw [dif_pos h, Finset.sum_eq_single (⟨r.val - firstRow u.val, by omega⟩ : Fin 8)]
    · exact if_pos (by show firstRow u.val + (r.val - firstRow u.val) = r.val; omega)
    · intro i _ hi
      exact if_neg fun e => hi (Fin.ext (by show i.val = r.val - firstRow u.val; omega))
    · exact fun e => absurd (Finset.mem_univ _) e
  · rw [dif_neg h]
    exact Finset.sum_eq_zero fun i _ => if_neg fun e => h (by omega)

/-- What lies at row `r`, column `c`: from each row and block the key there. -/
theorem places_sum (f : Fin 32 → Fin 64 → Fin 8 × Fin 64 → EReal) (hf : ∀ u n q k, k ∉ Set.range (inBlock n) → f u (colOf n q) k = 0) (r : Fin 32) (c : Fin 64) :
    (∑ u : Fin 32, ∑ n : Fin 4, ∑ i : Fin 8, ∑ l : Fin 32,
        if firstRow u.val + i.val = r.val ∧ blockCol n.val + l.val = c.val then ∑ q, f u (colOf n q) (inBlock n (i, l)) else 0)
      = gathered (fun u i => ∑ a, f u a (i, c)) r := by
  unfold gathered
  refine Finset.sum_congr rfl fun u _ => ?_
  rw [← row_sum (fun i => ∑ a, f u a (i, c)) u r, Finset.sum_comm]
  refine Finset.sum_congr rfl fun i _ => ?_
  by_cases h : firstRow u.val + i.val = r.val
  · rw [if_pos h, sum_cols]
    refine Finset.sum_congr rfl fun n _ => ?_
    rw [← block_sum n (fun q k => f u (colOf n q) k) (fun q k => hf u n q k) i c]
    exact Finset.sum_congr rfl fun l _ => by simp only [h, true_and]
  · rw [if_neg h]
    exact Finset.sum_eq_zero fun n _ => Finset.sum_eq_zero fun l _ => if_neg fun e => h e.1

end Cert.Attention

end
-- ==== Proof.At.RefEntries.lean ====
/- The neighbourhood attention's reference at one entry: the mean over a block's keys, and its scores. -/
module

public import proofs.«01_k».proof.Proof.At.Reference
public import proofs.«01_k».proof.Proof.At.Window
public import Idealize.ShloMosaic.Lib.IdealHost

@[expose] public section

set_option maxRecDepth 16384

noncomputable section

namespace Cert.AtReferenceIdeal.Value

open Cert.AtReferenceIdeal Cert.AtReferenceIdeal.Gen Idealize.ShloMosaic Idealize.ShloMosaic.TcCoe Idealize.SL.Sem

/-! ## Reductions over both key axes -/

variable (H : Fin 8) (r : Fin 32) (n : Fin 4) (q : Fin 16)

theorem drop_iff (i : S1x8x32x4x16x8x32.Idx) :
    reducesTo_S1x8x32x4x16x8x32_S1x8x32x4x16_d5_6.drop i = ix5 0 H r n q ↔ ∃ k : Fin 8 × Fin 32, ix7 0 H r n q k.1 k.2 = i := by
  constructor
  · intro e
    refine ⟨(i 5, i 6), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
    | ⟨6, _⟩ => rfl
  · rintro ⟨k, rfl⟩
    funext b
    apply Fin.ext
    fin_cases b <;> rfl

theorem keys_injective : Function.Injective fun k : Fin 8 × Fin 32 => (ix7 0 H r n q k.1 k.2 : S1x8x32x4x16x8x32.Idx) :=
  fun _ _ e => Prod.ext (congrFun e 5) (congrFun e 6)

theorem sum_entry (e : FVec Ideal S1x8x32x4x16x8x32 .f32) :
    (Host.reduceAdd e (constant S_ .f32 0x00000000#32) reducesTo_S1x8x32x4x16x8x32_S1x8x32x4x16_d5_6 h_S_ (ix5 0 H r n q) : Ideal FTy.f32)
      = ∑ k : Fin 8 × Fin 32, e (ix7 0 H r n q k.1 k.2) := by
  refine (ValueIdx.hostReduceAdd_apply _ _ _ _ _).trans ?_
  have hz : Ideal.ofBits FTy.f32 0x00000000#32 = (0 : EReal) := by simp [Ideal.ofBits, Ideal.ieee]
  refine (congrArg₂ (· + ·) hz (Finset.sum_filter_eq_sum_of_fiber _ _ (fun _ _ e => keys_injective H r n q e) (drop_iff H r n q) e)).trans ?_
  exact zero_add _

theorem max_entry (s : FVec Ideal S1x8x32x4x16x8x32 .f32) :
    (Host.reduce (α := Ideal FTy.f32) FloatOps.maximumf s (constant S_ .f32 0xFF800000#32) reducesTo_S1x8x32x4x16x8x32_S1x8x32x4x16_d5_6 h_S_ (ix5 0 H r n q) : Ideal FTy.f32)
      = Softmax.peak fun k : Fin 8 × Fin 32 => s (ix7 0 H r n q k.1 k.2) := by
  have hb : Ideal.ofBits FTy.f32 0xFF800000#32 = (⊥ : EReal) := by simp [Ideal.ofBits, Ideal.ieee]
  refine (Host.reduce_eq_fold _ _ _ _ _ _).trans ?_
  unfold Softmax.peak
  rw [Finset.fold_filter_eq_fold_of_fiber _ _ _ (keys_injective H r n q) (drop_iff H r n q) _ s]
  exact congrArg (fun x => Finset.univ.fold max x fun k : Fin 8 × Fin 32 => s (ix7 0 H r n q k.1 k.2)) hb

/-! ## The mean -/

/-- A row's number, repeated along both key axes. -/
theorem repeated_entry {α : Type} (M : S1x8x32x4x16.Idx → α) (i : Fin 8) (l : Fin 32) :
    broadcastInDim S1x8x32x4x16x8x32 ![0, 1, 2, 3, 4, 5, 6] bcast_S1x8x32x4x16x1x1_S1x8x32x4x16x8x32_0_1_2_3_4_5_6
      (broadcastInDim S1x8x32x4x16x1x1 ![0, 1, 2, 3, 4] bcast_S1x8x32x4x16_S1x8x32x4x16x1x1_0_1_2_3_4 M) (ix7 0 H r n q i l)
      = M (ix5 0 H r n q) :=
  congrArg M (funext fun a => Fin.ext (by fin_cases a <;> rfl))

theorem dot_entry (p : FVec Ideal S1x8x32x4x16x8x32 .f32) (v : FVec Ideal S1x8x32x4x8x32x64 .f32) (d : Fin 64) :
    (Host.dotGeneral dot_S1x8x32x4x16x8x32_S1x8x32x4x8x32x64_S1x8x32x4x16x64_56_45_4_6_0123_0123 none p v (ix6 0 H r n q d) : EReal)
      = ∑ i : Fin 8, ∑ l : Fin 32, p (ix7 0 H r n q i l) * v (ix7 0 H r n i l d) := by
  pointwise

theorem exp_at (s : FVec Ideal S1x8x32x4x16x8x32 .f32) (M : FVec Ideal S1x8x32x4x16 .f32) (w : FVec Ideal S_ .f32) (i : Fin 8) (l : Fin 32) :
    Host.exp (subf s (broadcastInDim S1x8x32x4x16x8x32 ![0, 1, 2, 3, 4, 5, 6] bcast_S1x8x32x4x16x1x1_S1x8x32x4x16x8x32_0_1_2_3_4_5_6
      (broadcastInDim S1x8x32x4x16x1x1 ![0, 1, 2, 3, 4] bcast_S1x8x32x4x16_S1x8x32x4x16x1x1_0_1_2_3_4
        (maximumf (broadcastInDim S1x8x32x4x16 ![] bcast_S_S1x8x32x4x16 w) M)))) (ix7 0 H r n q i l)
      = Ideal.exp ((s (ix7 0 H r n q i l) : EReal) - max (w ix0 : EReal) (M (ix5 0 H r n q))) := by
  refine (congrArg (fun x : EReal => Ideal.exp ((s (ix7 0 H r n q i l) : EReal) - x)) (repeated_entry H r n q _ i l)).trans ?_
  refine congrArg (fun x : EReal => Ideal.exp ((s (ix7 0 H r n q i l) : EReal) - max x (M (ix5 0 H r n q)))) ?_
  exact ValueIdx.broadcastInDim_scalar_apply _ w _

theorem expScores_entry (s : FVec Ideal S1x8x32x4x16x8x32 .f32) (k : Fin 8 × Fin 32) :
    expScores s (ix7 0 H r n q k.1 k.2) = Softmax.weight (fun k : Fin 8 × Fin 32 => s (ix7 0 H r n q k.1 k.2)) k := by
  have hb : (constant S_ .f32 0xFF800000#32 : FVec Ideal S_ .f32) ix0 = (⊥ : EReal) := by
    show Ideal.ofBits FTy.f32 0xFF800000#32 = (⊥ : EReal)
    simp [Ideal.ofBits, Ideal.ieee]
  have hm := max_entry H r n q s
  unfold expScores
  rw [exp_at, hb, hm, max_eq_right bot_le]
  rfl

theorem mean_entry (s : FVec Ideal S1x8x32x4x16x8x32 .f32) (v : FVec Ideal S1x8x32x4x8x32x64 .f32) (d : Fin 64) :
    (mean s v (ix6 0 H r n q d) : EReal)
      = Softmax.attendDiv (fun k : Fin 8 × Fin 32 => s (ix7 0 H r n q k.1 k.2)) fun k => v (ix7 0 H r n k.1 k.2 d) := by
  have hx := expScores_entry H r n q s
  have hs := sum_entry H r n q (expScores s)
  unfold mean
  generalize expScores s = e at hx hs ⊢
  generalize Host.reduceAdd e (constant S_ .f32 0x00000000#32) reducesTo_S1x8x32x4x16x8x32_S1x8x32x4x16_d5_6 h_S_ = S at hs ⊢
  rw [dot_entry, ← Fintype.sum_prod_type']
  unfold Softmax.attendDiv
  refine Finset.sum_congr rfl fun k _ => congrArg (· * (v (ix7 0 H r n k.1 k.2 d) : EReal)) ?_
  refine (congrArg (Ideal.div (e (ix7 0 H r n q k.1 k.2))) (repeated_entry H r n q S k.1 k.2)).trans ?_
  rw [hs, hx]
  exact congrArg (Ideal.div _) (Finset.sum_congr rfl fun k _ => hx k)

end Cert.AtReferenceIdeal.Value

end
-- ==== Proof.At.RefScores.lean ====
/- The scores of the neighbourhood attention's reference: the tables of indices, and what is gathered by them. -/
module

public import proofs.«01_k».proof.Proof.At.Reference
public import proofs.«01_k».proof.Proof.At.Window

@[expose] public section

set_option maxRecDepth 16384

noncomputable section

namespace Cert.AtReferenceIdeal.Value

open Cert.AtReferenceIdeal Cert.AtReferenceIdeal.Gen Idealize.ShloMosaic Idealize.ShloMosaic.TcCoe Idealize.SL.Sem
open Cert.Attention hiding Finite

/-! ## The tables -/

theorem row_word (r : Fin 32) (i : Fin 8) : (lit0 (S32x1x8x1.rowMajor (ix4 r 0 i 0))).toInt = firstRow r.val + i.val := by
  revert r i; decide +kernel

theorem col_word (n : Fin 4) (l : Fin 32) : (lit1 (S1x4x1x32.rowMajor (ix4 0 n 0 l))).toInt = blockCol n.val + l.val := by
  revert n l; decide +kernel

theorem rowDist_word (r : Fin 32) (i : Fin 8) : (lit2 (S32x1x1x8x1.rowMajor (ix5 r 0 0 i 0))).toInt = rowDist r.val + i.val := by
  revert r i; decide +kernel

theorem colDist_word (n : Fin 4) (q : Fin 16) (l : Fin 32) :
    (lit3 (S1x4x16x1x32.rowMajor (ix5 0 n q 0 l))).toInt = colDist (16 * n.val + q.val) (blockCol n.val + l.val) := by
  revert n q l; decide +kernel

theorem window_bit (n : Fin 4) (q : Fin 16) (l : Fin 32) :
    lit4 (S4x16x32.rowMajor (ix3 n q l)) = if inWindow (16 * n.val + q.val) (blockCol n.val + l.val) then 1#1 else 0#1 := by
  revert n q l; decide +kernel

variable (H : Fin 8) (r : Fin 32) (n : Fin 4) (q : Fin 16) (i : Fin 8) (l : Fin 32)

theorem keyTable_row : (keyTable (ix5 r n i l 0)).toInt = firstRow r.val + i.val := by
  refine Eq.trans (congrArg BitVec.toInt ?_) (row_word r i)
  pointwise [keyTable]

theorem keyTable_col : (keyTable (ix5 r n i l 1)).toInt = blockCol n.val + l.val := by
  refine Eq.trans (congrArg BitVec.toInt ?_) (col_word n l)
  pointwise [keyTable]

theorem biasTable_row : (biasTable (ix6 r n q i l 0)).toInt = rowDist r.val + i.val := by
  refine Eq.trans (congrArg BitVec.toInt ?_) (rowDist_word r i)
  pointwise [biasTable]

theorem biasTable_col : (biasTable (ix6 r n q i l 1)).toInt = colDist (16 * n.val + q.val) (blockCol n.val + l.val) := by
  refine Eq.trans (congrArg BitVec.toInt ?_) (colDist_word n q l)
  pointwise [biasTable]

/-! ## The gathers -/

abbrev gKey := gather_S1x8x32x64x64_S32x4x8x32x2_S1x8x32x4x8x32x64_016_23_n_n_23_4_181164
abbrev gBias := gather_S8x15x31_S32x4x16x8x32x2_S8x32x4x16x8x32_0_12_n_n_12_5_811

theorem key_gather (x : FVec Ideal S1x8x32x64x64 .f32) (e : Fin 64) :
    (Host.gather gKey x keyTable (ix7 0 H r n i l e) : EReal)
      = x (ix5 0 H ⟨firstRow r.val + i.val, by have := firstRow_le r.val; omega⟩ ⟨blockCol n.val + l.val, by have := blockCol_le n.val; omega⟩ e) := by
  unfold Host.gather; refine congrArg x ?_
  have hr := keyTable_row r n i l
  have hc := keyTable_col r n i l
  have h2 : gKey.start (ix7 0 H r n i l e) keyTable 2 = min (keyTable (ix5 r n i l 0)).toInt.toNat 31 := by
    simp only [GatherDims.start]; rw [dif_pos (by decide)]; congr 3
  have h3 : gKey.start (ix7 0 H r n i l e) keyTable 3 = min (keyTable (ix5 r n i l 1)).toInt.toNat 63 := by
    simp only [GatherDims.start]; rw [dif_pos (by decide)]; congr 3
  have hf := firstRow_le r.val
  have hb := blockCol_le n.val
  funext b; apply Fin.ext; fin_cases b
  · rfl
  · exact Nat.zero_add _
  · show gKey.start (ix7 0 H r n i l e) keyTable 2 + 0 + 0 = firstRow r.val + i.val; omega
  · show gKey.start (ix7 0 H r n i l e) keyTable 3 + 0 + 0 = blockCol n.val + l.val; omega
  · exact Nat.zero_add _

theorem bias_gather (x : FVec Ideal S8x15x31 .f32) :
    (Host.gather gBias x biasTable (ix6 H r n q i l) : EReal)
      = x (ix3 H ⟨rowDist r.val + i.val, by have := rowDist_le r.val; omega⟩ ⟨colDist (16 * n.val + q.val) (blockCol n.val + l.val), colDist_lt _ _⟩) := by
  unfold Host.gather; refine congrArg x ?_
  have hr := biasTable_row r n q i l
  have hc := biasTable_col r n q i l
  have h1 : gBias.start (ix6 H r n q i l) biasTable 1 = min (biasTable (ix6 r n q i l 0)).toInt.toNat 14 := by
    simp only [GatherDims.start]; rw [dif_pos (by decide)]; congr 3
  have h2 : gBias.start (ix6 H r n q i l) biasTable 2 = min (biasTable (ix6 r n q i l 1)).toInt.toNat 30 := by
    simp only [GatherDims.start]; rw [dif_pos (by decide)]; congr 3
  have hf := rowDist_le r.val
  have hb := colDist_lt (16 * n.val + q.val) (blockCol n.val + l.val)
  funext b; apply Fin.ext; fin_cases b
  · exact Nat.zero_add _
  · show gBias.start (ix6 H r n q i l) biasTable 1 + 0 + 0 = rowDist r.val + i.val; omega
  · show gBias.start (ix6 H r n q i l) biasTable 2 + 0 + 0 = colDist (16 * n.val + q.val) (blockCol n.val + l.val); omega

/-! ## The entries -/

variable (z : FVec Ideal S2048x5632 .bf16) (b : FVec Ideal S8x15x31 .f32)

theorem queries_entry (e : Fin 64) :
    (queries z (ix6 0 H r n q e) : EReal) = query z H r ⟨16 * n.val + q.val, by omega⟩ e * Ideal.ofBits FTy.f32 0x3E000000#32 := by
  unfold query
  pointwise [queries]
  all_goals (first | rfl | (refine congrArg (· * _) (congrArg z ?_); funext a; apply Fin.ext; fin_cases a <;> simp <;> omega))

theorem keys_entry (e : Fin 64) :
    (keys z (ix7 0 H r n i l e) : EReal) = key z H r (inBlock n (i, l)).1 (inBlock n (i, l)).2 e := by
  unfold keys key
  rw [key_gather]
  pointwise
  refine congrArg z ?_
  funext a; apply Fin.ext; fin_cases a <;> simp [inBlock] <;> omega

theorem values_entry (e : Fin 64) :
    (values z (ix7 0 H r n i l e) : EReal) = value z H r (inBlock n (i, l)).1 (inBlock n (i, l)).2 e := by
  unfold values value
  rw [key_gather]
  pointwise
  refine congrArg z ?_
  funext a; apply Fin.ext; fin_cases a <;> simp [inBlock] <;> omega

theorem scores_entry :
    (maskedScores z b (ix7 0 H r n q i l) : EReal)
      = score z b (Ideal.ofBits FTy.f32 0x3E000000#32) H r ⟨16 * n.val + q.val, by omega⟩ (inBlock n (i, l)) := by
  have hb : (id (constant S_ FTy.f32 0xFF800000#32) : FVec Ideal S_ .f32) ix0 = (⊥ : EReal) := by
    show Ideal.ofBits FTy.f32 0xFF800000#32 = (⊥ : EReal)
    simp [Ideal.ofBits, Ideal.ieee]
  have hq := queries_entry H r n q z
  have hk := keys_entry H r n i l z
  have hB : (biasOf b (ix6 H r n q i l) : EReal) = _ := bias_gather H r n q i l b
  have hw := window_bit n q l
  unfold maskedScores
  generalize queries z = Q at hq ⊢
  generalize keys z = K at hk ⊢
  generalize biasOf b = B at hB ⊢
  pointwise
  rw [hw, hB, hb]
  simp only [hq, hk]
  by_cases h : inWindow (16 * n.val + q.val) (blockCol n.val + l.val)
  · rw [if_pos h]
    unfold score bias
    rw [if_pos (by exact h)]
    rfl
  · rw [if_neg h, score_bot _ _ _ _ _ _ _ (by exact h)]
    rfl

end Cert.AtReferenceIdeal.Value

end
-- ==== Proof.Ab.RefEntries.lean ====
/- The attention backward's reference at one entry, stage by stage. -/
module

public import proofs.«01_k».proof.Proof.Ab.Reference
public import proofs.«01_k».proof.Proof.Ab.Places
public import proofs.«01_k».proof.Proof.At.RefEntries
public import proofs.«01_k».proof.Proof.At.RefScores
public import Idealize.ShloMosaic.Lib.IdealHost
public import Idealize.ShloMosaic.Lib.Routing.OpsPair

@[expose] public section

set_option maxRecDepth 16384

noncomputable section

namespace Cert.AbReferenceIdeal.Value

open Cert.AbReferenceIdeal Cert.AbReferenceIdeal.Gen Idealize.ShloMosaic Idealize.ShloMosaic.TcCoe Idealize.SL.Sem
open Cert.AtReferenceIdeal.Value (keyTable biasTable queries keys values biasOf maskedScores expScores)
open Cert.Attention hiding Finite

variable (H : Fin 8) (r : Fin 32) (n : Fin 4) (q : Fin 16) (i : Fin 8) (l : Fin 32)

theorem zero_word : Ideal.ofBits FTy.f32 0x00000000#32 = (0 : EReal) := by simp [Ideal.ofBits, Ideal.ieee]

theorem one_word : Ideal.ofBits FTy.f32 0x3F800000#32 = (1 : EReal) := by
  simp [Ideal.ofBits, Ideal.ieee, -EReal.coe_mul]; norm_num

/-! ## Rows -/

theorem atKeys_entry (x : FVec Ideal S1x8x32x4x16x1x1 .f32) : (atKeys x (ix7 0 H r n q i l) : EReal) = x (ix7 0 H r n q 0 0) :=
  congrArg x (funext fun a => Fin.ext (by fin_cases a <;> rfl))

theorem totals_entry (e : FVec Ideal S1x8x32x4x16x8x32 .f32) :
    (totals e (ix7 0 H r n q 0 0) : EReal) = ∑ k : Fin 8 × Fin 32, (e (ix7 0 H r n q k.1 k.2) : EReal) := by
  refine Eq.trans ?_ (Cert.AtReferenceIdeal.Value.sum_entry H r n q e)
  exact congrArg (Host.reduceAdd e (constant S_ .f32 0x00000000#32) reducesTo_S1x8x32x4x16x8x32_S1x8x32x4x16_d5_6 h_S_)
    (funext fun a => Fin.ext (by fin_cases a <;> rfl))

theorem cotangents_entry (g : FVec Ideal S2048x512 .bf16) (d : Fin 64) :
    (cotangents g (ix6 0 H r n q d) : EReal) = outGrad g H r (colOf n q) d := by
  unfold outGrad
  pointwise [cotangents]
  refine congrArg g ?_
  funext a; apply Fin.ext; fin_cases a <;> simp <;> omega

theorem mask_entry : windowMask (ix7 0 H r n q i l) = if inWindow (colOf n q).val (inBlock n (i, l)).2.val then 1#1 else 0#1 := by
  refine Eq.trans ?_ (Cert.AtReferenceIdeal.Value.window_bit n q l)
  pointwise [windowMask]

theorem probGrads_entry (o : FVec Ideal S1x8x32x4x16x64 .f32) (v : FVec Ideal S1x8x32x4x8x32x64 .f32) :
    (probGrads o v (ix7 0 H r n q i l) : EReal) = ∑ d : Fin 64, (o (ix6 0 H r n q d) : EReal) * v (ix7 0 H r n i l d) := by
  pointwise [probGrads]

theorem queryParts_entry (ds : FVec Ideal S1x8x32x4x16x8x32 .f32) (k : FVec Ideal S1x8x32x4x8x32x64 .f32) (d : Fin 64) :
    (queryParts ds k (ix6 0 H r n q d) : EReal) = ∑ i : Fin 8, ∑ l : Fin 32, (ds (ix7 0 H r n q i l) : EReal) * k (ix7 0 H r n i l d) := by
  pointwise [queryParts]

theorem keyParts_entry (ds : FVec Ideal S1x8x32x4x16x8x32 .f32) (o : FVec Ideal S1x8x32x4x16x64 .f32) (d : Fin 64) :
    (keyParts ds o (ix7 0 H r n i l d) : EReal) = ∑ q : Fin 16, (ds (ix7 0 H r n q i l) : EReal) * o (ix6 0 H r n q d) := by
  pointwise [keyParts]

theorem valueParts_entry (o : FVec Ideal S1x8x32x4x16x64 .f32) (p : FVec Ideal S1x8x32x4x16x8x32 .f32) (d : Fin 64) :
    (valueParts o p (ix7 0 H r n i l d) : EReal) = ∑ q : Fin 16, (o (ix6 0 H r n q d) : EReal) * p (ix7 0 H r n q i l) := by
  pointwise [valueParts]

theorem quotientTerms_entry (dp e : FVec Ideal S1x8x32x4x16x8x32 .f32) (t : FVec Ideal S1x8x32x4x16x1x1 .f32) :
    (quotientTerms dp e t (ix7 0 H r n q i l) : EReal)
      = (dp (ix7 0 H r n q i l) : EReal) * Ideal.div 1 ((t (ix7 0 H r n q 0 0) : EReal) * t (ix7 0 H r n q 0 0)) * e (ix7 0 H r n q i l) := by
  unfold quotientTerms
  refine congrArg (fun x : EReal => (dp (ix7 0 H r n q i l) : EReal) * x * e (ix7 0 H r n q i l)) ?_
  refine (atKeys_entry H r n q i l _).trans ?_
  refine congrArg (fun x : EReal => Ideal.div x ((t (ix7 0 H r n q 0 0) : EReal) * t (ix7 0 H r n q 0 0))) ?_
  refine (ValueIdx.broadcastInDim_scalar_apply _ _ _).trans ?_
  exact one_word

theorem drop_row (j : S1x8x32x4x16x1x1.Idx) :
    reducesTo_S1x8x32x4x16x1x1_S8x32x4x16_d0_5_6.drop j = ix4 H r n q ↔ ∃ k : Unit, (fun _ => ix7 0 H r n q 0 0 : Unit → S1x8x32x4x16x1x1.Idx) k = j := by
  constructor
  · intro e
    refine ⟨(), ?_⟩
    funext a; apply Fin.ext
    match a with
    | ⟨0, _⟩ => exact (Nat.lt_one_iff.1 (j 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.1 (j 5).isLt).symm
    | ⟨6, _⟩ => exact (Nat.lt_one_iff.1 (j 6).isLt).symm
  · rintro ⟨_, rfl⟩
    funext b
    apply Fin.ext
    fin_cases b <;> rfl

theorem row_entry (x : FVec Ideal S1x8x32x4x16x1x1 .f32) :
    (Host.reduceAdd x (constant S_ .f32 0x00000000#32) reducesTo_S1x8x32x4x16x1x1_S8x32x4x16_d0_5_6 h_S_ (ix4 H r n q) : Ideal FTy.f32)
      = x (ix7 0 H r n q 0 0) := by
  refine (ValueIdx.hostReduceAdd_apply _ _ _ _ _).trans ?_
  refine (congrArg₂ (· + ·) zero_word (Finset.sum_filter_eq_sum_of_fiber _ _ (fun _ _ _ => rfl) (drop_row H r n q) x)).trans ?_
  exact (zero_add _).trans (Fintype.sum_unique _)

theorem totalGrads_entry (dp e : FVec Ideal S1x8x32x4x16x8x32 .f32) (t : FVec Ideal S1x8x32x4x16x1x1 .f32) :
    (totalGrads dp e t (ix4 H r n q) : EReal) = -∑ k : Fin 8 × Fin 32, (quotientTerms dp e t (ix7 0 H r n q k.1 k.2) : EReal) := by
  unfold totalGrads
  refine (row_entry H r n q _).trans ?_
  refine congrArg (fun x : EReal => -x) ?_
  generalize quotientTerms dp e t = y
  refine Eq.trans ?_ (Cert.AtReferenceIdeal.Value.sum_entry H r n q y)
  generalize hS : Host.reduceAdd y (constant S_ .f32 0x00000000#32) reducesTo_S1x8x32x4x16x8x32_S1x8x32x4x16_d5_6 h_S_ = S
  pointwise

theorem scoreGrads_entry (dp e : FVec Ideal S1x8x32x4x16x8x32 .f32) (t : FVec Ideal S1x8x32x4x16x1x1 .f32) :
    (scoreGrads dp e t (ix7 0 H r n q i l) : EReal)
      = if inWindow (colOf n q).val (inBlock n (i, l)).2.val then
          (Ideal.div (dp (ix7 0 H r n q i l)) (t (ix7 0 H r n q 0 0))
            + -∑ k : Fin 8 × Fin 32, (dp (ix7 0 H r n q k.1 k.2) : EReal) * Ideal.div 1 ((t (ix7 0 H r n q 0 0) : EReal) * t (ix7 0 H r n q 0 0)) * e (ix7 0 H r n q k.1 k.2))
            * e (ix7 0 H r n q i l)
        else 0 := by
  have hT := totalGrads_entry H r n q dp e t
  rw [Finset.sum_congr rfl fun k _ => quotientTerms_entry H r n q k.1 k.2 dp e t] at hT
  have hz : (broadcastInDim S1x8x32x4x16x8x32 ![] bcast_S_S1x8x32x4x16x8x32 (constant S_ .f32 0x00000000#32) : FVec Ideal S1x8x32x4x16x8x32 .f32) (ix7 0 H r n q i l) = (0 : EReal) :=
    (ValueIdx.broadcastInDim_scalar_apply _ _ _).trans zero_word
  have ho : (openGrads dp e t (ix7 0 H r n q i l) : EReal)
      = (Ideal.div (dp (ix7 0 H r n q i l)) (t (ix7 0 H r n q 0 0)) + totalGrads dp e t (ix4 H r n q)) * e (ix7 0 H r n q i l) := by
    unfold openGrads
    refine congrArg (fun x : EReal => x * (e (ix7 0 H r n q i l) : EReal)) ?_
    refine congrArg₂ (fun x y : EReal => x + y) (congrArg (fun x : EReal => Ideal.div (dp (ix7 0 H r n q i l)) x) (atKeys_entry H r n q i l t)) ?_
    exact congrArg (totalGrads dp e t) (funext fun a => Fin.ext (by fin_cases a <;> rfl))
  rw [hT] at ho
  unfold scoreGrads
  refine (congrArg₂ (fun x y : EReal => Scalar.select (windowMask (ix7 0 H r n q i l)) x y) ho hz).trans ?_
  rw [mask_entry]
  by_cases h : inWindow (colOf n q).val (inBlock n (i, l)).2.val
  · rw [if_pos h, if_pos h]; rfl
  · rw [if_neg h, if_neg h]; rfl

end Cert.AbReferenceIdeal.Value

end
-- ==== Proof.Ab.RefGrads.lean ====
/- The attention backward's reference: the gradients of scores, queries, keys and values. -/
module

public import proofs.«01_k».proof.Proof.Ab.RefEntries

@[expose] public section

set_option maxRecDepth 16384

noncomputable section

namespace Cert.AbReferenceIdeal.Value

open Cert.AbReferenceIdeal Cert.AbReferenceIdeal.Gen Idealize.ShloMosaic Idealize.ShloMosaic.TcCoe Idealize.SL.Sem
open Cert.AtReferenceIdeal.Value (keyTable biasTable queries keys values biasOf maskedScores expScores keyTable_row keyTable_col)
open Cert.Attention hiding Finite

theorem eighth_word : Ideal.ofBits FTy.f32 0x3E000000#32 = ((1 / 8 : ℝ) : EReal) := by
  simp [Ideal.ofBits, Ideal.ieee, -EReal.coe_mul]; norm_num

/-! ## Probabilities and scores -/

section Rows

variable (z : FVec Ideal S2048x5632 .bf16) (b : FVec Ideal S8x15x31 .f32) (g : FVec Ideal S2048x512 .bf16)
variable (H : Fin 8) (r : Fin 32) (n : Fin 4) (q : Fin 16)

/-- A query's scores of its block's keys. -/
abbrev blockScores (k : Fin 8 × Fin 32) : EReal := score z b ((1 / 8 : ℝ) : EReal) H r (colOf n q) (inBlock n k)

theorem blockScores_eq : (fun k : Fin 8 × Fin 32 => (maskedScores z b (ix7 0 H r n q k.1 k.2) : EReal)) = blockScores z b H r n q := by
  funext k
  refine (Cert.AtReferenceIdeal.Value.scores_entry H r n q k.1 k.2 z b).trans ?_
  rw [eighth_word]

theorem exps_entry (k : Fin 8 × Fin 32) :
    (expScores (maskedScores z b) (ix7 0 H r n q k.1 k.2) : EReal) = Softmax.weight (blockScores z b H r n q) k := by
  rw [← blockScores_eq]
  exact Cert.AtReferenceIdeal.Value.expScores_entry H r n q (maskedScores z b) k

theorem total_entry : (totals (expScores (maskedScores z b)) (ix7 0 H r n q 0 0) : EReal) = Softmax.total (blockScores z b H r n q) :=
  (totals_entry H r n q _).trans (Finset.sum_congr rfl fun k _ => exps_entry z b H r n q k)

theorem dp_entry (k : Fin 8 × Fin 32) :
    (probGrads (cotangents g) (values z) (ix7 0 H r n q k.1 k.2) : EReal) = probGrad z g H r (colOf n q) (inBlock n k) := by
  refine (probGrads_entry H r n q k.1 k.2 _ _).trans (Finset.sum_congr rfl fun d _ => ?_)
  exact congrArg₂ (fun x y : EReal => x * y) (cotangents_entry H r n q g d) (Cert.AtReferenceIdeal.Value.values_entry H r n k.1 k.2 z d)

theorem probs_entry (hz : Cert.Attention.Finite z b) (k : Fin 8 × Fin 32) :
    (probs (expScores (maskedScores z b)) (totals (expScores (maskedScores z b))) (ix7 0 H r n q k.1 k.2) : EReal)
      = Softmax.prob (score z b ((1 / 8 : ℝ) : EReal) H r (colOf n q)) (inBlock n k) := by
  have he := exps_entry z b H r n q k
  have ht := total_entry z b H r n q
  have h0 : Softmax.total (blockScores z b H r n q) ≠ 0 := fun h => by
    have hin : firstCol (colOf n q).val < 64 := by have := (colOf n q).isLt; unfold firstCol; omega
    refine score_total z b (1 / 8) hz H r (colOf n q) ?_
    exact (Softmax.total_comp (inBlock n) (inBlock_injective n) _ (score_outside z b _ H r n q)).trans h
  rw [prob_block]
  refine (congrArg₂ (fun x y : EReal => Ideal.div x y) he ((atKeys_entry H r n q k.1 k.2 _).trans ht)).trans ?_
  unfold Softmax.prob
  simp only [Ideal.div, if_neg h0, one_mul]

theorem ds_entry (hz : AllFinite z b g) (k : Fin 8 × Fin 32) :
    (scoreGrads (probGrads (cotangents g) (values z)) (expScores (maskedScores z b)) (totals (expScores (maskedScores z b))) (ix7 0 H r n q k.1 k.2) : EReal)
      = scoreGrad z b g ((1 / 8 : ℝ) : EReal) H r (colOf n q) (inBlock n k) := by
  refine (scoreGrads_entry H r n q k.1 k.2 _ _ _).trans ?_
  by_cases h : inWindow (colOf n q).val (inBlock n (k.1, k.2)).2.val
  · rw [if_pos h, total_entry, ← scoreGrad_block z b g (1 / 8) hz H r n q k]
    unfold Softmax.gradQuotient
    rw [exps_entry, dp_entry]
    simp only [exps_entry, dp_entry]
  · rw [if_neg h]
    exact (scoreGrad_mask z b g _ H r (colOf n q) (inBlock n k) h).symm

end Rows

/-! ## The gradients -/

abbrev sKey := scatter_S1x8x32x64x64_S32x4x8x32x2_S1x8x32x4x8x32x64_016_23_23_4

/-- Where a part lands. -/
theorem lands (z0 : Fin 1) (H' : Fin 8) (u : Fin 32) (n : Fin 4) (i : Fin 8) (l : Fin 32) (d' : Fin 64) (H : Fin 8) (r : Fin 32) (c d : Fin 64) :
    sKey.resultIdx? (ix7 z0 H' u n i l d') keyTable = some (ix5 0 H r c d)
      ↔ H' = H ∧ firstRow u.val + i.val = r.val ∧ blockCol n.val + l.val = c.val ∧ d' = d := by
  rw [Routing.resultIdx?_eq_some]
  have hr := keyTable_row u n i l
  have hc := keyTable_col u n i l
  have s2 : sKey.start (ix7 z0 H' u n i l d') keyTable 2 = (keyTable (ix5 u n i l 0)).toInt := by
    simp only [ScatterDims.start]; rw [dif_pos (by decide)]
    refine congrArg (fun x => (keyTable x).toInt) (funext fun b => Fin.ext ?_)
    fin_cases b <;> rfl
  have s3 : sKey.start (ix7 z0 H' u n i l d') keyTable 3 = (keyTable (ix5 u n i l 1)).toInt := by
    simp only [ScatterDims.start]; rw [dif_pos (by decide)]
    refine congrArg (fun x => (keyTable x).toInt) (funext fun b => Fin.ext ?_)
    fin_cases b <;> rfl
  constructor
  · intro h
    have h1 : (0 : Int) + (H'.val : Int) = (H.val : Int) := h 1
    have h2 : sKey.start (ix7 z0 H' u n i l d') keyTable 2 + (0 : Int) = (r.val : Int) := h 2
    have h3 : sKey.start (ix7 z0 H' u n i l d') keyTable 3 + (0 : Int) = (c.val : Int) := h 3
    have h4 : (0 : Int) + (d'.val : Int) = (d.val : Int) := h 4
    exact ⟨Fin.ext (by omega), by omega, by omega, Fin.ext (by omega)⟩
  · rintro ⟨rfl, h2, h3, rfl⟩ a
    match a with
    | ⟨0, _⟩ =>
      show (0 : Int) + (z0.val : Int) = 0
      have := z0.isLt; omega
    | ⟨1, _⟩ =>
      show (0 : Int) + (H'.val : Int) = (H'.val : Int)
      omega
    | ⟨2, _⟩ =>
      show sKey.start (ix7 z0 H' u n i l d') keyTable 2 + (0 : Int) = (r.val : Int)
      omega
    | ⟨3, _⟩ =>
      show sKey.start (ix7 z0 H' u n i l d') keyTable 3 + (0 : Int) = (c.val : Int)
      omega
    | ⟨4, _⟩ =>
      show (0 : Int) + (d'.val : Int) = (d'.val : Int)
      omega

/-- The rows, blocks and keys whose parts land at row `r`, column `c`. -/
abbrev At (r : Fin 32) (c : Fin 64) (k : Fin 32 × Fin 4 × Fin 8 × Fin 32) : Prop :=
  firstRow k.1.val + k.2.2.1.val = r.val ∧ blockCol k.2.1.val + k.2.2.2.val = c.val

theorem lands_iff (H : Fin 8) (r : Fin 32) (c d : Fin 64) (j : S1x8x32x4x8x32x64.Idx) :
    sKey.resultIdx? j keyTable = some (ix5 0 H r c d)
      ↔ ∃ k : {k // At r c k}, (ix7 0 H k.1.1 k.1.2.1 k.1.2.2.1 k.1.2.2.2 d : S1x8x32x4x8x32x64.Idx) = j := by
  have hj : j = ix7 (j 0) (j 1) (j 2) (j 3) (j 4) (j 5) (j 6) := funext fun a => by fin_cases a <;> rfl
  constructor
  · intro h
    rw [hj] at h
    obtain ⟨h1, h2, h3, h4⟩ := (lands (j 0) (j 1) (j 2) (j 3) (j 4) (j 5) (j 6) H r c d).1 h
    refine ⟨⟨(j 2, j 3, j 4, j 5), h2, h3⟩, ?_⟩
    funext a; apply Fin.ext
    match a with
    | ⟨0, _⟩ => exact (Nat.lt_one_iff.1 (j 0).isLt).symm
    | ⟨1, _⟩ => exact (congrArg Fin.val h1).symm
    | ⟨2, _⟩ => rfl
    | ⟨3, _⟩ => rfl
    | ⟨4, _⟩ => rfl
    | ⟨5, _⟩ => rfl
    | ⟨6, _⟩ => exact (congrArg Fin.val h4).symm
  · rintro ⟨k, rfl⟩
    exact (lands 0 H k.1.1 k.1.2.1 k.1.2.2.1 k.1.2.2.2 d H r c d).2 ⟨rfl, k.2.1, k.2.2, rfl⟩

theorem scattered_entry (x : FVec Ideal S1x8x32x4x8x32x64 .f32) (H : Fin 8) (r : Fin 32) (c d : Fin 64) :
    (scattered x (ix5 0 H r c d) : EReal)
      = ∑ u : Fin 32, ∑ n : Fin 4, ∑ i : Fin 8, ∑ l : Fin 32,
          if firstRow u.val + i.val = r.val ∧ blockCol n.val + l.val = c.val then (x (ix7 0 H u n i l d) : EReal) else 0 := by
  have hz : (broadcastInDim S1x8x32x64x64 ![] bcast_S_S1x8x32x64x64 (constant S_ .f32 0x00000000#32) : FVec Ideal S1x8x32x64x64 .f32) (ix5 0 H r c d) = (0 : EReal) :=
    (ValueIdx.broadcastInDim_scalar_apply _ _ _).trans zero_word
  have hs := Finset.sum_filter_eq_sum_of_fiber (fun j => sKey.resultIdx? j keyTable = some (ix5 0 H r c d))
    (fun k : {k // At r c k} => (ix7 0 H k.1.1 k.1.2.1 k.1.2.2.1 k.1.2.2.2 d : S1x8x32x4x8x32x64.Idx))
    (fun a b e => Subtype.ext (Prod.ext (congrFun e 2) (Prod.ext (congrFun e 3) (Prod.ext (congrFun e 4) (congrFun e 5))))) (lands_iff H r c d)
    (fun j => (x j : EReal))
  refine (congrArg₂ (fun a b : EReal => a + b) hz hs).trans ?_
  rw [zero_add, ← Finset.sum_subtype (Finset.univ.filter (At r c)) (fun k => by simp) fun k => (x (ix7 0 H k.1 k.2.1 k.2.2.1 k.2.2.2 d) : EReal),
    Finset.sum_filter, Fintype.sum_prod_type]
  refine Finset.sum_congr rfl fun u _ => ?_
  rw [Fintype.sum_prod_type]
  refine Finset.sum_congr rfl fun n _ => ?_
  rw [Fintype.sum_prod_type]

end Cert.AbReferenceIdeal.Value

end
-- ==== Proof.Ab.RefResult.lean ====
/- The attention backward's reference: its result at one entry. -/
module

public import proofs.«01_k».proof.Proof.Ab.RefGrads

@[expose] public section

set_option maxRecDepth 16384

noncomputable section

namespace Cert.AbReferenceIdeal.Value

open Cert.AbReferenceIdeal Cert.AbReferenceIdeal.Gen Idealize.ShloMosaic Idealize.ShloMosaic.TcCoe Idealize.SL.Sem
open Cert.AtReferenceIdeal.Value (keyTable biasTable queries keys values biasOf maskedScores expScores)
open Cert.Attention hiding Finite

/-! ## Layouts -/

theorem queryColumns_entry (x : FVec Ideal S1x8x32x4x16x64 .f32) (i : Fin 2048) (j : Fin 512) :
    (queryColumns x (ix2 i j) : EReal)
      = (x (ix6 0 ⟨j.val / 64, by omega⟩ ⟨i.val / 64, by omega⟩ ⟨i.val % 64 / 16, by omega⟩ ⟨i.val % 16, by omega⟩ ⟨j.val % 64, by omega⟩) : EReal)
        * ((1 / 8 : ℝ) : EReal) := by
  rw [← eighth_word]
  pointwise [queryColumns]
  refine congrArg (· * _) (congrArg x (funext fun a => Fin.ext ?_))
  fin_cases a <;> first | rfl | (show i.val / 16 % 4 = i.val % 64 / 16; omega)

theorem keyColumns_entry (x : FVec Ideal S1x8x32x64x64 .f32) (i : Fin 2048) (j : Fin 512) :
    (keyColumns x (ix2 i j) : EReal)
      = x (ix5 0 ⟨j.val / 64, by omega⟩ ⟨i.val / 64, by omega⟩ ⟨i.val % 64, by omega⟩ ⟨j.val % 64, by omega⟩) := by
  pointwise [keyColumns]
  try (refine congrArg x (funext fun a => Fin.ext ?_); fin_cases a <;> first | rfl | (simp; omega))

theorem joined_entry (a b c : FVec Ideal S2048x512 .bf16) (y : FVec Ideal S2048x5632 .bf16) (i : Fin 2048) (j : Fin 5632) :
    (joined a b c y (ix2 i j) : EReal)
      = if j.val < 512 then a (ix2 i ⟨j.val % 512, by omega⟩)
        else if j.val < 1024 then b (ix2 i ⟨j.val % 512, by omega⟩)
        else if j.val < 1536 then c (ix2 i ⟨j.val % 512, by omega⟩) else y (ix2 i j) := by
  pointwise [joined]
  by_cases h1 : j.val < 512
  · rw [dif_pos h1, if_pos h1]
    exact congrArg (fun x : Fin 512 => (a (ix2 i x) : EReal)) (Fin.ext (by show j.val = j.val % 512; omega))
  by_cases h2 : j.val < 1024
  · rw [dif_neg h1, if_neg h1, dif_pos (by omega), if_pos h2]
    exact congrArg (fun x : Fin 512 => (b (ix2 i x) : EReal)) (Fin.ext (by show j.val - 512 = j.val % 512; omega))
  by_cases h3 : j.val < 1536
  · rw [dif_neg h1, if_neg h1, dif_neg (by omega), if_neg h2, dif_pos (by omega), if_pos h3]
    exact congrArg (fun x : Fin 512 => (c (ix2 i x) : EReal)) (Fin.ext (by show j.val - 512 - 512 = j.val % 512; omega))
  · rw [dif_neg h1, if_neg h1, dif_neg (by omega), if_neg h2, dif_neg (by omega), if_neg h3]
    exact congrArg (fun x : Fin 5632 => (y (ix2 i x) : EReal)) (Fin.ext (by show 1536 + (j.val - 512 - 512 - 512) = j.val; omega))

/-! ## The gradients -/

variable (z : FVec Ideal S2048x5632 .bf16) (b : FVec Ideal S8x15x31 .f32) (g : FVec Ideal S2048x512 .bf16)

/-- The exponentials, and the gradients of the scores. -/
abbrev exps : FVec Ideal S1x8x32x4x16x8x32 .f32 := expScores (maskedScores z b)
abbrev ds : FVec Ideal S1x8x32x4x16x8x32 .f32 := scoreGrads (probGrads (cotangents g) (values z)) (exps z b) (totals (exps z b))

variable (hz : AllFinite z b g)
include hz

theorem query_entry (H : Fin 8) (r : Fin 32) (n : Fin 4) (q : Fin 16) (d : Fin 64) :
    (queryParts (ds z b g) (keys z) (ix6 0 H r n q d) : EReal) * ((1 / 8 : ℝ) : EReal) = queryGrad z b g ((1 / 8 : ℝ) : EReal) H r (colOf n q) d := by
  rw [queryGrad_block, queryParts_entry, ← Fintype.sum_prod_type']
  refine congrArg (fun x : EReal => x * ((1 / 8 : ℝ) : EReal)) (Finset.sum_congr rfl fun k _ => ?_)
  exact congrArg₂ (fun x y : EReal => x * y) (ds_entry z b g H r n q hz k) (Cert.AtReferenceIdeal.Value.keys_entry H r n k.1 k.2 z d)

theorem key_entry (H : Fin 8) (r : Fin 32) (c d : Fin 64) :
    (scattered (keyParts (ds z b g) (queries z)) (ix5 0 H r c d) : EReal) = keyGrad z b g ((1 / 8 : ℝ) : EReal) H r c d := by
  rw [scattered_entry]
  refine Eq.trans ?_ (places_sum (fun u a k => scoreGrad z b g ((1 / 8 : ℝ) : EReal) H u a k * (query z H u a d * ((1 / 8 : ℝ) : EReal)))
    (fun u n q k hk => by rw [scoreGrad_outside z b g _ H u n q k hk, zero_mul]) r c)
  refine Finset.sum_congr rfl fun u _ => Finset.sum_congr rfl fun n _ => Finset.sum_congr rfl fun i _ => Finset.sum_congr rfl fun l _ => ?_
  refine congrArg (fun x : EReal => if firstRow u.val + i.val = r.val ∧ blockCol n.val + l.val = c.val then x else 0) ?_
  refine (keyParts_entry H u n i l _ _ d).trans (Finset.sum_congr rfl fun q _ => ?_)
  refine congrArg₂ (fun x y : EReal => x * y) (ds_entry z b g H u n q hz (i, l)) ?_
  refine (Cert.AtReferenceIdeal.Value.queries_entry H u n q z d).trans ?_
  rw [eighth_word]

theorem value_entry (H : Fin 8) (r : Fin 32) (c d : Fin 64) :
    (scattered (valueParts (cotangents g) (probs (exps z b) (totals (exps z b)))) (ix5 0 H r c d) : EReal)
      = valueGrad z b g ((1 / 8 : ℝ) : EReal) H r c d := by
  rw [scattered_entry]
  refine Eq.trans ?_ (places_sum (fun u a k => Softmax.prob (score z b ((1 / 8 : ℝ) : EReal) H u a) k * outGrad g H u a d)
    (fun u n q k hk => by rw [prob_outside z b _ H u n q k hk, zero_mul]) r c)
  refine Finset.sum_congr rfl fun u _ => Finset.sum_congr rfl fun n _ => Finset.sum_congr rfl fun i _ => Finset.sum_congr rfl fun l _ => ?_
  refine congrArg (fun x : EReal => if firstRow u.val + i.val = r.val ∧ blockCol n.val + l.val = c.val then x else 0) ?_
  refine (valueParts_entry H u n i l _ _ d).trans (Finset.sum_congr rfl fun q _ => ?_)
  refine (congrArg₂ (fun x y : EReal => x * y) (cotangents_entry H u n q g d) (probs_entry z b H u n q hz.scores (i, l))).trans ?_
  exact mul_comm _ _

/-- The gradients, side by side, at one entry. -/
theorem grads_entry (y : FVec Ideal S2048x5632 .bf16) (i : Fin 2048) (j : Fin 5632) :
    (joined (queryColumns (queryParts (ds z b g) (keys z))) (keyColumns (scattered (keyParts (ds z b g) (queries z))))
        (keyColumns (scattered (valueParts (cotangents g) (probs (exps z b) (totals (exps z b)))))) y (ix2 i j) : EReal)
      = if h : j.val < 1536 then grads z b g ((1 / 8 : ℝ) : EReal) i ⟨j.val, h⟩ else y (ix2 i j) := by
  have hi : (colOf ⟨i.val % 64 / 16, by omega⟩ ⟨i.val % 16, by omega⟩) = (⟨i.val % 64, by omega⟩ : Fin 64) :=
    Fin.ext (by show 16 * (i.val % 64 / 16) + i.val % 16 = i.val % 64; omega)
  have hd : (⟨j.val % 512 % 64, by omega⟩ : Fin 64) = ⟨j.val % 64, by omega⟩ := Fin.ext (by show j.val % 512 % 64 = j.val % 64; omega)
  rw [joined_entry, queryColumns_entry, keyColumns_entry, keyColumns_entry, query_entry z b g hz, key_entry z b g hz, value_entry z b g hz, hi]
  dsimp only
  rw [hd]
  unfold grads
  by_cases h3 : j.val < 1536
  · rw [dif_pos h3]
    by_cases h1 : j.val < 512
    · rw [if_pos h1, if_pos (by exact h1)]
    · by_cases h2 : j.val < 1024
      · rw [if_neg h1, if_pos h2, if_neg (by exact h1), if_pos (by exact h2)]
      · rw [if_neg h1, if_neg h2, if_pos h3, if_neg (by exact h1), if_neg (by exact h2)]
  · rw [dif_neg h3, if_neg (by omega), if_neg (by omega), if_neg h3]

end Cert.AbReferenceIdeal.Value

end
-- ==== Proof.Ab.Claim.lean ====
module

public import proofs.«01_k».proof.Defs
public import proofs.«01_k».proof.Proof.Ab.Frame
public import proofs.«01_k».proof.Proof.Gen.AbKernel
public import proofs.«01_k».proof.Proof.Gen.AbReferenceIdeal.Run
public import proofs.«01_k».proof.Proof.Ab.Value
public import proofs.«01_k».proof.Proof.Ab.RefResult
public import Idealize.ShloMosaic.Lib.ReduceAll
public import proofs.«01_k».proof.Proof.Gen.Pre_all_finite
public import Idealize.ShloMosaic.Lib.Claim
public import Idealize.ShloMosaic.Lib.Quiescent

@[expose] public section

set_option maxRecDepth 16384

noncomputable section

namespace Cert.Ab

open Idealize.ShloMosaic Idealize.ShloMosaic.TcCoe Idealize.SL.Sem

/-! ## The frames -/

theorem frame_kernel_ideal : Cert.quiescent_AbKernelIdeal := fun m ρ _ => Cert.AttnGrad.frame_any m ρ

/-- The two printed programs are one: what is claimed of the one is claimed of the other, on the same floats. -/
theorem same_program : Cert.quiescent_AbKernel
    = ∀ (m : (ℓ : Loc Cert.AbKernelIdeal.nD Cert.AbKernelIdeal.τ Cert.AbKernelIdeal.sig) → Buf (Elt Bits) ℓ) (g : Dev Cert.AbKernelIdeal.nD → PrngReg), True →
      θ_run (Cert.AbKernelIdeal.defs (F := Bits)) (onTc (τ := Cert.AbKernelIdeal.τ) (Cert.AbKernelIdeal.main (F := Bits))) ⟨m, fun _ => 0, g⟩
        (fun r => (∀ c : Dev Cert.AbKernelIdeal.nD,
          r.2.mem ((c.tc : Thread Cert.AbKernelIdeal.nD Cert.AbKernelIdeal.τ).loc Cert.AbKernelIdeal.main_arg0) = m ((c.tc : Thread _ _).loc Cert.AbKernelIdeal.main_arg0)
          ∧ r.2.mem ((c.tc : Thread Cert.AbKernelIdeal.nD Cert.AbKernelIdeal.τ).loc Cert.AbKernelIdeal.main_arg1) = m ((c.tc : Thread _ _).loc Cert.AbKernelIdeal.main_arg1)
          ∧ r.2.mem ((c.tc : Thread Cert.AbKernelIdeal.nD Cert.AbKernelIdeal.τ).loc Cert.AbKernelIdeal.main_arg2) = m ((c.tc : Thread _ _).loc Cert.AbKernelIdeal.main_arg2)
          ∧ r.2.mem ((c.tc : Thread Cert.AbKernelIdeal.nD Cert.AbKernelIdeal.τ).loc Cert.AbKernelIdeal.main_arg3) = m ((c.tc : Thread _ _).loc Cert.AbKernelIdeal.main_arg3))
          ∧ r.2.sem = fun _ => 0) := by
  sl_kernel_rfl

theorem frame_kernel : Cert.quiescent_AbKernel :=
  same_program.mpr fun m ρ _ => Cert.AttnGrad.frame_any (F := Bits) m ρ

theorem frame_reference : Cert.quiescent_AbReferenceIdeal := fun m ρ _ =>
  θ_run_mono (Cert.AbReferenceIdeal.Value.run m ρ) fun r h =>
    ⟨fun c => (h c).2, sem_eq_zero_of_no_sems (sig := Cert.AbReferenceIdeal.sig) (by decide) r.2⟩

/-! ## The precondition -/

theorem lt_inf (x : EReal) (h : Ideal.cmp .olt (max x (-x)) (Ideal.ofBits FTy.f32 0x7F800000#32) = 1#1) : x ≠ ⊤ ∧ x ≠ ⊥ := by
  have hb : Ideal.ofBits FTy.f32 0x7F800000#32 = (⊤ : EReal) := by simp [Ideal.ofBits, Ideal.ieee]
  rw [hb] at h
  constructor <;> (rintro rfl; simp [Ideal.cmp] at h)

open Cert.Attention in
theorem finite_of_pre (z y : ProjIdx → EReal) (b : BiasIdx → EReal) (g : GradIdx → EReal)
    (h : Cert.Pre_all_finite.fn (F := Ideal) z b g y = fun _ => 1#1) : AllFinite z b g := by
  have h0 := congrFun h ix0
  unfold Cert.Pre_all_finite.fn at h0
  obtain ⟨hzb, hg⟩ := IntOp.andi_eq_one.1 h0
  obtain ⟨hz, hb⟩ := IntOp.andi_eq_one.1 hzb
  haveI : Subsingleton Cert.Pre_all_finite.S_.Idx := ⟨fun _ _ => funext fun a => a.elim0⟩
  refine ⟨fun i j => ?_, fun i => lt_inf (b i) (Host.reduce_andi_all _ _ _ _ _ hb i), fun i => lt_inf (g i) (Host.reduce_andi_all _ _ _ _ _ hg i)⟩
  have e := Host.reduce_andi_all _ _ _ _ _ hz (ix2 i j)
  have hi : (extractStridedSlice Cert.Pre_all_finite.S2048x1536 ![0, 0] z Cert.Pre_all_finite.Facts.slices_S2048x5632_S2048x1536_0_0) (ix2 i j)
      = z (ix2 i ⟨j.val, by omega⟩) := by pointwise
  have e' : Ideal.cmp .olt (max ((extractStridedSlice Cert.Pre_all_finite.S2048x1536 ![0, 0] z Cert.Pre_all_finite.Facts.slices_S2048x5632_S2048x1536_0_0) (ix2 i j) : EReal) (-((extractStridedSlice Cert.Pre_all_finite.S2048x1536 ![0, 0] z Cert.Pre_all_finite.Facts.slices_S2048x5632_S2048x1536_0_0) (ix2 i j) : EReal))) (Ideal.ofBits FTy.f32 0x7F800000#32) = 1#1 := e
  rw [hi] at e'
  exact lt_inf _ e'

/-! ## The values -/

/-- The kernel's result and its arguments at the end of every execution. -/
theorem run_vals (m : (ℓ : Loc Cert.AbKernelIdeal.nD Cert.AbKernelIdeal.τ Cert.AbKernelIdeal.sig) → Buf (Elt Ideal) ℓ) (ρ : Dev Cert.AbKernelIdeal.nD → PrngReg) :
    θ_run Cert.AbKernelIdeal.defs (onTc (τ := Cert.AbKernelIdeal.τ) (Cert.AbKernelIdeal.main (F := Ideal))) ⟨m, fun _ => 0, ρ⟩ fun r => ∀ c : Dev Cert.AbKernelIdeal.nD,
      r.2.mem ((c.tc : Thread _ _).loc Cert.AbKernelIdeal.main_v75_0) = Cert.AttnGrad.gradsAfter m c 4
      ∧ r.2.mem ((c.tc : Thread _ _).loc Cert.AbKernelIdeal.main_arg0) = m ((c.tc : Thread _ _).loc Cert.AbKernelIdeal.main_arg0)
      ∧ r.2.mem ((c.tc : Thread _ _).loc Cert.AbKernelIdeal.main_arg1) = m ((c.tc : Thread _ _).loc Cert.AbKernelIdeal.main_arg1)
      ∧ r.2.mem ((c.tc : Thread _ _).loc Cert.AbKernelIdeal.main_arg2) = m ((c.tc : Thread _ _).loc Cert.AbKernelIdeal.main_arg2)
      ∧ r.2.mem ((c.tc : Thread _ _).loc Cert.AbKernelIdeal.main_arg3) = m ((c.tc : Thread _ _).loc Cert.AbKernelIdeal.main_arg3) :=
  (θ_run Cert.AbKernelIdeal.defs _ _).mono (fun r h c => ⟨(h.1.written c (b := Cert.AbKernelIdeal.main_v75_0) (by decide)).trans (Cert.AttnGrad.bufsAt_grad m 4 c),
    Cert.AttnGrad.args_kept m (Cert.AttnGrad.dats m) (Cert.AttnGrad.arrays_eq m) r h.1.toR c⟩) (Cert.AttnGrad.run m ρ)

theorem algebraic : Cert.algebraic_AbKernelIdeal_AbReferenceIdeal_pre_all_finite := by
  pair_intro
  · run_from run_vals m g
  · run_from Cert.AbReferenceIdeal.Value.run_stages m' g'
    obtain ⟨h0, h1, h2, h3⟩ := hagree c
    have hz := finite_of_pre _ _ _ _ (hpre c)
    rw [← h0, ← h1, ← h2] at hz
    funext i
    have hi : i = ix2 (i 0) (i 1) := funext fun a => by match a with | ⟨0, _⟩ => rfl | ⟨1, _⟩ => rfl
    rw [hi]
    refine (Cert.AbReferenceIdeal.Value.grads_entry _ _ _ hz _ (i 0) (i 1)).trans ?_
    refine Eq.trans ?_ (Cert.AttnGrad.final_entry m c (i 0) (i 1)).symm
    unfold Cert.AttnGrad.result Cert.AttnGrad.proj Cert.AttnGrad.biases Cert.AttnGrad.outGrads Cert.AttnGrad.eighth
    rw [← h0, ← h1, ← h2, ← h3]

end Cert.Ab

end
-- ==== Proof.At.Claim.lean ====
module

public import proofs.«01_k».proof.Defs
public import proofs.«01_k».proof.Proof.At.Value
public import proofs.«01_k».proof.Proof.At.RefEntries
public import proofs.«01_k».proof.Proof.At.RefScores
public import proofs.«01_k».proof.Proof.Gen.Pre_scores_finite
public import Idealize.ShloMosaic.Lib.ReduceAll
public import Idealize.ShloMosaic.Lib.Claim
public import Idealize.ShloMosaic.Lib.Quiescent

@[expose] public section

set_option maxRecDepth 16384

noncomputable section

namespace Cert.At

open Idealize.ShloMosaic Idealize.ShloMosaic.TcCoe Idealize.SL.Sem
open Cert.Attention (ProjIdx BiasIdx output)

/-! ## The precondition -/

theorem lt_inf (x : EReal) (h : Ideal.cmp .olt (max x (-x)) (Ideal.ofBits FTy.f32 0x7F800000#32) = 1#1) : x ≠ ⊤ ∧ x ≠ ⊥ := by
  have hb : Ideal.ofBits FTy.f32 0x7F800000#32 = (⊤ : EReal) := by simp [Ideal.ofBits, Ideal.ieee]
  rw [hb] at h
  constructor <;> (rintro rfl; simp [Ideal.cmp] at h)

theorem finite_of_pre (z : ProjIdx → EReal) (b : BiasIdx → EReal) (h : Cert.Pre_scores_finite.fn (F := Ideal) z b = fun _ => 1#1) : Attention.Finite z b := by
  have h0 := congrFun h ix0
  unfold Cert.Pre_scores_finite.fn at h0
  obtain ⟨hz, hb⟩ := IntOp.andi_eq_one.1 h0
  haveI : Subsingleton Cert.Pre_scores_finite.S_.Idx := ⟨fun _ _ => funext fun a => a.elim0⟩
  constructor
  · intro i j
    have e := Host.reduce_andi_all _ _ _ _ _ hz (ix2 i j)
    have hi : (extractStridedSlice Cert.Pre_scores_finite.S2048x1024 ![0, 0] z Cert.Pre_scores_finite.Facts.slices_S2048x5632_S2048x1024_0_0) (ix2 i j)
        = z (ix2 i ⟨j.val, by omega⟩) := by pointwise
    have e' : Ideal.cmp .olt (max ((extractStridedSlice Cert.Pre_scores_finite.S2048x1024 ![0, 0] z Cert.Pre_scores_finite.Facts.slices_S2048x5632_S2048x1024_0_0) (ix2 i j) : EReal) (-((extractStridedSlice Cert.Pre_scores_finite.S2048x1024 ![0, 0] z Cert.Pre_scores_finite.Facts.slices_S2048x5632_S2048x1024_0_0) (ix2 i j) : EReal))) (Ideal.ofBits FTy.f32 0x7F800000#32) = 1#1 := e
    rw [hi] at e'
    exact lt_inf _ e'
  · intro i
    exact lt_inf (b i) (Host.reduce_andi_all _ _ _ _ _ hb i)

/-! ## The values -/

theorem scale_eq : Cert.AtKernelIdeal.Value.scale = ((1 / 8 : ℝ) : EReal) := by
  simp [Cert.AtKernelIdeal.Value.scale, Ideal.ofBits, Ideal.ieee, -EReal.coe_mul]; norm_num

theorem scale_eq' : Ideal.ofBits FTy.f32 0x3E000000#32 = ((1 / 8 : ℝ) : EReal) := by
  simp [Ideal.ofBits, Ideal.ieee, -EReal.coe_mul]; norm_num

end Cert.At

namespace Cert.AtReferenceIdeal.Value

open Cert.AtReferenceIdeal Cert.AtReferenceIdeal.Gen Idealize.ShloMosaic Idealize.ShloMosaic.TcCoe Idealize.SL.Sem

/-- The reference's result at row `64 r + 16 n + q`, column `64 H + d`. -/
theorem result_entry (z : FVec Ideal S2048x5632 .bf16) (b : FVec Ideal S8x15x31 .f32) (hz : Attention.Finite z b) (H : Fin 8) (r : Fin 32) (n : Fin 4) (q : Fin 16) (d : Fin 64) :
    mean (maskedScores z b) (values z) (ix6 0 H r n q d)
      = Attention.output z b (Ideal.ofBits FTy.f32 0x3E000000#32) H r ⟨16 * n.val + q.val, by omega⟩ d := by
  rw [mean_entry, Cert.At.scale_eq', Attention.output_block_div z b _ hz]
  refine congrArg₂ Softmax.attendDiv (funext fun k => ?_) (funext fun k => ?_)
  · rw [scores_entry, Cert.At.scale_eq']
  · exact values_entry H r n k.1 k.2 z d

theorem laid_out (M : FVec Ideal S1x8x32x4x16x64 .f32) (i : Fin 2048) (j : Fin 512) :
    truncf .bf16 (shapeCast S2048x512 (shapeCast S1x2048x512 (transpose S1x32x4x16x8x64 [0, 2, 3, 4, 1, 5] M
      transposes_S1x8x32x4x16x64_S1x32x4x16x8x64_0_2_3_4_1_5) shapeCasts_S1x32x4x16x8x64_S1x2048x512) shapeCasts_S1x2048x512_S2048x512) bitsLt_bf16_f32 (ix2 i j)
      = M (ix6 0 ⟨j.val / 64, by omega⟩ ⟨i.val / 64, by omega⟩ ⟨i.val % 64 / 16, by omega⟩ ⟨i.val % 16, by omega⟩ ⟨j.val % 64, by omega⟩) := by
  pointwise
  refine congrArg M (funext fun a => Fin.ext ?_)
  fin_cases a <;> first | rfl | (show i.val / 16 % 4 = i.val % 64 / 16; omega)

theorem result_eq_output (m : (ℓ : Loc nD τ sig) → Buf (Elt Ideal) ℓ) (c : Dev nD)
    (hz : Attention.Finite (m ((c.tc : Thread nD τ).loc main_arg0)) (m ((c.tc : Thread nD τ).loc main_arg1))) (i : Fin 2048) (j : Fin 512) :
    res_main_v73 m c (ix2 i j) = Attention.output (m ((c.tc : Thread nD τ).loc main_arg0)) (m ((c.tc : Thread nD τ).loc main_arg1)) (1 / 8 : ℝ)
      ⟨j.val / 64, by omega⟩ ⟨i.val / 64, by omega⟩ ⟨i.val % 64, by omega⟩ ⟨j.val % 64, by omega⟩ := by
  rw [result_eq, laid_out, result_entry _ _ hz, Cert.At.scale_eq']
  exact Attention.output_congr _ _ _ rfl rfl (by show 16 * (i.val % 64 / 16) + i.val % 16 = i.val % 64; omega) rfl

end Cert.AtReferenceIdeal.Value

namespace Cert.At

open Idealize.ShloMosaic Idealize.ShloMosaic.TcCoe Idealize.SL.Sem

theorem frame_reference : Cert.quiescent_AtReferenceIdeal := fun m ρ _ =>
  θ_run_mono (Cert.AtReferenceIdeal.Value.run m ρ) fun r h =>
    ⟨fun c => (h c).2, sem_eq_zero_of_no_sems (sig := Cert.AtReferenceIdeal.sig) (by decide) r.2⟩

/-- The kernel's result and its arguments at the end of every execution. -/
theorem run_vals (m : (ℓ : Loc Cert.AtKernelIdeal.nD Cert.AtKernelIdeal.τ Cert.AtKernelIdeal.sig) → Buf (Elt Ideal) ℓ) (ρ : Dev Cert.AtKernelIdeal.nD → PrngReg) :
    θ_run Cert.AtKernelIdeal.defs (onTc (τ := Cert.AtKernelIdeal.τ) (Cert.AtKernelIdeal.main (F := Ideal))) ⟨m, fun _ => 0, ρ⟩ fun r => ∀ c : Dev Cert.AtKernelIdeal.nD,
      r.2.mem ((c.tc : Thread _ _).loc Cert.AtKernelIdeal.main_v38_0) = Cert.AtKernelIdeal.Value.attention m c
      ∧ r.2.mem ((c.tc : Thread _ _).loc Cert.AtKernelIdeal.main_arg0) = m ((c.tc : Thread _ _).loc Cert.AtKernelIdeal.main_arg0)
      ∧ r.2.mem ((c.tc : Thread _ _).loc Cert.AtKernelIdeal.main_arg1) = m ((c.tc : Thread _ _).loc Cert.AtKernelIdeal.main_arg1) :=
  (θ_run Cert.AtKernelIdeal.defs _ _).mono (fun r h c => ⟨(h c).1.trans (Cert.AtKernelIdeal.Value.final4 m c), (h c).2.2⟩) (Cert.AtKernelIdeal.Value.run_blocks m ρ)

theorem algebraic : Cert.algebraic_AtKernelIdeal_AtReferenceIdeal_pre_scores_finite := by
  pair_intro
  · run_from run_vals m g
  · run_from Cert.AtReferenceIdeal.Value.run m' g'
    obtain ⟨h0, h1⟩ := hagree c
    have hz := finite_of_pre _ _ (hpre c)
    rw [← h0, ← h1] at hz
    funext i
    have hi : i = ix2 (i 0) (i 1) := funext fun a => by match a with | ⟨0, _⟩ => rfl | ⟨1, _⟩ => rfl
    rw [hi]
    refine (Cert.AtReferenceIdeal.Value.result_eq_output m' c hz _ _).trans ?_
    rw [h0, h1]
    unfold Cert.AtKernelIdeal.Value.attention
    rw [scale_eq]
    rfl

end Cert.At

end
-- ==== Proof.Math.NormGrad.lean ====
/- The gradient of a root-mean-square norm with respect to its argument, one row at a time: the form with the
   normalised row and the form that the rules of calculus give operation by operation agree where the row and the
   cotangent are finite. -/
module

public import proofs.«01_k».proof.Proof.Math.SoftmaxGrad

@[expose] public section

noncomputable section

namespace Cert.NormGrad

open Idealize.ShloMosaic
open Cert.Softmax (coe_sum)

/-- The width of a row, as the programs write it. -/
def width : EReal := Ideal.ofBits .f32 0x44800000#32

/-- What is added to the mean square. -/
def eps : EReal := Ideal.ofBits .f32 0x358637BD#32

/-- The factor of the reciprocal root's derivative. -/
def minusHalf : EReal := Ideal.ofBits .f32 0xBF000000#32

theorem width_eq : width = ((1024 : ℝ) : EReal) := by
  simp [width, Ideal.ofBits, Ideal.ieee, -EReal.coe_mul]; norm_num

theorem minusHalf_eq : minusHalf = ((-(1 / 2) : ℝ) : EReal) := by
  simp [minusHalf, Ideal.ofBits, Ideal.ieee, -EReal.coe_mul]; norm_num

theorem eps_pos : ∃ r : ℝ, 0 < r ∧ eps = (r : EReal) := by
  refine ⟨_, ?_, by simp [eps, Ideal.ofBits, Ideal.ieee, -EReal.coe_mul]; rfl⟩
  norm_num

variable {ι : Type} [Fintype ι]

/-- The shifted mean square of a row. -/
def meanSquare (x : ι → EReal) : EReal := Ideal.div (∑ k, x k * x k) width + eps

/-- The factor that normalises a row. -/
def scale (x : ι → EReal) : EReal := Ideal.rsqrt (meanSquare x)

/-- The gradient of the row in the form with the normalised row, added to `d`. -/
def byRow (x dy : ι → EReal) (d : EReal) (j : ι) : EReal :=
  d + scale x * (dy j - x j * scale x * Ideal.div (∑ k, dy k * (x k * scale x)) width)

/-- The gradient of the mean square in the operation-by-operation form. -/
def ofMean (x dy : ι → EReal) : EReal :=
  Ideal.div ((∑ k, x k * dy k) * (minusHalf * Ideal.div (scale x) (meanSquare x))) width

/-- The gradient of the row in the operation-by-operation form, added to `d`. -/
def byRules (x dy : ι → EReal) (d : EReal) (j : ι) : EReal :=
  d + dy j * scale x + x j * ofMean x dy + ofMean x dy * x j

theorem byRules_eq (x dy : ι → EReal) (d : EReal) (j : ι) (hx : ∀ k, ∃ r : ℝ, x k = r) (hy : ∀ k, ∃ r : ℝ, dy k = r) :
    byRules x dy d j = byRow x dy d j := by
  choose a ha using hx
  choose b hb using hy
  obtain ⟨e, he, hee⟩ := eps_pos
  have hV : meanSquare x = (((∑ k, a k * a k) * (1 / 1024) + e : ℝ) : EReal) := by
    unfold meanSquare
    rw [width_eq, Ideal.div_coe (by norm_num), hee]
    simp only [ha, ← EReal.coe_mul, ← coe_sum, ← EReal.coe_add]
  have hpos : 0 < (∑ k, a k * a k) * (1 / 1024) + e :=
    add_pos_of_nonneg_of_pos (mul_nonneg (Finset.sum_nonneg fun k _ => mul_self_nonneg _) (by norm_num)) he
  generalize (∑ k, a k * a k) * (1 / 1024) + e = V at hV hpos
  have hR : scale x = (((Real.sqrt V)⁻¹ : ℝ) : EReal) := by
    unfold scale
    rw [hV, Ideal.rsqrt_coe, if_neg (not_lt.mpr hpos.le), if_neg hpos.ne']
  have hs : 0 < Real.sqrt V := Real.sqrt_pos.mpr hpos
  have hq : V = Real.sqrt V * Real.sqrt V := (Real.mul_self_sqrt hpos.le).symm
  generalize Real.sqrt V = s at hR hs hq
  subst hq
  have hw : ∀ z : EReal, Ideal.div z ((1024 : ℝ) : EReal) = z * ((1 / 1024 : ℝ) : EReal) := Ideal.div_coe (by norm_num : (1024 : ℝ) ≠ 0)
  have hv : ∀ z : EReal, Ideal.div z ((s * s : ℝ) : EReal) = z * ((1 / (s * s) : ℝ) : EReal) := Ideal.div_coe hpos.ne'
  unfold byRules byRow ofMean
  rw [hR, hV, width_eq, minusHalf_eq, hv, hw, hw]
  simp only [ha, hb, ← EReal.coe_mul, ← coe_sum, ← EReal.coe_sub]
  have e1 : ∑ k, b k * (a k * s⁻¹) = (∑ k, a k * b k) * s⁻¹ := by
    rw [Finset.sum_mul]; exact Finset.sum_congr rfl fun k _ => by ring
  rw [e1, add_assoc, add_assoc, ← EReal.coe_add, ← EReal.coe_add]
  refine congrArg (fun z : ℝ => d + (z : EReal)) ?_
  generalize ∑ k, a k * b k = T
  have h0 := hs.ne'
  field_simp
  ring

end Cert.NormGrad

end
-- ==== Proof.Math.Finite.lean ====
/- Finiteness of an extended real, as the preconditions test it and as the proofs use it. -/
module

public import Idealize.ShloMosaic.PureOps.Ideal

@[expose] public section

noncomputable section

namespace Cert.Finite

open Idealize.ShloMosaic

/-- An absolute value below infinity belongs to a real number. -/
theorem real_of_lt (x : EReal) (h : Ideal.cmp .olt (max x (-x)) (Ideal.ofBits FTy.f32 0x7F800000#32) = 1#1) : ∃ r : ℝ, x = r := by
  have hb : Ideal.ofBits FTy.f32 0x7F800000#32 = (⊤ : EReal) := by simp [Ideal.ofBits, Ideal.ieee]
  rw [hb] at h
  induction x with
  | bot => simp [Ideal.cmp] at h
  | top => simp [Ideal.cmp] at h
  | coe r => exact ⟨r, rfl⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {ι : Type} (s : Finset ι) (f : ι → EReal) (h : ∀ i, ∃ r : ℝ, f i = r) : ∃ r : ℝ, ∑ i ∈ s, f i = r := by
  classical
  choose g hg using h
  induction s using Finset.induction_on with
  | empty => exact ⟨0, by simp⟩
  | insert a s ha ih =>
    obtain ⟨b, hb⟩ := ih
    exact ⟨g a + b, by rw [Finset.sum_insert ha, hb, hg, EReal.coe_add]⟩

end Cert.Finite

end
-- ==== Proof.Math.NormBackward.lean ====
/- The arrays that the two norm backward calls compute, with any number `N` of columns in the product that feeds them,
   and the sums over the columns' shards and over the two blocks of rows put together. -/
module

public import proofs.«01_k».proof.Proof.Math.NormGrad
public import proofs.«01_k».proof.Proof.Math.Finite
public import Idealize.ShloMosaic.Lib.Pipeline.ValueKit

@[expose] public section

noncomputable section

namespace Cert.NormBackward

open Idealize.ShloMosaic
open Cert.NormGrad

/-- A matrix of extended reals. -/
abbrev Mat (a b : ℕ) : Type := (⟨2, ![a, b]⟩ : Shape).Idx → EReal

/-- Row `r` of the block of 1024 rows that point `t` works on. -/
def row (t : ℕ) (r : Fin 1024) : Fin 2048 := Fin.ofNat 2048 (t / 4 * 1024 + r.val)

variable {N : ℕ} [NeZero N]

/-- The gradient of the normalised and weighted rows: a product with the transposed weight matrix. -/
def dh (df : Mat 2048 N) (w : Mat 1024 N) (r : Fin 2048) (d : Fin 1024) : EReal := ∑ n : Fin N, df (ix2 r n) * w (ix2 d n)

/-- One product of `dh`, by its column's number. -/
def prod (df : Mat 2048 N) (w : Mat 1024 N) (r : Fin 2048) (d : Fin 1024) (n : ℕ) : EReal :=
  df (ix2 r (Fin.ofNat N n)) * w (ix2 d (Fin.ofNat N n))

/-- The four shards of the columns are all columns. -/
theorem whole (n : ℕ) (hN : 4 * n = N) (df : Mat 2048 N) (w : Mat 1024 N) (t : ℕ) (r d : Fin 1024) :
    ∑ k ∈ Finset.range 4, ∑ q : Fin n, prod df w (row (4 * (t / 4) + k) r) d ((4 * (t / 4) + k) % 4 * n + q.val) = dh df w (row t r) d := by
  have e : ∀ k ∈ Finset.range 4, (∑ q : Fin n, prod df w (row (4 * (t / 4) + k) r) d ((4 * (t / 4) + k) % 4 * n + q.val))
      = ∑ q ∈ Finset.range n, prod df w (row t r) d (k * n + q) := fun k hk => by
    have hk' := Finset.mem_range.1 hk
    have e1 : (4 * (t / 4) + k) % 4 = k := by omega
    have e2 : row (4 * (t / 4) + k) r = row t r := by
      unfold row
      rw [show (4 * (t / 4) + k) / 4 = t / 4 by omega]
    rw [e1, e2]
    exact Fin.sum_univ_eq_sum_range (fun q => prod df w (row t r) d (k * n + q)) n
  rw [Finset.sum_congr rfl e, Finset.sum_range_range_mul_add 4 n (fun q => prod df w (row t r) d q), hN,
    ← Fin.sum_univ_eq_sum_range (fun q => prod df w (row t r) d q) N]
  unfold dh prod
  refine Finset.sum_congr rfl fun q _ => ?_
  have hq : (Fin.ofNat N q.val : Fin N) = q := Fin.ext (Nat.mod_eq_of_lt q.isLt)
  rw [hq]

/-- The gradient of the norm's argument. -/
def rowsGrad (df : Mat 2048 N) (w : Mat 1024 N) (x : Mat 2048 1024) (g : Mat 1 1024) (d : Mat 2048 1024) (r : Fin 2048) (j : Fin 1024) : EReal :=
  byRow (fun k : Fin 1024 => x (ix2 r k)) (fun k => dh df w r k * g (ix2 0 k)) (d (ix2 r j)) j

/-- The same, operation by operation. -/
def rowsRules (df : Mat 2048 N) (w : Mat 1024 N) (x : Mat 2048 1024) (g : Mat 1 1024) (d : Mat 2048 1024) (r : Fin 2048) (j : Fin 1024) : EReal :=
  byRules (fun k : Fin 1024 => x (ix2 r k)) (fun k => dh df w r k * g (ix2 0 k)) (d (ix2 r j)) j

/-- The gradient of the norm's weights. -/
def weightGrad (df : Mat 2048 N) (w : Mat 1024 N) (x : Mat 2048 1024) (j : Fin 1024) : EReal :=
  ∑ r : Fin 2048, dh df w r j * (x (ix2 r j) * scale (fun k : Fin 1024 => x (ix2 r k)))

/-- One block of rows' part of the weights' gradient. -/
def part (df : Mat 2048 N) (w : Mat 1024 N) (x : Mat 2048 1024) (t : ℕ) (d : Fin 1024) : EReal :=
  ∑ r : Fin 1024, dh df w (row t r) d * (x (ix2 (row t r) d) * scale (fun k : Fin 1024 => x (ix2 (row t r) k)))

/-- The two blocks of rows are all rows. -/
theorem parts_eq (df : Mat 2048 N) (w : Mat 1024 N) (x : Mat 2048 1024) (j : Fin 1024) :
    part df w x 3 j + part df w x 7 j = weightGrad df w x j := by
  unfold part weightGrad
  generalize hF : (fun r : Fin 2048 => dh df w r j * (x (ix2 r j) * scale (fun k : Fin 1024 => x (ix2 r k)))) = F
  have e : ∀ r, dh df w r j * (x (ix2 r j) * scale (fun k : Fin 1024 => x (ix2 r k))) = F r := fun r => congrFun hF r
  simp only [e]
  refine Eq.trans ?_ (Fin.sum_univ_add (a := 1024) (b := 1024) F).symm
  refine congrArg₂ (fun a b : EReal => a + b) (Finset.sum_congr rfl fun r _ => congrArg F (Fin.ext ?_)) (Finset.sum_congr rfl fun r _ => congrArg F (Fin.ext ?_))
  · have := r.isLt
    simp only [row, Fin.val_ofNat, Fin.val_castAdd]
    omega
  · have := r.isLt
    simp only [row, Fin.val_ofNat, Fin.val_natAdd]
    omega

/-- The row of the block that ends with row `i0`'s last point. -/
theorem row_of (i0 : Fin 2048) (i1 : Fin 1024) :
    row (4 * (1 * (i0.val / 1024 - 0) + 1 * (i1.val / 1024 - 0)) + 3) ⟨i0.val % 1024, Nat.mod_lt _ (by decide)⟩ = i0 := by
  have := i0.isLt
  have := i1.isLt
  refine Fin.ext ?_
  simp only [row, Fin.val_ofNat]
  omega

/-- On real numbers the two forms of the argument's gradient agree. -/
theorem rows_agree (df : Mat 2048 N) (w : Mat 1024 N) (x : Mat 2048 1024) (g : Mat 1 1024) (d : Mat 2048 1024)
    (h : (∀ i, ∃ r : ℝ, df i = r) ∧ (∀ i, ∃ r : ℝ, w i = r) ∧ (∀ i, ∃ r : ℝ, x i = r) ∧ ∀ i, ∃ r : ℝ, g i = r) (r : Fin 2048) (j : Fin 1024) :
    rowsRules df w x g d r j = rowsGrad df w x g d r j :=
  byRules_eq _ _ _ _ (fun k => h.2.2.1 _)
    fun k => Cert.Finite.real_mul (Cert.Finite.real_sum _ _ fun n => Cert.Finite.real_mul (h.1 _) (h.2.1 _)) (h.2.2.2 _)

end Cert.NormBackward

end
-- ==== Proof.N2.Value.lean ====
/- The three results of the norm's backward call, as functions of the arguments: the gradient of the norm's argument
   (twice, once in the short format) and that of its weights. -/
module

public import proofs.«01_k».proof.Proof.Gen.N2KernelIdeal.Value
public import proofs.«01_k».proof.Proof.Math.NormBackward
public import Idealize.ShloMosaic.Lib.Pipeline.ValueKit
public import Idealize.ShloMosaic.Lib.Pipeline.ReadBack

@[expose] public section

set_option maxRecDepth 16384

noncomputable section

namespace Cert.N2KernelIdeal.Value

open Cert.N2KernelIdeal Cert.N2KernelIdeal.Gen
open Idealize.ShloMosaic Idealize.ShloMosaic.TcCoe Idealize.SL.Sem
open Idealize.ShloMosaic.Pipeline (Dat)
open Cert.NormGrad Cert.NormBackward

variable (m : (ℓ : Loc nD τ sig) → Buf (Elt Ideal) ℓ) (ρ : Dev nD → PrngReg)

/-- The index facts of the windows. -/
theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![t.val / 4, 0] ∧ win0_7.index t = ![0, 0] :=
  (by decide +kernel : ∀ t : Fin grid0.N, _)

/-- What point `t` adds to the sum of products. -/
theorem step_eq (c : Dev nD) (t : Fin cfg0.N) (acc : Vec Ideal S1024x1024 .f32) (y : S1024x1024.Idx) :
    k0_pay2 (iblk m c 1 t) acc (iblk m c 0 t) y = acc y + ∑ n : Fin 1024,
      prod (m ((c : Thread nD τ).loc main_arg0)) (m ((c : Thread nD τ).loc main_arg1)) (row t.val (y 0)) (y 1) (t.val % 4 * 1024 + n.val) := by
  pointwise [k0_pay2]
  refine congrArg (fun z : EReal => acc y + z) (Finset.sum_congr rfl fun n _ => ?_)
  unfold prod row
  blk_point [iblk, idx t]
  all_goals (simp only [Fin.val_ofNat]; omega)

/-- The sum of products after a point that is not the first of its block of rows. -/
theorem acc_step (c : Dev nD) (t : Fin cfg0.N) (h : ¬t.val % 4 = 0) : (outsAt0 m c t.val t.isLt).2.2.2
    = k0_pay2 (iblk m c 1 t) (outsAt0 m c (t.val - 1) (Nat.lt_of_le_of_lt (Nat.sub_le _ _) t.isLt)).2.2.2 (iblk m c 0 t) := by
  by_cases h1 : t.val % 4 = 3
  · by_cases h2 : t.val < 4
    · rw [outsAt0_C m c t h h1 h2 (by omega)]
      frame_out
      simp only [read_unread_whole]
    · rw [outsAt0_D m c t h h1 h2 (by omega)]
      frame_out
      simp only [read_unread_whole]
  · rw [outsAt0_B m c t h h1]
    frame_out
    simp only [read_unread_whole]

/-- The sum of products after point `t`: the shards up to the point's. -/
theorem acc_eq (c : Dev nD) (t : Fin cfg0.N) (y : S1024x1024.Idx) : (outsAt0 m c t.val t.isLt).2.2.2 y
    = 0 + ∑ k ∈ Finset.range (t.val % 4 + 1), ∑ n : Fin 1024, prod (m ((c : Thread nD τ).loc main_arg0)) (m ((c : Thread nD τ).loc main_arg1))
        (row (4 * (t.val / 4) + k) (y 0)) (y 1) ((4 * (t.val / 4) + k) % 4 * 1024 + n.val) := by
  refine Pipeline.eq_sum_of_reset_step_apply (fun n h => (outsAt0 m c n h).2.2.2) 4 (fun _ : S1024x1024.Idx => (0 : EReal))
    (fun t y => ∑ n : Fin 1024, prod (m ((c : Thread nD τ).loc main_arg0)) (m ((c : Thread nD τ).loc main_arg1)) (row t (y 0)) (y 1) (t % 4 * 1024 + n.val))
    (fun t h y => ?_) (fun t h y => (congrFun (acc_step m c t h) y).trans (step_eq m c t _ y)) t y
  beta_reduce
  rw [outsAt0_A m c t h (by omega)]
  frame_out
  refine (step_eq m c t _ y).trans ?_
  pointwise [k0_pay1]

/-- At the last shard the sum of products is whole. -/
theorem acc_last (c : Dev nD) (t : Fin cfg0.N) (h : t.val % 4 = 3) (y : S1024x1024.Idx) : (outsAt0 m c t.val t.isLt).2.2.2 y
    = dh (m ((c : Thread nD τ).loc main_arg0)) (m ((c : Thread nD τ).loc main_arg1)) (row t.val (y 0)) (y 1) := by
  rw [acc_eq, h, zero_add]
  exact whole 1024 rfl _ _ t.val (y 0) (y 1)

/-- The last step's row gradient, of the products' sum `A`, the rows `x`, the weights `g` and the residual's gradient `d`. -/
theorem rows_eq (A x : FVec Ideal S1024x1024 .f32) (g : FVec Ideal S1x1024 .f32) (d : FVec Ideal S1024x1024 .f32) (r j : Fin 1024) :
    k0_pay6 (F := Ideal) A x g d (ix2 r j) = byRow (fun k : Fin 1024 => x (ix2 r k)) (fun k => A (ix2 r k) * g (ix2 0 k)) (d (ix2 r j)) j := by
  pointwise [k0_pay6, k0_pay5, k0_pay4, byRow, scale, meanSquare]
  rfl

/-- The last step's part of the weights' gradient. -/
theorem part_eq (A x : FVec Ideal S1024x1024 .f32) (j : Fin 1024) :
    k0_pay8 (F := Ideal) A x (ix2 0 j) = ∑ r : Fin 1024, A (ix2 r j) * (x (ix2 r j) * scale (fun k : Fin 1024 => x (ix2 r k))) := by
  pointwise [k0_pay8, k0_pay5, k0_pay4, scale, meanSquare]
  rfl

/-- The rows' gradient at the last shard. -/
theorem rows_last (c : Dev nD) (t : Fin cfg0.N) (h : t.val % 4 = 3) (r j : Fin 1024) :
    k0_pay6 (F := Ideal) (k0_pay2 (iblk m c 1 t) (outsAt0 m c (t.val - 1) (Nat.lt_of_le_of_lt (Nat.sub_le _ _) t.isLt)).2.2.2 (iblk m c 0 t))
      (iblk m c 2 t) (iblk m c 3 t) (iblk m c 4 t) (ix2 r j)
    = byRow (fun k : Fin 1024 => m ((c : Thread nD τ).loc main_arg2) (ix2 (row t.val r) k))
        (fun k => dh (m ((c : Thread nD τ).loc main_arg0)) (m ((c : Thread nD τ).loc main_arg1)) (row t.val r) k * m ((c : Thread nD τ).loc main_arg3) (ix2 0 k))
        (m ((c : Thread nD τ).loc main_arg4) (ix2 (row t.val r) j)) j := by
  rw [← acc_step m c t (by omega), rows_eq]
  have e2 : ∀ k : Fin 1024, iblk m c 2 t (ix2 r k) = m ((c : Thread nD τ).loc main_arg2) (ix2 (row t.val r) k) := fun k => by
    unfold row
    blk_point [iblk, V, idx t]
    all_goals (simp only [Fin.val_ofNat]; omega)
  have e3 : ∀ k : Fin 1024, iblk m c 3 t (ix2 0 k) = m ((c : Thread nD τ).loc main_arg3) (ix2 0 k) := fun k => by
    blk_point [iblk, V, idx t]
  have e4 : iblk m c 4 t (ix2 r j) = m ((c : Thread nD τ).loc main_arg4) (ix2 (row t.val r) j) := by
    unfold row
    blk_point [iblk, V, idx t]
    all_goals (simp only [Fin.val_ofNat]; omega)
  simp only [e2, e3, e4, acc_last m c t h]
  rfl

/-- The rows' gradient, as the call leaves it after the last shard. -/
theorem out5_last (c : Dev nD) (t : Fin cfg0.N) (h : t.val % 4 = 3) (r j : Fin 1024) : (outsAt0 m c t.val t.isLt).1 (ix2 r j)
    = byRow (fun k : Fin 1024 => m ((c : Thread nD τ).loc main_arg2) (ix2 (row t.val r) k))
        (fun k => dh (m ((c : Thread nD τ).loc main_arg0)) (m ((c : Thread nD τ).loc main_arg1)) (row t.val r) k * m ((c : Thread nD τ).loc main_arg3) (ix2 0 k))
        (m ((c : Thread nD τ).loc main_arg4) (ix2 (row t.val r) j)) j := by
  refine Eq.trans ?_ (rows_last m c t h r j)
  by_cases h2 : t.val < 4
  · rw [outsAt0_C m c t (by omega) h h2 (by omega)]
    frame_out
    simp only [read_unread_whole]
  · rw [outsAt0_D m c t (by omega) h h2 (by omega)]
    frame_out
    simp only [read_unread_whole]

/-- The same in the short format. -/
theorem out6_last (c : Dev nD) (t : Fin cfg0.N) (h : t.val % 4 = 3) (r j : Fin 1024) : (outsAt0 m c t.val t.isLt).2.1 (ix2 r j)
    = byRow (fun k : Fin 1024 => m ((c : Thread nD τ).loc main_arg2) (ix2 (row t.val r) k))
        (fun k => dh (m ((c : Thread nD τ).loc main_arg0)) (m ((c : Thread nD τ).loc main_arg1)) (row t.val r) k * m ((c : Thread nD τ).loc main_arg3) (ix2 0 k))
        (m ((c : Thread nD τ).loc main_arg4) (ix2 (row t.val r) j)) j := by
  refine Eq.trans ?_ (rows_last m c t h r j)
  by_cases h2 : t.val < 4
  · rw [outsAt0_C m c t (by omega) h h2 (by omega)]
    frame_out
    simp only [read_unread_whole]
    rfl
  · rw [outsAt0_D m c t (by omega) h h2 (by omega)]
    frame_out
    simp only [read_unread_whole]
    rfl

/-- The last step's part at the last shard. -/
theorem part_last (c : Dev nD) (t : Fin cfg0.N) (h : t.val % 4 = 3) (d : Fin 1024) :
    k0_pay8 (F := Ideal) (k0_pay2 (iblk m c 1 t) (outsAt0 m c (t.val - 1) (Nat.lt_of_le_of_lt (Nat.sub_le _ _) t.isLt)).2.2.2 (iblk m c 0 t))
      (iblk m c 2 t) (ix2 0 d)
    = part (m ((c : Thread nD τ).loc main_arg0)) (m ((c : Thread nD τ).loc main_arg1)) (m ((c : Thread nD τ).loc main_arg2)) t.val d := by
  rw [← acc_step m c t (by omega), part_eq]
  have e2 : ∀ r k : Fin 1024, iblk m c 2 t (ix2 r k) = m ((c : Thread nD τ).loc main_arg2) (ix2 (row t.val r) k) := fun r k => by
    unfold row
    blk_point [iblk, V, idx t]
    all_goals (simp only [Fin.val_ofNat]; omega)
  simp only [e2, acc_last m c t h]
  rfl

/-- The weights' gradient after the first block of rows. -/
theorem out7_low (c : Dev nD) (t : Fin cfg0.N) (h : 3 ≤ t.val) (h' : t.val < 7) (d : Fin 1024) : (outsAt0 m c t.val t.isLt).2.2.1 (ix2 0 d)
    = part (m ((c : Thread nD τ).loc main_arg0)) (m ((c : Thread nD τ).loc main_arg1)) (m ((c : Thread nD τ).loc main_arg2)) 3 d := by
  obtain ⟨n, hn⟩ := t
  induction n with
  | zero => simp at h
  | succ n ih =>
    dsimp only at h h'
    by_cases h3 : n + 1 = 3
    · refine Eq.trans ?_ ((part_last m c ⟨n + 1, hn⟩ (by dsimp only; omega) d).trans (congrArg (fun k => part _ _ _ k d) h3))
      rw [outsAt0_C m c ⟨n + 1, hn⟩ (by dsimp only; omega) (by dsimp only; omega) (by dsimp only; omega) (by dsimp only; omega)]
      frame_out
      simp only [read_unread_whole]
    · refine Eq.trans ?_ (ih (Nat.lt_of_succ_lt hn) (by dsimp only; omega) (by dsimp only; omega))
      by_cases h0 : (n + 1) % 4 = 0
      · rw [outsAt0_A m c ⟨n + 1, hn⟩ h0 (by dsimp only; omega)]
        frame_out
        rfl
      · rw [outsAt0_B m c ⟨n + 1, hn⟩ h0 (by dsimp only; omega)]
        frame_out
        rfl

/-- The weights' gradient after both blocks of rows. -/
theorem out7_last (c : Dev nD) (t : Fin cfg0.N) (h : t.val = 7) (d : Fin 1024) : (outsAt0 m c t.val t.isLt).2.2.1 (ix2 0 d)
    = part (m ((c : Thread nD τ).loc main_arg0)) (m ((c : Thread nD τ).loc main_arg1)) (m ((c : Thread nD τ).loc main_arg2)) 3 d
      + part (m ((c : Thread nD τ).loc main_arg0)) (m ((c : Thread nD τ).loc main_arg1)) (m ((c : Thread nD τ).loc main_arg2)) 7 d := by
  have ht : t.val - 1 < cfg0.N := Nat.lt_of_le_of_lt (Nat.sub_le _ _) t.isLt
  have e7 := (part_last m c t (by omega) d).trans (congrArg (fun k => part (m ((c : Thread nD τ).loc main_arg0)) (m ((c : Thread nD τ).loc main_arg1)) (m ((c : Thread nD τ).loc main_arg2)) k d) h)
  have e3 := out7_low m c ⟨t.val - 1, ht⟩ (by dsimp only; omega) (by dsimp only; omega) d
  refine Eq.trans ?_ (congrArg₂ (fun a b : EReal => a + b) e3 e7)
  rw [outsAt0_D m c t (by omega) (by omega) (by omega) (by omega)]
  frame_out
  simp only [read_unread_whole]
  pointwise [k0_pay3]

/-- The first result, entry by entry. -/
theorem G5_eq (c : Dev nD) (r : Fin 2048) (j : Fin 1024) : G5 m c (ix2 r j)
    = rowsGrad (m ((c : Thread nD τ).loc main_arg0)) (m ((c : Thread nD τ).loc main_arg1)) (m ((c : Thread nD τ).loc main_arg2))
        (m ((c : Thread nD τ).loc main_arg3)) (m ((c : Thread nD τ).loc main_arg4)) r j := by
  have hr := r.isLt
  have hj := j.isLt
  have hp : pt5Of (ix2 r j) < cfg0.N := lt_of_lt_of_eq (show 4 * (1 * (r.val / 1024 - 0) + 1 * (j.val / 1024 - 0)) + 3 < 8 by omega) N_0.symm
  unfold G5
  rw [dif_pos hp, ← outsAt0_sweep m c (pt5Of (ix2 r j)) hp]
  have hl : loc5Of (ix2 r j) = ix2 (⟨r.val % 1024, Nat.mod_lt _ (by decide)⟩ : Fin 1024) j := by
    funext a; apply Fin.ext
    match a with
    | ⟨0, _⟩ => rfl
    | ⟨1, _⟩ => exact Nat.mod_eq_of_lt hj
  rw [hl]
  refine (out5_last m c ⟨pt5Of (ix2 r j), hp⟩ (show (4 * (1 * (r.val / 1024 - 0) + 1 * (j.val / 1024 - 0)) + 3) % 4 = 3 by omega) _ j).trans ?_
  have hw : row (pt5Of (ix2 r j)) (⟨r.val % 1024, Nat.mod_lt _ (by decide)⟩ : Fin 1024) = r := row_of r j
  dsimp only
  rw [hw]
  rfl

/-- The second result, entry by entry. -/
theorem G6_eq (c : Dev nD) (r : Fin 2048) (j : Fin 1024) : G6 m c (ix2 r j)
    = rowsGrad (m ((c : Thread nD τ).loc main_arg0)) (m ((c : Thread nD τ).loc main_arg1)) (m ((c : Thread nD τ).loc main_arg2))
        (m ((c : Thread nD τ).loc main_arg3)) (m ((c : Thread nD τ).loc main_arg4)) r j := by
  have hr := r.isLt
  have hj := j.isLt
  have hp : pt6Of (ix2 r j) < cfg0.N := lt_of_lt_of_eq (show 4 * (1 * (r.val / 1024 - 0) + 1 * (j.val / 1024 - 0)) + 3 < 8 by omega) N_0.symm
  unfold G6
  rw [dif_pos hp, ← outsAt0_sweep m c (pt6Of (ix2 r j)) hp]
  have hl : loc6Of (ix2 r j) = ix2 (⟨r.val % 1024, Nat.mod_lt _ (by decide)⟩ : Fin 1024) j := by
    funext a; apply Fin.ext
    match a with
    | ⟨0, _⟩ => rfl
    | ⟨1, _⟩ => exact Nat.mod_eq_of_lt hj
  rw [hl]
  refine (out6_last m c ⟨pt6Of (ix2 r j), hp⟩ (show (4 * (1 * (r.val / 1024 - 0) + 1 * (j.val / 1024 - 0)) + 3) % 4 = 3 by omega) _ j).trans ?_
  have hw : row (pt6Of (ix2 r j)) (⟨r.val % 1024, Nat.mod_lt _ (by decide)⟩ : Fin 1024) = r := row_of r j
  dsimp only
  rw [hw]
  rfl

/-- The third result, entry by entry. -/
theorem G7_eq (c : Dev nD) (j : Fin 1024) : G7 m c (ix2 0 j)
    = weightGrad (m ((c : Thread nD τ).loc main_arg0)) (m ((c : Thread nD τ).loc main_arg1)) (m ((c : Thread nD τ).loc main_arg2)) j := by
  rw [G7_last, ← outsAt0_sweep m c 7 (lt_of_lt_of_eq (by decide) N_0.symm)]
  exact (out7_last m c ⟨7, lt_of_lt_of_eq (by decide) N_0.symm⟩ rfl j).trans (parts_eq _ _ _ j)

end Cert.N2KernelIdeal.Value

end
-- ==== Proof.N2.Reference.lean ====
/- The reference of the norm's backward call, entry by entry. -/
module

public import proofs.«01_k».proof.Proof.Gen.N2ReferenceIdeal.Run
public import proofs.«01_k».proof.Proof.Math.NormBackward
public import Idealize.ShloMosaic.Lib.Pipeline.ValueKit

@[expose] public section

set_option maxRecDepth 16384

noncomputable section

namespace Cert.N2ReferenceIdeal.Value

open Cert.N2ReferenceIdeal Cert.N2ReferenceIdeal.Gen Idealize.ShloMosaic Idealize.ShloMosaic.TcCoe Idealize.SL.Sem StableHlo
open Cert.NormGrad Cert.NormBackward

variable (m : (ℓ : Loc nD τ sig) → Buf (Elt Ideal) ℓ)

/-- The gradient of the norm's argument. -/
theorem res_eq (c : Dev nD) (r : Fin 2048) (j : Fin 1024) : res_main_v40 m c (ix2 r j)
    = rowsRules (m ((c : Thread nD τ).loc main_arg0)) (m ((c : Thread nD τ).loc main_arg1)) (m ((c : Thread nD τ).loc main_arg2))
        (m ((c : Thread nD τ).loc main_arg3)) (m ((c : Thread nD τ).loc main_arg4)) r j := by
  unfold res_main_v40
  pointwise [rowsRules, byRules, ofMean, scale, meanSquare, dh]
  simp only [Finset.univ_unique, Finset.sum_singleton]
  rfl

/-- Every execution ends with the three gradients in the results' buffers. -/
theorem run_vals (ρ : Dev nD → PrngReg) : θ_run defs (onTc (τ := τ) (main (F := Ideal))) ⟨m, fun _ => 0, ρ⟩ fun r => ∀ c : Dev nD,
    r.2.mem ((c.tc : Thread nD τ).loc main_v40) = res_main_v40 m c
      ∧ r.2.mem ((c.tc : Thread nD τ).loc main_v42) = (fun i => res_main_v40 m c i)
      ∧ r.2.mem ((c.tc : Thread nD τ).loc main_v41) = (fun i => weightGrad (m ((c : Thread nD τ).loc main_arg0))
          (m ((c : Thread nD τ).loc main_arg1)) (m ((c : Thread nD τ).loc main_arg2)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1, (h c).2.1.trans (by unfold res_main_v42 res_main_v40; rfl),
    (h c).2.2.1.trans (by
      funext i
      pointwise [weightGrad, scale, meanSquare, dh]
      simp only [Finset.univ_unique, Finset.sum_singleton]
      exact Finset.sum_congr rfl fun _ _ => mul_comm _ _), (h c).2.2.2⟩) (run m ρ)

end Cert.N2ReferenceIdeal.Value

end
-- ==== Proof.N2.Claim.lean ====
/- The norm's backward call before the channel mixer computes the derivative of reference.py's lines, where the product's
   arrays, the norm's argument and its weights are finite. -/
module

public import proofs.«01_k».proof.Defs
public import proofs.«01_k».proof.Proof.N2.Value
public import proofs.«01_k».proof.Proof.N2.Reference
public import proofs.«01_k».proof.Proof.Math.Finite
public import proofs.«01_k».proof.Proof.Gen.Pre_norm2_finite
public import Idealize.ShloMosaic.Lib.ReduceAll
public import Idealize.ShloMosaic.Lib.Claim
public import Idealize.ShloMosaic.Lib.Quiescent

@[expose] public section

set_option maxRecDepth 16384

noncomputable section

namespace Cert.N2

open Idealize.ShloMosaic Idealize.ShloMosaic.TcCoe Idealize.SL.Sem
open Cert.NormBackward Cert.Finite
open Cert.N2KernelIdeal (S2048x4096 S1024x4096 S2048x1024 S1x1024)

theorem frame_reference : Cert.quiescent_N2ReferenceIdeal := fun m ρ _ =>
  θ_run_mono (Cert.N2ReferenceIdeal.Value.run m ρ) fun r h =>
    ⟨fun c => (h c).2.2.2, sem_eq_zero_of_no_sems (sig := Cert.N2ReferenceIdeal.sig) (by decide) r.2⟩

/-- The precondition's arrays hold real numbers. -/
theorem finite_of_pre (df : S2048x4096.Idx → EReal) (w : S1024x4096.Idx → EReal) (x : S2048x1024.Idx → EReal) (g : S1x1024.Idx → EReal)
    (d : S2048x1024.Idx → EReal) (h : Cert.Pre_norm2_finite.fn (F := Ideal) df w x g d = fun _ => 1#1) :
    (∀ i, ∃ r : ℝ, df i = r) ∧ (∀ i, ∃ r : ℝ, w i = r) ∧ (∀ i, ∃ r : ℝ, x i = r) ∧ ∀ i, ∃ r : ℝ, g i = r := by
  have h0 := congrFun h ix0
  unfold Cert.Pre_norm2_finite.fn Cert.Pre_norm2_finite.fn_part1 at h0
  obtain ⟨habc, hg⟩ := IntOp.andi_eq_one.1 h0
  obtain ⟨hab, hx⟩ := IntOp.andi_eq_one.1 habc
  obtain ⟨ha, hw⟩ := IntOp.andi_eq_one.1 hab
  haveI : Subsingleton Cert.Pre_norm2_finite.S_.Idx := ⟨fun _ _ => funext fun a => a.elim0⟩
  exact ⟨fun i => real_of_lt (df i) (Host.reduce_andi_all _ _ _ _ _ ha i), fun i => real_of_lt (w i) (Host.reduce_andi_all _ _ _ _ _ hw i),
    fun i => real_of_lt (x i) (Host.reduce_andi_all _ _ _ _ _ hx i), fun i => real_of_lt (g i) (Host.reduce_andi_all _ _ _ _ _ hg i)⟩

theorem algebraic : Cert.algebraic_N2KernelIdeal_N2ReferenceIdeal_pre_norm2_finite := by
  pair_intro
  · run_from Cert.N2KernelIdeal.Value.run m g
  · run_from Cert.N2ReferenceIdeal.Value.run_vals m' g'
    all_goals
      obtain ⟨h0, h1, h2, h3, h4⟩ := hagree c
      have hz := finite_of_pre _ _ _ _ _ (hpre c)
      funext i
    · obtain ⟨r, j, rfl⟩ : ∃ (r : Fin 2048) (j : Fin 1024), i = ix2 r j :=
        ⟨i 0, i 1, funext fun a => by match a with | ⟨0, _⟩ => rfl | ⟨1, _⟩ => rfl⟩
      refine (Cert.N2ReferenceIdeal.Value.res_eq m' c r j).trans ?_
      rw [h0, h1, h2, h3, h4]
      exact (rows_agree _ _ _ _ _ hz r j).trans (Cert.N2KernelIdeal.Value.G5_eq m c r j).symm
    · obtain ⟨r, j, rfl⟩ : ∃ (r : Fin 2048) (j : Fin 1024), i = ix2 r j :=
        ⟨i 0, i 1, funext fun a => by match a with | ⟨0, _⟩ => rfl | ⟨1, _⟩ => rfl⟩
      refine (Cert.N2ReferenceIdeal.Value.res_eq m' c r j).trans ?_
      rw [h0, h1, h2, h3, h4]
      exact (rows_agree _ _ _ _ _ hz r j).trans (Cert.N2KernelIdeal.Value.G6_eq m c r j).symm
    · obtain ⟨j, rfl⟩ : ∃ j : Fin 1024, i = ix2 (0 : Fin 1) j :=
        ⟨i 1, funext fun a => by match a with | ⟨0, _⟩ => exact Subsingleton.elim (α := Fin 1) _ _ | ⟨1, _⟩ => rfl⟩
      exact (Cert.N2KernelIdeal.Value.G7_eq m c j).symm

end Cert.N2

end
-- ==== Proof.N1.Value.lean ====
/- The two results of the norm's backward call, as functions of the arguments: the gradient of the norm's argument
   and that of its weights. -/
module

public import proofs.«01_k».proof.Proof.Gen.N1KernelIdeal.Value
public import proofs.«01_k».proof.Proof.Math.NormBackward
public import Idealize.ShloMosaic.Lib.Pipeline.ValueKit
public import Idealize.ShloMosaic.Lib.Pipeline.ReadBack

@[expose] public section

set_option maxRecDepth 16384

noncomputable section

namespace Cert.N1KernelIdeal.Value

open Cert.N1KernelIdeal Cert.N1KernelIdeal.Gen
open Idealize.ShloMosaic Idealize.ShloMosaic.TcCoe Idealize.SL.Sem
open Idealize.ShloMosaic.Pipeline (Dat)
open Cert.NormGrad Cert.NormBackward

variable (m : (ℓ : Loc nD τ sig) → Buf (Elt Ideal) ℓ) (ρ : Dev nD → PrngReg)

/-- The index facts of the windows. -/
theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- What point `t` adds to the sum of products. -/
theorem step_eq (c : Dev nD) (t : Fin cfg0.N) (acc : Vec Ideal S1024x1024 .f32) (y : S1024x1024.Idx) :
    k0_pay2 (iblk m c 1 t) acc (iblk m c 0 t) y = acc y + ∑ n : Fin 1408,
      prod (m ((c : Thread nD τ).loc main_arg0)) (m ((c : Thread nD τ).loc main_arg1)) (row t.val (y 0)) (y 1) (t.val % 4 * 1408 + n.val) := by
  pointwise [k0_pay2]
  refine congrArg (fun z : EReal => acc y + z) (Finset.sum_congr rfl fun n _ => ?_)
  unfold prod row
  blk_point [iblk, idx t]
  all_goals (simp only [Fin.val_ofNat]; omega)

/-- The sum of products after a point that is not the first of its block of rows. -/
theorem acc_step (c : Dev nD) (t : Fin cfg0.N) (h : ¬t.val % 4 = 0) : (outsAt0 m c t.val t.isLt).2.2
    = k0_pay2 (iblk m c 1 t) (outsAt0 m c (t.val - 1) (Nat.lt_of_le_of_lt (Nat.sub_le _ _) t.isLt)).2.2 (iblk m c 0 t) := by
  by_cases h1 : t.val % 4 = 3
  · by_cases h2 : t.val < 4
    · rw [outsAt0_C m c t h h1 h2 (by omega)]
      frame_out
      simp only [read_unread_whole]
    · rw [outsAt0_D m c t h h1 h2 (by omega)]
      frame_out
      simp only [read_unread_whole]
  · rw [outsAt0_B m c t h h1]
    frame_out
    simp only [read_unread_whole]

/-- The sum of products after point `t`: the shards up to the point's. -/
theorem acc_eq (c : Dev nD) (t : Fin cfg0.N) (y : S1024x1024.Idx) : (outsAt0 m c t.val t.isLt).2.2 y
    = 0 + ∑ k ∈ Finset.range (t.val % 4 + 1), ∑ n : Fin 1408, prod (m ((c : Thread nD τ).loc main_arg0)) (m ((c : Thread nD τ).loc main_arg1))
        (row (4 * (t.val / 4) + k) (y 0)) (y 1) ((4 * (t.val / 4) + k) % 4 * 1408 + n.val) := by
  refine Pipeline.eq_sum_of_reset_step_apply (fun n h => (outsAt0 m c n h).2.2) 4 (fun _ : S1024x1024.Idx => (0 : EReal))
    (fun t y => ∑ n : Fin 1408, prod (m ((c : Thread nD τ).loc main_arg0)) (m ((c : Thread nD τ).loc main_arg1)) (row t (y 0)) (y 1) (t % 4 * 1408 + n.val))
    (fun t h y => ?_) (fun t h y => (congrFun (acc_step m c t h) y).trans (step_eq m c t _ y)) t y
  beta_reduce
  rw [outsAt0_A m c t h (by omega)]
  frame_out
  refine (step_eq m c t _ y).trans ?_
  pointwise [k0_pay1]

/-- At the last shard the sum of products is whole. -/
theorem acc_last (c : Dev nD) (t : Fin cfg0.N) (h : t.val % 4 = 3) (y : S1024x1024.Idx) : (outsAt0 m c t.val t.isLt).2.2 y
    = dh (m ((c : Thread nD τ).loc main_arg0)) (m ((c : Thread nD τ).loc main_arg1)) (row t.val (y 0)) (y 1) := by
  rw [acc_eq, h, zero_add]
  exact whole 1408 rfl _ _ t.val (y 0) (y 1)

/-- The last step's row gradient, of the products' sum `A`, the rows `x`, the weights `g` and the residual's gradient `d`. -/
theorem rows_eq (A x : FVec Ideal S1024x1024 .f32) (g : FVec Ideal S1x1024 .f32) (d : FVec Ideal S1024x1024 .f32) (r j : Fin 1024) :
    k0_pay5 (F := Ideal) A x g d (ix2 r j) = byRow (fun k : Fin 1024 => x (ix2 r k)) (fun k => A (ix2 r k) * g (ix2 0 k)) (d (ix2 r j)) j := by
  pointwise [k0_pay5, k0_pay4, k0_pay3, byRow, scale, meanSquare]
  rfl

/-- The last step's part of the weights' gradient. -/
theorem part_eq (A x : FVec Ideal S1024x1024 .f32) (j : Fin 1024) :
    k0_pay6 (F := Ideal) A x (ix2 0 j) = ∑ r : Fin 1024, A (ix2 r j) * (x (ix2 r j) * scale (fun k : Fin 1024 => x (ix2 r k))) := by
  pointwise [k0_pay6, k0_pay4, k0_pay3, scale, meanSquare]
  rfl

/-- The rows' gradient at the last shard. -/
theorem rows_last (c : Dev nD) (t : Fin cfg0.N) (h : t.val % 4 = 3) (r j : Fin 1024) :
    k0_pay5 (F := Ideal) (k0_pay2 (iblk m c 1 t) (outsAt0 m c (t.val - 1) (Nat.lt_of_le_of_lt (Nat.sub_le _ _) t.isLt)).2.2 (iblk m c 0 t))
      (iblk m c 2 t) (iblk m c 3 t) (iblk m c 4 t) (ix2 r j)
    = byRow (fun k : Fin 1024 => m ((c : Thread nD τ).loc main_arg2) (ix2 (row t.val r) k))
        (fun k => dh (m ((c : Thread nD τ).loc main_arg0)) (m ((c : Thread nD τ).loc main_arg1)) (row t.val r) k * m ((c : Thread nD τ).loc main_arg3) (ix2 0 k))
        (m ((c : Thread nD τ).loc main_arg4) (ix2 (row t.val r) j)) j := by
  rw [← acc_step m c t (by omega), rows_eq]
  have e2 : ∀ k : Fin 1024, iblk m c 2 t (ix2 r k) = m ((c : Thread nD τ).loc main_arg2) (ix2 (row t.val r) k) := fun k => by
    unfold row
    blk_point [iblk, V, idx t]
    all_goals (simp only [Fin.val_ofNat]; omega)
  have e3 : ∀ k : Fin 1024, iblk m c 3 t (ix2 0 k) = m ((c : Thread nD τ).loc main_arg3) (ix2 0 k) := fun k => by
    blk_point [iblk, V, idx t]
  have e4 : iblk m c 4 t (ix2 r j) = m ((c : Thread nD τ).loc main_arg4) (ix2 (row t.val r) j) := by
    unfold row
    blk_point [iblk, V, idx t]
    all_goals (simp only [Fin.val_ofNat]; omega)
  simp only [e2, e3, e4, acc_last m c t h]
  rfl

/-- The rows' gradient, as the call leaves it after the last shard. -/
theorem out5_last (c : Dev nD) (t : Fin cfg0.N) (h : t.val % 4 = 3) (r j : Fin 1024) : (outsAt0 m c t.val t.isLt).1 (ix2 r j)
    = byRow (fun k : Fin 1024 => m ((c : Thread nD τ).loc main_arg2) (ix2 (row t.val r) k))
        (fun k => dh (m ((c : Thread nD τ).loc main_arg0)) (m ((c : Thread nD τ).loc main_arg1)) (row t.val r) k * m ((c : Thread nD τ).loc main_arg3) (ix2 0 k))
        (m ((c : Thread nD τ).loc main_arg4) (ix2 (row t.val r) j)) j := by
  refine Eq.trans ?_ (rows_last m c t h r j)
  by_cases h2 : t.val < 4
  · rw [outsAt0_C m c t (by omega) h h2 (by omega)]
    frame_out
    simp only [read_unread_whole]
  · rw [outsAt0_D m c t (by omega) h h2 (by omega)]
    frame_out
    simp only [read_unread_whole]

/-- The last step's part at the last shard. -/
theorem part_last (c : Dev nD) (t : Fin cfg0.N) (h : t.val % 4 = 3) (d : Fin 1024) :
    k0_pay6 (F := Ideal) (k0_pay2 (iblk m c 1 t) (outsAt0 m c (t.val - 1) (Nat.lt_of_le_of_lt (Nat.sub_le _ _) t.isLt)).2.2 (iblk m c 0 t))
      (iblk m c 2 t) (ix2 0 d)
    = part (m ((c : Thread nD τ).loc main_arg0)) (m ((c : Thread nD τ).loc main_arg1)) (m ((c : Thread nD τ).loc main_arg2)) t.val d := by
  rw [← acc_step m c t (by omega), part_eq]
  have e2 : ∀ r k : Fin 1024, iblk m c 2 t (ix2 r k) = m ((c : Thread nD τ).loc main_arg2) (ix2 (row t.val r) k) := fun r k => by
    unfold row
    blk_point [iblk, V, idx t]
    all_goals (simp only [Fin.val_ofNat]; omega)
  simp only [e2, acc_last m c t h]
  rfl

/-- The weights' gradient after the first block of rows. -/
theorem out6_low (c : Dev nD) (t : Fin cfg0.N) (h : 3 ≤ t.val) (h' : t.val < 7) (d : Fin 1024) : (outsAt0 m c t.val t.isLt).2.1 (ix2 0 d)
    = part (m ((c : Thread nD τ).loc main_arg0)) (m ((c : Thread nD τ).loc main_arg1)) (m ((c : Thread nD τ).loc main_arg2)) 3 d := by
  obtain ⟨n, hn⟩ := t
  induction n with
  | zero => simp at h
  | succ n ih =>
    dsimp only at h h'
    by_cases h3 : n + 1 = 3
    · refine Eq.trans ?_ ((part_last m c ⟨n + 1, hn⟩ (by dsimp only; omega) d).trans (congrArg (fun k => part _ _ _ k d) h3))
      rw [outsAt0_C m c ⟨n + 1, hn⟩ (by dsimp only; omega) (by dsimp only; omega) (by dsimp only; omega) (by dsimp only; omega)]
      frame_out
      simp only [read_unread_whole]
    · refine Eq.trans ?_ (ih (Nat.lt_of_succ_lt hn) (by dsimp only; omega) (by dsimp only; omega))
      by_cases h0 : (n + 1) % 4 = 0
      · rw [outsAt0_A m c ⟨n + 1, hn⟩ h0 (by dsimp only; omega)]
        frame_out
        rfl
      · rw [outsAt0_B m c ⟨n + 1, hn⟩ h0 (by dsimp only; omega)]
        frame_out
        rfl

/-- The weights' gradient after both blocks of rows. -/
theorem out6_last (c : Dev nD) (t : Fin cfg0.N) (h : t.val = 7) (d : Fin 1024) : (outsAt0 m c t.val t.isLt).2.1 (ix2 0 d)
    = part (m ((c : Thread nD τ).loc main_arg0)) (m ((c : Thread nD τ).loc main_arg1)) (m ((c : Thread nD τ).loc main_arg2)) 3 d
      + part (m ((c : Thread nD τ).loc main_arg0)) (m ((c : Thread nD τ).loc main_arg1)) (m ((c : Thread nD τ).loc main_arg2)) 7 d := by
  have ht : t.val - 1 < cfg0.N := Nat.lt_of_le_of_lt (Nat.sub_le _ _) t.isLt
  have e7 := (part_last m c t (by omega) d).trans (congrArg (fun k => part (m ((c : Thread nD τ).loc main_arg0)) (m ((c : Thread nD τ).loc main_arg1)) (m ((c : Thread nD τ).loc main_arg2)) k d) h)
  have e3 := out6_low m c ⟨t.val - 1, ht⟩ (by dsimp only; omega) (by dsimp only; omega) d
  refine Eq.trans ?_ (congrArg₂ (fun a b : EReal => a + b) e3 e7)
  rw [outsAt0_D m c t (by omega) (by omega) (by omega) (by omega)]
  frame_out
  simp only [read_unread_whole]
  pointwise [k0_pay7]

/-- The first result, entry by entry. -/
theorem G5_eq (c : Dev nD) (r : Fin 2048) (j : Fin 1024) : G5 m c (ix2 r j)
    = rowsGrad (m ((c : Thread nD τ).loc main_arg0)) (m ((c : Thread nD τ).loc main_arg1)) (m ((c : Thread nD τ).loc main_arg2))
        (m ((c : Thread nD τ).loc main_arg3)) (m ((c : Thread nD τ).loc main_arg4)) r j := by
  have hr := r.isLt
  have hj := j.isLt
  have hp : pt5Of (ix2 r j) < cfg0.N := lt_of_lt_of_eq (show 4 * (1 * (r.val / 1024 - 0) + 1 * (j.val / 1024 - 0)) + 3 < 8 by omega) N_0.symm
  unfold G5
  rw [dif_pos hp, ← outsAt0_sweep m c (pt5Of (ix2 r j)) hp]
  have hl : loc5Of (ix2 r j) = ix2 (⟨r.val % 1024, Nat.mod_lt _ (by decide)⟩ : Fin 1024) j := by
    funext a; apply Fin.ext
    match a with
    | ⟨0, _⟩ => rfl
    | ⟨1, _⟩ => exact Nat.mod_eq_of_lt hj
  rw [hl]
  refine (out5_last m c ⟨pt5Of (ix2 r j), hp⟩ (show (4 * (1 * (r.val / 1024 - 0) + 1 * (j.val / 1024 - 0)) + 3) % 4 = 3 by omega) _ j).trans ?_
  have hw : row (pt5Of (ix2 r j)) (⟨r.val % 1024, Nat.mod_lt _ (by decide)⟩ : Fin 1024) = r := row_of r j
  dsimp only
  rw [hw]
  rfl

/-- The second result, entry by entry. -/
theorem G6_eq (c : Dev nD) (j : Fin 1024) : G6 m c (ix2 0 j)
    = weightGrad (m ((c : Thread nD τ).loc main_arg0)) (m ((c : Thread nD τ).loc main_arg1)) (m ((c : Thread nD τ).loc main_arg2)) j := by
  rw [G6_last, ← outsAt0_sweep m c 7 (lt_of_lt_of_eq (by decide) N_0.symm)]
  exact (out6_last m c ⟨7, lt_of_lt_of_eq (by decide) N_0.symm⟩ rfl j).trans (parts_eq _ _ _ j)

end Cert.N1KernelIdeal.Value

end
-- ==== Proof.N1.Reference.lean ====
/- The reference of the norm's backward call, entry by entry. -/
module

public import proofs.«01_k».proof.Proof.Gen.N1ReferenceIdeal.Run
public import proofs.«01_k».proof.Proof.Math.NormBackward
public import Idealize.ShloMosaic.Lib.Pipeline.ValueKit

@[expose] public section

set_option maxRecDepth 16384

noncomputable section

namespace Cert.N1ReferenceIdeal.Value

open Cert.N1ReferenceIdeal Cert.N1ReferenceIdeal.Gen Idealize.ShloMosaic Idealize.ShloMosaic.TcCoe Idealize.SL.Sem StableHlo
open Cert.NormGrad Cert.NormBackward

variable (m : (ℓ : Loc nD τ sig) → Buf (Elt Ideal) ℓ)

/-- The gradient of the norm's argument. -/
theorem res_eq (c : Dev nD) (r : Fin 2048) (j : Fin 1024) : res_main_v40 m c (ix2 r j)
    = rowsRules (m ((c : Thread nD τ).loc main_arg0)) (m ((c : Thread nD τ).loc main_arg1)) (m ((c : Thread nD τ).loc main_arg2))
        (m ((c : Thread nD τ).loc main_arg3)) (m ((c : Thread nD τ).loc main_arg4)) r j := by
  unfold res_main_v40
  pointwise [rowsRules, byRules, ofMean, scale, meanSquare, dh]
  simp only [Finset.univ_unique, Finset.sum_singleton]
  rfl

/-- Every execution ends with the two gradients in the results' buffers. -/
theorem run_vals (ρ : Dev nD → PrngReg) : θ_run defs (onTc (τ := τ) (main (F := Ideal))) ⟨m, fun _ => 0, ρ⟩ fun r => ∀ c : Dev nD,
    r.2.mem ((c.tc : Thread nD τ).loc main_v40) = res_main_v40 m c
      ∧ r.2.mem ((c.tc : Thread nD τ).loc main_v41) = (fun i => weightGrad (m ((c : Thread nD τ).loc main_arg0))
          (m ((c : Thread nD τ).loc main_arg1)) (m ((c : Thread nD τ).loc main_arg2)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1,
    (h c).2.1.trans (by
      funext i
      pointwise [weightGrad, scale, meanSquare, dh]
      simp only [Finset.univ_unique, Finset.sum_singleton]
      exact Finset.sum_congr rfl fun _ _ => mul_comm _ _), (h c).2.2⟩) (run m ρ)

end Cert.N1ReferenceIdeal.Value

end
-- ==== Proof.N1.Claim.lean ====
/- The norm's backward call before the combined projection computes the derivative of reference.py's lines, where the product's
   arrays, the norm's argument and its weights are finite. -/
module

public import proofs.«01_k».proof.Defs
public import proofs.«01_k».proof.Proof.N1.Value
public import proofs.«01_k».proof.Proof.N1.Reference
public import proofs.«01_k».proof.Proof.Math.Finite
public import proofs.«01_k».proof.Proof.Gen.Pre_norm1_finite
public import Idealize.ShloMosaic.Lib.ReduceAll
public import Idealize.ShloMosaic.Lib.Claim
public import Idealize.ShloMosaic.Lib.Quiescent

@[expose] public section

set_option maxRecDepth 16384

noncomputable section

namespace Cert.N1

open Idealize.ShloMosaic Idealize.ShloMosaic.TcCoe Idealize.SL.Sem
open Cert.NormBackward Cert.Finite
open Cert.N1KernelIdeal (S2048x5632 S1024x5632 S2048x1024 S1x1024)

theorem frame_reference : Cert.quiescent_N1ReferenceIdeal := fun m ρ _ =>
  θ_run_mono (Cert.N1ReferenceIdeal.Value.run m ρ) fun r h =>
    ⟨fun c => (h c).2.2, sem_eq_zero_of_no_sems (sig := Cert.N1ReferenceIdeal.sig) (by decide) r.2⟩

/-- The precondition's arrays hold real numbers. -/
theorem finite_of_pre (df : S2048x5632.Idx → EReal) (w : S1024x5632.Idx → EReal) (x : S2048x1024.Idx → EReal) (g : S1x1024.Idx → EReal)
    (d : S2048x1024.Idx → EReal) (h : Cert.Pre_norm1_finite.fn (F := Ideal) df w x g d = fun _ => 1#1) :
    (∀ i, ∃ r : ℝ, df i = r) ∧ (∀ i, ∃ r : ℝ, w i = r) ∧ (∀ i, ∃ r : ℝ, x i = r) ∧ ∀ i, ∃ r : ℝ, g i = r := by
  have h0 := congrFun h ix0
  unfold Cert.Pre_norm1_finite.fn Cert.Pre_norm1_finite.fn_part1 at h0
  obtain ⟨habc, hg⟩ := IntOp.andi_eq_one.1 h0
  obtain ⟨hab, hx⟩ := IntOp.andi_eq_one.1 habc
  obtain ⟨ha, hw⟩ := IntOp.andi_eq_one.1 hab
  haveI : Subsingleton Cert.Pre_norm1_finite.S_.Idx := ⟨fun _ _ => funext fun a => a.elim0⟩
  exact ⟨fun i => real_of_lt (df i) (Host.reduce_andi_all _ _ _ _ _ ha i), fun i => real_of_lt (w i) (Host.reduce_andi_all _ _ _ _ _ hw i),
    fun i => real_of_lt (x i) (Host.reduce_andi_all _ _ _ _ _ hx i), fun i => real_of_lt (g i) (Host.reduce_andi_all _ _ _ _ _ hg i)⟩

theorem algebraic : Cert.algebraic_N1KernelIdeal_N1ReferenceIdeal_pre_norm1_finite := by
  pair_intro
  · run_from Cert.N1KernelIdeal.Value.run m g
  · run_from Cert.N1ReferenceIdeal.Value.run_vals m' g'
    all_goals
      obtain ⟨h0, h1, h2, h3, h4⟩ := hagree c
      have hz := finite_of_pre _ _ _ _ _ (hpre c)
      funext i
    · obtain ⟨r, j, rfl⟩ : ∃ (r : Fin 2048) (j : Fin 1024), i = ix2 r j :=
        ⟨i 0, i 1, funext fun a => by match a with | ⟨0, _⟩ => rfl | ⟨1, _⟩ => rfl⟩
      refine (Cert.N1ReferenceIdeal.Value.res_eq m' c r j).trans ?_
      rw [h0, h1, h2, h3, h4]
      exact (rows_agree _ _ _ _ _ hz r j).trans (Cert.N1KernelIdeal.Value.G5_eq m c r j).symm
    · obtain ⟨j, rfl⟩ : ∃ j : Fin 1024, i = ix2 (0 : Fin 1) j :=
        ⟨i 1, funext fun a => by match a with | ⟨0, _⟩ => exact Subsingleton.elim (α := Fin 1) _ _ | ⟨1, _⟩ => rfl⟩
      exact (Cert.N1KernelIdeal.Value.G6_eq m c j).symm

end Cert.N1

end
-- ==== Proof.Math.LossHead.lean ====
/- The arrays of the loss's call: the last norm's argument, the error, the loss and the two gradients, in the kernel's form
   and operation by operation. -/
module

public import proofs.«01_k».proof.Proof.Math.NormBackward

@[expose] public section

noncomputable section

namespace Cert.LossHead

open Idealize.ShloMosaic
open Cert.NormGrad Cert.NormBackward

/-- The share of an error in the mean's derivative, 1/1024, as the kernel writes it. -/
def share : EReal := Ideal.ofBits .f32 0x3A800000#32

/-- The loss's factor, 1/2048, as the kernel writes it. -/
def factor : EReal := Ideal.ofBits .f32 0x3A000000#32

def half : EReal := Ideal.ofBits .f32 0x3F000000#32

def two : EReal := Ideal.ofBits .f32 0x40000000#32

theorem share_eq : share = ((1 / 1024 : ℝ) : EReal) := by
  simp [share, Ideal.ofBits, Ideal.ieee, -EReal.coe_mul]; norm_num

theorem factor_eq : factor = ((1 / 2048 : ℝ) : EReal) := by
  simp [factor, Ideal.ofBits, Ideal.ieee, -EReal.coe_mul]; norm_num

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- A matrix by its columns. -/
def byCols (w : Mat 4096 1024) : Mat 1024 4096 := fun i => w (ix2 (i 1) (i 0))

/-- The last norm's argument: the channel mixer's product added to the residual stream. -/
def arg (s : Mat 2048 4096) (w : Mat 4096 1024) (x1 : Mat 2048 1024) (r : Fin 2048) (k : Fin 1024) : EReal :=
  x1 (ix2 r k) + dh s (byCols w) r k

variable (X : Fin 2048 → Fin 1024 → EReal) (t : Mat 2048 1024) (g : Mat 1 1024)

/-- The error of an entry. -/
def err (r : Fin 2048) (k : Fin 1024) : EReal := X r k * scale (X r) * g (ix2 0 k) - t (ix2 r k)

/-- The gradient of the norm's argument, in the form with the normalised row. -/
def rows (r : Fin 2048) (j : Fin 1024) : EReal := byRow (X r) (fun k => err X t g r k * share * g (ix2 0 k)) 0 j

/-- The derivative of the loss by an entry of the norm's result, operation by operation. -/
def lossSlope (r : Fin 2048) (k : Fin 1024) : EReal := Ideal.div (half * 1) width * (two * err X t g r k)

/-- The gradient of the norm's argument, operation by operation. -/
def rowsOps (r : Fin 2048) (j : Fin 1024) : EReal := byRules (X r) (fun k => lossSlope X t g r k * g (ix2 0 k)) 0 j

/-- The gradient of the norm's weights. -/
def weights (j : Fin 1024) : EReal := ∑ r : Fin 2048, err X t g r j * share * (X r j * scale (X r))

/-- The gradient of the norm's weights, operation by operation. -/
def weightsOps (j : Fin 1024) : EReal := ∑ r : Fin 2048, X r j * scale (X r) * lossSlope X t g r j

/-- The squared errors of a row. -/
def squares (r : Fin 2048) : EReal := ∑ k : Fin 1024, err X t g r k * err X t g r k

/-- The loss as the mean over each row gives it. -/
def lossOps : EReal := half * ∑ r : Fin 2048, Ideal.div (squares X t g r) width

/-- One block of rows' part of the weights' gradient. -/
def weightsPart (n : ℕ) (j : Fin 1024) : EReal :=
  ∑ r : Fin 1024, err X t g (row n r) j * share * (X (row n r) j * scale (X (row n r)))

/-- One block of rows' part of the loss. -/
def lossPart (n : ℕ) : EReal := factor * ∑ r : Fin 1024, squares X t g (row n r)

/-- A sum over both blocks of rows is a sum over all rows. -/
theorem blocks {M : Type} [AddCommMonoid M] (F : Fin 2048 → M) :
    ∑ r : Fin 1024, F (row 3 r) + ∑ r : Fin 1024, F (row 7 r) = ∑ r : Fin 2048, F r := by
  refine Eq.trans ?_ (Fin.sum_univ_add (a := 1024) (b := 1024) F).symm
  refine congrArg₂ (fun a b : M => a + b) (Finset.sum_congr rfl fun r _ => congrArg F (Fin.ext ?_)) (Finset.sum_congr rfl fun r _ => congrArg F (Fin.ext ?_))
  · have := r.isLt
    simp only [row, Fin.val_ofNat, Fin.val_castAdd]
    omega
  · have := r.isLt
    simp only [row, Fin.val_ofNat, Fin.val_natAdd]
    omega

theorem weights_blocks (j : Fin 1024) : weightsPart X t g 3 j + weightsPart X t g 7 j = weights X t g j :=
  blocks fun r => err X t g r j * share * (X r j * scale (X r))

/-- The two forms of the loss's derivative by the norm's result agree everywhere. -/
theorem lossSlope_eq (r : Fin 2048) (k : Fin 1024) : lossSlope X t g r k = err X t g r k * share := by
  have hw : ∀ z : EReal, Ideal.div z ((1024 : ℝ) : EReal) = z * ((1 / 1024 : ℝ) : EReal) := Ideal.div_coe (by norm_num : (1024 : ℝ) ≠ 0)
  unfold lossSlope
  rw [width_eq, half_eq, two_eq, share_eq, mul_one, hw, ← EReal.coe_mul, ← mul_assoc, ← EReal.coe_mul, mul_comm]
  norm_num

theorem weightsOps_eq (j : Fin 1024) : weightsOps X t g j = weights X t g j := by
  unfold weightsOps weights
  exact Finset.sum_congr rfl fun r _ => by rw [lossSlope_eq, mul_comm]

variable {X t g}

/-- The factor that normalises a row of real numbers is a real number. -/
theorem scale_real {x : Fin 1024 → EReal} (hx : ∀ k, ∃ r : ℝ, x k = r) : ∃ r : ℝ, scale x = r := by
  choose a ha using hx
  obtain ⟨e, he, hee⟩ := eps_pos
  have hw : ∀ z : EReal, Ideal.div z ((1024 : ℝ) : EReal) = z * ((1 / 1024 : ℝ) : EReal) := Ideal.div_coe (by norm_num : (1024 : ℝ) ≠ 0)
  have hV : meanSquare x = (((∑ k, a k * a k) * (1 / 1024) + e : ℝ) : EReal) := by
    unfold meanSquare
    rw [width_eq, hw, hee]
    simp only [ha, ← EReal.coe_mul, ← Cert.Softmax.coe_sum, ← EReal.coe_add]
  have hpos : 0 < (∑ k, a k * a k) * (1 / 1024) + e :=
    add_pos_of_nonneg_of_pos (mul_nonneg (Finset.sum_nonneg fun k _ => mul_self_nonneg _) (by norm_num)) he
  unfold scale
  rw [hV, Ideal.rsqrt_coe, if_neg (not_lt.mpr hpos.le), if_neg hpos.ne']
  exact ⟨_, rfl⟩

variable (hX : ∀ r k, ∃ z : ℝ, X r k = z) (ht : ∀ i, ∃ z : ℝ, t i = z) (hg : ∀ i, ∃ z : ℝ, g i = z)
include hX ht hg

theorem err_real (r : Fin 2048) (k : Fin 1024) : ∃ z : ℝ, err X t g r k = z := by
  obtain ⟨a, ha⟩ := Cert.Finite.real_mul (Cert.Finite.real_mul (hX r k) (scale_real (hX r))) (hg (ix2 0 k))
  obtain ⟨b, hb⟩ := ht (ix2 r k)
  exact ⟨a - b, by unfold err; rw [ha, hb, EReal.coe_sub]⟩

theorem rowsOps_eq (r : Fin 2048) (j : Fin 1024) : rowsOps X t g r j = rows X t g r j := by
  unfold rowsOps rows
  simp only [lossSlope_eq]
  exact byRules_eq _ _ _ _ (hX r) fun k => Cert.Finite.real_mul (Cert.Finite.real_mul (err_real hX ht hg r k) ⟨_, share_eq⟩) (hg _)

/-- The two forms of the loss agree. -/
theorem loss_eq : lossPart X t g 3 + lossPart X t g 7 = lossOps X t g := by
  have hf : ∀ r, ∃ z : ℝ, squares X t g r = z := fun r =>
    Cert.Finite.real_sum _ _ fun k => Cert.Finite.real_mul (err_real hX ht hg r k) (err_real hX ht hg r k)
  choose f hf using hf
  have hw : ∀ z : EReal, Ideal.div z ((1024 : ℝ) : EReal) = z * ((1 / 1024 : ℝ) : EReal) := Ideal.div_coe (by norm_num : (1024 : ℝ) ≠ 0)
  unfold lossPart lossOps
  rw [width_eq, half_eq, factor_eq]
  simp only [hw, hf, ← EReal.coe_mul, ← Cert.Softmax.coe_sum, ← EReal.coe_add]
  rw [← mul_add, blocks f, ← Finset.sum_mul]
  refine congrArg (fun z : ℝ => (z : EReal)) ?_
  ring

end Cert.LossHead

end
-- ==== Proof.Lo.Value.lean ====
/- The four results of the loss's call, as functions of the arguments: the loss, the gradient of the last norm's argument
   (twice, once in the short format) and that of its weights. -/
module

public import proofs.«01_k».proof.Proof.Gen.LoKernelIdeal.Value
public import proofs.«01_k».proof.Proof.Math.LossHead
public import Idealize.ShloMosaic.Lib.Pipeline.ValueKit
public import Idealize.ShloMosaic.Lib.Pipeline.ReadBack

@[expose] public section

set_option maxRecDepth 16384

noncomputable section

namespace Cert.LoKernelIdeal.Value

open Cert.LoKernelIdeal Cert.LoKernelIdeal.Gen
open Idealize.ShloMosaic Idealize.ShloMosaic.TcCoe Idealize.SL.Sem
open Cert.NormGrad Cert.NormBackward Cert.LossHead

variable (m : (ℓ : Loc nD τ sig) → Buf (Elt Ideal) ℓ) (ρ : Dev nD → PrngReg)

/-- The index facts of the windows. -/
theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![0, 0]
    ∧ win0_5.index t = ![0, 0] ∧ win0_6.index t = ![t.val / 4, 0] ∧ win0_7.index t = ![t.val / 4, 0] ∧ win0_8.index t = ![0, 0] :=
  (by decide +kernel : ∀ t : Fin grid0.N, _)

/-- What point `t` adds to the sum of products. -/
theorem step_eq (c : Dev nD) (t : Fin cfg0.N) (acc : Vec Ideal S1024x1024 .f32) (y : S1024x1024.Idx) :
    k0_pay2 (iblk m c 1 t) acc (iblk m c 0 t) y = acc y + ∑ n : Fin 1024,
      prod (m ((c : Thread nD τ).loc main_arg0)) (byCols (m ((c : Thread nD τ).loc main_arg1))) (row t.val (y 0)) (y 1) (t.val % 4 * 1024 + n.val) := by
  pointwise [k0_pay2]
  refine congrArg (fun z : EReal => acc y + z) (Finset.sum_congr rfl fun n _ => ?_)
  unfold prod row byCols
  blk_point [iblk, idx t]
  all_goals (simp only [Fin.val_ofNat]; omega)

/-- The sum of products before the last step reads it, after a point that is not the first of its block of rows. -/
theorem acc_step (c : Dev nD) (t : Fin cfg0.N) (h : ¬t.val % 4 = 0) : (outsAt0 m c t.val t.isLt).2.2.2.2
    = k0_pay2 (iblk m c 1 t) (outsAt0 m c (t.val - 1) (Nat.lt_of_le_of_lt (Nat.sub_le _ _) t.isLt)).2.2.2.2 (iblk m c 0 t) := by
  by_cases h1 : t.val % 4 = 3
  · by_cases h2 : t.val < 4
    · rw [outsAt0_C m c t h h1 h2 (by omega)]
      frame_out
      simp only [read_unread_whole]
    · rw [outsAt0_D m c t h h1 h2 (by omega)]
      frame_out
      simp only [read_unread_whole]
  · rw [outsAt0_B m c t h h1]
    frame_out
    simp only [read_unread_whole]

/-- The sum of products after point `t`: the shards up to the point's. -/
theorem acc_eq (c : Dev nD) (t : Fin cfg0.N) (y : S1024x1024.Idx) : (outsAt0 m c t.val t.isLt).2.2.2.2 y
    = 0 + ∑ k ∈ Finset.range (t.val % 4 + 1), ∑ n : Fin 1024, prod (m ((c : Thread nD τ).loc main_arg0)) (byCols (m ((c : Thread nD τ).loc main_arg1)))
        (row (4 * (t.val / 4) + k) (y 0)) (y 1) ((4 * (t.val / 4) + k) % 4 * 1024 + n.val) := by
  refine Pipeline.eq_sum_of_reset_step_apply (fun n h => (outsAt0 m c n h).2.2.2.2) 4 (fun _ : S1024x1024.Idx => (0 : EReal))
    (fun t y => ∑ n : Fin 1024, prod (m ((c : Thread nD τ).loc main_arg0)) (byCols (m ((c : Thread nD τ).loc main_arg1))) (row t (y 0)) (y 1) (t % 4 * 1024 + n.val))
    (fun t h y => ?_) (fun t h y => (congrFun (acc_step m c t h) y).trans (step_eq m c t _ y)) t y
  beta_reduce
  rw [outsAt0_A m c t h (by omega)]
  frame_out
  refine (step_eq m c t _ y).trans ?_
  pointwise [k0_pay1]

/-- At the last shard the sum of products is whole. -/
theorem acc_last (c : Dev nD) (t : Fin cfg0.N) (h : t.val % 4 = 3) (y : S1024x1024.Idx) : (outsAt0 m c t.val t.isLt).2.2.2.2 y
    = dh (m ((c : Thread nD τ).loc main_arg0)) (byCols (m ((c : Thread nD τ).loc main_arg1))) (row t.val (y 0)) (y 1) := by
  rw [acc_eq, h, zero_add]
  exact whole 1024 rfl _ _ t.val (y 0) (y 1)

/-- What the last step reads at point `t`: the products' sum. -/
abbrev sumAt (c : Dev nD) (t : Fin cfg0.N) : FVec Ideal S1024x1024 .f32 :=
  k0_pay2 (iblk m c 1 t) (outsAt0 m c (t.val - 1) (Nat.lt_of_le_of_lt (Nat.sub_le _ _) t.isLt)).2.2.2.2 (iblk m c 0 t)

/-- The target's block. -/
theorem target_at (c : Dev nD) (t : Fin cfg0.N) (r k : Fin 1024) :
    iblk m c 3 t (ix2 r k) = m ((c : Thread nD τ).loc main_arg3) (ix2 (row t.val r) k) := by
  unfold row
  blk_point [iblk, V, idx t]
  all_goals (simp only [Fin.val_ofNat]; omega)

/-- The norm's weights. -/
theorem weight_at (c : Dev nD) (t : Fin cfg0.N) (k : Fin 1024) :
    iblk m c 4 t (ix2 0 k) = m ((c : Thread nD τ).loc main_arg4) (ix2 0 k) := by
  blk_point [iblk, V, idx t]

variable (A x t : FVec Ideal S1024x1024 .f32) (g : FVec Ideal S1x1024 .f32)

/-- A block's row of the norm's argument, of the products' sum `A` and the residual rows `x`. -/
def rowOf (r : Fin 1024) (k : Fin 1024) : EReal := x (ix2 r k) + A (ix2 r k)

/-- A block's error. -/
def errOf (r : Fin 1024) (k : Fin 1024) : EReal := rowOf A x r k * scale (rowOf A x r) * g (ix2 0 k) - t (ix2 r k)

theorem pay_rows (r j : Fin 1024) : k0_pay11 (F := Ideal) A x g t (ix2 r j)
    = byRow (rowOf A x r) (fun k => errOf A x t g r k * share * g (ix2 0 k)) 0 j := by
  unfold byRow
  rw [zero_add]
  pointwise [k0_pay11, k0_pay10, k0_pay9, k0_pay8, k0_pay7, k0_pay6, errOf, scale, meanSquare, rowOf]
  rfl

theorem pay_weights (j : Fin 1024) : k0_pay13 (F := Ideal) A x g t (ix2 0 j)
    = ∑ r : Fin 1024, errOf A x t g r j * share * (rowOf A x r j * scale (rowOf A x r)) := by
  pointwise [k0_pay13, k0_pay10, k0_pay9, k0_pay8, k0_pay7, k0_pay6, errOf, scale, meanSquare, rowOf]
  rfl

theorem pay_loss : k0_pay3 (F := Ideal) (k0_pay14 A x g t) (ix2 0 0)
    = factor * ∑ r : Fin 1024, ∑ k : Fin 1024, errOf A x t g r k * errOf A x t g r k := by
  pointwise [k0_pay3, k0_pay14, k0_pay9, k0_pay8, k0_pay7, k0_pay6, errOf, scale, meanSquare, rowOf]
  rfl

/-- The norm's argument at the last shard. -/
theorem arg_last (c : Dev nD) (t : Fin cfg0.N) (h : t.val % 4 = 3) (r k : Fin 1024) :
    rowOf (sumAt m c t) (iblk m c 2 t) r k = arg (m ((c : Thread nD τ).loc main_arg0)) (m ((c : Thread nD τ).loc main_arg1)) (m ((c : Thread nD τ).loc main_arg2)) (row t.val r) k := by
  have e : iblk m c 2 t (ix2 r k) = m ((c : Thread nD τ).loc main_arg2) (ix2 (row t.val r) k) := by
    unfold row
    blk_point [iblk, V, idx t]
    all_goals (simp only [Fin.val_ofNat]; omega)
  unfold rowOf sumAt
  rw [← acc_step m c t (by omega), acc_last m c t h, e]
  rfl

/-- The block's row is the array's. -/
theorem rowOf_last (c : Dev nD) (t : Fin cfg0.N) (h : t.val % 4 = 3) (r : Fin 1024) :
    rowOf (sumAt m c t) (iblk m c 2 t) r = (arg (m ((c : Thread nD τ).loc main_arg0)) (m ((c : Thread nD τ).loc main_arg1)) (m ((c : Thread nD τ).loc main_arg2))) (row t.val r) := funext fun k => arg_last m c t h r k

/-- The block's error is the array's. -/
theorem errOf_last (c : Dev nD) (t : Fin cfg0.N) (h : t.val % 4 = 3) (r k : Fin 1024) :
    errOf (sumAt m c t) (iblk m c 2 t) (iblk m c 3 t) (iblk m c 4 t) r k = err (arg (m ((c : Thread nD τ).loc main_arg0)) (m ((c : Thread nD τ).loc main_arg1)) (m ((c : Thread nD τ).loc main_arg2))) (m ((c : Thread nD τ).loc main_arg3)) (m ((c : Thread nD τ).loc main_arg4)) (row t.val r) k := by
  unfold errOf err
  rw [rowOf_last m c t h, target_at, weight_at]

/-- The rows' gradient at the last shard. -/
theorem rows_last (c : Dev nD) (t : Fin cfg0.N) (h : t.val % 4 = 3) (r j : Fin 1024) :
    k0_pay11 (F := Ideal) (sumAt m c t) (iblk m c 2 t) (iblk m c 4 t) (iblk m c 3 t) (ix2 r j) = rows (arg (m ((c : Thread nD τ).loc main_arg0)) (m ((c : Thread nD τ).loc main_arg1)) (m ((c : Thread nD τ).loc main_arg2))) (m ((c : Thread nD τ).loc main_arg3)) (m ((c : Thread nD τ).loc main_arg4)) (row t.val r) j := by
  rw [pay_rows, rowOf_last m c t h]
  simp only [errOf_last m c t h, weight_at]
  rfl

/-- The last step's part of the weights' gradient. -/
theorem weights_last (c : Dev nD) (t : Fin cfg0.N) (h : t.val % 4 = 3) (j : Fin 1024) :
    k0_pay13 (F := Ideal) (sumAt m c t) (iblk m c 2 t) (iblk m c 4 t) (iblk m c 3 t) (ix2 0 j) = weightsPart (arg (m ((c : Thread nD τ).loc main_arg0)) (m ((c : Thread nD τ).loc main_arg1)) (m ((c : Thread nD τ).loc main_arg2))) (m ((c : Thread nD τ).loc main_arg3)) (m ((c : Thread nD τ).loc main_arg4)) t.val j := by
  rw [pay_weights]
  simp only [errOf_last m c t h, rowOf_last m c t h]
  rfl

/-- The last step's part of the loss. -/
theorem loss_last (c : Dev nD) (t : Fin cfg0.N) (h : t.val % 4 = 3) :
    k0_pay3 (F := Ideal) (k0_pay14 (sumAt m c t) (iblk m c 2 t) (iblk m c 4 t) (iblk m c 3 t)) (ix2 0 0) = lossPart (arg (m ((c : Thread nD τ).loc main_arg0)) (m ((c : Thread nD τ).loc main_arg1)) (m ((c : Thread nD τ).loc main_arg2))) (m ((c : Thread nD τ).loc main_arg3)) (m ((c : Thread nD τ).loc main_arg4)) t.val := by
  rw [pay_loss]
  simp only [errOf_last m c t h]
  rfl

/-- The rows' gradient, as the call leaves it after the last shard. -/
theorem out6_last (c : Dev nD) (t : Fin cfg0.N) (h : t.val % 4 = 3) (r j : Fin 1024) : (outsAt0 m c t.val t.isLt).2.1 (ix2 r j)
    = rows (arg (m ((c : Thread nD τ).loc main_arg0)) (m ((c : Thread nD τ).loc main_arg1)) (m ((c : Thread nD τ).loc main_arg2))) (m ((c : Thread nD τ).loc main_arg3)) (m ((c : Thread nD τ).loc main_arg4)) (row t.val r) j := by
  refine Eq.trans ?_ (rows_last m c t h r j)
  by_cases h2 : t.val < 4
  · rw [outsAt0_C m c t (by omega) h h2 (by omega)]
    frame_out
    simp only [read_unread_whole]
  · rw [outsAt0_D m c t (by omega) h h2 (by omega)]
    frame_out
    simp only [read_unread_whole]

/-- The same in the short format. -/
theorem out7_last (c : Dev nD) (t : Fin cfg0.N) (h : t.val % 4 = 3) (r j : Fin 1024) : (outsAt0 m c t.val t.isLt).2.2.1 (ix2 r j)
    = rows (arg (m ((c : Thread nD τ).loc main_arg0)) (m ((c : Thread nD τ).loc main_arg1)) (m ((c : Thread nD τ).loc main_arg2))) (m ((c : Thread nD τ).loc main_arg3)) (m ((c : Thread nD τ).loc main_arg4)) (row t.val r) j := by
  refine Eq.trans ?_ (rows_last m c t h r j)
  by_cases h2 : t.val < 4
  · rw [outsAt0_C m c t (by omega) h h2 (by omega)]
    frame_out
    simp only [read_unread_whole]
    rfl
  · rw [outsAt0_D m c t (by omega) h h2 (by omega)]
    frame_out
    simp only [read_unread_whole]
    rfl

/-- Between the two blocks of rows the loss and the weights' gradient stay as the first block left them. -/
theorem kept (c : Dev nD) (n : ℕ) (hn : n + 1 < cfg0.N) (h : ¬(n + 1) % 4 = 3) :
    (outsAt0 m c (n + 1) hn).1 = (outsAt0 m c n (Nat.lt_of_succ_lt hn)).1
    ∧ (outsAt0 m c (n + 1) hn).2.2.2.1 = (outsAt0 m c n (Nat.lt_of_succ_lt hn)).2.2.2.1 := by
  by_cases h0 : (n + 1) % 4 = 0
  · rw [outsAt0_A m c ⟨n + 1, hn⟩ h0 h]
    constructor <;> (frame_out; rfl)
  · rw [outsAt0_B m c ⟨n + 1, hn⟩ h0 h]
    constructor <;> (frame_out; rfl)

/-- After the first block of rows, up to the second's last point. -/
theorem low (c : Dev nD) (n : ℕ) (hn : n < cfg0.N) (h : 3 ≤ n) (h' : n < 7) :
    (outsAt0 m c n hn).1 (ix2 0 0) = lossPart (arg (m ((c : Thread nD τ).loc main_arg0)) (m ((c : Thread nD τ).loc main_arg1)) (m ((c : Thread nD τ).loc main_arg2))) (m ((c : Thread nD τ).loc main_arg3)) (m ((c : Thread nD τ).loc main_arg4)) 3
    ∧ ∀ d : Fin 1024, (outsAt0 m c n hn).2.2.2.1 (ix2 0 d) = weightsPart (arg (m ((c : Thread nD τ).loc main_arg0)) (m ((c : Thread nD τ).loc main_arg1)) (m ((c : Thread nD τ).loc main_arg2))) (m ((c : Thread nD τ).loc main_arg3)) (m ((c : Thread nD τ).loc main_arg4)) 3 d := by
  induction n, h using Nat.le_induction with
  | base =>
    have e := outsAt0_C m c ⟨3, hn⟩ (by dsimp only; omega) (by dsimp only) (by dsimp only; omega) (by dsimp only; omega)
    dsimp only at e
    refine ⟨Eq.trans ?_ (loss_last m c ⟨3, hn⟩ rfl), fun d => Eq.trans ?_ (weights_last m c ⟨3, hn⟩ rfl d)⟩
    · rw [e]
      frame_out
      simp only [read_unread_whole]
    · rw [e]
      frame_out
      simp only [read_unread_whole]
  | succ n hle ih =>
    obtain ⟨e1, e2⟩ := kept m c n hn (by omega)
    rw [e1, e2]
    exact ih (Nat.lt_of_succ_lt hn) (by omega)

/-- The second block's loss is added to the first's. -/
theorem add_loss (e : FVec Ideal S1024x1024 .f32) (v : Vec Ideal S1x1 .f32) :
    k0_pay5 (F := Ideal) e v (ix2 0 0) = v (ix2 0 0) + k0_pay3 (F := Ideal) e (ix2 0 0) := by
  unfold k0_pay5
  generalize k0_pay3 (F := Ideal) e = p
  pointwise []

/-- The second block's part of the weights' gradient is added to the first's. -/
theorem add_weights (p : FVec Ideal S1x1024 .f32) (v : Vec Ideal S1x1024 .f32) (d : Fin 1024) :
    k0_pay4 (F := Ideal) p v (ix2 0 d) = v (ix2 0 d) + p (ix2 0 d) := by
  pointwise [k0_pay4]

/-- After both blocks of rows. -/
theorem high (c : Dev nD) (hn : 7 < cfg0.N) : (outsAt0 m c 7 hn).1 (ix2 0 0) = lossPart (arg (m ((c : Thread nD τ).loc main_arg0)) (m ((c : Thread nD τ).loc main_arg1)) (m ((c : Thread nD τ).loc main_arg2))) (m ((c : Thread nD τ).loc main_arg3)) (m ((c : Thread nD τ).loc main_arg4)) 3 + lossPart (arg (m ((c : Thread nD τ).loc main_arg0)) (m ((c : Thread nD τ).loc main_arg1)) (m ((c : Thread nD τ).loc main_arg2))) (m ((c : Thread nD τ).loc main_arg3)) (m ((c : Thread nD τ).loc main_arg4)) 7
    ∧ ∀ d : Fin 1024, (outsAt0 m c 7 hn).2.2.2.1 (ix2 0 d) = weightsPart (arg (m ((c : Thread nD τ).loc main_arg0)) (m ((c : Thread nD τ).loc main_arg1)) (m ((c : Thread nD τ).loc main_arg2))) (m ((c : Thread nD τ).loc main_arg3)) (m ((c : Thread nD τ).loc main_arg4)) 3 d + weightsPart (arg (m ((c : Thread nD τ).loc main_arg0)) (m ((c : Thread nD τ).loc main_arg1)) (m ((c : Thread nD τ).loc main_arg2))) (m ((c : Thread nD τ).loc main_arg3)) (m ((c : Thread nD τ).loc main_arg4)) 7 d := by
  obtain ⟨p1, p2⟩ := low m c 6 (Nat.lt_of_succ_lt hn) (by decide) (by decide)
  have e := outsAt0_D m c ⟨7, hn⟩ (by dsimp only; omega) (by dsimp only) (by dsimp only; omega) (by dsimp only; omega)
  dsimp only at e
  refine ⟨Eq.trans ?_ (congrArg₂ (fun a b : EReal => a + b) p1 (loss_last m c ⟨7, hn⟩ (by dsimp only))),
    fun d => Eq.trans ?_ (congrArg₂ (fun a b : EReal => a + b) (p2 d) (weights_last m c ⟨7, hn⟩ (by dsimp only) d))⟩
  · rw [e]
    frame_out
    simp only [read_unread_whole]
    exact add_loss _ _
  · rw [e]
    frame_out
    simp only [read_unread_whole]
    exact add_weights _ _ d

/-- The loss. -/
theorem G5_eq (c : Dev nD) : G5 m c (ix2 0 0) = lossPart (arg (m ((c : Thread nD τ).loc main_arg0)) (m ((c : Thread nD τ).loc main_arg1)) (m ((c : Thread nD τ).loc main_arg2))) (m ((c : Thread nD τ).loc main_arg3)) (m ((c : Thread nD τ).loc main_arg4)) 3 + lossPart (arg (m ((c : Thread nD τ).loc main_arg0)) (m ((c : Thread nD τ).loc main_arg1)) (m ((c : Thread nD τ).loc main_arg2))) (m ((c : Thread nD τ).loc main_arg3)) (m ((c : Thread nD τ).loc main_arg4)) 7 := by
  rw [G5_last, ← outsAt0_sweep m c 7 (lt_of_lt_of_eq (by decide) N_0.symm)]
  exact (high m c _).1

/-- The gradient of the norm's argument, entry by entry. -/
theorem G6_eq (c : Dev nD) (r : Fin 2048) (j : Fin 1024) : G6 m c (ix2 r j) = rows (arg (m ((c : Thread nD τ).loc main_arg0)) (m ((c : Thread nD τ).loc main_arg1)) (m ((c : Thread nD τ).loc main_arg2))) (m ((c : Thread nD τ).loc main_arg3)) (m ((c : Thread nD τ).loc main_arg4)) r j := by
  have hr := r.isLt
  have hj := j.isLt
  have hp : pt6Of (ix2 r j) < cfg0.N := lt_of_lt_of_eq (show 4 * (1 * (r.val / 1024 - 0) + 1 * (j.val / 1024 - 0)) + 3 < 8 by omega) N_0.symm
  unfold G6
  rw [dif_pos hp, ← outsAt0_sweep m c (pt6Of (ix2 r j)) hp]
  have hl : loc6Of (ix2 r j) = ix2 (⟨r.val % 1024, Nat.mod_lt _ (by decide)⟩ : Fin 1024) j := by
    funext a; apply Fin.ext
    match a with
    | ⟨0, _⟩ => rfl
    | ⟨1, _⟩ => exact Nat.mod_eq_of_lt hj
  rw [hl]
  refine (out6_last m c ⟨pt6Of (ix2 r j), hp⟩ (show (4 * (1 * (r.val / 1024 - 0) + 1 * (j.val / 1024 - 0)) + 3) % 4 = 3 by omega) _ j).trans ?_
  have hw : row (pt6Of (ix2 r j)) (⟨r.val % 1024, Nat.mod_lt _ (by decide)⟩ : Fin 1024) = r := row_of r j
  dsimp only
  rw [hw]

/-- The same in the short format. -/
theorem G7_eq (c : Dev nD) (r : Fin 2048) (j : Fin 1024) : G7 m c (ix2 r j) = rows (arg (m ((c : Thread nD τ).loc main_arg0)) (m ((c : Thread nD τ).loc main_arg1)) (m ((c : Thread nD τ).loc main_arg2))) (m ((c : Thread nD τ).loc main_arg3)) (m ((c : Thread nD τ).loc main_arg4)) r j := by
  have hr := r.isLt
  have hj := j.isLt
  have hp : pt7Of (ix2 r j) < cfg0.N := lt_of_lt_of_eq (show 4 * (1 * (r.val / 1024 - 0) + 1 * (j.val / 1024 - 0)) + 3 < 8 by omega) N_0.symm
  unfold G7
  rw [dif_pos hp, ← outsAt0_sweep m c (pt7Of (ix2 r j)) hp]
  have hl : loc7Of (ix2 r j) = ix2 (⟨r.val % 1024, Nat.mod_lt _ (by decide)⟩ : Fin 1024) j := by
    funext a; apply Fin.ext
    match a with
    | ⟨0, _⟩ => rfl
    | ⟨1, _⟩ => exact Nat.mod_eq_of_lt hj
  rw [hl]
  refine (out7_last m c ⟨pt7Of (ix2 r j), hp⟩ (show (4 * (1 * (r.val / 1024 - 0) + 1 * (j.val / 1024 - 0)) + 3) % 4 = 3 by omega) _ j).trans ?_
  have hw : row (pt7Of (ix2 r j)) (⟨r.val % 1024, Nat.mod_lt _ (by decide)⟩ : Fin 1024) = r := row_of r j
  dsimp only
  rw [hw]

/-- The gradient of the norm's weights, entry by entry. -/
theorem G8_eq (c : Dev nD) (j : Fin 1024) : G8 m c (ix2 0 j) = weights (arg (m ((c : Thread nD τ).loc main_arg0)) (m ((c : Thread nD τ).loc main_arg1)) (m ((c : Thread nD τ).loc main_arg2))) (m ((c : Thread nD τ).loc main_arg3)) (m ((c : Thread nD τ).loc main_arg4)) j := by
  rw [G8_last, ← outsAt0_sweep m c 7 (lt_of_lt_of_eq (by decide) N_0.symm)]
  exact ((high m c _).2 j).trans (weights_blocks _ _ _ j)

end Cert.LoKernelIdeal.Value

end
-- ==== Proof.Lo.Reference.lean ====
/- The reference of the loss's call, entry by entry. -/
module

public import proofs.«01_k».proof.Proof.Gen.LoReferenceIdeal.Run
public import proofs.«01_k».proof.Proof.Math.LossHead
public import Idealize.ShloMosaic.Lib.Pipeline.ValueKit

@[expose] public section

set_option maxRecDepth 16384

noncomputable section

namespace Cert.LoReferenceIdeal.Value

open Cert.LoReferenceIdeal Cert.LoReferenceIdeal.Gen Idealize.ShloMosaic Idealize.ShloMosaic.TcCoe Idealize.SL.Sem StableHlo
open Cert.NormGrad Cert.NormBackward Cert.LossHead

variable (m : (ℓ : Loc nD τ sig) → Buf (Elt Ideal) ℓ)

set_option maxHeartbeats 4000000 in
/-- The gradient of the norm's argument. -/
theorem res_eq (c : Dev nD) (r : Fin 2048) (j : Fin 1024) : res_main_v54 m c (ix2 r j) = rowsOps (arg (m ((c : Thread nD τ).loc main_arg0)) (m ((c : Thread nD τ).loc main_arg1)) (m ((c : Thread nD τ).loc main_arg2))) (m ((c : Thread nD τ).loc main_arg3)) (m ((c : Thread nD τ).loc main_arg4)) r j := by
  unfold rowsOps byRules
  rw [zero_add]
  unfold res_main_v54
  pointwise [ofMean, lossSlope, err, scale, meanSquare, arg, dh, byCols]
  simp only [Finset.univ_unique, Finset.sum_singleton]
  rfl

set_option maxHeartbeats 4000000 in
/-- Every execution ends with the loss and the three gradients in the results' buffers. -/
theorem run_vals (ρ : Dev nD → PrngReg) : θ_run defs (onTc (τ := τ) (main (F := Ideal))) ⟨m, fun _ => 0, ρ⟩ fun r => ∀ c : Dev nD,
    r.2.mem ((c.tc : Thread nD τ).loc main_v56) = (fun _ => lossOps (arg (m ((c : Thread nD τ).loc main_arg0)) (m ((c : Thread nD τ).loc main_arg1)) (m ((c : Thread nD τ).loc main_arg2))) (m ((c : Thread nD τ).loc main_arg3)) (m ((c : Thread nD τ).loc main_arg4)))
      ∧ r.2.mem ((c.tc : Thread nD τ).loc main_v54) = res_main_v54 m c
      ∧ r.2.mem ((c.tc : Thread nD τ).loc main_v57) = (fun i => res_main_v54 m c i)
      ∧ r.2.mem ((c.tc : Thread nD τ).loc main_v55) = (fun i => weightsOps (arg (m ((c : Thread nD τ).loc main_arg0)) (m ((c : Thread nD τ).loc main_arg1)) (m ((c : Thread nD τ).loc main_arg2))) (m ((c : Thread nD τ).loc main_arg3)) (m ((c : Thread nD τ).loc main_arg4)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      funext i
      pointwise [lossOps, squares, err, scale, meanSquare, arg, dh, byCols]
      rfl), (h c).2.1, (h c).2.2.1.trans (by unfold res_main_v57 res_main_v54; rfl),
    (h c).2.2.2.1.trans (by
      funext i
      obtain ⟨j, rfl⟩ : ∃ j : Fin 1024, i = ix2 (0 : Fin 1) j :=
        ⟨i 1, funext fun a => by match a with | ⟨0, _⟩ => exact Subsingleton.elim (α := Fin 1) _ _ | ⟨1, _⟩ => rfl⟩
      pointwise [weightsOps, lossSlope, err, scale, meanSquare, arg, dh, byCols]
      simp only [Finset.univ_unique, Finset.sum_singleton]
      rfl), (h c).2.2.2.2⟩) (run m ρ)

end Cert.LoReferenceIdeal.Value

end
-- ==== Proof.Lo.Claim.lean ====
module

public import proofs.«01_k».proof.Defs
public import proofs.«01_k».proof.Proof.Lo.Value
public import proofs.«01_k».proof.Proof.Lo.Reference
public import proofs.«01_k».proof.Proof.Gen.Pre_loss_finite
public import Idealize.ShloMosaic.Lib.ReduceAll
public import Idealize.ShloMosaic.Lib.Claim
public import Idealize.ShloMosaic.Lib.Quiescent

@[expose] public section

set_option maxRecDepth 16384

noncomputable section

namespace Cert.Lo

open Idealize.ShloMosaic Idealize.ShloMosaic.TcCoe Idealize.SL.Sem
open Cert.NormBackward Cert.LossHead Cert.Finite
open Cert.LoKernelIdeal (S2048x4096 S4096x1024 S2048x1024 S1x1024)

theorem frame_reference : Cert.quiescent_LoReferenceIdeal := fun m ρ _ =>
  θ_run_mono (Cert.LoReferenceIdeal.Value.run m ρ) fun r h =>
    ⟨fun c => (h c).2.2.2.2, sem_eq_zero_of_no_sems (sig := Cert.LoReferenceIdeal.sig) (by decide) r.2⟩

/-- Where the precondition holds, the norm's argument, the target and the norm's weights are real numbers. -/
theorem finite_of_pre (s : S2048x4096.Idx → EReal) (w : S4096x1024.Idx → EReal) (x : S2048x1024.Idx → EReal) (t : S2048x1024.Idx → EReal)
    (g : S1x1024.Idx → EReal) (h : Cert.Pre_loss_finite.fn (F := Ideal) s w x t g = fun _ => 1#1) :
    (∀ r k, ∃ z : ℝ, arg s w x r k = z) ∧ (∀ i, ∃ z : ℝ, t i = z) ∧ ∀ i, ∃ z : ℝ, g i = z := by
  have h0 := congrFun h ix0
  unfold Cert.Pre_loss_finite.fn Cert.Pre_loss_finite.fn_part1 at h0
  obtain ⟨habcd, hg⟩ := IntOp.andi_eq_one.1 h0
  obtain ⟨habc, ht⟩ := IntOp.andi_eq_one.1 habcd
  obtain ⟨hab, hx⟩ := IntOp.andi_eq_one.1 habc
  obtain ⟨ha, hw⟩ := IntOp.andi_eq_one.1 hab
  haveI : Subsingleton Cert.Pre_loss_finite.S_.Idx := ⟨fun _ _ => funext fun a => a.elim0⟩
  have fs : ∀ i, ∃ z : ℝ, s i = z := fun i => real_of_lt (s i) (Host.reduce_andi_all _ _ _ _ _ ha i)
  have fw : ∀ i, ∃ z : ℝ, w i = z := fun i => real_of_lt (w i) (Host.reduce_andi_all _ _ _ _ _ hw i)
  refine ⟨fun r k => ?_, fun i => real_of_lt (t i) (Host.reduce_andi_all _ _ _ _ _ ht i),
    fun i => real_of_lt (g i) (Host.reduce_andi_all _ _ _ _ _ hg i)⟩
  obtain ⟨a, ea⟩ := real_of_lt (x (ix2 r k)) (Host.reduce_andi_all _ _ _ _ _ hx (ix2 r k))
  obtain ⟨b, eb⟩ : ∃ z : ℝ, dh s (byCols w) r k = z := real_sum _ _ fun n => real_mul (fs _) (fw _)
  exact ⟨a + b, by unfold arg; rw [ea, eb, EReal.coe_add]⟩

theorem algebraic : Cert.algebraic_LoKernelIdeal_LoReferenceIdeal_pre_loss_finite := by
  pair_intro
  · run_from Cert.LoKernelIdeal.Value.run m g
  · run_from Cert.LoReferenceIdeal.Value.run_vals m' g'
    all_goals
      obtain ⟨h0, h1, h2, h3, h4⟩ := hagree c
      obtain ⟨fX, ft, fg⟩ := finite_of_pre _ _ _ _ _ (hpre c)
      funext i
    · obtain rfl : i = ix2 (0 : Fin 1) (0 : Fin 1) :=
        funext fun a => by match a with | ⟨0, _⟩ => exact Subsingleton.elim (α := Fin 1) _ _ | ⟨1, _⟩ => exact Subsingleton.elim (α := Fin 1) _ _
      exact (loss_eq fX ft fg).symm.trans (Cert.LoKernelIdeal.Value.G5_eq m c).symm
    · obtain ⟨r, j, rfl⟩ : ∃ (r : Fin 2048) (j : Fin 1024), i = ix2 r j :=
        ⟨i 0, i 1, funext fun a => by match a with | ⟨0, _⟩ => rfl | ⟨1, _⟩ => rfl⟩
      refine (Cert.LoReferenceIdeal.Value.res_eq m' c r j).trans ?_
      rw [h0, h1, h2, h3, h4]
      exact (rowsOps_eq fX ft fg r j).trans (Cert.LoKernelIdeal.Value.G6_eq m c r j).symm
    · obtain ⟨r, j, rfl⟩ : ∃ (r : Fin 2048) (j : Fin 1024), i = ix2 r j :=
        ⟨i 0, i 1, funext fun a => by match a with | ⟨0, _⟩ => rfl | ⟨1, _⟩ => rfl⟩
      refine (Cert.LoReferenceIdeal.Value.res_eq m' c r j).trans ?_
      rw [h0, h1, h2, h3, h4]
      exact (rowsOps_eq fX ft fg r j).trans (Cert.LoKernelIdeal.Value.G7_eq m c r j).symm
    · obtain ⟨j, rfl⟩ : ∃ j : Fin 1024, i = ix2 (0 : Fin 1) j :=
        ⟨i 1, funext fun a => by match a with | ⟨0, _⟩ => exact Subsingleton.elim (α := Fin 1) _ _ | ⟨1, _⟩ => rfl⟩
      exact (weightsOps_eq _ _ _ j).trans (Cert.LoKernelIdeal.Value.G8_eq m c j).symm

end Cert.Lo

end
-- ==== Proof.Gb.Run.lean ====
/-
The gated merge, backward: one run of the body that also names what its two copies leave.

The body on any buffers: the inputs at given contents, the scratch and the outputs at anything, the array of the gates'
gradients at given contents. It ends with the inputs as they were, each output written, and two windows of the array of
the gates' gradients replaced by what the two scratch buffers hold when their copies start. Both copies are in flight
together: each is lent its own window, and the windows have no entry in common.
-/
module

public import proofs.«01_k».proof.Proof.Gen.GbKernelIdeal.Frame.Runs

@[expose] public section

set_option maxRecDepth 16384

noncomputable section

namespace Cert.Gb

open Cert.GbKernelIdeal Cert.GbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
set_option sl_exec.dmaWindow true in
set_option sl_exec.dmaWindowSet true in
set_option sl_exec.dmaWindowLent true in
/-- One run of the body: the pieces of the four outputs and what the array of the gates' gradients becomes, found by the
    run, with the run's proof. -/
noncomputable def copyRun (c : Dev nD) (i : grid0.Coords)
    (arg1 : Memref sig .tc .vmem S512x1024 .bf16) (harg1 : arg1.IsWhole)
    (arg2 : Memref sig .tc .vmem S512x1024 .f32) (harg2 : arg2.IsWhole)
    (arg3 : Memref sig .tc .vmem S512x1024 .f32) (harg3 : arg3.IsWhole)
    (arg4 : Memref sig .tc .vmem S512x512 .bf16) (harg4 : arg4.IsWhole)
    (arg5 : Memref sig .tc .vmem S512x512 .bf16) (harg5 : arg5.IsWhole)
    (arg6 : Memref sig .tc .vmem S512x512 .bf16) (harg6 : arg6.IsWhole)
    (arg7 : Memref sig .tc .vmem S512x512 .bf16) (harg7 : arg7.IsWhole)
    (arg8 : Memref sig .tc .vmem S4x512x256 .bf16) (harg8 : arg8.IsWhole)
    (arg9 : Memref sig .tc .vmem S1024x1024 .bf16) (harg9 : arg9.IsWhole)
    (arg10 : Memref sig .tc .vmem S1024x1024 .bf16) (harg10 : arg10.IsWhole)
    (arg11 : Memref sig .tc .vmem S512x1024 .bf16) (harg11 : arg11.IsWhole)
    (arg12 : Memref sig .tc .vmem S512x1024 .bf16) (harg12 : arg12.IsWhole)
    (arg13 : Memref sig .tc .vmem S512x512 .bf16) (harg13 : arg13.IsWhole)
    (arg14 : Memref sig .tc .vmem S512x1024 .bf16) (harg14 : arg14.IsWhole)
    (arg16 : Memref sig .tc .vmem S512x1024 .bf16) (harg16 : arg16.IsWhole)
    (arg17 : Memref sig .tc .vmem S512x1024 .bf16) (harg17 : arg17.IsWhole)
    (apart : Disjoint (((Memref.whole main_v8_4).slice (Rect.unit (s := S2048x5632) (k0_off2 i) S512x1024.size (k0_off2_inb i)) (fun _ => rfl))).view.set (((Memref.whole main_v8_4).slice (Rect.unit (s := S2048x5632) (k0_off1 i) S512x1024.size (k0_off1_inb i)) (fun _ => rfl))).view.set)
    (x0 : Vec F S512x1024 .bf16) (x1 : Vec F S512x1024 .f32) (x2 : Vec F S512x1024 .f32) (x3 : Vec F S512x512 .bf16) (x4 : Vec F S512x512 .bf16) (x5 : Vec F S512x512 .bf16) (x6 : Vec F S512x512 .bf16) (x7 : Vec F S4x512x256 .bf16) (x8 : Vec F S1024x1024 .bf16) (x9 : Vec F S1024x1024 .bf16) :
    Σ' (L10 : List (View.Piece (Elt F) S512x1024 .bf16)), Σ' (L11 : List (View.Piece (Elt F) S512x1024 .bf16)), Σ' (L12 : List (View.Piece (Elt F) S512x512 .bf16)), Σ' (L13 : List (View.Piece (Elt F) S512x1024 .bf16)),
    { D : HbBuf0 (F := F) c hbM0_0 → Buf (Elt F) (arg16.view.loc (c : Thread nD τ)) → Buf (Elt F) (arg17.view.loc (c : Thread nD τ)) → HbBuf0 (F := F) c hbM0_0 //
      ∀ (fw : HbBuf0 (F := F) c hbM0_0) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (∃ d, owns (c : Thread nD τ) arg16 fullShare d) ∗ (∃ d, owns (c : Thread nD τ) arg17 fullShare d)
            ∗ semVal ((c : Thread nD τ), SemLoc.dma 25) 0 ∗ semVal ((c : Thread nD τ), SemLoc.dma 26) 0 ∗ hbPt0 c hbM0_0 fw ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
              ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)
              ∗ (∃ d, owns (c : Thread nD τ) arg16 fullShare d) ∗ (∃ d, owns (c : Thread nD τ) arg17 fullShare d)
              ∗ semVal ((c : Thread nD τ), SemLoc.dma 25) 0 ∗ semVal ((c : Thread nD τ), SemLoc.dma 26) 0 ∗ (∃ g0 g1, hbPt0 c hbM0_0 (D fw g0 g1)) ∗ (∃ W', owes (c : Thread nD τ) 0 W')) -∗ K ⟨⟩))
          ⊢ wp frame (wpE (defs₀ (F := F)) Variants.none c none) Set.univ (cc0_branches_bwd i arg1 harg1 arg2 harg2 arg3 harg3 arg4 harg4 arg5 harg5 arg6 harg6 arg7 harg7 arg8 harg8 arg9 harg9 arg10 harg10 arg11 harg11 arg12 harg12 arg13 harg13 arg14 harg14 (Memref.whole main_v8_4) (Memref.isWhole_whole _) arg16 harg16 arg17 harg17 cc0_scratch2) K } := by
  refine ⟨?_, ?_, ?_, ?_, ?_, fun fw W K => ?run⟩
  case run =>
    simp only [cc0_branches_bwd_eq_skeleton]; unfold cc0_branches_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, Hq0, Hq1, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexists fs0, fs1; iexact Hh0
    iexists _; iexact HW

end Cert.Gb

end
-- ==== Proof.Gb.Copies.lean ====
/-
The gated merge, backward: what one run's two copies leave.

Each scratch buffer is stored whole and then copied whole into its window of the array of the gates' gradients: the
attention's gate in columns 3584…, the recurrence's in columns 4608…, at the run's 512 rows.
-/
module

public import proofs.«01_k».proof.Proof.Gb.Run
public import Idealize.ShloMosaic.Lib.Pipeline.ValueKit

@[expose] public section

set_option maxRecDepth 16384

noncomputable section

namespace Cert.Gb

open Cert.GbKernelIdeal Cert.GbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two windows of the array of the gates' gradients one run writes, in turn. -/
def copied (c : Dev nD) (i : grid0.Coords) (fw : HbBuf0 (F := F) c hbM0_0) (a b : Vec F S512x1024 .bf16) : HbBuf0 (F := F) c hbM0_0 :=
  View.write (Elt F) (hbM0_0.slice (Rect.unit (k0_off2 i) S512x1024.size (k0_off2_inb i)) (fun _ => rfl)).view
    (View.write (Elt F) (hbM0_0.slice (Rect.unit (k0_off1 i) S512x1024.size (k0_off1_inb i)) (fun _ => rfl)).view fw a Finset.univ)
    b Finset.univ

/-- The one store of a whole scratch buffer. -/
abbrev whole (w : Vec F S512x1024 .bf16) : List (View.Piece (Elt F) S512x1024 .bf16) :=
  [⟨Rect.unit ![0, 0] S512x1024.size inb_S512x1024_S512x1024_0_0, w⟩]

theorem read_whole (c : Dev nD) (A : Memref sig .tc .vmem S512x1024 .bf16) (g : Buf (Elt F) (A.view.loc (c : Thread nD τ))) (w : Vec F S512x1024 .bf16) :
    View.read (Elt F) A.view (A.view.writes (Elt F) g (whole w)) = w :=
  (View.read_writes_eq_canon _ _ _ fun y => by
    have h0 : (y 0).val < 512 := (y 0).isLt
    have h1 : (y 1).val < 1024 := (y 1).isLt
    refine ⟨_, List.mem_singleton_self _, ?_⟩
    show y ∈ (Rect.unit (s := S512x1024) ![0, 0] S512x1024.size inb_S512x1024_S512x1024_0_0).set
    rw [Rect.mem_set_unit]
    intro a
    match a with
    | ⟨0, _⟩ => exact ⟨Nat.zero_le _, by show (y 0).val < 0 + 512; omega⟩
    | ⟨1, _⟩ => exact ⟨Nat.zero_le _, by show (y 1).val < 0 + 1024; omega⟩).trans
    (View.canon_cons_unit_zero (by funext a; fin_cases a <;> rfl) _ _ _)

/-- As `whole`, for a block of half the width. -/
abbrev wholeHalf (w : Vec F S512x512 .bf16) : List (View.Piece (Elt F) S512x512 .bf16) :=
  [⟨Rect.unit ![0, 0] S512x512.size inb_S512x512_S512x512_0_0, w⟩]

theorem read_wholeHalf (c : Dev nD) (A : Memref sig .tc .vmem S512x512 .bf16) (g : Buf (Elt F) (A.view.loc (c : Thread nD τ))) (w : Vec F S512x512 .bf16) :
    View.read (Elt F) A.view (A.view.writes (Elt F) g (wholeHalf w)) = w :=
  (View.read_writes_eq_canon _ _ _ fun y => by
    refine ⟨_, List.mem_singleton_self _, ?_⟩
    show y ∈ (Rect.unit (s := S512x512) ![0, 0] S512x512.size inb_S512x512_S512x512_0_0).set
    rw [Rect.mem_set_unit]
    intro a
    match a with
    | ⟨0, _⟩ => exact ⟨Nat.zero_le _, by have h : (y 0).val < 512 := (y 0).isLt; show (y 0).val < 0 + 512; omega⟩
    | ⟨1, _⟩ => exact ⟨Nat.zero_le _, by have h : (y 1).val < 512 := (y 1).isLt; show (y 1).val < 0 + 512; omega⟩).trans
    (View.canon_cons_unit_zero (by funext a; fin_cases a <;> rfl) _ _ _)

section Loads

variable (c : Dev nD)

/-- A whole load of a block of the given kind. -/
abbrev big {e : EltTy} (M : Memref sig .tc .vmem S512x1024 e) (hM : M.IsWhole) (x : Vec F S512x1024 e) : Vec F S512x1024 e :=
  View.readAt (Elt F) M.view (Rect.unit (s := S512x1024) ![0, 0] S512x1024.size inb_S512x1024_S512x1024_0_0).toLoadRect (hM.unread x)
/-- As `big`, for a block of a gate's logits. -/
abbrev half (M : Memref sig .tc .vmem S512x512 .bf16) (hM : M.IsWhole) (x : Vec F S512x512 .bf16) : Vec F S512x512 .bf16 :=
  View.readAt (Elt F) M.view (Rect.unit (s := S512x512) ![0, 0] S512x512.size inb_S512x512_S512x512_0_0).toLoadRect (hM.unread x)
/-- As `big`, for square weights. -/
abbrev square (M : Memref sig .tc .vmem S1024x1024 .bf16) (hM : M.IsWhole) (x : Vec F S1024x1024 .bf16) : Vec F S1024x1024 .bf16 :=
  View.readAt (Elt F) M.view (Rect.unit (s := S1024x1024) ![0, 0] S1024x1024.size inb_S1024x1024_S1024x1024_0_0).toLoadRect (hM.unread x)

/-- A load of a part of the attention's projection. -/
abbrev shard (M : Memref sig .tc .vmem S4x512x256 .bf16) (hM : M.IsWhole) (x : Vec F S4x512x256 .bf16) (r : Rect S4x512x256) : r.shape.Idx → Elt F .bf16 :=
  View.readAt (Elt F) M.view r.toLoadRect (hM.unread x)

theorem shard_eq (M : Memref sig .tc .vmem S4x512x256 .bf16) (hM : M.IsWhole) (x : Vec F S4x512x256 .bf16) (r : Rect S4x512x256) :
    shard M hM x r = View.ld x r := by
  unfold shard; rw [View.readAt_eq_ld, Memref.IsWhole.read_unread]

theorem big_eq {e : EltTy} (M : Memref sig .tc .vmem S512x1024 e) (hM : M.IsWhole) (x : Vec F S512x1024 e) : big M hM x = x := by
  unfold big; rw [View.readAt_eq_ld, Memref.IsWhole.read_unread]; exact View.ld_unit_lit _ _ (by decide)
theorem half_eq (M : Memref sig .tc .vmem S512x512 .bf16) (hM : M.IsWhole) (x : Vec F S512x512 .bf16) : half M hM x = x := by
  unfold half; rw [View.readAt_eq_ld, Memref.IsWhole.read_unread]; exact View.ld_unit_lit _ _ (by decide)
theorem square_eq (M : Memref sig .tc .vmem S1024x1024 .bf16) (hM : M.IsWhole) (x : Vec F S1024x1024 .bf16) : square M hM x = x := by
  unfold square; rw [View.readAt_eq_ld, Memref.IsWhole.read_unread]; exact View.ld_unit_lit _ _ (by decide)

end Loads

section Run

variable (c : Dev nD) (i : grid0.Coords)
    (arg1 : Memref sig .tc .vmem S512x1024 .bf16) (harg1 : arg1.IsWhole)
    (arg2 : Memref sig .tc .vmem S512x1024 .f32) (harg2 : arg2.IsWhole)
    (arg3 : Memref sig .tc .vmem S512x1024 .f32) (harg3 : arg3.IsWhole)
    (arg4 : Memref sig .tc .vmem S512x512 .bf16) (harg4 : arg4.IsWhole)
    (arg5 : Memref sig .tc .vmem S512x512 .bf16) (harg5 : arg5.IsWhole)
    (arg6 : Memref sig .tc .vmem S512x512 .bf16) (harg6 : arg6.IsWhole)
    (arg7 : Memref sig .tc .vmem S512x512 .bf16) (harg7 : arg7.IsWhole)
    (arg8 : Memref sig .tc .vmem S4x512x256 .bf16) (harg8 : arg8.IsWhole)
    (arg9 : Memref sig .tc .vmem S1024x1024 .bf16) (harg9 : arg9.IsWhole)
    (arg10 : Memref sig .tc .vmem S1024x1024 .bf16) (harg10 : arg10.IsWhole)
    (arg11 : Memref sig .tc .vmem S512x1024 .bf16) (harg11 : arg11.IsWhole)
    (arg12 : Memref sig .tc .vmem S512x1024 .bf16) (harg12 : arg12.IsWhole)
    (arg13 : Memref sig .tc .vmem S512x512 .bf16) (harg13 : arg13.IsWhole)
    (arg14 : Memref sig .tc .vmem S512x1024 .bf16) (harg14 : arg14.IsWhole)
    (arg16 : Memref sig .tc .vmem S512x1024 .bf16) (harg16 : arg16.IsWhole)
    (arg17 : Memref sig .tc .vmem S512x1024 .bf16) (harg17 : arg17.IsWhole)
    (apart : Disjoint (((Memref.whole main_v8_4).slice (Rect.unit (s := S2048x5632) (k0_off2 i) S512x1024.size (k0_off2_inb i)) (fun _ => rfl))).view.set (((Memref.whole main_v8_4).slice (Rect.unit (s := S2048x5632) (k0_off1 i) S512x1024.size (k0_off1_inb i)) (fun _ => rfl))).view.set)
    (x0 : Vec F S512x1024 .bf16) (x1 : Vec F S512x1024 .f32) (x2 : Vec F S512x1024 .f32) (x3 : Vec F S512x512 .bf16) (x4 : Vec F S512x512 .bf16) (x5 : Vec F S512x512 .bf16) (x6 : Vec F S512x512 .bf16) (x7 : Vec F S4x512x256 .bf16) (x8 : Vec F S1024x1024 .bf16) (x9 : Vec F S1024x1024 .bf16)

theorem copies_eq (fw : HbBuf0 (F := F) c hbM0_0) (g0 : Buf (Elt F) (arg16.view.loc (c : Thread nD τ))) (g1 : Buf (Elt F) (arg17.view.loc (c : Thread nD τ))) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.2.2.2.1 fw g0 g1
    = copied c i fw
        (View.read (Elt F) arg16.view (arg16.view.writes (Elt F) g0 (whole
          (k0_pay8 (k0_pay3 (big arg1 harg1 x0) (square arg10 harg10 x9)) (k0_pay4 (half arg4 harg4 x3) (half arg5 harg5 x4)) (big arg2 harg2 x1)))))
        (View.read (Elt F) arg17.view (arg17.view.writes (Elt F) g1 (whole
          (k0_pay9 (k0_pay3 (big arg1 harg1 x0) (square arg10 harg10 x9)) (k0_pay5 (half arg6 harg6 x5) (half arg7 harg7 x6)) (big arg3 harg3 x2))))) := by
  sl_kernel_rfl

theorem copies_at (fw : HbBuf0 (F := F) c hbM0_0) (g0 : Buf (Elt F) (arg16.view.loc (c : Thread nD τ))) (g1 : Buf (Elt F) (arg17.view.loc (c : Thread nD τ))) :
    (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.2.2.2.1 fw g0 g1
    = copied c i fw (k0_pay8 (k0_pay3 x0 x9) (k0_pay4 x3 x4) x1) (k0_pay9 (k0_pay3 x0 x9) (k0_pay5 x5 x6) x2) := by
  rw [copies_eq, read_whole, read_whole, big_eq, big_eq, big_eq, square_eq, half_eq, half_eq, half_eq, half_eq]

/-! What the run leaves in the four outputs, each stored whole. -/

theorem left10 (f : Buf (Elt F) (arg11.view.loc (c : Thread nD τ))) :
    View.read (Elt F) arg11.view (arg11.view.writes (Elt F) f (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).1) = k0_pay6 x0 x9 x3 x4 := by
  rw [show (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).1 = whole (k0_pay6 (big arg1 harg1 x0) (square arg10 harg10 x9) (half arg4 harg4 x3) (half arg5 harg5 x4)) from by sl_kernel_rfl, read_whole, big_eq, square_eq, half_eq, half_eq]

theorem left11 (f : Buf (Elt F) (arg12.view.loc (c : Thread nD τ))) :
    View.read (Elt F) arg12.view (arg12.view.writes (Elt F) f (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.1) = k0_pay7 x0 x9 x5 x6 := by
  rw [show (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.1 = whole (k0_pay7 (big arg1 harg1 x0) (square arg10 harg10 x9) (half arg6 harg6 x5) (half arg7 harg7 x6)) from by sl_kernel_rfl, read_whole, big_eq, square_eq, half_eq, half_eq]

theorem left12 (f : Buf (Elt F) (arg13.view.loc (c : Thread nD τ))) :
    View.read (Elt F) arg13.view (arg13.view.writes (Elt F) f (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.2.1)
    = k0_pay1 (k0_pay6 x0 x9 x3 x4) (k0_pay10 (k0_pay6 x0 x9 x3 x4) (View.ld x7 (Rect.unit (s := S4x512x256) ![0, 0, 0] ![1, 512, 256] inb_S4x512x256_S1x512x256_0_0_0))) (k0_pay11 (k0_pay6 x0 x9 x3 x4)) (View.ld x7 (Rect.unit (s := S4x512x256) ![1, 0, 0] ![1, 512, 256] inb_S4x512x256_S1x512x256_1_0_0)) (View.ld x7 (Rect.unit (s := S4x512x256) ![2, 0, 0] ![1, 512, 256] inb_S4x512x256_S1x512x256_2_0_0)) (View.ld x7 (Rect.unit (s := S4x512x256) ![3, 0, 0] ![1, 512, 256] inb_S4x512x256_S1x512x256_3_0_0)) := by
  rw [show (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.2.1 = wholeHalf (k0_pay1 (k0_pay6 (big arg1 harg1 x0) (square arg10 harg10 x9) (half arg4 harg4 x3) (half arg5 harg5 x4)) (k0_pay10 (k0_pay6 (big arg1 harg1 x0) (square arg10 harg10 x9) (half arg4 harg4 x3) (half arg5 harg5 x4)) (shard arg8 harg8 x7 (Rect.unit (s := S4x512x256) ![0, 0, 0] ![1, 512, 256] inb_S4x512x256_S1x512x256_0_0_0))) (k0_pay11 (k0_pay6 (big arg1 harg1 x0) (square arg10 harg10 x9) (half arg4 harg4 x3) (half arg5 harg5 x4))) (shard arg8 harg8 x7 (Rect.unit (s := S4x512x256) ![1, 0, 0] ![1, 512, 256] inb_S4x512x256_S1x512x256_1_0_0)) (shard arg8 harg8 x7 (Rect.unit (s := S4x512x256) ![2, 0, 0] ![1, 512, 256] inb_S4x512x256_S1x512x256_2_0_0)) (shard arg8 harg8 x7 (Rect.unit (s := S4x512x256) ![3, 0, 0] ![1, 512, 256] inb_S4x512x256_S1x512x256_3_0_0))) from by sl_kernel_rfl,
    read_wholeHalf, big_eq, square_eq, half_eq, half_eq, shard_eq, shard_eq, shard_eq, shard_eq]

theorem left13 (f : Buf (Elt F) (arg14.view.loc (c : Thread nD τ))) :
    View.read (Elt F) arg14.view (arg14.view.writes (Elt F) f (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.2.2.1) = k0_pay2 (k0_pay7 x0 x9 x5 x6) x8 := by
  rw [show (copyRun c i arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 apart x0 x1 x2 x3 x4 x5 x6 x7 x8 x9).2.2.2.1 = whole (k0_pay2 (k0_pay7 (big arg1 harg1 x0) (square arg10 harg10 x9) (half arg6 harg6 x5) (half arg7 harg7 x6)) (square arg9 harg9 x8)) from by sl_kernel_rfl, read_whole, big_eq, square_eq, square_eq, half_eq, half_eq]

end Run

end Cert.Gb

end
-- ==== Proof.Gb.Named.lean ====
/-
The gated merge, backward: the run of the program with the gates' gradients named.

The grid has four steps. The array of the gates' gradients is written only by the body's own copies, two windows a step,
so the invariant between two steps says what it holds: the array as the kernel found it, with the windows of the steps so
far replaced. The host line after the kernel reads the columns of the gates out of it. From the run of one step follow
the run of the whole program and that the arguments end as they began.
-/
module

public import proofs.«01_k».proof.Proof.Gb.Copies
public import Idealize.ShloMosaic.Lib.Pipeline.FrameSuffixV

@[expose] public section

set_option maxRecDepth 16384

noncomputable section

namespace Cert.Gb

open Cert.GbKernelIdeal Cert.GbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Step

variable (c : Dev nD) (t : Fin cfg0.N)

/-- The two windows a step writes have no entry in common. -/
theorem disjoint_windows : ∀ t : Fin cfg0.N, LoadRect.disj (Rect.unit (s := S2048x5632) (k0_off2 (grid0.coords t)) S512x1024.size (k0_off2_inb (grid0.coords t)))
    (Rect.unit (s := S2048x5632) (k0_off1 (grid0.coords t)) S512x1024.size (k0_off1_inb (grid0.coords t))).toLoadRect = true := by
  decide +kernel

theorem apart : Disjoint (((Memref.whole main_v8_4).slice (Rect.unit (s := S2048x5632) (k0_off2 (grid0.coords t)) S512x1024.size (k0_off2_inb (grid0.coords t))) (fun _ => rfl))).view.set
    (((Memref.whole main_v8_4).slice (Rect.unit (s := S2048x5632) (k0_off1 (grid0.coords t)) S512x1024.size (k0_off1_inb (grid0.coords t))) (fun _ => rfl))).view.set :=
  View.disjoint_slice_of_disj (Memref.whole main_v8_4).view _ _ (disjoint_windows t)

/-- The body's run at point `t`: its staging buffers, its scratch, the point's blocks. -/
abbrev runAt := copyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (apart t)
  (iblk m c 0 t) (iblk m c 1 t) (iblk m c 2 t) (iblk m c 3 t) (iblk m c 4 t) (iblk m c 5 t) (iblk m c 6 t) (iblk m c 7 t) (iblk m c 8 t) (iblk m c 9 t)

/-- The gradients of the attention's gate at point `t`'s rows. -/
def attBlock : Vec F S512x1024 .bf16 := k0_pay8 (k0_pay3 (iblk m c 0 t) (iblk m c 9 t)) (k0_pay4 (iblk m c 3 t) (iblk m c 4 t)) (iblk m c 1 t)
/-- Those of the recurrence's gate. -/
def recBlock : Vec F S512x1024 .bf16 := k0_pay9 (k0_pay3 (iblk m c 0 t) (iblk m c 9 t)) (k0_pay5 (iblk m c 5 t) (iblk m c 6 t)) (iblk m c 2 t)

/-- The gradients of the attention's projection at point `t`'s rows. -/
def yAttBlock : Vec F S512x1024 .bf16 := k0_pay6 (iblk m c 0 t) (iblk m c 9 t) (iblk m c 3 t) (iblk m c 4 t)
/-- Those of the recurrence's projection. -/
def yRecBlock : Vec F S512x1024 .bf16 := k0_pay7 (iblk m c 0 t) (iblk m c 9 t) (iblk m c 5 t) (iblk m c 6 t)
/-- The gradients of what enters the attention's projection: four partial products, one with each part of the weights. -/
def attInBlock : Vec F S512x512 .bf16 :=
  k0_pay1 (yAttBlock m c t)
    (k0_pay10 (yAttBlock m c t) (View.ld (iblk m c 7 t) (Rect.unit (s := S4x512x256) ![0, 0, 0] ![1, 512, 256] inb_S4x512x256_S1x512x256_0_0_0)))
    (k0_pay11 (yAttBlock m c t))
    (View.ld (iblk m c 7 t) (Rect.unit (s := S4x512x256) ![1, 0, 0] ![1, 512, 256] inb_S4x512x256_S1x512x256_1_0_0))
    (View.ld (iblk m c 7 t) (Rect.unit (s := S4x512x256) ![2, 0, 0] ![1, 512, 256] inb_S4x512x256_S1x512x256_2_0_0))
    (View.ld (iblk m c 7 t) (Rect.unit (s := S4x512x256) ![3, 0, 0] ![1, 512, 256] inb_S4x512x256_S1x512x256_3_0_0))
/-- The gradients of what enters the recurrence's projection. -/
def recInBlock : Vec F S512x1024 .bf16 := k0_pay2 (yRecBlock m c t) (iblk m c 8 t)

/-- Point `t` replaces its two windows by its two blocks. -/
def stepAt (fw : HbBuf0 (F := F) c hbM0_0) : HbBuf0 (F := F) c hbM0_0 := copied c (grid0.coords t) fw (attBlock m c t) (recBlock m c t)

theorem stepAt_eq (fw : HbBuf0 (F := F) c hbM0_0) (g0 : Buf (Elt F) (scM0_0.view.loc (c : Thread nD τ))) (g1 : Buf (Elt F) (scM0_1.view.loc (c : Thread nD τ))) :
    (runAt m c t).2.2.2.2.1 fw g0 g1 = stepAt m c t fw :=
  copies_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (apart t)
    (iblk m c 0 t) (iblk m c 1 t) (iblk m c 2 t) (iblk m c 3 t) (iblk m c 4 t) (iblk m c 5 t) (iblk m c 6 t) (iblk m c 7 t) (iblk m c 8 t) (iblk m c 9 t) fw g0 g1

end Step

/-! ## The steps so far -/

/-- What the array of the gates' gradients holds before point `n`. -/
def gradsAfter (c : Dev nD) (n : ℕ) : HbBuf0 (F := F) c hbM0_0 :=
  Nat.rec (V m c main_v8_4) (fun n f => if h : n < cfg0.N then stepAt m c ⟨n, h⟩ f else f) n

theorem gradsAfter_zero (c : Dev nD) : gradsAfter m c 0 = V m c main_v8_4 := rfl
theorem gradsAfter_succ (c : Dev nD) (t : Fin cfg0.N) : gradsAfter m c (t.val + 1) = stepAt m c t (gradsAfter m c t.val) := by
  show (if h : t.val < cfg0.N then stepAt m c ⟨t.val, h⟩ (gradsAfter m c t.val) else gradsAfter m c t.val) = _
  rw [dif_pos t.isLt]

/-- The buffers before point `n`: the array of the gates' gradients after the steps so far, all else as the kernel found it. -/
def bufsAt (n : ℕ) (c : Dev nD) (b : Ref sig .tc) : Buf (Elt F) ((c : Thread nD τ).loc b) :=
  Function.update (V m c) main_v8_4 (gradsAfter m c n) b
theorem bufsAt_grad (n : ℕ) (c : Dev nD) : bufsAt m n c main_v8_4 = gradsAfter m c n := Function.update_self _ _ _
theorem bufsAt_zero : bufsAt m 0 = V m := by
  funext c b; unfold bufsAt; rw [gradsAfter_zero, Function.update_eq_self]

/-! ## The invariant -/

/-- The one pipeline on core `c`: its arrays as the kernel finds them, each input's buffer at its block after every point,
    each output's at what the step computes, and the invariant that names the array of the gates' gradients. -/
def named (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yAttBlock m c t
    | ⟨11, _⟩ => yRecBlock m c t
    | ⟨12, _⟩ => attInBlock m c t
    | ⟨13, _⟩ => recInBlock m c t
  Φ n := Pipeline.ΦDRV osem0 spec0 H0 R0 (V m) (bufsAt m n.val) c
  q w := Pipeline.shareOf spec0 w
  owed _ := 0

theorem invariant_eq (G : (c : Dev nD) → (b : Ref sig .tc) → Buf (Elt F) ((c : Thread nD τ).loc b)) (c : Dev nD) :
    (Pipeline.ΦDRV osem0 spec0 H0 R0 (V m) G c : sProp 𝕄)
      = iprop(iprop((∃ d, owns (c : Thread nD τ) scM0_0 fullShare d) ∗ (∃ d, owns (c : Thread nD τ) scM0_1 fullShare d))
          ∗ iprop(semVal ((c : Thread nD τ), SemLoc.dma 25) 0 ∗ semVal ((c : Thread nD τ), SemLoc.dma 26) 0)
          ∗ iprop(emp) ∗ hbPt0 c hbM0_0 (G c main_v8_4)) := by
  unfold Pipeline.ΦDRV
  rw [scopedRest0_eq, ownSems00_eq, hbmPts0_eq, show R0 = {main_v8_4} from rfl, BI.bigSep_singleton]
  simp only [scM0_0, scM0_1, owns_whole]; try rfl

/-! ## The body at a point -/

/-- What the body finds at point `t`. -/
def before (c : Dev nD) (t : Fin cfg0.N) : sProp 𝕄 :=
  iprop((named m 0 c).Φ t.castSucc ∗ (named m 0 c).owesAt () t.castSucc
    ∗ (∃ d, owns (c : Thread nD τ) (ms0_0 t) fullShare ((named m 0 c).before 0 t d))
    ∗ (∃ d, owns (c : Thread nD τ) (ms0_1 t) fullShare ((named m 0 c).before 1 t d))
    ∗ (∃ d, owns (c : Thread nD τ) (ms0_2 t) fullShare ((named m 0 c).before 2 t d))
    ∗ (∃ d, owns (c : Thread nD τ) (ms0_3 t) fullShare ((named m 0 c).before 3 t d))
    ∗ (∃ d, owns (c : Thread nD τ) (ms0_4 t) fullShare ((named m 0 c).before 4 t d))
    ∗ (∃ d, owns (c : Thread nD τ) (ms0_5 t) fullShare ((named m 0 c).before 5 t d))
    ∗ (∃ d, owns (c : Thread nD τ) (ms0_6 t) fullShare ((named m 0 c).before 6 t d))
    ∗ (∃ d, owns (c : Thread nD τ) (ms0_7 t) fullShare ((named m 0 c).before 7 t d))
    ∗ (∃ d, owns (c : Thread nD τ) (ms0_8 t) fullShare ((named m 0 c).before 8 t d))
    ∗ (∃ d, owns (c : Thread nD τ) (ms0_9 t) fullShare ((named m 0 c).before 9 t d))
    ∗ (∃ d, owns (c : Thread nD τ) (ms0_10 t) fullShare ((named m 0 c).before 10 t d))
    ∗ (∃ d, owns (c : Thread nD τ) (ms0_11 t) fullShare ((named m 0 c).before 11 t d))
    ∗ (∃ d, owns (c : Thread nD τ) (ms0_12 t) fullShare ((named m 0 c).before 12 t d))
    ∗ (∃ d, owns (c : Thread nD τ) (ms0_13 t) fullShare ((named m 0 c).before 13 t d)))

/-- What it leaves. -/
def afterwards (c : Dev nD) (t : Fin cfg0.N) : sProp 𝕄 :=
  iprop((named m 0 c).Φ t.succ ∗ (named m 0 c).owesAt () t.succ
    ∗ owns (c : Thread nD τ) (ms0_0 t) fullShare ((named m 0 c).after 0 t)
    ∗ owns (c : Thread nD τ) (ms0_1 t) fullShare ((named m 0 c).after 1 t)
    ∗ owns (c : Thread nD τ) (ms0_2 t) fullShare ((named m 0 c).after 2 t)
    ∗ owns (c : Thread nD τ) (ms0_3 t) fullShare ((named m 0 c).after 3 t)
    ∗ owns (c : Thread nD τ) (ms0_4 t) fullShare ((named m 0 c).after 4 t)
    ∗ owns (c : Thread nD τ) (ms0_5 t) fullShare ((named m 0 c).after 5 t)
    ∗ owns (c : Thread nD τ) (ms0_6 t) fullShare ((named m 0 c).after 6 t)
    ∗ owns (c : Thread nD τ) (ms0_7 t) fullShare ((named m 0 c).after 7 t)
    ∗ owns (c : Thread nD τ) (ms0_8 t) fullShare ((named m 0 c).after 8 t)
    ∗ owns (c : Thread nD τ) (ms0_9 t) fullShare ((named m 0 c).after 9 t)
    ∗ owns (c : Thread nD τ) (ms0_10 t) fullShare ((named m 0 c).after 10 t)
    ∗ owns (c : Thread nD τ) (ms0_11 t) fullShare ((named m 0 c).after 11 t)
    ∗ owns (c : Thread nD τ) (ms0_12 t) fullShare ((named m 0 c).after 12 t)
    ∗ owns (c : Thread nD τ) (ms0_13 t) fullShare ((named m 0 c).after 13 t))

theorem leaves0 (c : Dev nD) (t : Fin cfg0.N) : (named m 0 c).after 0 t = iblk m c 0 t := by dsimp only [named]
theorem leaves1 (c : Dev nD) (t : Fin cfg0.N) : (named m 0 c).after 1 t = iblk m c 1 t := by dsimp only [named]
theorem leaves2 (c : Dev nD) (t : Fin cfg0.N) : (named m 0 c).after 2 t = iblk m c 2 t := by dsimp only [named]
theorem leaves3 (c : Dev nD) (t : Fin cfg0.N) : (named m 0 c).after 3 t = iblk m c 3 t := by dsimp only [named]
theorem leaves4 (c : Dev nD) (t : Fin cfg0.N) : (named m 0 c).after 4 t = iblk m c 4 t := by dsimp only [named]
theorem leaves5 (c : Dev nD) (t : Fin cfg0.N) : (named m 0 c).after 5 t = iblk m c 5 t := by dsimp only [named]
theorem leaves6 (c : Dev nD) (t : Fin cfg0.N) : (named m 0 c).after 6 t = iblk m c 6 t := by dsimp only [named]
theorem leaves7 (c : Dev nD) (t : Fin cfg0.N) : (named m 0 c).after 7 t = iblk m c 7 t := by dsimp only [named]
theorem leaves8 (c : Dev nD) (t : Fin cfg0.N) : (named m 0 c).after 8 t = iblk m c 8 t := by dsimp only [named]
theorem leaves9 (c : Dev nD) (t : Fin cfg0.N) : (named m 0 c).after 9 t = iblk m c 9 t := by dsimp only [named]
theorem leaves10 (c : Dev nD) (t : Fin cfg0.N) : (named m 0 c).after 10 t = yAttBlock m c t := by dsimp only [named]
theorem leaves11 (c : Dev nD) (t : Fin cfg0.N) : (named m 0 c).after 11 t = yRecBlock m c t := by dsimp only [named]
theorem leaves12 (c : Dev nD) (t : Fin cfg0.N) : (named m 0 c).after 12 t = attInBlock m c t := by dsimp only [named]
theorem leaves13 (c : Dev nD) (t : Fin cfg0.N) : (named m 0 c).after 13 t = recInBlock m c t := by dsimp only [named]

theorem arrays_eq (c : Dev nD) (w : Fin cfg0.W) : (named m 0 c).A w = V m c (Pipeline.arrRef spec0 w) := by
  dsimp only [named]

set_option maxHeartbeats 1600000 in
theorem body_at (c : Dev nD) (t : Fin cfg0.N) :
    before m c t ⊢ wp frame (wpE (defs₀ (F := F)) Variants.none c none) Set.univ (bodyAt0 t) (fun _ => afterwards m c t) := by
  unfold before afterwards bodyAt0
  simp only [before0_0_of m (named m 0 c) (arrays_eq m c 0) (leaves0 m c) t, before0_1_of m (named m 0 c) (arrays_eq m c 1) (leaves1 m c) t, before0_2_of m (named m 0 c) (arrays_eq m c 2) (leaves2 m c) t, before0_3_of m (named m 0 c) (arrays_eq m c 3) (leaves3 m c) t, before0_4_of m (named m 0 c) (arrays_eq m c 4) (leaves4 m c) t, before0_5_of m (named m 0 c) (arrays_eq m c 5) (leaves5 m c) t, before0_6_of m (named m 0 c) (arrays_eq m c 6) (leaves6 m c) t, before0_7_of m (named m 0 c) (arrays_eq m c 7) (leaves7 m c) t, before0_8_of m (named m 0 c) (arrays_eq m c 8) (leaves8 m c) t, before0_9_of m (named m 0 c) (arrays_eq m c 9) (leaves9 m c) t]
  rw [leaves0, leaves1, leaves2, leaves3, leaves4, leaves5, leaves6, leaves7, leaves8, leaves9, leaves10, leaves11, leaves12, leaves13]
  rw [show (named m 0 c).Φ t.succ = Pipeline.ΦDRV osem0 spec0 H0 R0 (V m) (bufsAt m (t.val + 1)) c from rfl,
    show (named m 0 c).Φ t.castSucc = Pipeline.ΦDRV osem0 spec0 H0 R0 (V m) (bufsAt m t.val) c from rfl,
    invariant_eq, invariant_eq, bufsAt_grad, bufsAt_grad, gradsAfter_succ]
  unfold Dat.owesAt Pipeline.owesWithin
  rw [show (named m 0 c).owed t.castSucc = 0 from rfl, show (named m 0 c).owed t.succ = 0 from rfl]
  iintro ⟨⟨⟨HS0, HS1⟩, ⟨Hq0, Hq1⟩, -, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt m c t).2.2.2.2.2 (gradsAfter m c t.val) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [Hq0]; · iexact Hq0
  isplitl [Hq1]; · iexact Hq1
  isplitl [Hh]; · iexact Hh
  isplitl [HW]; · iexact HW
  iintro ⟨H0, H1, H2, H3, H4, H5, H6, H7, H8, H9, ⟨%e10, H10⟩, ⟨%e11, H11⟩, ⟨%e12, H12⟩, ⟨%e13, H13⟩, HS0, HS1, Hq0, Hq1, ⟨%g0, %g1, Hh⟩, ⟨%W', HW'⟩⟩
  isplitl [HS0 HS1 Hq0 Hq1 Hh]
  · isplitl [HS0 HS1]
    · isplitl [HS0]; · iexact HS0
      iexact HS1
    isplitl [Hq0 Hq1]
    · isplitl [Hq0]; · iexact Hq0
      iexact Hq1
    isplitr; · iempintro
    rw [← stepAt_eq m c t (gradsAfter m c t.val) g0 g1]
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact left10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (apart t) (iblk m c 0 t) (iblk m c 1 t) (iblk m c 2 t) (iblk m c 3 t) (iblk m c 4 t) (iblk m c 5 t) (iblk m c 6 t) (iblk m c 7 t) (iblk m c 8 t) (iblk m c 9 t) _
  isplitl [H11]
  · unfold owns; iexists _; isplitr
    swap; · iexact H11
    ipureintro; exact left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (apart t) (iblk m c 0 t) (iblk m c 1 t) (iblk m c 2 t) (iblk m c 3 t) (iblk m c 4 t) (iblk m c 5 t) (iblk m c 6 t) (iblk m c 7 t) (iblk m c 8 t) (iblk m c 9 t) _
  isplitl [H12]
  · unfold owns; iexists _; isplitr
    swap; · iexact H12
    ipureintro; exact left12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (apart t) (iblk m c 0 t) (iblk m c 1 t) (iblk m c 2 t) (iblk m c 3 t) (iblk m c 4 t) (iblk m c 5 t) (iblk m c 6 t) (iblk m c 7 t) (iblk m c 8 t) (iblk m c 9 t) _
  unfold owns; iexists _; isplitr
  swap; · iexact H13
  ipureintro; exact left13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (apart t) (iblk m c 0 t) (iblk m c 1 t) (iblk m c 2 t) (iblk m c 3 t) (iblk m c 4 t) (iblk m c 5 t) (iblk m c 6 t) (iblk m c 7 t) (iblk m c 8 t) (iblk m c 9 t) _

theorem body_row (t : Fin cfg0.N) : defs₀ (F := F) .tc cfg0.body (cfg0.bodyArgs t (cfg0.slots t)) = bodyAt0 t := by
  unfold defs₀; rw [Defs.onTc_tc]

theorem obligation (c : Dev nD) : BodyObligation (named (F := F) m 0 c) (defs₀ (F := F)) Variants.none () Set.univ := fun t => by
  rw [bigSep_W0, bigSep_W0, body_row]
  exact triple_restated (body_at m c t) rfl .rfl fun _ => .rfl

/-! ## The launch -/

theorem H0_sub' : H0 ⊆ Pipeline.restRefsP sig Pipeline.Prefetch.none spec0 := by decide
theorem R0_sub' : R0 ⊆ Pipeline.restRefsP sig Pipeline.Prefetch.none spec0 \ H0 := by decide

set_option backward.isDefEq.respectTransparency.types false in
set_option maxHeartbeats 1600000 in
/-- The whole run: every array of the pipeline at what the steps leave, every other buffer at what the host line after the
    kernel makes of them and of the array of the gates' gradients; all signals at zero. -/
theorem run_named : θ_run defs (onTc (τ := τ) (main (F := F))) (s₀ m ρ) (fun r => (∀ c : Dev nD,
      (∀ w, r.2.mem ((spec0 w).arr.view.loc (c.tc : Thread nD τ)) = (named m 0 c).arrAt w cfg0.N)
      ∧ ∀ b ∈ Pipeline.restRefsP sig Pipeline.Prefetch.none spec0, r.2.mem ((c.tc : Thread nD τ).loc b)
          = StableHlo.after (List.flatten [hostOps1]) (Pipeline.withArrays spec0 c (Pipeline.withR (V0 m c) R0 c (bufsAt m 4 c)) fun w => (named m 0 c).arrAt w cfg0.N)
              (Proc.devRef .tc b))
      ∧ r.2.sem = fun _ => 0) :=
  Pipeline.θ_run_frameP_dmaR_aroundV_shared (Q' := _) (hQ' := fun _ h => h) (fun q => (cfgs q).toPCfg (Val := Elt F)) (fun q => (cfgs q).toPCfg_adm) (named m) (0 : Fin 1)
    launch₀0.toP osem0 defs₀ Variants.none ownSemFacts0 H0 R0 H0_sub' R0_sub' m ρ main
    (fun c => (obligation m c).loose) (fun _ _ _ => rfl) (fun _ _ => rfl) (V0 m) [hostOps1] sfx_sub sfx_fresh sfx_keeps (bufsAt m 4)
    (hmain m Variants.none) (arrays_eq m) (fun _ k => k.elim0)
    (fun c => (show _ ⊢ Pipeline.ΦDRV osem0 spec0 H0 R0 (V m) (V m) c from by iintro ⟨H, -⟩; iexact H).trans
      (by rw [show (named m 0 c).Φ 0 = Pipeline.ΦDRV osem0 spec0 H0 R0 (V m) (bufsAt m 0) c from rfl, bufsAt_zero]))
    (fun _ => .rfl)

/-- The buffers just before the host line after the kernel. -/
abbrev atExit (c : Dev nD) : Valuation τ sig (Elt F) :=
  Pipeline.withArrays spec0 c (Pipeline.withR (V0 m c) R0 c (bufsAt m 4 c)) fun w => (named m 0 c).arrAt w cfg0.N

theorem exit_kept (c : Dev nD) (b : Ref sig .tc) (h9 : b ≠ main_v9) (h : ∀ w, Pipeline.arrRef spec0 w ≠ b) (hb : b ∉ R0) :
    StableHlo.after (List.flatten [hostOps1]) (atExit m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h9))]
  unfold atExit
  rw [Pipeline.withArrays_of_ne _ _ _ _ b h, Pipeline.withR_of_not_mem _ _ _ _ b hb]

/-- The arguments end as they were, all signals at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 0).trans (((named m 0 c).arrAt_in 0 rfl _).trans ((arrays_eq m c 0).trans (V_main_arg0 m c))),
      ((h.1 c).2 main_arg1 (by decide)).trans ((exit_kept m c main_arg1 (by decide) (by decide) (by decide)).trans (V_main_arg1 m c)),
      ((h.1 c).2 main_arg2 (by decide)).trans ((exit_kept m c main_arg2 (by decide) (by decide) (by decide)).trans (V_main_arg2 m c)),
      ((h.1 c).1 6).trans (((named m 0 c).arrAt_in 6 rfl _).trans ((arrays_eq m c 6).trans (V_main_arg3 m c))),
      ((h.1 c).2 main_arg4 (by decide)).trans ((exit_kept m c main_arg4 (by decide) (by decide) (by decide)).trans (V_main_arg4 m c)),
      ((h.1 c).2 main_arg5 (by decide)).trans ((exit_kept m c main_arg5 (by decide) (by decide) (by decide)).trans (V_main_arg5 m c)),
      ((h.1 c).2 main_arg6 (by decide)).trans ((exit_kept m c main_arg6 (by decide) (by decide) (by decide)).trans (V_main_arg6 m c))⟩, h.2⟩) (run_named m ρ)

end Cert.Gb

end
-- ==== Proof.Gb.Value.lean ====
/- The gated merge's backward call: the gradients of the branches' projections and of what enters the projections, as
   functions of the arguments. -/
module

public import Idealize.ShloMosaic.Lib.StableHlo.RunRead
public import proofs.«01_k».proof.Proof.Gb.Named
public import proofs.«01_k».proof.Proof.Math.Gate
public import Idealize.ShloMosaic.Lib.Pipeline.ValueKit
public import Idealize.ShloMosaic.Lib.Pipeline.ReadBack

@[expose] public section

set_option maxRecDepth 16384

noncomputable section

namespace Cert.GbKernelIdeal.Value

open Cert.GbKernelIdeal Cert.GbKernelIdeal.Gen
open Idealize.ShloMosaic Idealize.ShloMosaic.TcCoe Idealize.SL.Sem
open Idealize.ShloMosaic.Pipeline (Dat)
open Cert.Gate (opening half_tanh)
open Cert.Gb

variable (m : (ℓ : Loc nD τ sig) → Buf (Elt Ideal) ℓ) (ρ : Dev nD → PrngReg)

/-- The gradient of the merged branches: the cotangent times the output product's weights, transposed. -/
def dMerged (x : FVec Ideal S2048x1024 .bf16) (w : FVec Ideal S1024x1024 .f32) : FVec Ideal S2048x1024 .f32 := fun i =>
  ∑ n : Fin 1024, x (ix2 (i 0) n) * w (ix2 (i 1) n)

/-- The gradient of the attention's projection: through its gate, columns 3584… of `z`. -/
def dAtt (x : FVec Ideal S2048x1024 .bf16) (z : FVec Ideal S2048x5632 .bf16) (w : FVec Ideal S1024x1024 .f32) :
    FVec Ideal S2048x1024 .bf16 := fun i =>
  opening (z (ix2 (i 0) ⟨3584 + (i 1).val, by have := (i 1).isLt; simp at *; omega⟩)) * dMerged x w i

/-- The gradient of the recurrence's projection: through its gate, columns 4608… of `z`. -/
def dRec (x : FVec Ideal S2048x1024 .bf16) (z : FVec Ideal S2048x5632 .bf16) (w : FVec Ideal S1024x1024 .f32) :
    FVec Ideal S2048x1024 .bf16 := fun i =>
  opening (z (ix2 (i 0) ⟨4608 + (i 1).val, by have := (i 1).isLt; simp at *; omega⟩)) * dMerged x w i

/-- The gradient of what enters the attention's projection. -/
def inAtt (d : FVec Ideal S2048x1024 .bf16) (w : FVec Ideal S512x1024 .f32) : FVec Ideal S2048x512 .bf16 := fun i =>
  ∑ n : Fin 1024, d (ix2 (i 0) n) * w (ix2 (i 1) n)

/-- The gradient of what enters the recurrence's projection. -/
def inRec (d : FVec Ideal S2048x1024 .bf16) (w : FVec Ideal S1024x1024 .f32) : FVec Ideal S2048x1024 .bf16 := fun i =>
  ∑ n : Fin 1024, d (ix2 (i 0) n) * w (ix2 (i 1) n)

/-- A sum of 1024 terms, taken over four shards of 256. -/
theorem sum_shards (f : Fin 1024 → EReal) : ∑ n : Fin 1024, f n
    = (∑ n : Fin 256, f ⟨n.val, by omega⟩) + (∑ n : Fin 256, f ⟨256 + n.val, by omega⟩)
      + (∑ n : Fin 256, f ⟨512 + n.val, by omega⟩) + ∑ n : Fin 256, f ⟨768 + n.val, by omega⟩ := by
  rw [Fin.sum_univ_add (a := 768) (b := 256) f, Fin.sum_univ_add (a := 512) (b := 256), Fin.sum_univ_add (a := 256) (b := 256)]
  rfl

/-- The index facts of the windows. -/
theorem idx : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![t.val, 9] ∧ win0_6.index t = ![t.val, 10]
    ∧ win0_7.index t = ![0, 0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] :=
  (by decide +kernel : ∀ t : Fin grid0.N, _)

/-- Row `r` of point `t`'s block of rows. -/
def row (t : Fin cfg0.N) (r : Fin 512) : Fin 2048 := ⟨t.val * 512 + r.val, by have := t.isLt; have h : cfg0.N = 4 := N_0; omega⟩

/-! What the host lines before the kernel make: the attention's projection split into shards, and the two projections
    the forward saved. -/

def shards (w : FVec Ideal S512x1024 .f32) : FVec Ideal S4x512x256 .bf16 := transpose S4x512x256 [1, 0, 2]
  (shapeCast S512x4x256 (truncf .bf16 w bitsLt_bf16_f32) shapeCasts_S512x1024_S512x4x256) transposes_S512x4x256_S4x512x256_1_0_2

def savedAtt (a : FVec Ideal S2048x512 .bf16) (w : FVec Ideal S512x1024 .f32) : FVec Ideal S2048x1024 .f32 :=
  Host.dotGeneral dot_S2048x512_S512x1024_S2048x1024_1_0_0_1_n_n none a (truncf .bf16 w bitsLt_bf16_f32)

def savedRec (a : FVec Ideal S2048x1024 .bf16) (w : FVec Ideal S1024x1024 .f32) : FVec Ideal S2048x1024 .f32 :=
  Host.dotGeneral dot_S2048x1024_S1024x1024_S2048x1024_1_0_0_1_n_n none a (truncf .bf16 w bitsLt_bf16_f32)

theorem made_shards (c : Dev nD) : StableHlo.after (List.flatten [hostOps0]) (fun b => m (c, b)) (Proc.devRef .tc main_v2)
    = shards (m ((c : Thread nD τ).loc main_arg4)) := by
  after_reads_simp
  rfl

theorem made_att (c : Dev nD) : StableHlo.after (List.flatten [hostOps0]) (fun b => m (c, b)) (Proc.devRef .tc main_v6)
    = savedAtt (m ((c : Thread nD τ).loc main_arg1)) (m ((c : Thread nD τ).loc main_arg4)) := by
  after_reads_simp
  rfl

theorem made_rec (c : Dev nD) : StableHlo.after (List.flatten [hostOps0]) (fun b => m (c, b)) (Proc.devRef .tc main_v7)
    = savedRec (m ((c : Thread nD τ).loc main_arg2)) (m ((c : Thread nD τ).loc main_arg5)) := by
  after_reads_simp
  rfl

theorem pay6_eq (c : Dev nD) (t : Fin cfg0.N) (y : S512x1024.Idx) :
    k0_pay6 (iblk m c 0 t) (iblk m c 9 t) (iblk m c 3 t) (iblk m c 4 t) y
    = dAtt (m ((c : Thread nD τ).loc main_arg0)) (m ((c : Thread nD τ).loc main_arg3)) (m ((c : Thread nD τ).loc main_arg6)) (ix2 (row t (y 0)) (y 1)) := by
  pointwise [k0_pay6, k0_pay3, k0_pay4, dAtt, dMerged]
  rw [half_tanh]
  refine (mul_comm _ _).trans ?_
  repeat' split
  all_goals (blk_point [iblk, V, idx t] <;> rfl)

theorem pay7_eq (c : Dev nD) (t : Fin cfg0.N) (y : S512x1024.Idx) :
    k0_pay7 (iblk m c 0 t) (iblk m c 9 t) (iblk m c 5 t) (iblk m c 6 t) y
    = dRec (m ((c : Thread nD τ).loc main_arg0)) (m ((c : Thread nD τ).loc main_arg3)) (m ((c : Thread nD τ).loc main_arg6)) (ix2 (row t (y 0)) (y 1)) := by
  pointwise [k0_pay7, k0_pay3, k0_pay5, dRec, dMerged]
  rw [half_tanh]
  refine (mul_comm _ _).trans ?_
  repeat' split
  all_goals (blk_point [iblk, V, idx t] <;> rfl)

theorem final10 (c : Dev nD) : (named m 0 c).arrAt 10 cfg0.N
    = dAtt (m ((c : Thread nD τ).loc main_arg0)) (m ((c : Thread nD τ).loc main_arg3)) (m ((c : Thread nD τ).loc main_arg6)) := by
  refine (named m 0 c).arrAt_eq_of_covers 10 _ (by decide +kernel) fun t _ y => ?_
  blk_simp
  rw [leaves10]
  refine (pay6_eq m c t y).trans ?_
  blk_ext [idx t, row]

theorem final11 (c : Dev nD) : (named m 0 c).arrAt 11 cfg0.N
    = dRec (m ((c : Thread nD τ).loc main_arg0)) (m ((c : Thread nD τ).loc main_arg3)) (m ((c : Thread nD τ).loc main_arg6)) := by
  refine (named m 0 c).arrAt_eq_of_covers 11 _ (by decide +kernel) fun t _ y => ?_
  blk_simp
  rw [leaves11]
  refine (pay7_eq m c t y).trans ?_
  blk_ext [idx t, row]

theorem shards_whole (c : Dev nD) (t : Fin cfg0.N) : iblk m c 7 t = shards (m ((c : Thread nD τ).loc main_arg4)) := by
  funext y
  refine (show iblk m c 7 t y = V m c main_v2 ((win0_7.blk t).view.emb y) from rfl).trans ?_
  refine (congrFun (made_shards m c) _).trans ?_
  blk_ext [idx t]

theorem pay1_eq (c : Dev nD) (t : Fin cfg0.N) (y : S512x512.Idx) :
    attInBlock m c t y
    = inAtt (dAtt (m ((c : Thread nD τ).loc main_arg0)) (m ((c : Thread nD τ).loc main_arg3)) (m ((c : Thread nD τ).loc main_arg6)))
        (m ((c : Thread nD τ).loc main_arg4)) (ix2 (row t (y 0)) (y 1)) := by
  unfold attInBlock yAttBlock
  rw [funext (pay6_eq m c t), shards_whole]
  generalize dAtt (m ((c : Thread nD τ).loc main_arg0)) (m ((c : Thread nD τ).loc main_arg3)) (m ((c : Thread nD τ).loc main_arg6)) = d
  refine Eq.trans ?_ (sum_shards _).symm
  pointwise [k0_pay1, k0_pay10, k0_pay11, shards]

theorem pay2_eq (c : Dev nD) (t : Fin cfg0.N) (y : S512x1024.Idx) :
    k0_pay2 (k0_pay7 (iblk m c 0 t) (iblk m c 9 t) (iblk m c 5 t) (iblk m c 6 t)) (iblk m c 8 t) y
    = inRec (dRec (m ((c : Thread nD τ).loc main_arg0)) (m ((c : Thread nD τ).loc main_arg3)) (m ((c : Thread nD τ).loc main_arg6)))
        (m ((c : Thread nD τ).loc main_arg5)) (ix2 (row t (y 0)) (y 1)) := by
  rw [funext (pay7_eq m c t)]
  generalize dRec (m ((c : Thread nD τ).loc main_arg0)) (m ((c : Thread nD τ).loc main_arg3)) (m ((c : Thread nD τ).loc main_arg6)) = d
  pointwise [k0_pay2, inRec]
  (blk_point [iblk, V, idx t] <;> rfl)

theorem final12 (c : Dev nD) : (named m 0 c).arrAt 12 cfg0.N
    = inAtt (dAtt (m ((c : Thread nD τ).loc main_arg0)) (m ((c : Thread nD τ).loc main_arg3)) (m ((c : Thread nD τ).loc main_arg6))) (m ((c : Thread nD τ).loc main_arg4)) := by
  refine (named m 0 c).arrAt_eq_of_covers 12 _ (by decide +kernel) fun t _ y => ?_
  blk_simp
  rw [leaves12]
  refine (pay1_eq m c t y).trans ?_
  blk_ext [idx t, row]

theorem final13 (c : Dev nD) : (named m 0 c).arrAt 13 cfg0.N
    = inRec (dRec (m ((c : Thread nD τ).loc main_arg0)) (m ((c : Thread nD τ).loc main_arg3)) (m ((c : Thread nD τ).loc main_arg6))) (m ((c : Thread nD τ).loc main_arg5)) := by
  refine (named m 0 c).arrAt_eq_of_covers 13 _ (by decide +kernel) fun t _ y => ?_
  blk_simp
  rw [leaves13]
  refine (pay2_eq m c t y).trans ?_
  blk_ext [idx t, row]

end Cert.GbKernelIdeal.Value

end
-- ==== Proof.Gb.Gates.lean ====
/- The gated merge's backward call: the gradients of the two gates' logits, and all five results at the end of every
   execution. -/
module

public import proofs.«01_k».proof.Proof.Gb.Value
public import proofs.«01_k».proof.Proof.Gb.Named

@[expose] public section

set_option maxRecDepth 16384

noncomputable section

namespace Cert.GbKernelIdeal.Value

open Cert.GbKernelIdeal Cert.GbKernelIdeal.Gen Cert.Gb
open Idealize.ShloMosaic Idealize.ShloMosaic.TcCoe Idealize.SL.Sem
open Idealize.ShloMosaic.Pipeline (Dat)
open Cert.Gate (opening half_tanh)

variable (m : (ℓ : Loc nD τ sig) → Buf (Elt Ideal) ℓ) (ρ : Dev nD → PrngReg)

/-- The attention's projection, as the forward saved it. -/
def yAtt (a : FVec Ideal S2048x512 .bf16) (w : FVec Ideal S512x1024 .f32) : FVec Ideal S2048x1024 .f32 := fun i =>
  ∑ n : Fin 512, a (ix2 (i 0) n) * w (ix2 n (i 1))

/-- The recurrence's projection, as the forward saved it. -/
def yRec (a : FVec Ideal S2048x1024 .bf16) (w : FVec Ideal S1024x1024 .f32) : FVec Ideal S2048x1024 .f32 := fun i =>
  ∑ n : Fin 1024, a (ix2 (i 0) n) * w (ix2 n (i 1))

/-- The gradient of the attention's gate: columns 3584… of `z`. -/
def gateAtt (x : FVec Ideal S2048x1024 .bf16) (a : FVec Ideal S2048x512 .bf16) (z : FVec Ideal S2048x5632 .bf16)
    (wa : FVec Ideal S512x1024 .f32) (w : FVec Ideal S1024x1024 .f32) : FVec Ideal S2048x1024 .bf16 := fun i =>
  let s := opening (z (ix2 (i 0) ⟨3584 + (i 1).val, by have := (i 1).isLt; simp at *; omega⟩))
  dMerged x w i * yAtt a wa i * (s * (1 - s))

/-- The gradient of the recurrence's gate: columns 4608… of `z`. -/
def gateRec (x : FVec Ideal S2048x1024 .bf16) (a : FVec Ideal S2048x1024 .bf16) (z : FVec Ideal S2048x5632 .bf16)
    (wr : FVec Ideal S1024x1024 .f32) (w : FVec Ideal S1024x1024 .f32) : FVec Ideal S2048x1024 .bf16 := fun i =>
  let s := opening (z (ix2 (i 0) ⟨4608 + (i 1).val, by have := (i 1).isLt; simp at *; omega⟩))
  dMerged x w i * yRec a wr i * (s * (1 - s))

/-- The two side by side. -/
def dGates (x : FVec Ideal S2048x1024 .bf16) (a : FVec Ideal S2048x512 .bf16) (b : FVec Ideal S2048x1024 .bf16) (z : FVec Ideal S2048x5632 .bf16)
    (wa : FVec Ideal S512x1024 .f32) (wr w : FVec Ideal S1024x1024 .f32) : FVec Ideal S2048x2048 .bf16 := fun i =>
  if h : (i 1).val < 1024 then gateAtt x a z wa w (ix2 (i 0) ⟨(i 1).val, h⟩)
  else gateRec x b z wr w (ix2 (i 0) ⟨(i 1).val - 1024, by have := (i 1).isLt; simp at *; omega⟩)

section Entries

variable (c : Dev nD) (t : Fin cfg0.N)

theorem saved_att (y : S512x1024.Idx) : iblk m c 1 t y = yAtt (m ((c : Thread nD τ).loc main_arg1)) (m ((c : Thread nD τ).loc main_arg4)) (ix2 (row t (y 0)) (y 1)) := by
  refine (show iblk m c 1 t y = V m c main_v6 ((win0_1.blk t).view.emb y) from rfl).trans ?_
  refine (congrFun (made_att m c) _).trans ?_
  pointwise [savedAtt, yAtt]
  blk_point [idx t, row]

theorem saved_rec (y : S512x1024.Idx) : iblk m c 2 t y = yRec (m ((c : Thread nD τ).loc main_arg2)) (m ((c : Thread nD τ).loc main_arg5)) (ix2 (row t (y 0)) (y 1)) := by
  refine (show iblk m c 2 t y = V m c main_v7 ((win0_2.blk t).view.emb y) from rfl).trans ?_
  refine (congrFun (made_rec m c) _).trans ?_
  pointwise [savedRec, yRec]
  blk_point [idx t, row]

theorem attBlock_eq (y : S512x1024.Idx) : attBlock m c t y = gateAtt (m ((c : Thread nD τ).loc main_arg0)) (m ((c : Thread nD τ).loc main_arg1)) (m ((c : Thread nD τ).loc main_arg3)) (m ((c : Thread nD τ).loc main_arg4)) (m ((c : Thread nD τ).loc main_arg6)) (ix2 (row t (y 0)) (y 1)) := by
  unfold attBlock
  pointwise [k0_pay8, k0_pay3, k0_pay4, gateAtt, dMerged]
  rw [half_tanh, saved_att, mul_assoc]
  repeat' split
  all_goals (blk_point [iblk, V, idx t] <;> rfl)

theorem recBlock_eq (y : S512x1024.Idx) : recBlock m c t y = gateRec (m ((c : Thread nD τ).loc main_arg0)) (m ((c : Thread nD τ).loc main_arg2)) (m ((c : Thread nD τ).loc main_arg3)) (m ((c : Thread nD τ).loc main_arg5)) (m ((c : Thread nD τ).loc main_arg6)) (ix2 (row t (y 0)) (y 1)) := by
  unfold recBlock
  pointwise [k0_pay9, k0_pay3, k0_pay5, gateRec, dMerged]
  rw [half_tanh, saved_rec, mul_assoc]
  repeat' split
  all_goals (blk_point [iblk, V, idx t] <;> rfl)

/-- What a window's replacement leaves at an entry. -/
theorem write_entry (o : Fin 2 → ℕ) (p q : ℕ) (ho : o = ![p, q]) (inb : ∀ a, o a + S512x1024.size a ≤ S2048x5632.size a)
    (f : HbBuf0 (F := Ideal) c hbM0_0) (w : FVec Ideal S512x1024 .bf16) (i : Fin 2048) (j : Fin 5632) :
    View.write (Elt Ideal) (hbM0_0.slice (Rect.unit o S512x1024.size inb) (fun _ => rfl)).view f w Finset.univ (ix2 i j)
      = if h : (p ≤ i.val ∧ i.val < p + 512) ∧ q ≤ j.val ∧ j.val < q + 1024 then w (ix2 ⟨i.val - p, by omega⟩ ⟨j.val - q, by omega⟩) else f (ix2 i j) := by
  subst ho
  refine (congrFun (View.write_whole_slice_unit (Val := Elt Ideal) main_v8_4 ![p, q] S512x1024.size inb f w) (ix2 i j)).trans ?_
  unfold updateSlice
  by_cases h : (p ≤ i.val ∧ i.val < p + 512) ∧ q ≤ j.val ∧ j.val < q + 1024
  · rw [dif_pos h, dif_pos]
    · refine congrArg w (funext fun b => Fin.ext ?_)
      match b with
      | ⟨0, _⟩ => rfl
      | ⟨1, _⟩ => rfl
    · intro b
      match b with
      | ⟨0, _⟩ => exact h.1
      | ⟨1, _⟩ => exact h.2
  · rw [dif_neg h, dif_neg]
    exact fun hb => h ⟨hb 0, hb 1⟩

theorem coord : (grid0.coords t 0).val = t.val :=
  (by decide +kernel : ∀ t : Fin grid0.N, (grid0.coords t 0).val = t.val) t

theorem step_entry (f : HbBuf0 (F := Ideal) c hbM0_0) (i : Fin 2048) (j : Fin 5632) :
    stepAt m c t f (ix2 i j)
      = if h : (512 * t.val ≤ i.val ∧ i.val < 512 * t.val + 512) ∧ 4608 ≤ j.val ∧ j.val < 4608 + 1024 then recBlock m c t (ix2 ⟨i.val - 512 * t.val, by omega⟩ ⟨j.val - 4608, by omega⟩)
        else if h : (512 * t.val ≤ i.val ∧ i.val < 512 * t.val + 512) ∧ 3584 ≤ j.val ∧ j.val < 3584 + 1024 then attBlock m c t (ix2 ⟨i.val - 512 * t.val, by omega⟩ ⟨j.val - 3584, by omega⟩)
        else f (ix2 i j) := by
  unfold stepAt copied
  rw [write_entry c _ (512 * t.val) 4608 (by rw [k0_off2_eq, coord]), write_entry c _ (512 * t.val) 3584 (by rw [k0_off1_eq, coord])]

/-- After `n` steps the gates' columns of the first `512 n` rows are written. -/
theorem gradsAfter_entry (n : ℕ) (hn : n ≤ 4) (i : Fin 2048) (j : Fin 2048) (hi : i.val < 512 * n) :
    (gradsAfter m c n (ix2 i ⟨3584 + j.val, by omega⟩) : EReal) = dGates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i j) := by
  induction n with
  | zero => omega
  | succ n ih =>
    have hN : n < cfg0.N := lt_of_lt_of_eq (by omega) N_0.symm
    refine (congrFun (gradsAfter_succ m c ⟨n, hN⟩) _).trans ?_
    rw [step_entry]
    dsimp only
    by_cases hr : 512 * n ≤ i.val
    · by_cases hj : j.val < 1024
      · rw [dif_neg (by omega), dif_pos (by omega), attBlock_eq]
        unfold dGates
        rw [dif_pos (by exact hj)]
        congr 1
        refine funext fun b => Fin.ext ?_
        match b with
        | ⟨0, _⟩ => show n * 512 + (i.val - 512 * n) = i.val; omega
        | ⟨1, _⟩ => show 3584 + j.val - 3584 = j.val; omega
      · rw [dif_pos (by omega), recBlock_eq]
        unfold dGates
        rw [dif_neg (by exact hj)]
        congr 1
        refine funext fun b => Fin.ext ?_
        match b with
        | ⟨0, _⟩ => show n * 512 + (i.val - 512 * n) = i.val; omega
        | ⟨1, _⟩ => show 3584 + j.val - 4608 = j.val - 1024; omega
    · rw [dif_neg (by omega), dif_neg (by omega)]
      exact ih (by omega) (by omega)

end Entries

/-! ## The end of every execution -/

theorem exit_grads (c : Dev nD) : atExit m c (Proc.devRef .tc main_v8_4) = gradsAfter m c 4 := by
  unfold atExit
  rw [Pipeline.withArrays_of_ne _ _ _ _ main_v8_4 (by exact (by decide : ∀ w, Pipeline.arrRef spec0 w ≠ main_v8_4)),
    Pipeline.withR_of_mem _ _ _ _ main_v8_4 (by decide), bufsAt_grad]

theorem gates_end (c : Dev nD) : StableHlo.after (List.flatten [hostOps1]) (atExit m c) (Proc.devRef .tc main_v9) = dGates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : StableHlo.after (List.flatten [hostOps1]) (atExit m c) (Proc.devRef .tc main_v9)
      = extractStridedSlice S2048x2048 ![0, 3584] (atExit m c (Proc.devRef .tc main_v8_4)) slices_S2048x5632_S2048x2048_0_3584 := by
    show StableHlo.after hostOps1 (atExit m c) (Proc.devRef .tc main_v9) = _
    rw [StableHlo.after_cons, StableHlo.after_nil]
    exact StableHlo.unary_result ..
  rw [e, exit_grads]
  refine funext fun i => ?_
  obtain ⟨r, j, rfl⟩ : ∃ r j, i = ix2 r j := ⟨i 0, i 1, by funext b; match b with | ⟨0, _⟩ => rfl | ⟨1, _⟩ => rfl⟩
  refine Eq.trans (congrArg (gradsAfter m c 4) (funext fun b => Fin.ext ?_)) (gradsAfter_entry m c 4 le_rfl r j (by have := r.isLt; omega))
  match b with
  | ⟨0, _⟩ => show 0 + r.val = r.val; omega
  | ⟨1, _⟩ => rfl

/-- The five results and the arguments at the end of every execution. -/
theorem run_vals : θ_run defs (onTc (τ := τ) (main (F := Ideal))) ⟨m, fun _ => 0, ρ⟩ fun r => ∀ c : Dev nD,
      r.2.mem ((c : Thread nD τ).loc main_v8_0) = dAtt (m ((c : Thread nD τ).loc main_arg0)) (m ((c : Thread nD τ).loc main_arg3)) (m ((c : Thread nD τ).loc main_arg6))
      ∧ r.2.mem ((c : Thread nD τ).loc main_v8_1) = dRec (m ((c : Thread nD τ).loc main_arg0)) (m ((c : Thread nD τ).loc main_arg3)) (m ((c : Thread nD τ).loc main_arg6))
      ∧ r.2.mem ((c : Thread nD τ).loc main_v8_2) = inAtt (dAtt (m ((c : Thread nD τ).loc main_arg0)) (m ((c : Thread nD τ).loc main_arg3)) (m ((c : Thread nD τ).loc main_arg6))) (m ((c : Thread nD τ).loc main_arg4))
      ∧ r.2.mem ((c : Thread nD τ).loc main_v8_3) = inRec (dRec (m ((c : Thread nD τ).loc main_arg0)) (m ((c : Thread nD τ).loc main_arg3)) (m ((c : Thread nD τ).loc main_arg6))) (m ((c : Thread nD τ).loc main_arg5))
      ∧ r.2.mem ((c : Thread nD τ).loc main_v9) = dGates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h.1 c).1 10).trans (final10 m c), ((h.1 c).1 11).trans (final11 m c),
      ((h.1 c).1 12).trans (final12 m c), ((h.1 c).1 13).trans (final13 m c),
      ((h.1 c).2 main_v9 (by decide)).trans (gates_end m c),
      ((h.1 c).1 0).trans (((named m 0 c).arrAt_in 0 rfl _).trans ((arrays_eq m c 0).trans (V_main_arg0 m c))),
      ((h.1 c).2 main_arg1 (by decide)).trans ((exit_kept m c main_arg1 (by decide) (by decide) (by decide)).trans (V_main_arg1 m c)),
      ((h.1 c).2 main_arg2 (by decide)).trans ((exit_kept m c main_arg2 (by decide) (by decide) (by decide)).trans (V_main_arg2 m c)),
      ((h.1 c).1 6).trans (((named m 0 c).arrAt_in 6 rfl _).trans ((arrays_eq m c 6).trans (V_main_arg3 m c))),
      ((h.1 c).2 main_arg4 (by decide)).trans ((exit_kept m c main_arg4 (by decide) (by decide) (by decide)).trans (V_main_arg4 m c)),
      ((h.1 c).2 main_arg5 (by decide)).trans ((exit_kept m c main_arg5 (by decide) (by decide) (by decide)).trans (V_main_arg5 m c)),
      ((h.1 c).2 main_arg6 (by decide)).trans ((exit_kept m c main_arg6 (by decide) (by decide) (by decide)).trans (V_main_arg6 m c))⟩) (run_named m ρ)

end Cert.GbKernelIdeal.Value

end
-- ==== Proof.Gb.Claim.lean ====
module

public import proofs.«01_k».proof.Defs
public import proofs.«01_k».proof.Proof.Gen.GbKernel
public import proofs.«01_k».proof.Proof.Gen.GbReferenceIdeal.Run
public import proofs.«01_k».proof.Proof.Gb.Gates
public import Idealize.ShloMosaic.Lib.Claim
public import Idealize.ShloMosaic.Lib.Quiescent

@[expose] public section

set_option maxRecDepth 16384

noncomputable section

namespace Cert.Gb

open Idealize.ShloMosaic Idealize.ShloMosaic.TcCoe Idealize.SL.Sem
open Cert.GbKernelIdeal.Value (dMerged dAtt dRec inAtt inRec yAtt yRec gateAtt gateRec dGates)
open Cert.Gate (opening)

theorem frame_kernel_ideal : Cert.quiescent_GbKernelIdeal := fun m ρ _ => Cert.Gb.frame_any m ρ

/-- The two printed programs are one: what is claimed of the one is claimed of the other, on the same floats. -/
theorem same_program : Cert.quiescent_GbKernel
    = ∀ (m : (ℓ : Loc Cert.GbKernelIdeal.nD Cert.GbKernelIdeal.τ Cert.GbKernelIdeal.sig) → Buf (Elt Bits) ℓ) (g : Dev Cert.GbKernelIdeal.nD → PrngReg), True →
      θ_run (Cert.GbKernelIdeal.defs (F := Bits)) (onTc (τ := Cert.GbKernelIdeal.τ) (Cert.GbKernelIdeal.main (F := Bits))) ⟨m, fun _ => 0, g⟩
        (fun r => (∀ c : Dev Cert.GbKernelIdeal.nD,
          r.2.mem ((c.tc : Thread Cert.GbKernelIdeal.nD Cert.GbKernelIdeal.τ).loc Cert.GbKernelIdeal.main_arg0) = m ((c.tc : Thread _ _).loc Cert.GbKernelIdeal.main_arg0)
          ∧ r.2.mem ((c.tc : Thread Cert.GbKernelIdeal.nD Cert.GbKernelIdeal.τ).loc Cert.GbKernelIdeal.main_arg1) = m ((c.tc : Thread _ _).loc Cert.GbKernelIdeal.main_arg1)
          ∧ r.2.mem ((c.tc : Thread Cert.GbKernelIdeal.nD Cert.GbKernelIdeal.τ).loc Cert.GbKernelIdeal.main_arg2) = m ((c.tc : Thread _ _).loc Cert.GbKernelIdeal.main_arg2)
          ∧ r.2.mem ((c.tc : Thread Cert.GbKernelIdeal.nD Cert.GbKernelIdeal.τ).loc Cert.GbKernelIdeal.main_arg3) = m ((c.tc : Thread _ _).loc Cert.GbKernelIdeal.main_arg3)
          ∧ r.2.mem ((c.tc : Thread Cert.GbKernelIdeal.nD Cert.GbKernelIdeal.τ).loc Cert.GbKernelIdeal.main_arg4) = m ((c.tc : Thread _ _).loc Cert.GbKernelIdeal.main_arg4)
          ∧ r.2.mem ((c.tc : Thread Cert.GbKernelIdeal.nD Cert.GbKernelIdeal.τ).loc Cert.GbKernelIdeal.main_arg5) = m ((c.tc : Thread _ _).loc Cert.GbKernelIdeal.main_arg5)
          ∧ r.2.mem ((c.tc : Thread Cert.GbKernelIdeal.nD Cert.GbKernelIdeal.τ).loc Cert.GbKernelIdeal.main_arg6) = m ((c.tc : Thread _ _).loc Cert.GbKernelIdeal.main_arg6))
          ∧ r.2.sem = fun _ => 0) := by
  sl_kernel_rfl

theorem frame_kernel : Cert.quiescent_GbKernel :=
  same_program.mpr fun m ρ _ => Cert.Gb.frame_any (F := Bits) m ρ

theorem frame_reference : Cert.quiescent_GbReferenceIdeal := fun m ρ _ =>
  θ_run_mono (Cert.GbReferenceIdeal.Value.run m ρ) fun r h =>
    ⟨fun c => (h c).2.2.2.2.2, sem_eq_zero_of_no_sems (sig := Cert.GbReferenceIdeal.sig) (by decide) r.2⟩

theorem algebraic : Cert.algebraic_GbKernelIdeal_GbReferenceIdeal := by
  pair_intro
  · run_from Cert.GbKernelIdeal.Value.run_vals m g
  · run_from Cert.GbReferenceIdeal.Value.run m' g'
    all_goals funext i
    · pointwise [dAtt, dMerged, opening]
    · pointwise [dRec, dMerged, opening]
    · pointwise [inAtt, dAtt, dMerged, opening]
    · pointwise [inRec, dRec, dMerged, opening]
    · pointwise [dGates, gateAtt, gateRec, yAtt, yRec, dMerged, opening]
      simp only [(hagree c).2.2.2.2.1, (hagree c).2.2.2.2.2.1, (hagree c).2.2.2.2.2.2]

end Cert.Gb

end
-- ==== Proof.lean ====
/- The claims of the certificate, each proved in the module of its call. -/
module

public import proofs.«01_k».proof.Defs
public import proofs.«01_k».proof.Proof.Gen.FfKernel
public import proofs.«01_k».proof.Proof.Gen.FfKernel.Frame
public import proofs.«01_k».proof.Proof.Gen.FfKernelIdeal
public import proofs.«01_k».proof.Proof.Gen.FfKernelIdeal.Frame
public import proofs.«01_k».proof.Proof.Gen.FfReferenceIdeal
public import proofs.«01_k».proof.Proof.Ff.Claim
public import proofs.«01_k».proof.Proof.Gen.GfKernel
public import proofs.«01_k».proof.Proof.Gen.GfKernel.Frame
public import proofs.«01_k».proof.Proof.Gen.GfKernelIdeal
public import proofs.«01_k».proof.Proof.Gen.GfKernelIdeal.Frame
public import proofs.«01_k».proof.Proof.Gen.GfReferenceIdeal
public import proofs.«01_k».proof.Proof.Gf.Claim
public import proofs.«01_k».proof.Proof.Gen.AtKernel
public import proofs.«01_k».proof.Proof.Gen.AtKernel.Frame
public import proofs.«01_k».proof.Proof.Gen.AtKernelIdeal
public import proofs.«01_k».proof.Proof.Gen.AtKernelIdeal.Frame
public import proofs.«01_k».proof.Proof.Gen.AtReferenceIdeal
public import proofs.«01_k».proof.Proof.Gen.AbKernel
public import proofs.«01_k».proof.Proof.Gen.AbKernelIdeal
public import proofs.«01_k».proof.Proof.Gen.AbReferenceIdeal
public import proofs.«01_k».proof.Proof.Gen.Pre_all_finite
public import proofs.«01_k».proof.Proof.Ab.Claim
public import proofs.«01_k».proof.Proof.At.Claim
public import proofs.«01_k».proof.Proof.Gen.Pre_scores_finite
public import proofs.«01_k».proof.Proof.Gen.N2Kernel
public import proofs.«01_k».proof.Proof.Gen.N2Kernel.Frame
public import proofs.«01_k».proof.Proof.Gen.N2KernelIdeal
public import proofs.«01_k».proof.Proof.Gen.N2KernelIdeal.Frame
public import proofs.«01_k».proof.Proof.Gen.N2ReferenceIdeal
public import proofs.«01_k».proof.Proof.Gen.Pre_norm2_finite
public import proofs.«01_k».proof.Proof.N2.Claim
public import proofs.«01_k».proof.Proof.Gen.N1Kernel
public import proofs.«01_k».proof.Proof.Gen.N1Kernel.Frame
public import proofs.«01_k».proof.Proof.Gen.N1KernelIdeal
public import proofs.«01_k».proof.Proof.Gen.N1KernelIdeal.Frame
public import proofs.«01_k».proof.Proof.Gen.N1ReferenceIdeal
public import proofs.«01_k».proof.Proof.Gen.Pre_norm1_finite
public import proofs.«01_k».proof.Proof.N1.Claim
public import proofs.«01_k».proof.Proof.Gen.LoKernel
public import proofs.«01_k».proof.Proof.Gen.LoKernel.Frame
public import proofs.«01_k».proof.Proof.Gen.LoKernelIdeal
public import proofs.«01_k».proof.Proof.Gen.LoKernelIdeal.Frame
public import proofs.«01_k».proof.Proof.Gen.LoReferenceIdeal
public import proofs.«01_k».proof.Proof.Gen.Pre_loss_finite
public import proofs.«01_k».proof.Proof.Lo.Claim
public import proofs.«01_k».proof.Proof.Gen.GbKernel
public import proofs.«01_k».proof.Proof.Gen.GbKernelIdeal
public import proofs.«01_k».proof.Proof.Gen.GbReferenceIdeal
public import proofs.«01_k».proof.Proof.Gb.Claim
public import Idealize.ShloMosaic.Adequacy
public import Idealize.ShloMosaic.Init

@[expose] public section

noncomputable section

namespace Cert.Proof

open Idealize.ShloMosaic Idealize.SL.Sem Cert.FfKernel

theorem claim : Cert.Claim :=
  ⟨Cert.FfKernel.Gen.facts, Cert.FfKernelIdeal.Gen.facts, Cert.FfReferenceIdeal.Gen.facts,
    Cert.GfKernel.Gen.facts, Cert.GfKernelIdeal.Gen.facts, Cert.GfReferenceIdeal.Gen.facts,
    Cert.AtKernel.Gen.facts, Cert.AtKernelIdeal.Gen.facts, Cert.AtReferenceIdeal.Gen.facts,
    Cert.AbKernel.Gen.facts, Cert.AbKernelIdeal.Gen.facts, Cert.AbReferenceIdeal.Gen.facts,
    Cert.N2Kernel.Gen.facts, Cert.N2KernelIdeal.Gen.facts, Cert.N2ReferenceIdeal.Gen.facts,
    Cert.N1Kernel.Gen.facts, Cert.N1KernelIdeal.Gen.facts, Cert.N1ReferenceIdeal.Gen.facts,
    Cert.LoKernel.Gen.facts, Cert.LoKernelIdeal.Gen.facts, Cert.LoReferenceIdeal.Gen.facts,
    Cert.GbKernel.Gen.facts, Cert.GbKernelIdeal.Gen.facts, Cert.GbReferenceIdeal.Gen.facts,
    Cert.Pre_scores_finite.Gen.facts, Cert.Pre_all_finite.Gen.facts, Cert.Pre_norm2_finite.Gen.facts, Cert.Pre_norm1_finite.Gen.facts,
    Cert.Pre_loss_finite.Gen.facts,
    fun m ρ _ => Cert.FfKernel.Gen.frame m ρ, fun m ρ _ => Cert.FfKernelIdeal.Gen.frame m ρ, Cert.Ff.frame_reference,
    fun m ρ _ => Cert.GfKernel.Gen.frame m ρ, fun m ρ _ => Cert.GfKernelIdeal.Gen.frame m ρ, Cert.Gf.frame_reference,
    fun m ρ _ => Cert.AtKernel.Gen.frame m ρ, fun m ρ _ => Cert.AtKernelIdeal.Gen.frame m ρ, fun m ρ _ => Cert.AtKernelIdeal.Gen.frame m ρ,
    Cert.At.frame_reference, fun m ρ _ => Cert.At.frame_reference m ρ trivial,
    Cert.Ab.frame_kernel, Cert.Ab.frame_kernel_ideal, fun m ρ _ => Cert.Ab.frame_kernel_ideal m ρ trivial,
    Cert.Ab.frame_reference, fun m ρ _ => Cert.Ab.frame_reference m ρ trivial,
    fun m ρ _ => Cert.N2Kernel.Gen.frame m ρ, fun m ρ _ => Cert.N2KernelIdeal.Gen.frame m ρ, fun m ρ _ => Cert.N2KernelIdeal.Gen.frame m ρ,
    Cert.N2.frame_reference, fun m ρ _ => Cert.N2.frame_reference m ρ trivial,
    fun m ρ _ => Cert.N1Kernel.Gen.frame m ρ, fun m ρ _ => Cert.N1KernelIdeal.Gen.frame m ρ, fun m ρ _ => Cert.N1KernelIdeal.Gen.frame m ρ,
    Cert.N1.frame_reference, fun m ρ _ => Cert.N1.frame_reference m ρ trivial,
    fun m ρ _ => Cert.LoKernel.Gen.frame m ρ, fun m ρ _ => Cert.LoKernelIdeal.Gen.frame m ρ, fun m ρ _ => Cert.LoKernelIdeal.Gen.frame m ρ,
    Cert.Lo.frame_reference, fun m ρ _ => Cert.Lo.frame_reference m ρ trivial,
    Cert.Gb.frame_kernel, Cert.Gb.frame_kernel_ideal, Cert.Gb.frame_reference,
    trivial, Cert.Ff.algebraic, trivial, Cert.Gf.algebraic, trivial, Cert.At.algebraic, trivial, Cert.Ab.algebraic,
    trivial, Cert.N2.algebraic, trivial, Cert.N1.algebraic, trivial, Cert.Lo.algebraic, trivial, Cert.Gb.algebraic⟩

end Cert.Proof

end
